-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_inputs_fit [hPre_inputs_fit : Cert.Pre_inputs_fit.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_fit [hPre_inputs_fit : Cert.Pre_inputs_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_fit [hKernelIdeal : Cert.KernelIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_fit [hReferenceIdeal : Cert.ReferenceIdeal.Facts] [hPre_inputs_fit : Cert.Pre_inputs_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S128x2x5120 Cert.KernelIdeal.S128x1x5120
  ∧ IdealRules.bf16_pair.BufferStatement Cert.KernelIdeal.S2x128x2x128 Cert.KernelIdeal.S2x128x1x128
  ∧ IdealRules.bf16_pair.BufferStatement Cert.KernelIdeal.S2x2x160x2x128 Cert.KernelIdeal.S2x2x160x1x128
  ∧ IdealRules.bf16_pair.Statement Cert.KernelIdeal.S128x2x5120 Cert.KernelIdeal.S128x1x5120
  ∧ IdealRules.bf16_pair.SelectZeroStatement Cert.KernelIdeal.S128x5120
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.Statement Cert.KernelIdeal.S32x128 Cert.KernelIdeal.S16x128
  ∧ IdealRules.bf16_pair.Statement Cert.KernelIdeal.S16x2x128 Cert.KernelIdeal.S16x1x128
  ∧ IdealRules.bf16_pair.PackStatement Cert.KernelIdeal.S160x128
  ∧ IdealRules.bf16_pair.Statement Cert.KernelIdeal.S1x160x2x128 Cert.KernelIdeal.S1x160x1x128
  ∧ IdealRules.bf16_pair.Statement Cert.KernelIdeal.S1x4x2x128 Cert.KernelIdeal.S1x4x1x128
  ∧ IdealRules.bf16_pair.Statement Cert.KernelIdeal.S8x128 Cert.KernelIdeal.S4x128
  ∧ IdealRules.bf16_pair.Statement Cert.KernelIdeal.S80x2x256 Cert.KernelIdeal.S80x1x256
  ∧ IdealRules.bf16_pair.Statement Cert.KernelIdeal.S160x256 Cert.KernelIdeal.S80x256
  ∧ IdealRules.bf16_pair.Statement Cert.KernelIdeal.S128x2x256 Cert.KernelIdeal.S128x1x256
  ∧ IdealRules.bf16_pair.Statement Cert.KernelIdeal.S256x256 Cert.KernelIdeal.S128x256

def algebraic_KernelIdeal_ReferenceIdeal_pre_inputs_fit [hKernelIdeal : Cert.KernelIdeal.Facts] [hReferenceIdeal : Cert.ReferenceIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hPre_inputs_fit : Cert.Pre_inputs_fit.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_inputs_fit (hKernelIdeal := hKernelIdeal) (hPre_inputs_fit := hPre_inputs_fit)
    ∧ quiescent_ReferenceIdeal (hReferenceIdeal := hReferenceIdeal)
    ∧ quiescent_ReferenceIdeal_pre_inputs_fit (hReferenceIdeal := hReferenceIdeal) (hPre_inputs_fit := hPre_inputs_fit)
    ∧ preserves_Kernel_KernelIdeal
    ∧ algebraic_KernelIdeal_ReferenceIdeal_pre_inputs_fit (hKernelIdeal := hKernelIdeal) (hReferenceIdeal := hReferenceIdeal) (hPre_inputs_fit := hPre_inputs_fit)
-- ==== Pre_inputs_fit.lean ====
abbrev S2x128x5120 : Shape := ⟨3, ![2, 128, 5120]⟩
abbrev S2 : Shape := ⟨1, ![2]⟩
abbrev S32000x5120 : Shape := ⟨2, ![32000, 5120]⟩
abbrev S32000x160 : Shape := ⟨2, ![32000, 160]⟩
abbrev S32000 : Shape := ⟨1, ![32000]⟩
abbrev S_ : Shape := ⟨0, ![]⟩
abbrev S2x1x1 : Shape := ⟨3, ![2, 1, 1]⟩

class Facts : Prop where
  bcast_S_S2 : S_.BroadcastsInDim S2 (![] : Fin 0 → Fin S2.rank)
  bitsLt_bf16_f32 : FTy.bits .bf16 < FTy.bits .f32
  bcast_S_S2x128x5120 : S_.BroadcastsInDim S2x128x5120 (![] : Fin 0 → Fin S2x128x5120.rank)
  bcast_S2_S2x1x1_0 : S2.BroadcastsInDim S2x1x1 (![0] : Fin 1 → Fin S2x1x1.rank)
  bcast_S2x1x1_S2x128x5120_0_1_2 : S2x1x1.BroadcastsInDim S2x128x5120 (![0, 1, 2] : Fin 3 → Fin S2x128x5120.rank)

variable [Facts]

def fn {F : FTy → Type} [FloatOps F] (main_arg0 : FVec F S2x128x5120 .bf16) (main_arg1 : IVec S2 32) (main_arg2 : FVec F S32000x5120 .fp8e4m3) (main_arg3 : FVec F S32000x160 .f32) (main_arg4 : FVec F S32000 .f32) : IVec S2x128x5120 1 :=
  let main_c : IVec S_ 32 := constantI S_ 32 0#32
  let main_v0 : IVec S2 32 := broadcastInDim S2 ![] bcast_S_S2 main_c
  let main_v1 : IVec S2 1 := cmpi .sge main_arg1 main_v0
  let main_c_0 : IVec S_ 32 := constantI S_ 32 128#32
  let main_v2 : IVec S2 32 := broadcastInDim S2 ![] bcast_S_S2 main_c_0
  let main_v3 : IVec S2 1 := cmpi .sle main_arg1 main_v2
  let main_v4 : IVec S2 1 := andi main_v1 main_v3
  let main_v5 : FVec F S2x128x5120 .f32 := (extf .f32 · bitsLt_bf16_f32) main_arg0
  let main_v6 : FVec F S2x128x5120 .f32 := Host.absf main_v5
  let main_cst : FVec F S_ .f32 := constant S_ .f32 0x7F7F0000#32
  let main_v7 : FVec F S2x128x5120 .f32 := broadcastInDim S2x128x5120 ![] bcast_S_S2x128x5120 main_cst
  let main_v8 : IVec S2x128x5120 1 := cmpf .ole main_v6 main_v7
  let main_v9 : IVec S2x1x1 1 := broadcastInDim S2x1x1 ![0] bcast_S2_S2x1x1_0 main_v4
  let main_v10 : IVec S2x128x5120 1 := broadcastInDim S2x128x5120 ![0, 1, 2] bcast_S2x1x1_S2x128x5120_0_1_2 main_v9
  let main_v11 : IVec S2x128x5120 1 := andi main_v8 main_v10
  main_v11
-- ==== Pre_lengths_fit.lean ====
abbrev S2x128x5120 : Shape := ⟨3, ![2, 128, 5120]⟩
abbrev S2 : Shape := ⟨1, ![2]⟩
abbrev S32000x5120 : Shape := ⟨2, ![32000, 5120]⟩
abbrev S32000x160 : Shape := ⟨2, ![32000, 160]⟩
abbrev S32000 : Shape := ⟨1, ![32000]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x128x5120 .bf16) (main_arg1 : IVec S2 32) (main_arg2 : FVec F S32000x5120 .fp8e4m3) (main_arg3 : FVec F S32000x160 .f32) (main_arg4 : FVec F S32000 .f32) : IVec S2 1 :=
  let main_c : IVec S_ 32 := constantI S_ 32 0#32
  let main_v0 : IVec S2 32 := broadcastInDim S2 ![] bcast_S_S2 main_c
  let main_v1 : IVec S2 1 := cmpi .sge main_arg1 main_v0
  let main_c_0 : IVec S_ 32 := constantI S_ 32 128#32
  let main_v2 : IVec S2 32 := broadcastInDim S2 ![] bcast_S_S2 main_c_0
  let main_v3 : IVec S2 1 := cmpi .sle main_arg1 main_v2
  let main_v4 : IVec S2 1 := andi main_v1 main_v3
  main_v4
-- ==== Kernel.lean ====
abbrev S2x128x5120 : Shape := ⟨3, ![2, 128, 5120]⟩
abbrev S2 : Shape := ⟨1, ![2]⟩
abbrev S32000x5120 : Shape := ⟨2, ![32000, 5120]⟩
abbrev S32000x160 : Shape := ⟨2, ![32000, 160]⟩
abbrev S32000 : Shape := ⟨1, ![32000]⟩
abbrev S256x5120 : Shape := ⟨2, ![256, 5120]⟩
abbrev S25x10x128 : Shape := ⟨3, ![25, 10, 128]⟩
abbrev S2x32000 : Shape := ⟨2, ![2, 32000]⟩
abbrev S2x128x1 : Shape := ⟨3, ![2, 128, 1]⟩
abbrev S256x160 : Shape := ⟨2, ![256, 160]⟩
abbrev S1280x5120 : Shape := ⟨2, ![1280, 5120]⟩
abbrev S1280x160 : Shape := ⟨2, ![1280, 160]⟩
abbrev S1x10x128 : Shape := ⟨3, ![1, 10, 128]⟩
abbrev S2x1280 : Shape := ⟨2, ![2, 1280]⟩
abbrev S128x5120 : Shape := ⟨2, ![128, 5120]⟩
abbrev S2x128x128 : Shape := ⟨3, ![2, 128, 128]⟩
abbrev S2x2x160x128 : Shape := ⟨4, ![2, 2, 160, 128]⟩
abbrev S256x128 : Shape := ⟨2, ![256, 128]⟩
abbrev S2x256x128 : Shape := ⟨3, ![2, 256, 128]⟩
abbrev S1 : Shape := ⟨1, ![1]⟩
abbrev S8x128 : Shape := ⟨2, ![8, 128]⟩
abbrev S16x128 : Shape := ⟨2, ![16, 128]⟩
abbrev S16x128x1 : Shape := ⟨3, ![16, 128, 1]⟩
abbrev S1x8x128 : Shape := ⟨3, ![1, 8, 128]⟩
abbrev S16x32 : Shape := ⟨2, ![16, 32]⟩
abbrev S32x128 : Shape := ⟨2, ![32, 128]⟩
abbrev S1x256x128 : Shape := ⟨3, ![1, 256, 128]⟩
abbrev S128x2x160 : Shape := ⟨3, ![128, 2, 160]⟩
abbrev S128x1x160 : Shape := ⟨3, ![128, 1, 160]⟩
abbrev S128x160 : Shape := ⟨2, ![128, 160]⟩
abbrev S160x128 : Shape := ⟨2, ![160, 128]⟩
abbrev S1x2x160x128 : Shape := ⟨4, ![1, 2, 160, 128]⟩
abbrev S2x160x128 : Shape := ⟨3, ![2, 160, 128]⟩
abbrev S1x160x128 : Shape := ⟨3, ![1, 160, 128]⟩
abbrev S128x2x128 : Shape := ⟨3, ![128, 2, 128]⟩
abbrev S128x1x128 : Shape := ⟨3, ![128, 1, 128]⟩
abbrev S128x128 : Shape := ⟨2, ![128, 128]⟩
abbrev S1x4x128 : Shape := ⟨3, ![1, 4, 128]⟩
abbrev S4x128 : Shape := ⟨2, ![4, 128]⟩
abbrev S4x1x128 : Shape := ⟨3, ![4, 1, 128]⟩
abbrev S4x32x128 : Shape := ⟨3, ![4, 32, 128]⟩
abbrev S128x256 : Shape := ⟨2, ![128, 256]⟩
abbrev S256x256 : Shape := ⟨2, ![256, 256]⟩
abbrev S80x256 : Shape := ⟨2, ![80, 256]⟩
abbrev S160x256 : Shape := ⟨2, ![160, 256]⟩
abbrev S1x1x128 : Shape := ⟨3, ![1, 1, 128]⟩
abbrev S1x128 : Shape := ⟨2, ![1, 128]⟩
abbrev S8x128x1 : Shape := ⟨3, ![8, 128, 1]⟩
abbrev S128 : Shape := ⟨1, ![128]⟩
abbrev S2x128 : Shape := ⟨2, ![2, 128]⟩
abbrev S256 : Shape := ⟨1, ![256]⟩
abbrev S256x1 : Shape := ⟨2, ![256, 1]⟩
abbrev S128x1 : Shape := ⟨2, ![128, 1]⟩
abbrev S1x128x1 : Shape := ⟨3, ![1, 128, 1]⟩

abbrev nBuf : Space → Nat
  | .hbm => 10
  | .vmem => 17
  | .smem => 1
  | _ => 0

abbrev bufTy : (tb : Table) → Fin (tcTables nBuf tb) → BufTy
  | .hbm, ⟨0, _⟩ => ⟨S2x128x5120, .bf16⟩
  | .hbm, ⟨1, _⟩ => ⟨S32000x5120, .fp8e4m3⟩
  | .hbm, ⟨2, _⟩ => ⟨S32000x160, .f32⟩
  | .hbm, ⟨3, _⟩ => ⟨S32000, .f32⟩
  | .hbm, ⟨4, _⟩ => ⟨S256x5120, .bf16⟩
  | .hbm, ⟨5, _⟩ => ⟨S25x10x128, .f32⟩
  | .hbm, ⟨6, _⟩ => ⟨S2x32000, .bf16⟩
  | .hbm, ⟨7, _⟩ => ⟨S2x128x1, .f32⟩
  | .hbm, ⟨8, _⟩ => ⟨S256x5120, .fp8e4m3⟩
  | .hbm, ⟨9, _⟩ => ⟨S256x160, .f32⟩
  | .local _ .vmem, ⟨0, _⟩ => ⟨S256x5120, .bf16⟩
  | .local _ .vmem, ⟨1, _⟩ => ⟨S1280x5120, .fp8e4m3⟩
  | .local _ .vmem, ⟨2, _⟩ => ⟨S1280x5120, .fp8e4m3⟩
  | .local _ .vmem, ⟨3, _⟩ => ⟨S1280x160, .f32⟩
  | .local _ .vmem, ⟨4, _⟩ => ⟨S1280x160, .f32⟩
  | .local _ .vmem, ⟨5, _⟩ => ⟨S1x10x128, .f32⟩
  | .local _ .vmem, ⟨6, _⟩ => ⟨S1x10x128, .f32⟩
  | .local _ .vmem, ⟨7, _⟩ => ⟨S2x1280, .bf16⟩
  | .local _ .vmem, ⟨8, _⟩ => ⟨S2x1280, .bf16⟩
  | .local _ .vmem, ⟨9, _⟩ => ⟨S2x128x1, .f32⟩
  | .local _ .vmem, ⟨10, _⟩ => ⟨S256x5120, .fp8e4m3⟩
  | .local _ .vmem, ⟨11, _⟩ => ⟨S256x160, .f32⟩
  | .local _ .vmem, ⟨12, _⟩ => ⟨S128x5120, .i32⟩
  | .local _ .vmem, ⟨13, _⟩ => ⟨S2x128x128, .i32⟩
  | .local _ .vmem, ⟨14, _⟩ => ⟨S2x2x160x128, .i32⟩
  | .local _ .vmem, ⟨15, _⟩ => ⟨S256x128, .f32⟩
  | .local _ .vmem, ⟨16, _⟩ => ⟨S2x256x128, .f32⟩
  | .local _ .smem, ⟨0, _⟩ => ⟨S2, .i32⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [BitOps F]

abbrev grid0 : Pipeline.Grid := ⟨1, ![25], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_mult1 (v0 : BitVec 32) : BitVec 32 :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  v21

def k0_cond1 (i : grid0.Coords) : BitVec 1 :=
  let arg0 : BitVec 32 := BitVec.ofNat 32 (i 0).val
  let c0_i32_17 : BitVec 32 := 0#32
  let v43 : BitVec 1 := Scalar.cmpi .eq arg0 c0_i32_17
  let v44 : BitVec 32 := Scalar.extui v43
  let c0_i32_18 : BitVec 32 := 0#32
  let v45 : BitVec 1 := Scalar.cmpi .ne v44 c0_i32_18
  v45

@[reducible] def k0_t1_loop : Scf.Loop 32 :=
  let c0_i32_23 : BitVec 32 := 0#32
  let c16_i32_24 : BitVec 32 := 16#32
  let v55 : BitVec 32 := Scalar.addi c0_i32_23 c16_i32_24
  let c1_i32_25 : BitVec 32 := 1#32
  ⟨c0_i32_23, v55, c1_i32_25⟩
def k0_mult2 (k0_t1 : Fin k0_t1_loop.trips) : BitVec 32 :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  v82
def k0_off1 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v84 : Index := Scalar.indexCast v83
  let c0_43 : Index := 0#32
  ![v84.toNat, 0]
def k0_off2 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v88 : Index := Scalar.indexCast v83
  let c128 : Index := 128#32
  ![v88.toNat, 128]
def k0_off3 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v92 : Index := Scalar.indexCast v83
  let c256 : Index := 256#32
  ![v92.toNat, 256]
def k0_off4 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v96 : Index := Scalar.indexCast v83
  let c384 : Index := 384#32
  ![v96.toNat, 384]
def k0_off5 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v100 : Index := Scalar.indexCast v83
  let c512 : Index := 512#32
  ![v100.toNat, 512]
def k0_off6 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v104 : Index := Scalar.indexCast v83
  let c640 : Index := 640#32
  ![v104.toNat, 640]
def k0_off7 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v108 : Index := Scalar.indexCast v83
  let c768 : Index := 768#32
  ![v108.toNat, 768]
def k0_off8 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v112 : Index := Scalar.indexCast v83
  let c896 : Index := 896#32
  ![v112.toNat, 896]
def k0_off9 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v116 : Index := Scalar.indexCast v83
  let c1024 : Index := 1024#32
  ![v116.toNat, 1024]
def k0_off10 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v120 : Index := Scalar.indexCast v83
  let c1152 : Index := 1152#32
  ![v120.toNat, 1152]
def k0_off11 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v124 : Index := Scalar.indexCast v83
  let c1280 : Index := 1280#32
  ![v124.toNat, 1280]
def k0_off12 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v128 : Index := Scalar.indexCast v83
  let c1408 : Index := 1408#32
  ![v128.toNat, 1408]
def k0_off13 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v132 : Index := Scalar.indexCast v83
  let c1536 : Index := 1536#32
  ![v132.toNat, 1536]
def k0_off14 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v136 : Index := Scalar.indexCast v83
  let c1664 : Index := 1664#32
  ![v136.toNat, 1664]
def k0_off15 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v140 : Index := Scalar.indexCast v83
  let c1792 : Index := 1792#32
  ![v140.toNat, 1792]
def k0_off16 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v144 : Index := Scalar.indexCast v83
  let c1920 : Index := 1920#32
  ![v144.toNat, 1920]
def k0_off17 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v148 : Index := Scalar.indexCast v83
  let c2048 : Index := 2048#32
  ![v148.toNat, 2048]
def k0_off18 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v152 : Index := Scalar.indexCast v83
  let c2176 : Index := 2176#32
  ![v152.toNat, 2176]
def k0_off19 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v156 : Index := Scalar.indexCast v83
  let c2304 : Index := 2304#32
  ![v156.toNat, 2304]
def k0_off20 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v160 : Index := Scalar.indexCast v83
  let c2432 : Index := 2432#32
  ![v160.toNat, 2432]
def k0_off21 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v164 : Index := Scalar.indexCast v83
  let c2560 : Index := 2560#32
  ![v164.toNat, 2560]
def k0_off22 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v168 : Index := Scalar.indexCast v83
  let c2688 : Index := 2688#32
  ![v168.toNat, 2688]
def k0_off23 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v172 : Index := Scalar.indexCast v83
  let c2816 : Index := 2816#32
  ![v172.toNat, 2816]
def k0_off24 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v176 : Index := Scalar.indexCast v83
  let c2944 : Index := 2944#32
  ![v176.toNat, 2944]
def k0_off25 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v180 : Index := Scalar.indexCast v83
  let c3072 : Index := 3072#32
  ![v180.toNat, 3072]
def k0_off26 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v184 : Index := Scalar.indexCast v83
  let c3200 : Index := 3200#32
  ![v184.toNat, 3200]
def k0_off27 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v188 : Index := Scalar.indexCast v83
  let c3328 : Index := 3328#32
  ![v188.toNat, 3328]
def k0_off28 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v192 : Index := Scalar.indexCast v83
  let c3456 : Index := 3456#32
  ![v192.toNat, 3456]
def k0_off29 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v196 : Index := Scalar.indexCast v83
  let c3584 : Index := 3584#32
  ![v196.toNat, 3584]
def k0_off30 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v200 : Index := Scalar.indexCast v83
  let c3712 : Index := 3712#32
  ![v200.toNat, 3712]
def k0_off31 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v204 : Index := Scalar.indexCast v83
  let c3840 : Index := 3840#32
  ![v204.toNat, 3840]
def k0_off32 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v208 : Index := Scalar.indexCast v83
  let c3968 : Index := 3968#32
  ![v208.toNat, 3968]
def k0_mult3 (k0_t1 : Fin k0_t1_loop.trips) : BitVec 32 :=
  let c0_i32_23 : BitVec 32 := 0#32
  let c1_i32_25 : BitVec 32 := 1#32
  let arg15 : BitVec 32 := Scf.iv c0_i32_23 c1_i32_25 k0_t1
  let c8_i32_171 : BitVec 32 := 8#32
  let v913 : BitVec 32 := Scalar.muli arg15 c8_i32_171
  v913
def k0_off33 (k0_t1 : Fin k0_t1_loop.trips) : Fin 3 → Nat :=
  let c0_172 : Index := 0#32
  let c0_i32_23 : BitVec 32 := 0#32
  let c1_i32_25 : BitVec 32 := 1#32
  let arg15 : BitVec 32 := Scf.iv c0_i32_23 c1_i32_25 k0_t1
  let c8_i32_171 : BitVec 32 := 8#32
  let v913 : BitVec 32 := Scalar.muli arg15 c8_i32_171
  let v914 : BitVec 32 := v913
  let v915 : Index := Scalar.indexCast v914
  let c0_173 : Index := 0#32
  ![0, v915.toNat, 0]
def k0_off34 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v988 : Index := Scalar.indexCast v83
  let c0_197 : Index := 0#32
  ![v988.toNat, 0]
def k0_off35 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v990 : Index := Scalar.indexCast v83
  let c4096 : Index := 4096#32
  ![v990.toNat, 4096]
def k0_off36 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v994 : Index := Scalar.indexCast v83
  let c4224 : Index := 4224#32
  ![v994.toNat, 4224]
def k0_off37 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v998 : Index := Scalar.indexCast v83
  let c4352 : Index := 4352#32
  ![v998.toNat, 4352]
def k0_off38 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1002 : Index := Scalar.indexCast v83
  let c4480 : Index := 4480#32
  ![v1002.toNat, 4480]
def k0_off39 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1006 : Index := Scalar.indexCast v83
  let c4608 : Index := 4608#32
  ![v1006.toNat, 4608]
def k0_off40 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1010 : Index := Scalar.indexCast v83
  let c4736 : Index := 4736#32
  ![v1010.toNat, 4736]
def k0_off41 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1014 : Index := Scalar.indexCast v83
  let c4864 : Index := 4864#32
  ![v1014.toNat, 4864]
def k0_off42 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1018 : Index := Scalar.indexCast v83
  let c4992 : Index := 4992#32
  ![v1018.toNat, 4992]
def k0_mult4 (k0_t1 : Fin k0_t1_loop.trips) : BitVec 32 :=
  let c0_i32_23 : BitVec 32 := 0#32
  let c1_i32_25 : BitVec 32 := 1#32
  let arg15 : BitVec 32 := Scf.iv c0_i32_23 c1_i32_25 k0_t1
  let c8_i32_263 : BitVec 32 := 8#32
  let v1289 : BitVec 32 := Scalar.muli arg15 c8_i32_263
  v1289
def k0_off43 (k0_t1 : Fin k0_t1_loop.trips) : Fin 3 → Nat :=
  let c1_264 : Index := 1#32
  let c0_i32_23 : BitVec 32 := 0#32
  let c1_i32_25 : BitVec 32 := 1#32
  let arg15 : BitVec 32 := Scf.iv c0_i32_23 c1_i32_25 k0_t1
  let c8_i32_263 : BitVec 32 := 8#32
  let v1289 : BitVec 32 := Scalar.muli arg15 c8_i32_263
  let v1290 : BitVec 32 := v1289
  let v1291 : Index := Scalar.indexCast v1290
  let c0_265 : Index := 0#32
  ![1, v1291.toNat, 0]
def k0_off44 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1365 : Index := Scalar.indexCast v83
  let c128_289 : Index := 128#32
  ![v1365.toNat, 128]
@[reducible] def k0_t2_loop : Scf.Loop 32 :=
  let c0_i32_27 : BitVec 32 := 0#32
  let c8_i32 : BitVec 32 := 8#32
  let v56 : BitVec 32 := Scalar.addi c0_i32_27 c8_i32
  let c1_i32_28 : BitVec 32 := 1#32
  ⟨c0_i32_27, v56, c1_i32_28⟩
def k0_mult5 (k0_t2 : Fin k0_t2_loop.trips) : BitVec 32 :=
  let c0_i32_27 : BitVec 32 := 0#32
  let c1_i32_28 : BitVec 32 := 1#32
  let arg15 : BitVec 32 := Scf.iv c0_i32_27 c1_i32_28 k0_t2
  let c32_i32 : BitVec 32 := 32#32
  let v82 : BitVec 32 := Scalar.muli arg15 c32_i32
  v82
def k0_mult6 (v0 : BitVec 32) (k0_t2 : Fin k0_t2_loop.trips) : BitVec 32 :=
  let c0_i32_27 : BitVec 32 := 0#32
  let c1_i32_28 : BitVec 32 := 1#32
  let arg15 : BitVec 32 := Scf.iv c0_i32_27 c1_i32_28 k0_t2
  let c4_i32 : BitVec 32 := 4#32
  let v84 : BitVec 1 := Scalar.cmpi .slt arg15 c4_i32
  let c32_i32_42 : BitVec 32 := 32#32
  let v85 : BitVec 32 := Scalar.muli arg15 c32_i32_42
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c32_i32_43 : BitVec 32 := 32#32
  let v86 : BitVec 32 := Scalar.muli arg15 c32_i32_43
  let v87 : BitVec 32 := Scalar.addi v22 v86
  let c128_i32 : BitVec 32 := 128#32
  let v88 : BitVec 32 := Scalar.subi v87 c128_i32
  let v89 : BitVec 32 := Scalar.select v84 v85 v88
  let c0_i32_44 : BitVec 32 := 0#32
  let v91 : BitVec 1 := Scalar.cmpi .sgt v89 c0_i32_44
  let v92 : BitVec 32 := Scalar.extui v91
  let c0_i32_45 : BitVec 32 := 0#32
  let v93 : BitVec 1 := Scalar.cmpi .slt v89 c0_i32_45
  let v94 : BitVec 32 := Scalar.extui v93
  let v95 : BitVec 32 := Scalar.subi v92 v94
  let c2_i32 : BitVec 32 := 2#32
  let c0_i32_46 : BitVec 32 := 0#32
  let v96 : BitVec 1 := Scalar.cmpi .sgt c2_i32 c0_i32_46
  let v97 : BitVec 32 := Scalar.extui v96
  let c0_i32_47 : BitVec 32 := 0#32
  let v98 : BitVec 1 := Scalar.cmpi .slt c2_i32 c0_i32_47
  let v99 : BitVec 32 := Scalar.extui v98
  let v100 : BitVec 32 := Scalar.subi v97 v99
  let v101 : BitVec 1 := Scalar.cmpi .ne v95 v100
  let v102 : BitVec 32 := Scalar.remsi v89 c2_i32
  let c0_i32_48 : BitVec 32 := 0#32
  let v103 : BitVec 1 := Scalar.cmpi .ne v102 c0_i32_48
  let v104 : BitVec 1 := Scalar.andi v101 v103
  let v90 : BitVec 32 := Scalar.divsi v89 c2_i32
  let c1_i32_49 : BitVec 32 := 1#32
  let v105 : BitVec 32 := Scalar.subi v90 c1_i32_49
  let v106 : BitVec 32 := Scalar.select v104 v105 v90
  v106
def k0_mult7 (k0_t2 : Fin k0_t2_loop.trips) : BitVec 32 :=
  let c2_i32_50 : BitVec 32 := 2#32
  let c0_i32_27 : BitVec 32 := 0#32
  let c1_i32_28 : BitVec 32 := 1#32
  let arg15 : BitVec 32 := Scf.iv c0_i32_27 c1_i32_28 k0_t2
  let v108 : BitVec 32 := Scalar.muli c2_i32_50 arg15
  let c0_i32_51 : BitVec 32 := 0#32
  let v109 : BitVec 32 := Scalar.addi v108 c0_i32_51
  let c8_i32_52 : BitVec 32 := 8#32
  let v110 : BitVec 32 := Scalar.muli v109 c8_i32_52
  v110
def k0_off45 (k0_t2 : Fin k0_t2_loop.trips) (c0_i32_51 : BitVec 32) : Fin 3 → Nat :=
  let c0_53 : Index := 0#32
  let c2_i32_50 : BitVec 32 := 2#32
  let c0_i32_27 : BitVec 32 := 0#32
  let c1_i32_28 : BitVec 32 := 1#32
  let arg15 : BitVec 32 := Scf.iv c0_i32_27 c1_i32_28 k0_t2
  let v108 : BitVec 32 := Scalar.muli c2_i32_50 arg15
  let v109 : BitVec 32 := Scalar.addi v108 c0_i32_51
  let c8_i32_52 : BitVec 32 := 8#32
  let v110 : BitVec 32 := Scalar.muli v109 c8_i32_52
  let v111 : BitVec 32 := v110
  let v112 : Index := Scalar.indexCast v111
  let c0_54 : Index := 0#32
  ![0, v112.toNat, 0]
def k0_mult8 (k0_t2 : Fin k0_t2_loop.trips) : BitVec 32 :=
  let c2_i32_55 : BitVec 32 := 2#32
  let c0_i32_27 : BitVec 32 := 0#32
  let c1_i32_28 : BitVec 32 := 1#32
  let arg15 : BitVec 32 := Scf.iv c0_i32_27 c1_i32_28 k0_t2
  let v115 : BitVec 32 := Scalar.muli c2_i32_55 arg15
  let c1_i32_56 : BitVec 32 := 1#32
  let v116 : BitVec 32 := Scalar.addi v115 c1_i32_56
  let c8_i32_57 : BitVec 32 := 8#32
  let v117 : BitVec 32 := Scalar.muli v116 c8_i32_57
  v117
@[reducible] def k0_t3_loop : Scf.Loop 32 :=
  let c0_i32_60 : BitVec 32 := 0#32
  let c32_i32_61 : BitVec 32 := 32#32
  let v122 : BitVec 32 := Scalar.addi c0_i32_60 c32_i32_61
  let c1_i32_62 : BitVec 32 := 1#32
  ⟨c0_i32_60, v122, c1_i32_62⟩
def k0_mult9 (k0_t3 : Fin k0_t3_loop.trips) : BitVec 32 :=
  let c0_i32_78 : BitVec 32 := 0#32
  let c0_i32_60 : BitVec 32 := 0#32
  let c1_i32_62 : BitVec 32 := 1#32
  let arg16 : BitVec 32 := Scf.iv c0_i32_60 c1_i32_62 k0_t3
  let v138 : BitVec 32 := Scalar.addi c0_i32_78 arg16
  let c128_i32_79 : BitVec 32 := 128#32
  let v139 : BitVec 32 := Scalar.muli v138 c128_i32_79
  v139
def k0_off46 (k0_t2 : Fin k0_t2_loop.trips) (k0_t3 : Fin k0_t3_loop.trips) : Fin 2 → Nat :=
  let c0_i32_27 : BitVec 32 := 0#32
  let c1_i32_28 : BitVec 32 := 1#32
  let arg15 : BitVec 32 := Scf.iv c0_i32_27 c1_i32_28 k0_t2
  let c32_i32 : BitVec 32 := 32#32
  let v82 : BitVec 32 := Scalar.muli arg15 c32_i32
  let v83 : BitVec 32 := v82
  let v167 : Index := Scalar.indexCast v83
  let c0_i32_78 : BitVec 32 := 0#32
  let c0_i32_60 : BitVec 32 := 0#32
  let c1_i32_62 : BitVec 32 := 1#32
  let arg16 : BitVec 32 := Scf.iv c0_i32_60 c1_i32_62 k0_t3
  let v138 : BitVec 32 := Scalar.addi c0_i32_78 arg16
  let c128_i32_79 : BitVec 32 := 128#32
  let v139 : BitVec 32 := Scalar.muli v138 c128_i32_79
  let v140 : BitVec 32 := v139
  let v168 : Index := Scalar.indexCast v140
  ![v167.toNat, v168.toNat]
def k0_off47 (v0 : BitVec 32) (k0_t2 : Fin k0_t2_loop.trips) (k0_t3 : Fin k0_t3_loop.trips) : Fin 2 → Nat :=
  let c0_i32_27 : BitVec 32 := 0#32
  let c1_i32_28 : BitVec 32 := 1#32
  let arg15 : BitVec 32 := Scf.iv c0_i32_27 c1_i32_28 k0_t2
  let c4_i32 : BitVec 32 := 4#32
  let v84 : BitVec 1 := Scalar.cmpi .slt arg15 c4_i32
  let c32_i32_42 : BitVec 32 := 32#32
  let v85 : BitVec 32 := Scalar.muli arg15 c32_i32_42
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c32_i32_43 : BitVec 32 := 32#32
  let v86 : BitVec 32 := Scalar.muli arg15 c32_i32_43
  let v87 : BitVec 32 := Scalar.addi v22 v86
  let c128_i32 : BitVec 32 := 128#32
  let v88 : BitVec 32 := Scalar.subi v87 c128_i32
  let v89 : BitVec 32 := Scalar.select v84 v85 v88
  let c0_i32_44 : BitVec 32 := 0#32
  let v91 : BitVec 1 := Scalar.cmpi .sgt v89 c0_i32_44
  let v92 : BitVec 32 := Scalar.extui v91
  let c0_i32_45 : BitVec 32 := 0#32
  let v93 : BitVec 1 := Scalar.cmpi .slt v89 c0_i32_45
  let v94 : BitVec 32 := Scalar.extui v93
  let v95 : BitVec 32 := Scalar.subi v92 v94
  let c2_i32 : BitVec 32 := 2#32
  let c0_i32_46 : BitVec 32 := 0#32
  let v96 : BitVec 1 := Scalar.cmpi .sgt c2_i32 c0_i32_46
  let v97 : BitVec 32 := Scalar.extui v96
  let c0_i32_47 : BitVec 32 := 0#32
  let v98 : BitVec 1 := Scalar.cmpi .slt c2_i32 c0_i32_47
  let v99 : BitVec 32 := Scalar.extui v98
  let v100 : BitVec 32 := Scalar.subi v97 v99
  let v101 : BitVec 1 := Scalar.cmpi .ne v95 v100
  let v102 : BitVec 32 := Scalar.remsi v89 c2_i32
  let c0_i32_48 : BitVec 32 := 0#32
  let v103 : BitVec 1 := Scalar.cmpi .ne v102 c0_i32_48
  let v104 : BitVec 1 := Scalar.andi v101 v103
  let v90 : BitVec 32 := Scalar.divsi v89 c2_i32
  let c1_i32_49 : BitVec 32 := 1#32
  let v105 : BitVec 32 := Scalar.subi v90 c1_i32_49
  let v106 : BitVec 32 := Scalar.select v104 v105 v90
  let v107 : BitVec 32 := v106
  let v189 : Index := Scalar.indexCast v107
  let c0_i32_78 : BitVec 32 := 0#32
  let c0_i32_60 : BitVec 32 := 0#32
  let c1_i32_62 : BitVec 32 := 1#32
  let arg16 : BitVec 32 := Scf.iv c0_i32_60 c1_i32_62 k0_t3
  let v138 : BitVec 32 := Scalar.addi c0_i32_78 arg16
  let c128_i32_79 : BitVec 32 := 128#32
  let v139 : BitVec 32 := Scalar.muli v138 c128_i32_79
  let v140 : BitVec 32 := v139
  let v190 : Index := Scalar.indexCast v140
  ![v189.toNat, v190.toNat]
def k0_mult10 (k0_t2 : Fin k0_t2_loop.trips) : BitVec 32 :=
  let c2_i32_64 : BitVec 32 := 2#32
  let c0_i32_27 : BitVec 32 := 0#32
  let c1_i32_28 : BitVec 32 := 1#32
  let arg15 : BitVec 32 := Scf.iv c0_i32_27 c1_i32_28 k0_t2
  let v123 : BitVec 32 := Scalar.muli c2_i32_64 arg15
  let c0_i32_65 : BitVec 32 := 0#32
  let v124 : BitVec 32 := Scalar.addi v123 c0_i32_65
  let c8_i32_66 : BitVec 32 := 8#32
  let v125 : BitVec 32 := Scalar.muli v124 c8_i32_66
  v125
def k0_off48 (k0_t2 : Fin k0_t2_loop.trips) (c0_i32_65 : BitVec 32) : Fin 3 → Nat :=
  let c1_67 : Index := 1#32
  let c2_i32_64 : BitVec 32 := 2#32
  let c0_i32_27 : BitVec 32 := 0#32
  let c1_i32_28 : BitVec 32 := 1#32
  let arg15 : BitVec 32 := Scf.iv c0_i32_27 c1_i32_28 k0_t2
  let v123 : BitVec 32 := Scalar.muli c2_i32_64 arg15
  let v124 : BitVec 32 := Scalar.addi v123 c0_i32_65
  let c8_i32_66 : BitVec 32 := 8#32
  let v125 : BitVec 32 := Scalar.muli v124 c8_i32_66
  let v126 : BitVec 32 := v125
  let v127 : Index := Scalar.indexCast v126
  let c0_68 : Index := 0#32
  ![1, v127.toNat, 0]
def k0_mult11 (k0_t2 : Fin k0_t2_loop.trips) : BitVec 32 :=
  let c2_i32_69 : BitVec 32 := 2#32
  let c0_i32_27 : BitVec 32 := 0#32
  let c1_i32_28 : BitVec 32 := 1#32
  let arg15 : BitVec 32 := Scf.iv c0_i32_27 c1_i32_28 k0_t2
  let v130 : BitVec 32 := Scalar.muli c2_i32_69 arg15
  let c1_i32_70 : BitVec 32 := 1#32
  let v131 : BitVec 32 := Scalar.addi v130 c1_i32_70
  let c8_i32_71 : BitVec 32 := 8#32
  let v132 : BitVec 32 := Scalar.muli v131 c8_i32_71
  v132
@[reducible] def k0_t4_loop : Scf.Loop 32 :=
  let c0_i32_74 : BitVec 32 := 0#32
  let c8_i32_75 : BitVec 32 := 8#32
  let v137 : BitVec 32 := Scalar.addi c0_i32_74 c8_i32_75
  let c1_i32_76 : BitVec 32 := 1#32
  ⟨c0_i32_74, v137, c1_i32_76⟩
def k0_mult12 (k0_t4 : Fin k0_t4_loop.trips) : BitVec 32 :=
  let c32_i32_78 : BitVec 32 := 32#32
  let c0_i32_74 : BitVec 32 := 0#32
  let c1_i32_76 : BitVec 32 := 1#32
  let arg16 : BitVec 32 := Scf.iv c0_i32_74 c1_i32_76 k0_t4
  let v138 : BitVec 32 := Scalar.addi c32_i32_78 arg16
  let c128_i32_79 : BitVec 32 := 128#32
  let v139 : BitVec 32 := Scalar.muli v138 c128_i32_79
  v139
def k0_off49 (k0_t2 : Fin k0_t2_loop.trips) (k0_t4 : Fin k0_t4_loop.trips) : Fin 2 → Nat :=
  let c0_i32_27 : BitVec 32 := 0#32
  let c1_i32_28 : BitVec 32 := 1#32
  let arg15 : BitVec 32 := Scf.iv c0_i32_27 c1_i32_28 k0_t2
  let c32_i32 : BitVec 32 := 32#32
  let v82 : BitVec 32 := Scalar.muli arg15 c32_i32
  let v83 : BitVec 32 := v82
  let v167 : Index := Scalar.indexCast v83
  let c32_i32_78 : BitVec 32 := 32#32
  let c0_i32_74 : BitVec 32 := 0#32
  let c1_i32_76 : BitVec 32 := 1#32
  let arg16 : BitVec 32 := Scf.iv c0_i32_74 c1_i32_76 k0_t4
  let v138 : BitVec 32 := Scalar.addi c32_i32_78 arg16
  let c128_i32_79 : BitVec 32 := 128#32
  let v139 : BitVec 32 := Scalar.muli v138 c128_i32_79
  let v140 : BitVec 32 := v139
  let v168 : Index := Scalar.indexCast v140
  ![v167.toNat, v168.toNat]
def k0_off50 (v0 : BitVec 32) (k0_t2 : Fin k0_t2_loop.trips) (k0_t4 : Fin k0_t4_loop.trips) : Fin 2 → Nat :=
  let c0_i32_27 : BitVec 32 := 0#32
  let c1_i32_28 : BitVec 32 := 1#32
  let arg15 : BitVec 32 := Scf.iv c0_i32_27 c1_i32_28 k0_t2
  let c4_i32 : BitVec 32 := 4#32
  let v84 : BitVec 1 := Scalar.cmpi .slt arg15 c4_i32
  let c32_i32_42 : BitVec 32 := 32#32
  let v85 : BitVec 32 := Scalar.muli arg15 c32_i32_42
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c32_i32_43 : BitVec 32 := 32#32
  let v86 : BitVec 32 := Scalar.muli arg15 c32_i32_43
  let v87 : BitVec 32 := Scalar.addi v22 v86
  let c128_i32 : BitVec 32 := 128#32
  let v88 : BitVec 32 := Scalar.subi v87 c128_i32
  let v89 : BitVec 32 := Scalar.select v84 v85 v88
  let c0_i32_44 : BitVec 32 := 0#32
  let v91 : BitVec 1 := Scalar.cmpi .sgt v89 c0_i32_44
  let v92 : BitVec 32 := Scalar.extui v91
  let c0_i32_45 : BitVec 32 := 0#32
  let v93 : BitVec 1 := Scalar.cmpi .slt v89 c0_i32_45
  let v94 : BitVec 32 := Scalar.extui v93
  let v95 : BitVec 32 := Scalar.subi v92 v94
  let c2_i32 : BitVec 32 := 2#32
  let c0_i32_46 : BitVec 32 := 0#32
  let v96 : BitVec 1 := Scalar.cmpi .sgt c2_i32 c0_i32_46
  let v97 : BitVec 32 := Scalar.extui v96
  let c0_i32_47 : BitVec 32 := 0#32
  let v98 : BitVec 1 := Scalar.cmpi .slt c2_i32 c0_i32_47
  let v99 : BitVec 32 := Scalar.extui v98
  let v100 : BitVec 32 := Scalar.subi v97 v99
  let v101 : BitVec 1 := Scalar.cmpi .ne v95 v100
  let v102 : BitVec 32 := Scalar.remsi v89 c2_i32
  let c0_i32_48 : BitVec 32 := 0#32
  let v103 : BitVec 1 := Scalar.cmpi .ne v102 c0_i32_48
  let v104 : BitVec 1 := Scalar.andi v101 v103
  let v90 : BitVec 32 := Scalar.divsi v89 c2_i32
  let c1_i32_49 : BitVec 32 := 1#32
  let v105 : BitVec 32 := Scalar.subi v90 c1_i32_49
  let v106 : BitVec 32 := Scalar.select v104 v105 v90
  let v107 : BitVec 32 := v106
  let v189 : Index := Scalar.indexCast v107
  let c32_i32_78 : BitVec 32 := 32#32
  let c0_i32_74 : BitVec 32 := 0#32
  let c1_i32_76 : BitVec 32 := 1#32
  let arg16 : BitVec 32 := Scf.iv c0_i32_74 c1_i32_76 k0_t4
  let v138 : BitVec 32 := Scalar.addi c32_i32_78 arg16
  let c128_i32_79 : BitVec 32 := 128#32
  let v139 : BitVec 32 := Scalar.muli v138 c128_i32_79
  let v140 : BitVec 32 := v139
  let v190 : Index := Scalar.indexCast v140
  ![v189.toNat, v190.toNat]
@[reducible] def k0_t5_loop : Scf.Loop 32 :=
  let c0_i32_24_r0 : BitVec 32 := 0#32
  let c5_i32_r0 : BitVec 32 := 5#32
  let v57_r0 : BitVec 32 := Scalar.addi c0_i32_24_r0 c5_i32_r0
  let c1_i32_25_r0 : BitVec 32 := 1#32
  ⟨c0_i32_24_r0, v57_r0, c1_i32_25_r0⟩
def k0_cond3 (k0_t5 : Fin k0_t5_loop.trips) : BitVec 1 :=
  let c0_i32_24_r0 : BitVec 32 := 0#32
  let c1_i32_25_r0 : BitVec 32 := 1#32
  let arg15_r0 : BitVec 32 := Scf.iv c0_i32_24_r0 c1_i32_25_r0 k0_t5
  let c2_i32_r0 : BitVec 32 := 2#32
  let c0_i32_27_r0 : BitVec 32 := 0#32
  let v58_r0 : BitVec 1 := Scalar.cmpi .eq c2_i32_r0 c0_i32_27_r0
  let c1_i32_28_r0 : BitVec 32 := 1#32
  let v59_r0 : BitVec 32 := Scalar.select v58_r0 c1_i32_28_r0 c2_i32_r0
  let v60_r0 : BitVec 32 := Scalar.remsi arg15_r0 v59_r0
  let c0_i32_30_r0 : BitVec 32 := 0#32
  let v62_r0 : BitVec 1 := Scalar.cmpi .slt v60_r0 c0_i32_30_r0
  let c0_i32_31_r0 : BitVec 32 := 0#32
  let v63_r0 : BitVec 1 := Scalar.cmpi .slt v59_r0 c0_i32_31_r0
  let v64_r0 : BitVec 1 := Scalar.xori v62_r0 v63_r0
  let c0_i32_29_r0 : BitVec 32 := 0#32
  let v61_r0 : BitVec 1 := Scalar.cmpi .ne v60_r0 c0_i32_29_r0
  let v65_r0 : BitVec 1 := Scalar.andi v64_r0 v61_r0
  let v66_r0 : BitVec 32 := Scalar.addi v60_r0 v59_r0
  let v67_r0 : BitVec 32 := Scalar.select v65_r0 v66_r0 v60_r0
  let c0_i32_32_r0 : BitVec 32 := 0#32
  let v68_r0 : BitVec 1 := Scalar.cmpi .eq v67_r0 c0_i32_32_r0
  let v69_r0 : BitVec 32 := Scalar.extui v68_r0
  let c0_i32_33_r0 : BitVec 32 := 0#32
  let v70_r0 : BitVec 1 := Scalar.cmpi .ne v69_r0 c0_i32_33_r0
  v70_r0

def k0_mult13 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  v85_r0
def k0_off51 (k0_t5 : Fin k0_t5_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t6_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult14 (k0_t6 : Fin k0_t6_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off52 (k0_t5 : Fin k0_t5_loop.trips) (k0_t6 : Fin k0_t6_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off53 (k0_t6 : Fin k0_t6_loop.trips) (c0_i32_164_r0 : BitVec 32) (c0_i32_168_r0 : BitVec 32) : Fin 3 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0]
def k0_off54 (k0_t6 : Fin k0_t6_loop.trips) (c0_i32_164_r0 : BitVec 32) (c0_i32_168_r0 : BitVec 32) : Fin 3 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0]
def k0_mult15 (k0_t6 : Fin k0_t6_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult16 (k0_t6 : Fin k0_t6_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off55 (k0_t6 : Fin k0_t6_loop.trips) (c0_i32_164_r0 : BitVec 32) : Fin 2 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, v507_r0.toNat]
def k0_mult17 (k0_t6 : Fin k0_t6_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult18 (k0_t6 : Fin k0_t6_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult19 (k0_t6 : Fin k0_t6_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult20 (k0_t6 : Fin k0_t6_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult21 (k0_t6 : Fin k0_t6_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult22 (k0_t6 : Fin k0_t6_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult23 (k0_t6 : Fin k0_t6_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult24 (k0_t6 : Fin k0_t6_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult25 (k0_t6 : Fin k0_t6_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off56 (k0_t5 : Fin k0_t5_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v121_r0 : BitVec 32 := Scalar.muli c2_i32_64_r0 arg15_r0
  let v122_r0 : Index := Scalar.indexCast v121_r0
  let c0_66_r0 : Index := 0#32
  ![0, v122_r0.toNat, 0]
def k0_off57 (k0_t5 : Fin k0_t5_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult26 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off58 (k0_t5 : Fin k0_t5_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult27 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
def k0_cond4 (k0_t5 : Fin k0_t5_loop.trips) : BitVec 1 :=
  let c0_i32_24_r0 : BitVec 32 := 0#32
  let c1_i32_25_r0 : BitVec 32 := 1#32
  let arg15_r0 : BitVec 32 := Scf.iv c0_i32_24_r0 c1_i32_25_r0 k0_t5
  let c2_i32_34_r0 : BitVec 32 := 2#32
  let c0_i32_35_r0 : BitVec 32 := 0#32
  let v71_r0 : BitVec 1 := Scalar.cmpi .eq c2_i32_34_r0 c0_i32_35_r0
  let c1_i32_36_r0 : BitVec 32 := 1#32
  let v72_r0 : BitVec 32 := Scalar.select v71_r0 c1_i32_36_r0 c2_i32_34_r0
  let v73_r0 : BitVec 32 := Scalar.remsi arg15_r0 v72_r0
  let c0_i32_38_r0 : BitVec 32 := 0#32
  let v75_r0 : BitVec 1 := Scalar.cmpi .slt v73_r0 c0_i32_38_r0
  let c0_i32_39_r0 : BitVec 32 := 0#32
  let v76_r0 : BitVec 1 := Scalar.cmpi .slt v72_r0 c0_i32_39_r0
  let v77_r0 : BitVec 1 := Scalar.xori v75_r0 v76_r0
  let c0_i32_37_r0 : BitVec 32 := 0#32
  let v74_r0 : BitVec 1 := Scalar.cmpi .ne v73_r0 c0_i32_37_r0
  let v78_r0 : BitVec 1 := Scalar.andi v77_r0 v74_r0
  let v79_r0 : BitVec 32 := Scalar.addi v73_r0 v72_r0
  let v80_r0 : BitVec 32 := Scalar.select v78_r0 v79_r0 v73_r0
  let c1_i32_40_r0 : BitVec 32 := 1#32
  let v81_r0 : BitVec 1 := Scalar.cmpi .eq v80_r0 c1_i32_40_r0
  let v82_r0 : BitVec 32 := Scalar.extui v81_r0
  let c0_i32_41_r0 : BitVec 32 := 0#32
  let v83_r0 : BitVec 1 := Scalar.cmpi .ne v82_r0 c0_i32_41_r0
  v83_r0

def k0_mult28 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  v85_r0
def k0_off59 (k0_t5 : Fin k0_t5_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t7_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult29 (k0_t7 : Fin k0_t7_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off60 (k0_t5 : Fin k0_t5_loop.trips) (k0_t7 : Fin k0_t7_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off61 (k0_t7 : Fin k0_t7_loop.trips) (c0_i32_164_r0 : BitVec 32) (c0_i32_168_r0 : BitVec 32) : Fin 3 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0]
def k0_off62 (k0_t7 : Fin k0_t7_loop.trips) (c0_i32_164_r0 : BitVec 32) (c0_i32_168_r0 : BitVec 32) : Fin 3 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0]
def k0_mult30 (k0_t7 : Fin k0_t7_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult31 (k0_t7 : Fin k0_t7_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off63 (k0_t7 : Fin k0_t7_loop.trips) (c0_i32_164_r0 : BitVec 32) : Fin 2 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, v507_r0.toNat]
def k0_mult32 (k0_t7 : Fin k0_t7_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult33 (k0_t7 : Fin k0_t7_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult34 (k0_t7 : Fin k0_t7_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult35 (k0_t7 : Fin k0_t7_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult36 (k0_t7 : Fin k0_t7_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult37 (k0_t7 : Fin k0_t7_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult38 (k0_t7 : Fin k0_t7_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult39 (k0_t7 : Fin k0_t7_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult40 (k0_t7 : Fin k0_t7_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off64 (k0_t5 : Fin k0_t5_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v121_r0 : BitVec 32 := Scalar.muli c2_i32_64_r0 arg15_r0
  let v122_r0 : Index := Scalar.indexCast v121_r0
  let c0_66_r0 : Index := 0#32
  ![0, v122_r0.toNat, 0]
def k0_off65 (k0_t5 : Fin k0_t5_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult41 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off66 (k0_t5 : Fin k0_t5_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult42 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
@[reducible] def k0_t8_loop : Scf.Loop 32 :=
  let c0_i32_24_r0 : BitVec 32 := 0#32
  let c5_i32_r0 : BitVec 32 := 5#32
  let v57_r0 : BitVec 32 := Scalar.addi c0_i32_24_r0 c5_i32_r0
  let c1_i32_25_r0 : BitVec 32 := 1#32
  ⟨c0_i32_24_r0, v57_r0, c1_i32_25_r0⟩
def k0_cond6 (k0_t8 : Fin k0_t8_loop.trips) : BitVec 1 :=
  let c0_i32_24_r0 : BitVec 32 := 0#32
  let c1_i32_25_r0 : BitVec 32 := 1#32
  let arg15_r0 : BitVec 32 := Scf.iv c0_i32_24_r0 c1_i32_25_r0 k0_t8
  let c2_i32_r0 : BitVec 32 := 2#32
  let c0_i32_27_r0 : BitVec 32 := 0#32
  let v58_r0 : BitVec 1 := Scalar.cmpi .eq c2_i32_r0 c0_i32_27_r0
  let c1_i32_28_r0 : BitVec 32 := 1#32
  let v59_r0 : BitVec 32 := Scalar.select v58_r0 c1_i32_28_r0 c2_i32_r0
  let v60_r0 : BitVec 32 := Scalar.remsi arg15_r0 v59_r0
  let c0_i32_30_r0 : BitVec 32 := 0#32
  let v62_r0 : BitVec 1 := Scalar.cmpi .slt v60_r0 c0_i32_30_r0
  let c0_i32_31_r0 : BitVec 32 := 0#32
  let v63_r0 : BitVec 1 := Scalar.cmpi .slt v59_r0 c0_i32_31_r0
  let v64_r0 : BitVec 1 := Scalar.xori v62_r0 v63_r0
  let c0_i32_29_r0 : BitVec 32 := 0#32
  let v61_r0 : BitVec 1 := Scalar.cmpi .ne v60_r0 c0_i32_29_r0
  let v65_r0 : BitVec 1 := Scalar.andi v64_r0 v61_r0
  let v66_r0 : BitVec 32 := Scalar.addi v60_r0 v59_r0
  let v67_r0 : BitVec 32 := Scalar.select v65_r0 v66_r0 v60_r0
  let c0_i32_32_r0 : BitVec 32 := 0#32
  let v68_r0 : BitVec 1 := Scalar.cmpi .eq v67_r0 c0_i32_32_r0
  let v69_r0 : BitVec 32 := Scalar.extui v68_r0
  let c0_i32_33_r0 : BitVec 32 := 0#32
  let v70_r0 : BitVec 1 := Scalar.cmpi .ne v69_r0 c0_i32_33_r0
  v70_r0

def k0_mult43 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  v85_r0
def k0_off67 (k0_t8 : Fin k0_t8_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t9_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult44 (k0_t9 : Fin k0_t9_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off68 (k0_t8 : Fin k0_t8_loop.trips) (k0_t9 : Fin k0_t9_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off69 (k0_t9 : Fin k0_t9_loop.trips) (c0_i32_164_r0 : BitVec 32) (c0_i32_168_r0 : BitVec 32) : Fin 3 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0]
def k0_off70 (k0_t9 : Fin k0_t9_loop.trips) (c0_i32_164_r0 : BitVec 32) (c0_i32_168_r0 : BitVec 32) : Fin 3 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0]
def k0_mult45 (k0_t9 : Fin k0_t9_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult46 (k0_t9 : Fin k0_t9_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off71 (k0_t9 : Fin k0_t9_loop.trips) (c0_i32_164_r0 : BitVec 32) : Fin 2 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, v507_r0.toNat]
def k0_mult47 (k0_t9 : Fin k0_t9_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult48 (k0_t9 : Fin k0_t9_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult49 (k0_t9 : Fin k0_t9_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult50 (k0_t9 : Fin k0_t9_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult51 (k0_t9 : Fin k0_t9_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult52 (k0_t9 : Fin k0_t9_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult53 (k0_t9 : Fin k0_t9_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult54 (k0_t9 : Fin k0_t9_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult55 (k0_t9 : Fin k0_t9_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off72 (k0_t8 : Fin k0_t8_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v121_r0 : BitVec 32 := Scalar.muli c2_i32_64_r0 arg15_r0
  let v122_r0 : Index := Scalar.indexCast v121_r0
  let c0_66_r0 : Index := 0#32
  ![0, v122_r0.toNat, 0]
def k0_off73 (k0_t8 : Fin k0_t8_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult56 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off74 (k0_t8 : Fin k0_t8_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult57 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
def k0_cond7 (k0_t8 : Fin k0_t8_loop.trips) : BitVec 1 :=
  let c0_i32_24_r0 : BitVec 32 := 0#32
  let c1_i32_25_r0 : BitVec 32 := 1#32
  let arg15_r0 : BitVec 32 := Scf.iv c0_i32_24_r0 c1_i32_25_r0 k0_t8
  let c2_i32_34_r0 : BitVec 32 := 2#32
  let c0_i32_35_r0 : BitVec 32 := 0#32
  let v71_r0 : BitVec 1 := Scalar.cmpi .eq c2_i32_34_r0 c0_i32_35_r0
  let c1_i32_36_r0 : BitVec 32 := 1#32
  let v72_r0 : BitVec 32 := Scalar.select v71_r0 c1_i32_36_r0 c2_i32_34_r0
  let v73_r0 : BitVec 32 := Scalar.remsi arg15_r0 v72_r0
  let c0_i32_38_r0 : BitVec 32 := 0#32
  let v75_r0 : BitVec 1 := Scalar.cmpi .slt v73_r0 c0_i32_38_r0
  let c0_i32_39_r0 : BitVec 32 := 0#32
  let v76_r0 : BitVec 1 := Scalar.cmpi .slt v72_r0 c0_i32_39_r0
  let v77_r0 : BitVec 1 := Scalar.xori v75_r0 v76_r0
  let c0_i32_37_r0 : BitVec 32 := 0#32
  let v74_r0 : BitVec 1 := Scalar.cmpi .ne v73_r0 c0_i32_37_r0
  let v78_r0 : BitVec 1 := Scalar.andi v77_r0 v74_r0
  let v79_r0 : BitVec 32 := Scalar.addi v73_r0 v72_r0
  let v80_r0 : BitVec 32 := Scalar.select v78_r0 v79_r0 v73_r0
  let c1_i32_40_r0 : BitVec 32 := 1#32
  let v81_r0 : BitVec 1 := Scalar.cmpi .eq v80_r0 c1_i32_40_r0
  let v82_r0 : BitVec 32 := Scalar.extui v81_r0
  let c0_i32_41_r0 : BitVec 32 := 0#32
  let v83_r0 : BitVec 1 := Scalar.cmpi .ne v82_r0 c0_i32_41_r0
  v83_r0

def k0_mult58 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  v85_r0
def k0_off75 (k0_t8 : Fin k0_t8_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t10_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult59 (k0_t10 : Fin k0_t10_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off76 (k0_t8 : Fin k0_t8_loop.trips) (k0_t10 : Fin k0_t10_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off77 (k0_t10 : Fin k0_t10_loop.trips) (c0_i32_164_r0 : BitVec 32) (c0_i32_168_r0 : BitVec 32) : Fin 3 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0]
def k0_off78 (k0_t10 : Fin k0_t10_loop.trips) (c0_i32_164_r0 : BitVec 32) (c0_i32_168_r0 : BitVec 32) : Fin 3 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0]
def k0_mult60 (k0_t10 : Fin k0_t10_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult61 (k0_t10 : Fin k0_t10_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off79 (k0_t10 : Fin k0_t10_loop.trips) (c0_i32_164_r0 : BitVec 32) : Fin 2 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, v507_r0.toNat]
def k0_mult62 (k0_t10 : Fin k0_t10_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult63 (k0_t10 : Fin k0_t10_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult64 (k0_t10 : Fin k0_t10_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult65 (k0_t10 : Fin k0_t10_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult66 (k0_t10 : Fin k0_t10_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult67 (k0_t10 : Fin k0_t10_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult68 (k0_t10 : Fin k0_t10_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult69 (k0_t10 : Fin k0_t10_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult70 (k0_t10 : Fin k0_t10_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off80 (k0_t8 : Fin k0_t8_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v121_r0 : BitVec 32 := Scalar.muli c2_i32_64_r0 arg15_r0
  let v122_r0 : Index := Scalar.indexCast v121_r0
  let c0_66_r0 : Index := 0#32
  ![0, v122_r0.toNat, 0]
def k0_off81 (k0_t8 : Fin k0_t8_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult71 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off82 (k0_t8 : Fin k0_t8_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult72 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
def k0_cond8 (i : grid0.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_19 : BitVec 32 := 0#32
  let v48 : BitVec 1 := Scalar.cmpi .ne v47 c0_i32_19
  v48

def k0_off83 (v0 : BitVec 32) : Fin 2 → Nat :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let v71 : Index := Scalar.indexCast v22
  let c0_31 : Index := 0#32
  ![v71.toNat, 0]

def k0_chk1 (i : grid0.Coords) (v0 : BitVec 32) : Prop :=
  (16 ∣ (k0_mult1 v0).toNat) ∧
  (∀ k0_t2 : Fin k0_t2_loop.trips, ∀ (k0_h1 : k0_cond1 i = 1#1), 8 ∣ (k0_mult6 v0 k0_t2).toNat) ∧
  (∀ (k0_t2 : Fin k0_t2_loop.trips) (k0_t3 : Fin k0_t3_loop.trips), ∀ (k0_h1 : k0_cond1 i = 1#1), ∀ a, (k0_off47 v0 k0_t2 k0_t3) a + S16x128.size a ≤ S128x5120.size a) ∧
  (∀ (k0_t2 : Fin k0_t2_loop.trips) (k0_t4 : Fin k0_t4_loop.trips), ∀ (k0_h1 : k0_cond1 i = 1#1), ∀ a, (k0_off50 v0 k0_t2 k0_t4) a + S16x128.size a ≤ S128x5120.size a) ∧
  (∀ (k0_h8 : k0_cond8 i = 1#1), ∀ a, (k0_off83 v0) a + S128x128.size a ≤ S256x128.size a)
theorem k0_mult1_dvd : ∀ (i : grid0.Coords) (v0 : BitVec 32) (k0_hw1 : k0_chk1 i v0), 16 ∣ (k0_mult1 v0).toNat := fun i v0 k0_hw1 => k0_hw1.1
theorem k0_mult6_dvd : ∀ (i : grid0.Coords) (v0 : BitVec 32) (k0_hw1 : k0_chk1 i v0) (k0_t2 : Fin k0_t2_loop.trips), ∀ (k0_h1 : k0_cond1 i = 1#1), 8 ∣ (k0_mult6 v0 k0_t2).toNat := fun i v0 k0_hw1 k0_t2 k0_h1 => k0_hw1.2.1 k0_t2 k0_h1
theorem k0_off47_inb : ∀ (i : grid0.Coords) (v0 : BitVec 32) (k0_hw1 : k0_chk1 i v0) (k0_t2 : Fin k0_t2_loop.trips) (k0_t3 : Fin k0_t3_loop.trips), ∀ (k0_h1 : k0_cond1 i = 1#1), ∀ a, (k0_off47 v0 k0_t2 k0_t3) a + S16x128.size a ≤ S128x5120.size a := fun i v0 k0_hw1 k0_t2 k0_t3 k0_h1 => k0_hw1.2.2.1 k0_t2 k0_t3 k0_h1
theorem k0_off50_inb : ∀ (i : grid0.Coords) (v0 : BitVec 32) (k0_hw1 : k0_chk1 i v0) (k0_t2 : Fin k0_t2_loop.trips) (k0_t4 : Fin k0_t4_loop.trips), ∀ (k0_h1 : k0_cond1 i = 1#1), ∀ a, (k0_off50 v0 k0_t2 k0_t4) a + S16x128.size a ≤ S128x5120.size a := fun i v0 k0_hw1 k0_t2 k0_t4 k0_h1 => k0_hw1.2.2.2.1 k0_t2 k0_t4 k0_h1
theorem k0_off83_inb : ∀ (i : grid0.Coords) (v0 : BitVec 32) (k0_hw1 : k0_chk1 i v0), ∀ (k0_h8 : k0_cond8 i = 1#1), ∀ a, (k0_off83 v0) a + S128x128.size a ≤ S256x128.size a := fun i v0 k0_hw1 k0_h8 => k0_hw1.2.2.2.2 k0_h8

def k0_cond2 (v0 : BitVec 32) (v1 : BitVec 32) : BitVec 1 :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c16_i32_7 : BitVec 32 := 16#32
  let v23 : BitVec 32 := Scalar.addi v1 c16_i32_7
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_16 : BitVec 32 := 16#32
  let v42 : BitVec 32 := Scalar.muli v41 c16_i32_16
  let v49_r0 : BitVec 32 := Scalar.addi v22 v42
  let c160_i32_r0 : BitVec 32 := 160#32
  let v50_r0 : BitVec 1 := Scalar.cmpi .sle v49_r0 c160_i32_r0
  let v51_r0 : BitVec 32 := Scalar.extui v50_r0
  let c0_i32_20_r0 : BitVec 32 := 0#32
  let v52_r0 : BitVec 1 := Scalar.cmpi .ne v51_r0 c0_i32_20_r0
  v52_r0

def k0_cond5 (v0 : BitVec 32) (v1 : BitVec 32) : BitVec 1 :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c16_i32_7 : BitVec 32 := 16#32
  let v23 : BitVec 32 := Scalar.addi v1 c16_i32_7
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_16 : BitVec 32 := 16#32
  let v42 : BitVec 32 := Scalar.muli v41 c16_i32_16
  let v53_r0 : BitVec 32 := Scalar.addi v22 v42
  let c160_i32_21_r0 : BitVec 32 := 160#32
  let v54_r0 : BitVec 1 := Scalar.cmpi .sgt v53_r0 c160_i32_21_r0
  let v55_r0 : BitVec 32 := Scalar.extui v54_r0
  let c0_i32_22_r0 : BitVec 32 := 0#32
  let v56_r0 : BitVec 1 := Scalar.cmpi .ne v55_r0 c0_i32_22_r0
  v56_r0

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
abbrev S2x128x5120 : Shape := ⟨3, ![2, 128, 5120]⟩
abbrev S2 : Shape := ⟨1, ![2]⟩
abbrev S32000x5120 : Shape := ⟨2, ![32000, 5120]⟩
abbrev S32000x160 : Shape := ⟨2, ![32000, 160]⟩
abbrev S32000 : Shape := ⟨1, ![32000]⟩
abbrev S256x5120 : Shape := ⟨2, ![256, 5120]⟩
abbrev S25x10x128 : Shape := ⟨3, ![25, 10, 128]⟩
abbrev S2x32000 : Shape := ⟨2, ![2, 32000]⟩
abbrev S2x128x1 : Shape := ⟨3, ![2, 128, 1]⟩
abbrev S256x160 : Shape := ⟨2, ![256, 160]⟩
abbrev S1280x5120 : Shape := ⟨2, ![1280, 5120]⟩
abbrev S1280x160 : Shape := ⟨2, ![1280, 160]⟩
abbrev S1x10x128 : Shape := ⟨3, ![1, 10, 128]⟩
abbrev S2x1280 : Shape := ⟨2, ![2, 1280]⟩
abbrev S128x5120 : Shape := ⟨2, ![128, 5120]⟩
abbrev S128x2x5120 : Shape := ⟨3, ![128, 2, 5120]⟩
abbrev S128x1x5120 : Shape := ⟨3, ![128, 1, 5120]⟩
abbrev S2x128x128 : Shape := ⟨3, ![2, 128, 128]⟩
abbrev S2x128x2x128 : Shape := ⟨4, ![2, 128, 2, 128]⟩
abbrev S2x128x1x128 : Shape := ⟨4, ![2, 128, 1, 128]⟩
abbrev S2x2x160x128 : Shape := ⟨4, ![2, 2, 160, 128]⟩
abbrev S2x2x160x2x128 : Shape := ⟨5, ![2, 2, 160, 2, 128]⟩
abbrev S2x2x160x1x128 : Shape := ⟨5, ![2, 2, 160, 1, 128]⟩
abbrev S256x128 : Shape := ⟨2, ![256, 128]⟩
abbrev S2x256x128 : Shape := ⟨3, ![2, 256, 128]⟩
abbrev S1 : Shape := ⟨1, ![1]⟩
abbrev S8x128 : Shape := ⟨2, ![8, 128]⟩
abbrev S16x128 : Shape := ⟨2, ![16, 128]⟩
abbrev S16x128x1 : Shape := ⟨3, ![16, 128, 1]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S16x32 : Shape := ⟨2, ![16, 32]⟩
abbrev S32x128 : Shape := ⟨2, ![32, 128]⟩
abbrev S16x2x128 : Shape := ⟨3, ![16, 2, 128]⟩
abbrev S16x1x128 : Shape := ⟨3, ![16, 1, 128]⟩
abbrev S1x256x128 : Shape := ⟨3, ![1, 256, 128]⟩
abbrev S128x2x160 : Shape := ⟨3, ![128, 2, 160]⟩
abbrev S128x1x160 : Shape := ⟨3, ![128, 1, 160]⟩
abbrev S128x160 : Shape := ⟨2, ![128, 160]⟩
abbrev S160x128 : Shape := ⟨2, ![160, 128]⟩
abbrev S1x2x160x2x128 : Shape := ⟨5, ![1, 2, 160, 2, 128]⟩
abbrev S2x160x2x128 : Shape := ⟨4, ![2, 160, 2, 128]⟩
abbrev S1x160x128 : Shape := ⟨3, ![1, 160, 128]⟩
abbrev S1x160x2x128 : Shape := ⟨4, ![1, 160, 2, 128]⟩
abbrev S1x160x1x128 : Shape := ⟨4, ![1, 160, 1, 128]⟩
abbrev S128x2x128 : Shape := ⟨3, ![128, 2, 128]⟩
abbrev S128x1x128 : Shape := ⟨3, ![128, 1, 128]⟩
abbrev S128x128 : Shape := ⟨2, ![128, 128]⟩
abbrev S1x4x128 : Shape := ⟨3, ![1, 4, 128]⟩
abbrev S1x4x2x128 : Shape := ⟨4, ![1, 4, 2, 128]⟩
abbrev S1x4x1x128 : Shape := ⟨4, ![1, 4, 1, 128]⟩
abbrev S4x128 : Shape := ⟨2, ![4, 128]⟩
abbrev S4x1x128 : Shape := ⟨3, ![4, 1, 128]⟩
abbrev S4x32x128 : Shape := ⟨3, ![4, 32, 128]⟩
abbrev S128x256 : Shape := ⟨2, ![128, 256]⟩
abbrev S256x256 : Shape := ⟨2, ![256, 256]⟩
abbrev S80x256 : Shape := ⟨2, ![80, 256]⟩
abbrev S80x2x256 : Shape := ⟨3, ![80, 2, 256]⟩
abbrev S80x1x256 : Shape := ⟨3, ![80, 1, 256]⟩
abbrev S160x256 : Shape := ⟨2, ![160, 256]⟩
abbrev S1x1x128 : Shape := ⟨3, ![1, 1, 128]⟩
abbrev S1x128 : Shape := ⟨2, ![1, 128]⟩
abbrev S8x128x1 : Shape := ⟨3, ![8, 128, 1]⟩
abbrev S128 : Shape := ⟨1, ![128]⟩
abbrev S2x128 : Shape := ⟨2, ![2, 128]⟩
abbrev S128x2x256 : Shape := ⟨3, ![128, 2, 256]⟩
abbrev S128x1x256 : Shape := ⟨3, ![128, 1, 256]⟩
abbrev S256 : Shape := ⟨1, ![256]⟩
abbrev S256x1 : Shape := ⟨2, ![256, 1]⟩
abbrev S128x1 : Shape := ⟨2, ![128, 1]⟩
abbrev S1x128x1 : Shape := ⟨3, ![1, 128, 1]⟩

abbrev nBuf : Space → Nat
  | .hbm => 10
  | .vmem => 17
  | .smem => 1
  | _ => 0

abbrev bufTy : (tb : Table) → Fin (tcTables nBuf tb) → BufTy
  | .hbm, ⟨0, _⟩ => ⟨S2x128x5120, .bf16⟩
  | .hbm, ⟨1, _⟩ => ⟨S32000x5120, .fp8e4m3⟩
  | .hbm, ⟨2, _⟩ => ⟨S32000x160, .f32⟩
  | .hbm, ⟨3, _⟩ => ⟨S32000, .f32⟩
  | .hbm, ⟨4, _⟩ => ⟨S256x5120, .bf16⟩
  | .hbm, ⟨5, _⟩ => ⟨S25x10x128, .f32⟩
  | .hbm, ⟨6, _⟩ => ⟨S2x32000, .bf16⟩
  | .hbm, ⟨7, _⟩ => ⟨S2x128x1, .f32⟩
  | .hbm, ⟨8, _⟩ => ⟨S256x5120, .fp8e4m3⟩
  | .hbm, ⟨9, _⟩ => ⟨S256x160, .f32⟩
  | .local _ .vmem, ⟨0, _⟩ => ⟨S256x5120, .bf16⟩
  | .local _ .vmem, ⟨1, _⟩ => ⟨S1280x5120, .fp8e4m3⟩
  | .local _ .vmem, ⟨2, _⟩ => ⟨S1280x5120, .fp8e4m3⟩
  | .local _ .vmem, ⟨3, _⟩ => ⟨S1280x160, .f32⟩
  | .local _ .vmem, ⟨4, _⟩ => ⟨S1280x160, .f32⟩
  | .local _ .vmem, ⟨5, _⟩ => ⟨S1x10x128, .f32⟩
  | .local _ .vmem, ⟨6, _⟩ => ⟨S1x10x128, .f32⟩
  | .local _ .vmem, ⟨7, _⟩ => ⟨S2x1280, .bf16⟩
  | .local _ .vmem, ⟨8, _⟩ => ⟨S2x1280, .bf16⟩
  | .local _ .vmem, ⟨9, _⟩ => ⟨S2x128x1, .f32⟩
  | .local _ .vmem, ⟨10, _⟩ => ⟨S256x5120, .fp8e4m3⟩
  | .local _ .vmem, ⟨11, _⟩ => ⟨S256x160, .f32⟩
  | .local _ .vmem, ⟨12, _⟩ => ⟨S128x2x5120, .bf16⟩
  | .local _ .vmem, ⟨13, _⟩ => ⟨S2x128x2x128, .bf16⟩
  | .local _ .vmem, ⟨14, _⟩ => ⟨S2x2x160x2x128, .bf16⟩
  | .local _ .vmem, ⟨15, _⟩ => ⟨S256x128, .f32⟩
  | .local _ .vmem, ⟨16, _⟩ => ⟨S2x256x128, .f32⟩
  | .local _ .smem, ⟨0, _⟩ => ⟨S2, .i32⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![25], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_mult1 (v0 : BitVec 32) : BitVec 32 :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  v21

def k0_cond1 (i : grid0.Coords) : BitVec 1 :=
  let arg0 : BitVec 32 := BitVec.ofNat 32 (i 0).val
  let c0_i32_17 : BitVec 32 := 0#32
  let v43 : BitVec 1 := Scalar.cmpi .eq arg0 c0_i32_17
  let v44 : BitVec 32 := Scalar.extui v43
  let c0_i32_18 : BitVec 32 := 0#32
  let v45 : BitVec 1 := Scalar.cmpi .ne v44 c0_i32_18
  v45

@[reducible] def k0_t1_loop : Scf.Loop 32 :=
  let c0_i32_23 : BitVec 32 := 0#32
  let c16_i32_24 : BitVec 32 := 16#32
  let v55 : BitVec 32 := Scalar.addi c0_i32_23 c16_i32_24
  let c1_i32_25 : BitVec 32 := 1#32
  ⟨c0_i32_23, v55, c1_i32_25⟩
def k0_mult2 (k0_t1 : Fin k0_t1_loop.trips) : BitVec 32 :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  v82
def k0_off1 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v84 : Index := Scalar.indexCast v83
  let c0_43 : Index := 0#32
  ![v84.toNat, 0]
def k0_off2 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v88 : Index := Scalar.indexCast v83
  let c128 : Index := 128#32
  ![v88.toNat, 128]
def k0_off3 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v92 : Index := Scalar.indexCast v83
  let c256 : Index := 256#32
  ![v92.toNat, 256]
def k0_off4 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v96 : Index := Scalar.indexCast v83
  let c384 : Index := 384#32
  ![v96.toNat, 384]
def k0_off5 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v100 : Index := Scalar.indexCast v83
  let c512 : Index := 512#32
  ![v100.toNat, 512]
def k0_off6 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v104 : Index := Scalar.indexCast v83
  let c640 : Index := 640#32
  ![v104.toNat, 640]
def k0_off7 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v108 : Index := Scalar.indexCast v83
  let c768 : Index := 768#32
  ![v108.toNat, 768]
def k0_off8 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v112 : Index := Scalar.indexCast v83
  let c896 : Index := 896#32
  ![v112.toNat, 896]
def k0_off9 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v116 : Index := Scalar.indexCast v83
  let c1024 : Index := 1024#32
  ![v116.toNat, 1024]
def k0_off10 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v120 : Index := Scalar.indexCast v83
  let c1152 : Index := 1152#32
  ![v120.toNat, 1152]
def k0_off11 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v124 : Index := Scalar.indexCast v83
  let c1280 : Index := 1280#32
  ![v124.toNat, 1280]
def k0_off12 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v128 : Index := Scalar.indexCast v83
  let c1408 : Index := 1408#32
  ![v128.toNat, 1408]
def k0_off13 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v132 : Index := Scalar.indexCast v83
  let c1536 : Index := 1536#32
  ![v132.toNat, 1536]
def k0_off14 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v136 : Index := Scalar.indexCast v83
  let c1664 : Index := 1664#32
  ![v136.toNat, 1664]
def k0_off15 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v140 : Index := Scalar.indexCast v83
  let c1792 : Index := 1792#32
  ![v140.toNat, 1792]
def k0_off16 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v144 : Index := Scalar.indexCast v83
  let c1920 : Index := 1920#32
  ![v144.toNat, 1920]
def k0_off17 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v148 : Index := Scalar.indexCast v83
  let c2048 : Index := 2048#32
  ![v148.toNat, 2048]
def k0_off18 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v152 : Index := Scalar.indexCast v83
  let c2176 : Index := 2176#32
  ![v152.toNat, 2176]
def k0_off19 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v156 : Index := Scalar.indexCast v83
  let c2304 : Index := 2304#32
  ![v156.toNat, 2304]
def k0_off20 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v160 : Index := Scalar.indexCast v83
  let c2432 : Index := 2432#32
  ![v160.toNat, 2432]
def k0_off21 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v164 : Index := Scalar.indexCast v83
  let c2560 : Index := 2560#32
  ![v164.toNat, 2560]
def k0_off22 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v168 : Index := Scalar.indexCast v83
  let c2688 : Index := 2688#32
  ![v168.toNat, 2688]
def k0_off23 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v172 : Index := Scalar.indexCast v83
  let c2816 : Index := 2816#32
  ![v172.toNat, 2816]
def k0_off24 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v176 : Index := Scalar.indexCast v83
  let c2944 : Index := 2944#32
  ![v176.toNat, 2944]
def k0_off25 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v180 : Index := Scalar.indexCast v83
  let c3072 : Index := 3072#32
  ![v180.toNat, 3072]
def k0_off26 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v184 : Index := Scalar.indexCast v83
  let c3200 : Index := 3200#32
  ![v184.toNat, 3200]
def k0_off27 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v188 : Index := Scalar.indexCast v83
  let c3328 : Index := 3328#32
  ![v188.toNat, 3328]
def k0_off28 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v192 : Index := Scalar.indexCast v83
  let c3456 : Index := 3456#32
  ![v192.toNat, 3456]
def k0_off29 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v196 : Index := Scalar.indexCast v83
  let c3584 : Index := 3584#32
  ![v196.toNat, 3584]
def k0_off30 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v200 : Index := Scalar.indexCast v83
  let c3712 : Index := 3712#32
  ![v200.toNat, 3712]
def k0_off31 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v204 : Index := Scalar.indexCast v83
  let c3840 : Index := 3840#32
  ![v204.toNat, 3840]
def k0_off32 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v208 : Index := Scalar.indexCast v83
  let c3968 : Index := 3968#32
  ![v208.toNat, 3968]
def k0_mult3 (k0_t1 : Fin k0_t1_loop.trips) : BitVec 32 :=
  let c0_i32_23 : BitVec 32 := 0#32
  let c1_i32_25 : BitVec 32 := 1#32
  let arg15 : BitVec 32 := Scf.iv c0_i32_23 c1_i32_25 k0_t1
  let c8_i32_171 : BitVec 32 := 8#32
  let v913 : BitVec 32 := Scalar.muli arg15 c8_i32_171
  v913
def k0_off33 (k0_t1 : Fin k0_t1_loop.trips) : Fin 4 → Nat :=
  let c0_172 : Index := 0#32
  let c0_i32_23 : BitVec 32 := 0#32
  let c1_i32_25 : BitVec 32 := 1#32
  let arg15 : BitVec 32 := Scf.iv c0_i32_23 c1_i32_25 k0_t1
  let c8_i32_171 : BitVec 32 := 8#32
  let v913 : BitVec 32 := Scalar.muli arg15 c8_i32_171
  let v914 : BitVec 32 := v913
  let v915 : Index := Scalar.indexCast v914
  let c0_173 : Index := 0#32
  ![0, v915.toNat, 0, 0]
def k0_off34 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v988 : Index := Scalar.indexCast v83
  let c0_197 : Index := 0#32
  ![v988.toNat, 0]
def k0_off35 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v990 : Index := Scalar.indexCast v83
  let c4096 : Index := 4096#32
  ![v990.toNat, 4096]
def k0_off36 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v994 : Index := Scalar.indexCast v83
  let c4224 : Index := 4224#32
  ![v994.toNat, 4224]
def k0_off37 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v998 : Index := Scalar.indexCast v83
  let c4352 : Index := 4352#32
  ![v998.toNat, 4352]
def k0_off38 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1002 : Index := Scalar.indexCast v83
  let c4480 : Index := 4480#32
  ![v1002.toNat, 4480]
def k0_off39 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1006 : Index := Scalar.indexCast v83
  let c4608 : Index := 4608#32
  ![v1006.toNat, 4608]
def k0_off40 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1010 : Index := Scalar.indexCast v83
  let c4736 : Index := 4736#32
  ![v1010.toNat, 4736]
def k0_off41 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1014 : Index := Scalar.indexCast v83
  let c4864 : Index := 4864#32
  ![v1014.toNat, 4864]
def k0_off42 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1018 : Index := Scalar.indexCast v83
  let c4992 : Index := 4992#32
  ![v1018.toNat, 4992]
def k0_mult4 (k0_t1 : Fin k0_t1_loop.trips) : BitVec 32 :=
  let c0_i32_23 : BitVec 32 := 0#32
  let c1_i32_25 : BitVec 32 := 1#32
  let arg15 : BitVec 32 := Scf.iv c0_i32_23 c1_i32_25 k0_t1
  let c8_i32_263 : BitVec 32 := 8#32
  let v1289 : BitVec 32 := Scalar.muli arg15 c8_i32_263
  v1289
def k0_off43 (k0_t1 : Fin k0_t1_loop.trips) : Fin 4 → Nat :=
  let c1_264 : Index := 1#32
  let c0_i32_23 : BitVec 32 := 0#32
  let c1_i32_25 : BitVec 32 := 1#32
  let arg15 : BitVec 32 := Scf.iv c0_i32_23 c1_i32_25 k0_t1
  let c8_i32_263 : BitVec 32 := 8#32
  let v1289 : BitVec 32 := Scalar.muli arg15 c8_i32_263
  let v1290 : BitVec 32 := v1289
  let v1291 : Index := Scalar.indexCast v1290
  let c0_265 : Index := 0#32
  ![1, v1291.toNat, 0, 0]
def k0_off44 (k0_t1 : Fin k0_t1_loop.trips) : Fin 2 → Nat :=
  let c0_i32_23 : BitVec 32 := 0#32
  let c1_i32_25 : BitVec 32 := 1#32
  let arg15 : BitVec 32 := Scf.iv c0_i32_23 c1_i32_25 k0_t1
  let c16_i32_42 : BitVec 32 := 16#32
  let v82 : BitVec 32 := Scalar.muli arg15 c16_i32_42
  let v83 : BitVec 32 := v82
  let v1365 : Index := Scalar.indexCast v83
  let c128_289 : Index := 128#32
  ![v1365.toNat, 128]
@[reducible] def k0_t2_loop : Scf.Loop 32 :=
  let c0_i32_27 : BitVec 32 := 0#32
  let c8_i32 : BitVec 32 := 8#32
  let v56 : BitVec 32 := Scalar.addi c0_i32_27 c8_i32
  let c1_i32_28 : BitVec 32 := 1#32
  ⟨c0_i32_27, v56, c1_i32_28⟩
def k0_mult5 (k0_t2 : Fin k0_t2_loop.trips) : BitVec 32 :=
  let c0_i32_27 : BitVec 32 := 0#32
  let c1_i32_28 : BitVec 32 := 1#32
  let arg15 : BitVec 32 := Scf.iv c0_i32_27 c1_i32_28 k0_t2
  let c32_i32 : BitVec 32 := 32#32
  let v82 : BitVec 32 := Scalar.muli arg15 c32_i32
  v82
def k0_mult6 (v0 : BitVec 32) (k0_t2 : Fin k0_t2_loop.trips) : BitVec 32 :=
  let c0_i32_27 : BitVec 32 := 0#32
  let c1_i32_28 : BitVec 32 := 1#32
  let arg15 : BitVec 32 := Scf.iv c0_i32_27 c1_i32_28 k0_t2
  let c4_i32 : BitVec 32 := 4#32
  let v84 : BitVec 1 := Scalar.cmpi .slt arg15 c4_i32
  let c32_i32_42 : BitVec 32 := 32#32
  let v85 : BitVec 32 := Scalar.muli arg15 c32_i32_42
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c32_i32_43 : BitVec 32 := 32#32
  let v86 : BitVec 32 := Scalar.muli arg15 c32_i32_43
  let v87 : BitVec 32 := Scalar.addi v22 v86
  let c128_i32 : BitVec 32 := 128#32
  let v88 : BitVec 32 := Scalar.subi v87 c128_i32
  let v89 : BitVec 32 := Scalar.select v84 v85 v88
  let c0_i32_44 : BitVec 32 := 0#32
  let v91 : BitVec 1 := Scalar.cmpi .sgt v89 c0_i32_44
  let v92 : BitVec 32 := Scalar.extui v91
  let c0_i32_45 : BitVec 32 := 0#32
  let v93 : BitVec 1 := Scalar.cmpi .slt v89 c0_i32_45
  let v94 : BitVec 32 := Scalar.extui v93
  let v95 : BitVec 32 := Scalar.subi v92 v94
  let c2_i32 : BitVec 32 := 2#32
  let c0_i32_46 : BitVec 32 := 0#32
  let v96 : BitVec 1 := Scalar.cmpi .sgt c2_i32 c0_i32_46
  let v97 : BitVec 32 := Scalar.extui v96
  let c0_i32_47 : BitVec 32 := 0#32
  let v98 : BitVec 1 := Scalar.cmpi .slt c2_i32 c0_i32_47
  let v99 : BitVec 32 := Scalar.extui v98
  let v100 : BitVec 32 := Scalar.subi v97 v99
  let v101 : BitVec 1 := Scalar.cmpi .ne v95 v100
  let v102 : BitVec 32 := Scalar.remsi v89 c2_i32
  let c0_i32_48 : BitVec 32 := 0#32
  let v103 : BitVec 1 := Scalar.cmpi .ne v102 c0_i32_48
  let v104 : BitVec 1 := Scalar.andi v101 v103
  let v90 : BitVec 32 := Scalar.divsi v89 c2_i32
  let c1_i32_49 : BitVec 32 := 1#32
  let v105 : BitVec 32 := Scalar.subi v90 c1_i32_49
  let v106 : BitVec 32 := Scalar.select v104 v105 v90
  v106
def k0_mult7 (k0_t2 : Fin k0_t2_loop.trips) : BitVec 32 :=
  let c2_i32_50 : BitVec 32 := 2#32
  let c0_i32_27 : BitVec 32 := 0#32
  let c1_i32_28 : BitVec 32 := 1#32
  let arg15 : BitVec 32 := Scf.iv c0_i32_27 c1_i32_28 k0_t2
  let v108 : BitVec 32 := Scalar.muli c2_i32_50 arg15
  let c0_i32_51 : BitVec 32 := 0#32
  let v109 : BitVec 32 := Scalar.addi v108 c0_i32_51
  let c8_i32_52 : BitVec 32 := 8#32
  let v110 : BitVec 32 := Scalar.muli v109 c8_i32_52
  v110
def k0_off45 (k0_t2 : Fin k0_t2_loop.trips) (c0_i32_51 : BitVec 32) : Fin 4 → Nat :=
  let c0_53 : Index := 0#32
  let c2_i32_50 : BitVec 32 := 2#32
  let c0_i32_27 : BitVec 32 := 0#32
  let c1_i32_28 : BitVec 32 := 1#32
  let arg15 : BitVec 32 := Scf.iv c0_i32_27 c1_i32_28 k0_t2
  let v108 : BitVec 32 := Scalar.muli c2_i32_50 arg15
  let v109 : BitVec 32 := Scalar.addi v108 c0_i32_51
  let c8_i32_52 : BitVec 32 := 8#32
  let v110 : BitVec 32 := Scalar.muli v109 c8_i32_52
  let v111 : BitVec 32 := v110
  let v112 : Index := Scalar.indexCast v111
  let c0_54 : Index := 0#32
  ![0, v112.toNat, 0, 0]
def k0_mult8 (k0_t2 : Fin k0_t2_loop.trips) : BitVec 32 :=
  let c2_i32_55 : BitVec 32 := 2#32
  let c0_i32_27 : BitVec 32 := 0#32
  let c1_i32_28 : BitVec 32 := 1#32
  let arg15 : BitVec 32 := Scf.iv c0_i32_27 c1_i32_28 k0_t2
  let v115 : BitVec 32 := Scalar.muli c2_i32_55 arg15
  let c1_i32_56 : BitVec 32 := 1#32
  let v116 : BitVec 32 := Scalar.addi v115 c1_i32_56
  let c8_i32_57 : BitVec 32 := 8#32
  let v117 : BitVec 32 := Scalar.muli v116 c8_i32_57
  v117
@[reducible] def k0_t3_loop : Scf.Loop 32 :=
  let c0_i32_60 : BitVec 32 := 0#32
  let c32_i32_61 : BitVec 32 := 32#32
  let v122 : BitVec 32 := Scalar.addi c0_i32_60 c32_i32_61
  let c1_i32_62 : BitVec 32 := 1#32
  ⟨c0_i32_60, v122, c1_i32_62⟩
def k0_mult9 (k0_t3 : Fin k0_t3_loop.trips) : BitVec 32 :=
  let c0_i32_78 : BitVec 32 := 0#32
  let c0_i32_60 : BitVec 32 := 0#32
  let c1_i32_62 : BitVec 32 := 1#32
  let arg16 : BitVec 32 := Scf.iv c0_i32_60 c1_i32_62 k0_t3
  let v138 : BitVec 32 := Scalar.addi c0_i32_78 arg16
  let c128_i32_79 : BitVec 32 := 128#32
  let v139 : BitVec 32 := Scalar.muli v138 c128_i32_79
  v139
def k0_off46 (k0_t2 : Fin k0_t2_loop.trips) (k0_t3 : Fin k0_t3_loop.trips) : Fin 2 → Nat :=
  let c0_i32_27 : BitVec 32 := 0#32
  let c1_i32_28 : BitVec 32 := 1#32
  let arg15 : BitVec 32 := Scf.iv c0_i32_27 c1_i32_28 k0_t2
  let c32_i32 : BitVec 32 := 32#32
  let v82 : BitVec 32 := Scalar.muli arg15 c32_i32
  let v83 : BitVec 32 := v82
  let v167 : Index := Scalar.indexCast v83
  let c0_i32_78 : BitVec 32 := 0#32
  let c0_i32_60 : BitVec 32 := 0#32
  let c1_i32_62 : BitVec 32 := 1#32
  let arg16 : BitVec 32 := Scf.iv c0_i32_60 c1_i32_62 k0_t3
  let v138 : BitVec 32 := Scalar.addi c0_i32_78 arg16
  let c128_i32_79 : BitVec 32 := 128#32
  let v139 : BitVec 32 := Scalar.muli v138 c128_i32_79
  let v140 : BitVec 32 := v139
  let v168 : Index := Scalar.indexCast v140
  ![v167.toNat, v168.toNat]
def k0_off47 (v0 : BitVec 32) (k0_t2 : Fin k0_t2_loop.trips) (k0_t3 : Fin k0_t3_loop.trips) : Fin 3 → Nat :=
  let c0_i32_27 : BitVec 32 := 0#32
  let c1_i32_28 : BitVec 32 := 1#32
  let arg15 : BitVec 32 := Scf.iv c0_i32_27 c1_i32_28 k0_t2
  let c4_i32 : BitVec 32 := 4#32
  let v84 : BitVec 1 := Scalar.cmpi .slt arg15 c4_i32
  let c32_i32_42 : BitVec 32 := 32#32
  let v85 : BitVec 32 := Scalar.muli arg15 c32_i32_42
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c32_i32_43 : BitVec 32 := 32#32
  let v86 : BitVec 32 := Scalar.muli arg15 c32_i32_43
  let v87 : BitVec 32 := Scalar.addi v22 v86
  let c128_i32 : BitVec 32 := 128#32
  let v88 : BitVec 32 := Scalar.subi v87 c128_i32
  let v89 : BitVec 32 := Scalar.select v84 v85 v88
  let c0_i32_44 : BitVec 32 := 0#32
  let v91 : BitVec 1 := Scalar.cmpi .sgt v89 c0_i32_44
  let v92 : BitVec 32 := Scalar.extui v91
  let c0_i32_45 : BitVec 32 := 0#32
  let v93 : BitVec 1 := Scalar.cmpi .slt v89 c0_i32_45
  let v94 : BitVec 32 := Scalar.extui v93
  let v95 : BitVec 32 := Scalar.subi v92 v94
  let c2_i32 : BitVec 32 := 2#32
  let c0_i32_46 : BitVec 32 := 0#32
  let v96 : BitVec 1 := Scalar.cmpi .sgt c2_i32 c0_i32_46
  let v97 : BitVec 32 := Scalar.extui v96
  let c0_i32_47 : BitVec 32 := 0#32
  let v98 : BitVec 1 := Scalar.cmpi .slt c2_i32 c0_i32_47
  let v99 : BitVec 32 := Scalar.extui v98
  let v100 : BitVec 32 := Scalar.subi v97 v99
  let v101 : BitVec 1 := Scalar.cmpi .ne v95 v100
  let v102 : BitVec 32 := Scalar.remsi v89 c2_i32
  let c0_i32_48 : BitVec 32 := 0#32
  let v103 : BitVec 1 := Scalar.cmpi .ne v102 c0_i32_48
  let v104 : BitVec 1 := Scalar.andi v101 v103
  let v90 : BitVec 32 := Scalar.divsi v89 c2_i32
  let c1_i32_49 : BitVec 32 := 1#32
  let v105 : BitVec 32 := Scalar.subi v90 c1_i32_49
  let v106 : BitVec 32 := Scalar.select v104 v105 v90
  let v107 : BitVec 32 := v106
  let v189 : Index := Scalar.indexCast v107
  let c0_i32_78 : BitVec 32 := 0#32
  let c0_i32_60 : BitVec 32 := 0#32
  let c1_i32_62 : BitVec 32 := 1#32
  let arg16 : BitVec 32 := Scf.iv c0_i32_60 c1_i32_62 k0_t3
  let v138 : BitVec 32 := Scalar.addi c0_i32_78 arg16
  let c128_i32_79 : BitVec 32 := 128#32
  let v139 : BitVec 32 := Scalar.muli v138 c128_i32_79
  let v140 : BitVec 32 := v139
  let v190 : Index := Scalar.indexCast v140
  ![v189.toNat, 0, v190.toNat]
def k0_mult10 (k0_t2 : Fin k0_t2_loop.trips) : BitVec 32 :=
  let c2_i32_64 : BitVec 32 := 2#32
  let c0_i32_27 : BitVec 32 := 0#32
  let c1_i32_28 : BitVec 32 := 1#32
  let arg15 : BitVec 32 := Scf.iv c0_i32_27 c1_i32_28 k0_t2
  let v123 : BitVec 32 := Scalar.muli c2_i32_64 arg15
  let c0_i32_65 : BitVec 32 := 0#32
  let v124 : BitVec 32 := Scalar.addi v123 c0_i32_65
  let c8_i32_66 : BitVec 32 := 8#32
  let v125 : BitVec 32 := Scalar.muli v124 c8_i32_66
  v125
def k0_off48 (k0_t2 : Fin k0_t2_loop.trips) (c0_i32_65 : BitVec 32) : Fin 4 → Nat :=
  let c1_67 : Index := 1#32
  let c2_i32_64 : BitVec 32 := 2#32
  let c0_i32_27 : BitVec 32 := 0#32
  let c1_i32_28 : BitVec 32 := 1#32
  let arg15 : BitVec 32 := Scf.iv c0_i32_27 c1_i32_28 k0_t2
  let v123 : BitVec 32 := Scalar.muli c2_i32_64 arg15
  let v124 : BitVec 32 := Scalar.addi v123 c0_i32_65
  let c8_i32_66 : BitVec 32 := 8#32
  let v125 : BitVec 32 := Scalar.muli v124 c8_i32_66
  let v126 : BitVec 32 := v125
  let v127 : Index := Scalar.indexCast v126
  let c0_68 : Index := 0#32
  ![1, v127.toNat, 0, 0]
def k0_mult11 (k0_t2 : Fin k0_t2_loop.trips) : BitVec 32 :=
  let c2_i32_69 : BitVec 32 := 2#32
  let c0_i32_27 : BitVec 32 := 0#32
  let c1_i32_28 : BitVec 32 := 1#32
  let arg15 : BitVec 32 := Scf.iv c0_i32_27 c1_i32_28 k0_t2
  let v130 : BitVec 32 := Scalar.muli c2_i32_69 arg15
  let c1_i32_70 : BitVec 32 := 1#32
  let v131 : BitVec 32 := Scalar.addi v130 c1_i32_70
  let c8_i32_71 : BitVec 32 := 8#32
  let v132 : BitVec 32 := Scalar.muli v131 c8_i32_71
  v132
@[reducible] def k0_t4_loop : Scf.Loop 32 :=
  let c0_i32_74 : BitVec 32 := 0#32
  let c8_i32_75 : BitVec 32 := 8#32
  let v137 : BitVec 32 := Scalar.addi c0_i32_74 c8_i32_75
  let c1_i32_76 : BitVec 32 := 1#32
  ⟨c0_i32_74, v137, c1_i32_76⟩
def k0_mult12 (k0_t4 : Fin k0_t4_loop.trips) : BitVec 32 :=
  let c32_i32_78 : BitVec 32 := 32#32
  let c0_i32_74 : BitVec 32 := 0#32
  let c1_i32_76 : BitVec 32 := 1#32
  let arg16 : BitVec 32 := Scf.iv c0_i32_74 c1_i32_76 k0_t4
  let v138 : BitVec 32 := Scalar.addi c32_i32_78 arg16
  let c128_i32_79 : BitVec 32 := 128#32
  let v139 : BitVec 32 := Scalar.muli v138 c128_i32_79
  v139
def k0_off49 (k0_t2 : Fin k0_t2_loop.trips) (k0_t4 : Fin k0_t4_loop.trips) : Fin 2 → Nat :=
  let c0_i32_27 : BitVec 32 := 0#32
  let c1_i32_28 : BitVec 32 := 1#32
  let arg15 : BitVec 32 := Scf.iv c0_i32_27 c1_i32_28 k0_t2
  let c32_i32 : BitVec 32 := 32#32
  let v82 : BitVec 32 := Scalar.muli arg15 c32_i32
  let v83 : BitVec 32 := v82
  let v167 : Index := Scalar.indexCast v83
  let c32_i32_78 : BitVec 32 := 32#32
  let c0_i32_74 : BitVec 32 := 0#32
  let c1_i32_76 : BitVec 32 := 1#32
  let arg16 : BitVec 32 := Scf.iv c0_i32_74 c1_i32_76 k0_t4
  let v138 : BitVec 32 := Scalar.addi c32_i32_78 arg16
  let c128_i32_79 : BitVec 32 := 128#32
  let v139 : BitVec 32 := Scalar.muli v138 c128_i32_79
  let v140 : BitVec 32 := v139
  let v168 : Index := Scalar.indexCast v140
  ![v167.toNat, v168.toNat]
def k0_off50 (v0 : BitVec 32) (k0_t2 : Fin k0_t2_loop.trips) (k0_t4 : Fin k0_t4_loop.trips) : Fin 3 → Nat :=
  let c0_i32_27 : BitVec 32 := 0#32
  let c1_i32_28 : BitVec 32 := 1#32
  let arg15 : BitVec 32 := Scf.iv c0_i32_27 c1_i32_28 k0_t2
  let c4_i32 : BitVec 32 := 4#32
  let v84 : BitVec 1 := Scalar.cmpi .slt arg15 c4_i32
  let c32_i32_42 : BitVec 32 := 32#32
  let v85 : BitVec 32 := Scalar.muli arg15 c32_i32_42
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c32_i32_43 : BitVec 32 := 32#32
  let v86 : BitVec 32 := Scalar.muli arg15 c32_i32_43
  let v87 : BitVec 32 := Scalar.addi v22 v86
  let c128_i32 : BitVec 32 := 128#32
  let v88 : BitVec 32 := Scalar.subi v87 c128_i32
  let v89 : BitVec 32 := Scalar.select v84 v85 v88
  let c0_i32_44 : BitVec 32 := 0#32
  let v91 : BitVec 1 := Scalar.cmpi .sgt v89 c0_i32_44
  let v92 : BitVec 32 := Scalar.extui v91
  let c0_i32_45 : BitVec 32 := 0#32
  let v93 : BitVec 1 := Scalar.cmpi .slt v89 c0_i32_45
  let v94 : BitVec 32 := Scalar.extui v93
  let v95 : BitVec 32 := Scalar.subi v92 v94
  let c2_i32 : BitVec 32 := 2#32
  let c0_i32_46 : BitVec 32 := 0#32
  let v96 : BitVec 1 := Scalar.cmpi .sgt c2_i32 c0_i32_46
  let v97 : BitVec 32 := Scalar.extui v96
  let c0_i32_47 : BitVec 32 := 0#32
  let v98 : BitVec 1 := Scalar.cmpi .slt c2_i32 c0_i32_47
  let v99 : BitVec 32 := Scalar.extui v98
  let v100 : BitVec 32 := Scalar.subi v97 v99
  let v101 : BitVec 1 := Scalar.cmpi .ne v95 v100
  let v102 : BitVec 32 := Scalar.remsi v89 c2_i32
  let c0_i32_48 : BitVec 32 := 0#32
  let v103 : BitVec 1 := Scalar.cmpi .ne v102 c0_i32_48
  let v104 : BitVec 1 := Scalar.andi v101 v103
  let v90 : BitVec 32 := Scalar.divsi v89 c2_i32
  let c1_i32_49 : BitVec 32 := 1#32
  let v105 : BitVec 32 := Scalar.subi v90 c1_i32_49
  let v106 : BitVec 32 := Scalar.select v104 v105 v90
  let v107 : BitVec 32 := v106
  let v189 : Index := Scalar.indexCast v107
  let c32_i32_78 : BitVec 32 := 32#32
  let c0_i32_74 : BitVec 32 := 0#32
  let c1_i32_76 : BitVec 32 := 1#32
  let arg16 : BitVec 32 := Scf.iv c0_i32_74 c1_i32_76 k0_t4
  let v138 : BitVec 32 := Scalar.addi c32_i32_78 arg16
  let c128_i32_79 : BitVec 32 := 128#32
  let v139 : BitVec 32 := Scalar.muli v138 c128_i32_79
  let v140 : BitVec 32 := v139
  let v190 : Index := Scalar.indexCast v140
  ![v189.toNat, 0, v190.toNat]
@[reducible] def k0_t5_loop : Scf.Loop 32 :=
  let c0_i32_24_r0 : BitVec 32 := 0#32
  let c5_i32_r0 : BitVec 32 := 5#32
  let v57_r0 : BitVec 32 := Scalar.addi c0_i32_24_r0 c5_i32_r0
  let c1_i32_25_r0 : BitVec 32 := 1#32
  ⟨c0_i32_24_r0, v57_r0, c1_i32_25_r0⟩
def k0_cond3 (k0_t5 : Fin k0_t5_loop.trips) : BitVec 1 :=
  let c0_i32_24_r0 : BitVec 32 := 0#32
  let c1_i32_25_r0 : BitVec 32 := 1#32
  let arg15_r0 : BitVec 32 := Scf.iv c0_i32_24_r0 c1_i32_25_r0 k0_t5
  let c2_i32_r0 : BitVec 32 := 2#32
  let c0_i32_27_r0 : BitVec 32 := 0#32
  let v58_r0 : BitVec 1 := Scalar.cmpi .eq c2_i32_r0 c0_i32_27_r0
  let c1_i32_28_r0 : BitVec 32 := 1#32
  let v59_r0 : BitVec 32 := Scalar.select v58_r0 c1_i32_28_r0 c2_i32_r0
  let v60_r0 : BitVec 32 := Scalar.remsi arg15_r0 v59_r0
  let c0_i32_30_r0 : BitVec 32 := 0#32
  let v62_r0 : BitVec 1 := Scalar.cmpi .slt v60_r0 c0_i32_30_r0
  let c0_i32_31_r0 : BitVec 32 := 0#32
  let v63_r0 : BitVec 1 := Scalar.cmpi .slt v59_r0 c0_i32_31_r0
  let v64_r0 : BitVec 1 := Scalar.xori v62_r0 v63_r0
  let c0_i32_29_r0 : BitVec 32 := 0#32
  let v61_r0 : BitVec 1 := Scalar.cmpi .ne v60_r0 c0_i32_29_r0
  let v65_r0 : BitVec 1 := Scalar.andi v64_r0 v61_r0
  let v66_r0 : BitVec 32 := Scalar.addi v60_r0 v59_r0
  let v67_r0 : BitVec 32 := Scalar.select v65_r0 v66_r0 v60_r0
  let c0_i32_32_r0 : BitVec 32 := 0#32
  let v68_r0 : BitVec 1 := Scalar.cmpi .eq v67_r0 c0_i32_32_r0
  let v69_r0 : BitVec 32 := Scalar.extui v68_r0
  let c0_i32_33_r0 : BitVec 32 := 0#32
  let v70_r0 : BitVec 1 := Scalar.cmpi .ne v69_r0 c0_i32_33_r0
  v70_r0

def k0_mult13 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  v85_r0
def k0_off51 (k0_t5 : Fin k0_t5_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t6_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult14 (k0_t6 : Fin k0_t6_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off52 (k0_t5 : Fin k0_t5_loop.trips) (k0_t6 : Fin k0_t6_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off53 (k0_t6 : Fin k0_t6_loop.trips) (c0_i32_164_r0 : BitVec 32) (c0_i32_168_r0 : BitVec 32) : Fin 4 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0, 0]
def k0_off54 (k0_t6 : Fin k0_t6_loop.trips) (c0_i32_164_r0 : BitVec 32) (c0_i32_168_r0 : BitVec 32) : Fin 4 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0, 0]
def k0_mult15 (k0_t6 : Fin k0_t6_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult16 (k0_t6 : Fin k0_t6_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off55 (k0_t6 : Fin k0_t6_loop.trips) (c0_i32_164_r0 : BitVec 32) : Fin 3 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, 0, v507_r0.toNat]
def k0_mult17 (k0_t6 : Fin k0_t6_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult18 (k0_t6 : Fin k0_t6_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult19 (k0_t6 : Fin k0_t6_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult20 (k0_t6 : Fin k0_t6_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult21 (k0_t6 : Fin k0_t6_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult22 (k0_t6 : Fin k0_t6_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult23 (k0_t6 : Fin k0_t6_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult24 (k0_t6 : Fin k0_t6_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult25 (k0_t6 : Fin k0_t6_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t6
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off56 (k0_t5 : Fin k0_t5_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v121_r0 : BitVec 32 := Scalar.muli c2_i32_64_r0 arg15_r0
  let v122_r0 : Index := Scalar.indexCast v121_r0
  let c0_66_r0 : Index := 0#32
  ![0, v122_r0.toNat, 0]
def k0_off57 (k0_t5 : Fin k0_t5_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult26 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off58 (k0_t5 : Fin k0_t5_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult27 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
def k0_cond4 (k0_t5 : Fin k0_t5_loop.trips) : BitVec 1 :=
  let c0_i32_24_r0 : BitVec 32 := 0#32
  let c1_i32_25_r0 : BitVec 32 := 1#32
  let arg15_r0 : BitVec 32 := Scf.iv c0_i32_24_r0 c1_i32_25_r0 k0_t5
  let c2_i32_34_r0 : BitVec 32 := 2#32
  let c0_i32_35_r0 : BitVec 32 := 0#32
  let v71_r0 : BitVec 1 := Scalar.cmpi .eq c2_i32_34_r0 c0_i32_35_r0
  let c1_i32_36_r0 : BitVec 32 := 1#32
  let v72_r0 : BitVec 32 := Scalar.select v71_r0 c1_i32_36_r0 c2_i32_34_r0
  let v73_r0 : BitVec 32 := Scalar.remsi arg15_r0 v72_r0
  let c0_i32_38_r0 : BitVec 32 := 0#32
  let v75_r0 : BitVec 1 := Scalar.cmpi .slt v73_r0 c0_i32_38_r0
  let c0_i32_39_r0 : BitVec 32 := 0#32
  let v76_r0 : BitVec 1 := Scalar.cmpi .slt v72_r0 c0_i32_39_r0
  let v77_r0 : BitVec 1 := Scalar.xori v75_r0 v76_r0
  let c0_i32_37_r0 : BitVec 32 := 0#32
  let v74_r0 : BitVec 1 := Scalar.cmpi .ne v73_r0 c0_i32_37_r0
  let v78_r0 : BitVec 1 := Scalar.andi v77_r0 v74_r0
  let v79_r0 : BitVec 32 := Scalar.addi v73_r0 v72_r0
  let v80_r0 : BitVec 32 := Scalar.select v78_r0 v79_r0 v73_r0
  let c1_i32_40_r0 : BitVec 32 := 1#32
  let v81_r0 : BitVec 1 := Scalar.cmpi .eq v80_r0 c1_i32_40_r0
  let v82_r0 : BitVec 32 := Scalar.extui v81_r0
  let c0_i32_41_r0 : BitVec 32 := 0#32
  let v83_r0 : BitVec 1 := Scalar.cmpi .ne v82_r0 c0_i32_41_r0
  v83_r0

def k0_mult28 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  v85_r0
def k0_off59 (k0_t5 : Fin k0_t5_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t7_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult29 (k0_t7 : Fin k0_t7_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off60 (k0_t5 : Fin k0_t5_loop.trips) (k0_t7 : Fin k0_t7_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t5
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off61 (k0_t7 : Fin k0_t7_loop.trips) (c0_i32_164_r0 : BitVec 32) (c0_i32_168_r0 : BitVec 32) : Fin 4 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0, 0]
def k0_off62 (k0_t7 : Fin k0_t7_loop.trips) (c0_i32_164_r0 : BitVec 32) (c0_i32_168_r0 : BitVec 32) : Fin 4 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0, 0]
def k0_mult30 (k0_t7 : Fin k0_t7_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult31 (k0_t7 : Fin k0_t7_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off63 (k0_t7 : Fin k0_t7_loop.trips) (c0_i32_164_r0 : BitVec 32) : Fin 3 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, 0, v507_r0.toNat]
def k0_mult32 (k0_t7 : Fin k0_t7_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult33 (k0_t7 : Fin k0_t7_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult34 (k0_t7 : Fin k0_t7_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult35 (k0_t7 : Fin k0_t7_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult36 (k0_t7 : Fin k0_t7_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult37 (k0_t7 : Fin k0_t7_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult38 (k0_t7 : Fin k0_t7_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult39 (k0_t7 : Fin k0_t7_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult40 (k0_t7 : Fin k0_t7_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t7
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off64 (k0_t5 : Fin k0_t5_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v121_r0 : BitVec 32 := Scalar.muli c2_i32_64_r0 arg15_r0
  let v122_r0 : Index := Scalar.indexCast v121_r0
  let c0_66_r0 : Index := 0#32
  ![0, v122_r0.toNat, 0]
def k0_off65 (k0_t5 : Fin k0_t5_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t5
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult41 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off66 (k0_t5 : Fin k0_t5_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t5
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult42 (k0_t5 : Fin k0_t5_loop.trips) : BitVec 32 :=
  let c0_i32_24_r0 : BitVec 32 := 0#32
  let c1_i32_25_r0 : BitVec 32 := 1#32
  let arg15_r0 : BitVec 32 := Scf.iv c0_i32_24_r0 c1_i32_25_r0 k0_t5
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
@[reducible] def k0_t8_loop : Scf.Loop 32 :=
  let c0_i32_24_r0 : BitVec 32 := 0#32
  let c5_i32_r0 : BitVec 32 := 5#32
  let v57_r0 : BitVec 32 := Scalar.addi c0_i32_24_r0 c5_i32_r0
  let c1_i32_25_r0 : BitVec 32 := 1#32
  ⟨c0_i32_24_r0, v57_r0, c1_i32_25_r0⟩
def k0_cond6 (k0_t8 : Fin k0_t8_loop.trips) : BitVec 1 :=
  let c0_i32_24_r0 : BitVec 32 := 0#32
  let c1_i32_25_r0 : BitVec 32 := 1#32
  let arg15_r0 : BitVec 32 := Scf.iv c0_i32_24_r0 c1_i32_25_r0 k0_t8
  let c2_i32_r0 : BitVec 32 := 2#32
  let c0_i32_27_r0 : BitVec 32 := 0#32
  let v58_r0 : BitVec 1 := Scalar.cmpi .eq c2_i32_r0 c0_i32_27_r0
  let c1_i32_28_r0 : BitVec 32 := 1#32
  let v59_r0 : BitVec 32 := Scalar.select v58_r0 c1_i32_28_r0 c2_i32_r0
  let v60_r0 : BitVec 32 := Scalar.remsi arg15_r0 v59_r0
  let c0_i32_30_r0 : BitVec 32 := 0#32
  let v62_r0 : BitVec 1 := Scalar.cmpi .slt v60_r0 c0_i32_30_r0
  let c0_i32_31_r0 : BitVec 32 := 0#32
  let v63_r0 : BitVec 1 := Scalar.cmpi .slt v59_r0 c0_i32_31_r0
  let v64_r0 : BitVec 1 := Scalar.xori v62_r0 v63_r0
  let c0_i32_29_r0 : BitVec 32 := 0#32
  let v61_r0 : BitVec 1 := Scalar.cmpi .ne v60_r0 c0_i32_29_r0
  let v65_r0 : BitVec 1 := Scalar.andi v64_r0 v61_r0
  let v66_r0 : BitVec 32 := Scalar.addi v60_r0 v59_r0
  let v67_r0 : BitVec 32 := Scalar.select v65_r0 v66_r0 v60_r0
  let c0_i32_32_r0 : BitVec 32 := 0#32
  let v68_r0 : BitVec 1 := Scalar.cmpi .eq v67_r0 c0_i32_32_r0
  let v69_r0 : BitVec 32 := Scalar.extui v68_r0
  let c0_i32_33_r0 : BitVec 32 := 0#32
  let v70_r0 : BitVec 1 := Scalar.cmpi .ne v69_r0 c0_i32_33_r0
  v70_r0

def k0_mult43 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  v85_r0
def k0_off67 (k0_t8 : Fin k0_t8_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t9_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult44 (k0_t9 : Fin k0_t9_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off68 (k0_t8 : Fin k0_t8_loop.trips) (k0_t9 : Fin k0_t9_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off69 (k0_t9 : Fin k0_t9_loop.trips) (c0_i32_164_r0 : BitVec 32) (c0_i32_168_r0 : BitVec 32) : Fin 4 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0, 0]
def k0_off70 (k0_t9 : Fin k0_t9_loop.trips) (c0_i32_164_r0 : BitVec 32) (c0_i32_168_r0 : BitVec 32) : Fin 4 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0, 0]
def k0_mult45 (k0_t9 : Fin k0_t9_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult46 (k0_t9 : Fin k0_t9_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off71 (k0_t9 : Fin k0_t9_loop.trips) (c0_i32_164_r0 : BitVec 32) : Fin 3 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, 0, v507_r0.toNat]
def k0_mult47 (k0_t9 : Fin k0_t9_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult48 (k0_t9 : Fin k0_t9_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult49 (k0_t9 : Fin k0_t9_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult50 (k0_t9 : Fin k0_t9_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult51 (k0_t9 : Fin k0_t9_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult52 (k0_t9 : Fin k0_t9_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult53 (k0_t9 : Fin k0_t9_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult54 (k0_t9 : Fin k0_t9_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult55 (k0_t9 : Fin k0_t9_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t9
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off72 (k0_t8 : Fin k0_t8_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v121_r0 : BitVec 32 := Scalar.muli c2_i32_64_r0 arg15_r0
  let v122_r0 : Index := Scalar.indexCast v121_r0
  let c0_66_r0 : Index := 0#32
  ![0, v122_r0.toNat, 0]
def k0_off73 (k0_t8 : Fin k0_t8_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult56 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off74 (k0_t8 : Fin k0_t8_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult57 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
def k0_cond7 (k0_t8 : Fin k0_t8_loop.trips) : BitVec 1 :=
  let c0_i32_24_r0 : BitVec 32 := 0#32
  let c1_i32_25_r0 : BitVec 32 := 1#32
  let arg15_r0 : BitVec 32 := Scf.iv c0_i32_24_r0 c1_i32_25_r0 k0_t8
  let c2_i32_34_r0 : BitVec 32 := 2#32
  let c0_i32_35_r0 : BitVec 32 := 0#32
  let v71_r0 : BitVec 1 := Scalar.cmpi .eq c2_i32_34_r0 c0_i32_35_r0
  let c1_i32_36_r0 : BitVec 32 := 1#32
  let v72_r0 : BitVec 32 := Scalar.select v71_r0 c1_i32_36_r0 c2_i32_34_r0
  let v73_r0 : BitVec 32 := Scalar.remsi arg15_r0 v72_r0
  let c0_i32_38_r0 : BitVec 32 := 0#32
  let v75_r0 : BitVec 1 := Scalar.cmpi .slt v73_r0 c0_i32_38_r0
  let c0_i32_39_r0 : BitVec 32 := 0#32
  let v76_r0 : BitVec 1 := Scalar.cmpi .slt v72_r0 c0_i32_39_r0
  let v77_r0 : BitVec 1 := Scalar.xori v75_r0 v76_r0
  let c0_i32_37_r0 : BitVec 32 := 0#32
  let v74_r0 : BitVec 1 := Scalar.cmpi .ne v73_r0 c0_i32_37_r0
  let v78_r0 : BitVec 1 := Scalar.andi v77_r0 v74_r0
  let v79_r0 : BitVec 32 := Scalar.addi v73_r0 v72_r0
  let v80_r0 : BitVec 32 := Scalar.select v78_r0 v79_r0 v73_r0
  let c1_i32_40_r0 : BitVec 32 := 1#32
  let v81_r0 : BitVec 1 := Scalar.cmpi .eq v80_r0 c1_i32_40_r0
  let v82_r0 : BitVec 32 := Scalar.extui v81_r0
  let c0_i32_41_r0 : BitVec 32 := 0#32
  let v83_r0 : BitVec 1 := Scalar.cmpi .ne v82_r0 c0_i32_41_r0
  v83_r0

def k0_mult58 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  v85_r0
def k0_off75 (k0_t8 : Fin k0_t8_loop.trips) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v87_r0 : Index := Scalar.indexCast v86_r0
  let c0_42_r0 : Index := 0#32
  ![v87_r0.toNat, 0]
@[reducible] def k0_t10_loop : Scf.Loop 32 :=
  let c0_i32_60_r0 : BitVec 32 := 0#32
  let c5_i32_61_r0 : BitVec 32 := 5#32
  let v117_r0 : BitVec 32 := Scalar.addi c0_i32_60_r0 c5_i32_61_r0
  let c1_i32_62_r0 : BitVec 32 := 1#32
  ⟨c0_i32_60_r0, v117_r0, c1_i32_62_r0⟩
def k0_mult59 (k0_t10 : Fin k0_t10_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let c0_i32_164_r0 : BitVec 32 := 0#32
  let v405_r0 : BitVec 32 := Scalar.addi v404_r0 c0_i32_164_r0
  let c256_i32_165_r0 : BitVec 32 := 256#32
  let v406_r0 : BitVec 32 := Scalar.muli v405_r0 c256_i32_165_r0
  let c0_i32_166_r0 : BitVec 32 := 0#32
  let v407_r0 : BitVec 32 := Scalar.addi v406_r0 c0_i32_166_r0
  v407_r0
def k0_off76 (k0_t8 : Fin k0_t8_loop.trips) (k0_t10 : Fin k0_t10_loop.trips) (c0_i32_164_r0 : BitVec 32) (c0_i32_166_r0 : BitVec 32) : Fin 2 → Nat :=
  let c0_i32_24_r0 : BitVec 32 := 0#32
  let c1_i32_25_r0 : BitVec 32 := 1#32
  let arg15_r0 : BitVec 32 := Scf.iv c0_i32_24_r0 c1_i32_25_r0 k0_t8
  let c256_i32_r0 : BitVec 32 := 256#32
  let v85_r0 : BitVec 32 := Scalar.muli arg15_r0 c256_i32_r0
  let v86_r0 : BitVec 32 := v85_r0
  let v409_r0 : Index := Scalar.indexCast v86_r0
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c256_i32_165_r0 : BitVec 32 := 256#32
  let v406_r0 : BitVec 32 := Scalar.muli v405_r0 c256_i32_165_r0
  let v407_r0 : BitVec 32 := Scalar.addi v406_r0 c0_i32_166_r0
  let v408_r0 : BitVec 32 := v407_r0
  let v410_r0 : Index := Scalar.indexCast v408_r0
  ![v409_r0.toNat, v410_r0.toNat]
def k0_off77 (k0_t10 : Fin k0_t10_loop.trips) (c0_i32_164_r0 : BitVec 32) (c0_i32_168_r0 : BitVec 32) : Fin 4 → Nat :=
  let c0_174_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_169_r0 : BitVec 32 := 4#32
  let v420_r0 : BitVec 32 := Scalar.muli v413_r0 c4_i32_169_r0
  let v423_r0 : Index := Scalar.indexCast v420_r0
  let c0_175_r0 : Index := 0#32
  ![0, v423_r0.toNat, 0, 0]
def k0_off78 (k0_t10 : Fin k0_t10_loop.trips) (c0_i32_164_r0 : BitVec 32) (c0_i32_168_r0 : BitVec 32) : Fin 4 → Nat :=
  let c1_182_r0 : Index := 1#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c2_i32_167_r0 : BitVec 32 := 2#32
  let v412_r0 : BitVec 32 := Scalar.muli v405_r0 c2_i32_167_r0
  let v413_r0 : BitVec 32 := Scalar.addi v412_r0 c0_i32_168_r0
  let c4_i32_177_r0 : BitVec 32 := 4#32
  let v439_r0 : BitVec 32 := Scalar.muli v413_r0 c4_i32_177_r0
  let v442_r0 : Index := Scalar.indexCast v439_r0
  let c0_183_r0 : Index := 0#32
  ![1, v442_r0.toNat, 0, 0]
def k0_mult60 (k0_t10 : Fin k0_t10_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let c0_i32_164_r0 : BitVec 32 := 0#32
  let v405_r0 : BitVec 32 := Scalar.addi v404_r0 c0_i32_164_r0
  let c256_i32_185_r0 : BitVec 32 := 256#32
  let v455_r0 : BitVec 32 := Scalar.muli v405_r0 c256_i32_185_r0
  let c128_i32_186_r0 : BitVec 32 := 128#32
  let v456_r0 : BitVec 32 := Scalar.addi v455_r0 c128_i32_186_r0
  v456_r0
def k0_mult61 (k0_t10 : Fin k0_t10_loop.trips) : BitVec 32 :=
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let c0_i32_164_r0 : BitVec 32 := 0#32
  let v405_r0 : BitVec 32 := Scalar.addi v404_r0 c0_i32_164_r0
  let c256_i32_205_r0 : BitVec 32 := 256#32
  let v505_r0 : BitVec 32 := Scalar.muli v405_r0 c256_i32_205_r0
  v505_r0
def k0_off79 (k0_t10 : Fin k0_t10_loop.trips) (c0_i32_164_r0 : BitVec 32) : Fin 3 → Nat :=
  let c0_206_r0 : Index := 0#32
  let c4_i32_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v404_r0 : BitVec 32 := Scalar.muli c4_i32_r0 arg16_r0
  let v405_r0 : BitVec 32 := Scalar.addi v404_r0 c0_i32_164_r0
  let c256_i32_205_r0 : BitVec 32 := 256#32
  let v505_r0 : BitVec 32 := Scalar.muli v405_r0 c256_i32_205_r0
  let v506_r0 : BitVec 32 := v505_r0
  let v507_r0 : Index := Scalar.indexCast v506_r0
  ![0, 0, v507_r0.toNat]
def k0_mult62 (k0_t10 : Fin k0_t10_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v510_r0 : BitVec 32 := Scalar.muli c4_i32_207_r0 arg16_r0
  let c1_i32_208_r0 : BitVec 32 := 1#32
  let v511_r0 : BitVec 32 := Scalar.addi v510_r0 c1_i32_208_r0
  let c256_i32_209_r0 : BitVec 32 := 256#32
  let v512_r0 : BitVec 32 := Scalar.muli v511_r0 c256_i32_209_r0
  let c0_i32_210_r0 : BitVec 32 := 0#32
  let v513_r0 : BitVec 32 := Scalar.addi v512_r0 c0_i32_210_r0
  v513_r0
def k0_mult63 (k0_t10 : Fin k0_t10_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v510_r0 : BitVec 32 := Scalar.muli c4_i32_207_r0 arg16_r0
  let c1_i32_208_r0 : BitVec 32 := 1#32
  let v511_r0 : BitVec 32 := Scalar.addi v510_r0 c1_i32_208_r0
  let c256_i32_229_r0 : BitVec 32 := 256#32
  let v561_r0 : BitVec 32 := Scalar.muli v511_r0 c256_i32_229_r0
  let c128_i32_230_r0 : BitVec 32 := 128#32
  let v562_r0 : BitVec 32 := Scalar.addi v561_r0 c128_i32_230_r0
  v562_r0
def k0_mult64 (k0_t10 : Fin k0_t10_loop.trips) : BitVec 32 :=
  let c4_i32_207_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v510_r0 : BitVec 32 := Scalar.muli c4_i32_207_r0 arg16_r0
  let c1_i32_208_r0 : BitVec 32 := 1#32
  let v511_r0 : BitVec 32 := Scalar.addi v510_r0 c1_i32_208_r0
  let c256_i32_249_r0 : BitVec 32 := 256#32
  let v611_r0 : BitVec 32 := Scalar.muli v511_r0 c256_i32_249_r0
  v611_r0
def k0_mult65 (k0_t10 : Fin k0_t10_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v616_r0 : BitVec 32 := Scalar.muli c4_i32_251_r0 arg16_r0
  let c2_i32_252_r0 : BitVec 32 := 2#32
  let v617_r0 : BitVec 32 := Scalar.addi v616_r0 c2_i32_252_r0
  let c256_i32_253_r0 : BitVec 32 := 256#32
  let v618_r0 : BitVec 32 := Scalar.muli v617_r0 c256_i32_253_r0
  let c0_i32_254_r0 : BitVec 32 := 0#32
  let v619_r0 : BitVec 32 := Scalar.addi v618_r0 c0_i32_254_r0
  v619_r0
def k0_mult66 (k0_t10 : Fin k0_t10_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v616_r0 : BitVec 32 := Scalar.muli c4_i32_251_r0 arg16_r0
  let c2_i32_252_r0 : BitVec 32 := 2#32
  let v617_r0 : BitVec 32 := Scalar.addi v616_r0 c2_i32_252_r0
  let c256_i32_273_r0 : BitVec 32 := 256#32
  let v667_r0 : BitVec 32 := Scalar.muli v617_r0 c256_i32_273_r0
  let c128_i32_274_r0 : BitVec 32 := 128#32
  let v668_r0 : BitVec 32 := Scalar.addi v667_r0 c128_i32_274_r0
  v668_r0
def k0_mult67 (k0_t10 : Fin k0_t10_loop.trips) : BitVec 32 :=
  let c4_i32_251_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v616_r0 : BitVec 32 := Scalar.muli c4_i32_251_r0 arg16_r0
  let c2_i32_252_r0 : BitVec 32 := 2#32
  let v617_r0 : BitVec 32 := Scalar.addi v616_r0 c2_i32_252_r0
  let c256_i32_293_r0 : BitVec 32 := 256#32
  let v717_r0 : BitVec 32 := Scalar.muli v617_r0 c256_i32_293_r0
  v717_r0
def k0_mult68 (k0_t10 : Fin k0_t10_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v722_r0 : BitVec 32 := Scalar.muli c4_i32_295_r0 arg16_r0
  let c3_i32_r0 : BitVec 32 := 3#32
  let v723_r0 : BitVec 32 := Scalar.addi v722_r0 c3_i32_r0
  let c256_i32_296_r0 : BitVec 32 := 256#32
  let v724_r0 : BitVec 32 := Scalar.muli v723_r0 c256_i32_296_r0
  let c0_i32_297_r0 : BitVec 32 := 0#32
  let v725_r0 : BitVec 32 := Scalar.addi v724_r0 c0_i32_297_r0
  v725_r0
def k0_mult69 (k0_t10 : Fin k0_t10_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v722_r0 : BitVec 32 := Scalar.muli c4_i32_295_r0 arg16_r0
  let c3_i32_r0 : BitVec 32 := 3#32
  let v723_r0 : BitVec 32 := Scalar.addi v722_r0 c3_i32_r0
  let c256_i32_316_r0 : BitVec 32 := 256#32
  let v773_r0 : BitVec 32 := Scalar.muli v723_r0 c256_i32_316_r0
  let c128_i32_317_r0 : BitVec 32 := 128#32
  let v774_r0 : BitVec 32 := Scalar.addi v773_r0 c128_i32_317_r0
  v774_r0
def k0_mult70 (k0_t10 : Fin k0_t10_loop.trips) : BitVec 32 :=
  let c4_i32_295_r0 : BitVec 32 := 4#32
  let c0_i32_60_r0 : BitVec 32 := 0#32
  let c1_i32_62_r0 : BitVec 32 := 1#32
  let arg16_r0 : BitVec 32 := Scf.iv c0_i32_60_r0 c1_i32_62_r0 k0_t10
  let v722_r0 : BitVec 32 := Scalar.muli c4_i32_295_r0 arg16_r0
  let c3_i32_r0 : BitVec 32 := 3#32
  let v723_r0 : BitVec 32 := Scalar.addi v722_r0 c3_i32_r0
  let c256_i32_336_r0 : BitVec 32 := 256#32
  let v823_r0 : BitVec 32 := Scalar.muli v723_r0 c256_i32_336_r0
  v823_r0
def k0_off80 (k0_t8 : Fin k0_t8_loop.trips) : Fin 3 → Nat :=
  let c0_65_r0 : Index := 0#32
  let c2_i32_64_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v121_r0 : BitVec 32 := Scalar.muli c2_i32_64_r0 arg15_r0
  let v122_r0 : Index := Scalar.indexCast v121_r0
  let c0_66_r0 : Index := 0#32
  ![0, v122_r0.toNat, 0]
def k0_off81 (k0_t8 : Fin k0_t8_loop.trips) : Fin 3 → Nat :=
  let c0_69_r0 : Index := 0#32
  let c2_i32_67_r0 : BitVec 32 := 2#32
  let c0_i32_24_r0 : BitVec 32 := 0#32
  let c1_i32_25_r0 : BitVec 32 := 1#32
  let arg15_r0 : BitVec 32 := Scf.iv c0_i32_24_r0 c1_i32_25_r0 k0_t8
  let v127_r0 : BitVec 32 := Scalar.muli c2_i32_67_r0 arg15_r0
  let c1_i32_68_r0 : BitVec 32 := 1#32
  let v128_r0 : BitVec 32 := Scalar.addi v127_r0 c1_i32_68_r0
  let v129_r0 : Index := Scalar.indexCast v128_r0
  let c0_70_r0 : Index := 0#32
  ![0, v129_r0.toNat, 0]
def k0_mult71 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let c0_i32_140_r0 : BitVec 32 := 0#32
  let v332_r0 : BitVec 32 := Scalar.addi v331_r0 c0_i32_140_r0
  v332_r0
def k0_off82 (k0_t8 : Fin k0_t8_loop.trips) (c0_i32_140_r0 : BitVec 32) : Fin 2 → Nat :=
  let c0_141_r0 : Index := 0#32
  let c0_i32_24_r0 : BitVec 32 := 0#32
  let c1_i32_25_r0 : BitVec 32 := 1#32
  let arg15_r0 : BitVec 32 := Scf.iv c0_i32_24_r0 c1_i32_25_r0 k0_t8
  let c256_i32_139_r0 : BitVec 32 := 256#32
  let v331_r0 : BitVec 32 := Scalar.muli arg15_r0 c256_i32_139_r0
  let v332_r0 : BitVec 32 := Scalar.addi v331_r0 c0_i32_140_r0
  let v333_r0 : BitVec 32 := v332_r0
  let v334_r0 : Index := Scalar.indexCast v333_r0
  ![0, v334_r0.toNat]
def k0_mult72 (k0_t8 : Fin k0_t8_loop.trips) : BitVec 32 :=
  let c0_i32_24_r0 : BitVec 32 := 0#32
  let c1_i32_25_r0 : BitVec 32 := 1#32
  let arg15_r0 : BitVec 32 := Scf.iv c0_i32_24_r0 c1_i32_25_r0 k0_t8
  let c256_i32_161_r0 : BitVec 32 := 256#32
  let v399_r0 : BitVec 32 := Scalar.muli arg15_r0 c256_i32_161_r0
  let c128_i32_162_r0 : BitVec 32 := 128#32
  let v400_r0 : BitVec 32 := Scalar.addi v399_r0 c128_i32_162_r0
  v400_r0
def k0_cond8 (i : grid0.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_19 : BitVec 32 := 0#32
  let v48 : BitVec 1 := Scalar.cmpi .ne v47 c0_i32_19
  v48

def k0_off83 (v0 : BitVec 32) : Fin 2 → Nat :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let v71 : Index := Scalar.indexCast v22
  let c0_31 : Index := 0#32
  ![v71.toNat, 0]

def k0_chk1 (i : grid0.Coords) (v0 : BitVec 32) : Prop :=
  (16 ∣ (k0_mult1 v0).toNat) ∧
  (∀ k0_t2 : Fin k0_t2_loop.trips, ∀ (k0_h1 : k0_cond1 i = 1#1), 8 ∣ (k0_mult6 v0 k0_t2).toNat) ∧
  (∀ (k0_t2 : Fin k0_t2_loop.trips) (k0_t3 : Fin k0_t3_loop.trips), ∀ (k0_h1 : k0_cond1 i = 1#1), ∀ a, (k0_off47 v0 k0_t2 k0_t3) a + S16x2x128.size a ≤ S128x2x5120.size a) ∧
  (∀ (k0_t2 : Fin k0_t2_loop.trips) (k0_t4 : Fin k0_t4_loop.trips), ∀ (k0_h1 : k0_cond1 i = 1#1), ∀ a, (k0_off50 v0 k0_t2 k0_t4) a + S16x2x128.size a ≤ S128x2x5120.size a) ∧
  (∀ (k0_h8 : k0_cond8 i = 1#1), ∀ a, (k0_off83 v0) a + S128x128.size a ≤ S256x128.size a)
theorem k0_mult1_dvd : ∀ (i : grid0.Coords) (v0 : BitVec 32) (k0_hw1 : k0_chk1 i v0), 16 ∣ (k0_mult1 v0).toNat := fun i v0 k0_hw1 => k0_hw1.1
theorem k0_mult6_dvd : ∀ (i : grid0.Coords) (v0 : BitVec 32) (k0_hw1 : k0_chk1 i v0) (k0_t2 : Fin k0_t2_loop.trips), ∀ (k0_h1 : k0_cond1 i = 1#1), 8 ∣ (k0_mult6 v0 k0_t2).toNat := fun i v0 k0_hw1 k0_t2 k0_h1 => k0_hw1.2.1 k0_t2 k0_h1
theorem k0_off47_inb : ∀ (i : grid0.Coords) (v0 : BitVec 32) (k0_hw1 : k0_chk1 i v0) (k0_t2 : Fin k0_t2_loop.trips) (k0_t3 : Fin k0_t3_loop.trips), ∀ (k0_h1 : k0_cond1 i = 1#1), ∀ a, (k0_off47 v0 k0_t2 k0_t3) a + S16x2x128.size a ≤ S128x2x5120.size a := fun i v0 k0_hw1 k0_t2 k0_t3 k0_h1 => k0_hw1.2.2.1 k0_t2 k0_t3 k0_h1
theorem k0_off50_inb : ∀ (i : grid0.Coords) (v0 : BitVec 32) (k0_hw1 : k0_chk1 i v0) (k0_t2 : Fin k0_t2_loop.trips) (k0_t4 : Fin k0_t4_loop.trips), ∀ (k0_h1 : k0_cond1 i = 1#1), ∀ a, (k0_off50 v0 k0_t2 k0_t4) a + S16x2x128.size a ≤ S128x2x5120.size a := fun i v0 k0_hw1 k0_t2 k0_t4 k0_h1 => k0_hw1.2.2.2.1 k0_t2 k0_t4 k0_h1
theorem k0_off83_inb : ∀ (i : grid0.Coords) (v0 : BitVec 32) (k0_hw1 : k0_chk1 i v0), ∀ (k0_h8 : k0_cond8 i = 1#1), ∀ a, (k0_off83 v0) a + S128x128.size a ≤ S256x128.size a := fun i v0 k0_hw1 k0_h8 => k0_hw1.2.2.2.2 k0_h8

def k0_cond2 (v0 : BitVec 32) (v1 : BitVec 32) : BitVec 1 :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c16_i32_7 : BitVec 32 := 16#32
  let v23 : BitVec 32 := Scalar.addi v1 c16_i32_7
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_16 : BitVec 32 := 16#32
  let v42 : BitVec 32 := Scalar.muli v41 c16_i32_16
  let v49_r0 : BitVec 32 := Scalar.addi v22 v42
  let c160_i32_r0 : BitVec 32 := 160#32
  let v50_r0 : BitVec 1 := Scalar.cmpi .sle v49_r0 c160_i32_r0
  let v51_r0 : BitVec 32 := Scalar.extui v50_r0
  let c0_i32_20_r0 : BitVec 32 := 0#32
  let v52_r0 : BitVec 1 := Scalar.cmpi .ne v51_r0 c0_i32_20_r0
  v52_r0

def k0_cond5 (v0 : BitVec 32) (v1 : BitVec 32) : BitVec 1 :=
  let c16_i32 : BitVec 32 := 16#32
  let v2 : BitVec 32 := Scalar.addi v0 c16_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32_0 : BitVec 32 := 16#32
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let v4 : BitVec 32 := Scalar.divsi v3 c16_i32_0
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.muli v20 c16_i32_6
  let v22 : BitVec 32 := v21
  let c16_i32_7 : BitVec 32 := 16#32
  let v23 : BitVec 32 := Scalar.addi v1 c16_i32_7
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_16 : BitVec 32 := 16#32
  let v42 : BitVec 32 := Scalar.muli v41 c16_i32_16
  let v53_r0 : BitVec 32 := Scalar.addi v22 v42
  let c160_i32_21_r0 : BitVec 32 := 160#32
  let v54_r0 : BitVec 1 := Scalar.cmpi .sgt v53_r0 c160_i32_21_r0
  let v55_r0 : BitVec 32 := Scalar.extui v54_r0
  let c0_i32_22_r0 : BitVec 32 := 0#32
  let v56_r0 : BitVec 1 := Scalar.cmpi .ne v55_r0 c0_i32_22_r0
  v56_r0

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x5120 : Shape := ⟨3, ![2, 128, 5120]⟩
abbrev S2 : Shape := ⟨1, ![2]⟩
abbrev S32000x5120 : Shape := ⟨2, ![32000, 5120]⟩
abbrev S32000x160 : Shape := ⟨2, ![32000, 160]⟩
abbrev S32000 : Shape := ⟨1, ![32000]⟩
abbrev S256x5120 : Shape := ⟨2, ![256, 5120]⟩
abbrev S2x1 : Shape := ⟨2, ![2, 1]⟩
abbrev S1x32000 : Shape := ⟨2, ![1, 32000]⟩
abbrev S2x32000 : Shape := ⟨2, ![2, 32000]⟩
abbrev S256x160x32 : Shape := ⟨3, ![256, 160, 32]⟩
abbrev S256x160 : Shape := ⟨2, ![256, 160]⟩
abbrev S256x160x1 : Shape := ⟨3, ![256, 160, 1]⟩
abbrev S32000x160x32 : Shape := ⟨3, ![32000, 160, 32]⟩
abbrev S32000x160x1 : Shape := ⟨3, ![32000, 160, 1]⟩
abbrev S256x32000 : Shape := ⟨2, ![256, 32000]⟩
abbrev S2x128x32000 : Shape := ⟨3, ![2, 128, 32000]⟩
abbrev S2x1x1 : Shape := ⟨3, ![2, 1, 1]⟩

abbrev nBuf : Space → Nat
  | .hbm => 9
  | .vmem => 6
  | .smem => 0
  | _ => 0

abbrev bufTy : (tb : Table) → Fin (tcTables nBuf tb) → BufTy
  | .hbm, ⟨0, _⟩ => ⟨S2x128x5120, .bf16⟩
  | .hbm, ⟨1, _⟩ => ⟨S2, .i32⟩
  | .hbm, ⟨2, _⟩ => ⟨S32000x5120, .fp8e4m3⟩
  | .hbm, ⟨3, _⟩ => ⟨S32000x160, .f32⟩
  | .hbm, ⟨4, _⟩ => ⟨S32000, .f32⟩
  | .hbm, ⟨5, _⟩ => ⟨S256x5120, .bf16⟩
  | .hbm, ⟨6, _⟩ => ⟨S2x1, .i32⟩
  | .hbm, ⟨7, _⟩ => ⟨S1x32000, .f32⟩
  | .hbm, ⟨8, _⟩ => ⟨S2x32000, .bf16⟩
  | .local _ .vmem, ⟨0, _⟩ => ⟨S256x5120, .bf16⟩
  | .local _ .vmem, ⟨1, _⟩ => ⟨S2x1, .i32⟩
  | .local _ .vmem, ⟨2, _⟩ => ⟨S32000x5120, .fp8e4m3⟩
  | .local _ .vmem, ⟨3, _⟩ => ⟨S32000x160, .f32⟩
  | .local _ .vmem, ⟨4, _⟩ => ⟨S1x32000, .f32⟩
  | .local _ .vmem, ⟨5, _⟩ => ⟨S2x32000, .bf16⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Mxu.lean ====
/-
  The matrix unit's state along a tile (untrusted, hand-written): one push of a weight tile with the accumulate that loads it (`pass`),
  and the predicate `Quiet` that a tile's loop keeps: no staged tile, and live rows only where the tile accumulates.
-/
module

public import Idealize.ShloMosaic.Lib.Mxu.Lemmas

@[expose] public section

namespace Cert.Proof.MxuK

open Idealize.ShloMosaic Idealize.ShloMosaic.Mxu

variable {F : FTy → Type} [FloatOps F]

/-- No staging register holds a tile, and only rows `[lo, hi)` of either unit may be live. -/
structure Quiet (lo hi : Nat) (s : Mxu F) : Prop where
  reg : ∀ q r, s.reg q r = none
  live : ∀ q R, s.live q R = true → lo ≤ R.val ∧ R.val < hi

/-- The state a body starts from is quiet on any rows. -/
theorem Quiet.init (lo hi : Nat) : Quiet lo hi (Mxu.init : Mxu F) :=
  ⟨fun _ _ => rfl, fun _ _ h => by simp at h⟩

/-- Push `rhs` and accumulate `lhs` against it at once. -/
abbrev pass (s : Mxu F) (q r : Fin 2) (A : Nat) {M : Nat} (lhs : FVec F (STile M) .bf16) (rhs : FVec F (STile 256) .bf16)
    (h : Fits A M) : Mxu F := (s.pushed q r false rhs).accLhs q r A lhs h

/-- After a push and its accumulate every register is empty if every one was. -/
theorem reg_pass {s : Mxu F} (hs : ∀ q r, s.reg q r = none) (q r : Fin 2) (A : Nat) {M : Nat} (lhs : FVec F (STile M) .bf16)
    (rhs : FVec F (STile 256) .bf16) (h : Fits A M) (q' r' : Fin 2) : (pass s q r A lhs rhs h).reg q' r' = none := by
  by_cases e : q' = q ∧ r' = r
  · obtain ⟨rfl, rfl⟩ := e; exact reg_accLhs ..
  · rw [pass, reg_accLhs_ne _ _ _ _ _ _ _ _ e, reg_pushed_ne _ _ _ _ _ _ _ e, hs]

/-- A push and its accumulate at rows inside `[lo, hi)` keep the state quiet there. -/
theorem Quiet.pass {lo hi : Nat} {s : Mxu F} (hs : Quiet lo hi s) (q r : Fin 2) (A : Nat) {M : Nat} (lhs : FVec F (STile M) .bf16)
    (rhs : FVec F (STile 256) .bf16) (h : Fits A M) (hlo : lo ≤ 4 * A) (hhi : 4 * A + M ≤ hi) :
    Quiet lo hi (MxuK.pass s q r A lhs rhs h) where
  reg := reg_pass hs.reg q r A lhs rhs h
  live q' R hl := by
    rw [MxuK.pass, live_accLhs] at hl
    simp only [live_pushed] at hl
    by_cases e : q' = q ∧ 4 * A ≤ R.val ∧ R.val < 4 * A + M
    · omega
    · rw [if_neg e] at hl; exact hs.live q' R hl

/-- Popping all the live rows of both units leaves them drained. -/
theorem Quiet.pops {A M : Nat} {s : Mxu F} (hs : Quiet (4 * A) (4 * A + M) s) (h : Fits A M) :
    Quiet 0 0 ((s.pop 0 A M h).pop 1 A M h) where
  reg q r := by rw [reg_pop, reg_pop, hs.reg]
  live q R hl := by
    simp only [live_pop] at hl
    by_cases e1 : q = 1 ∧ 4 * A ≤ R.val ∧ R.val < 4 * A + M
    · rw [if_pos e1] at hl; simp at hl
    rw [if_neg e1] at hl
    by_cases e0 : q = 0 ∧ 4 * A ≤ R.val ∧ R.val < 4 * A + M
    · rw [if_pos e0] at hl; simp at hl
    rw [if_neg e0] at hl
    have := hs.live q R hl
    exfalso
    have hq : q = 0 ∨ q = 1 := by omega
    rcases hq with rfl | rfl
    · exact e0 ⟨rfl, this⟩
    · exact e1 ⟨rfl, this⟩

/-- A state with no live row is quiet on any rows. -/
theorem Quiet.widen {s : Mxu F} (hs : Quiet 0 0 s) (lo hi : Nat) : Quiet lo hi s :=
  ⟨hs.reg, fun q R h => absurd (hs.live q R h).2 (Nat.not_lt_zero _)⟩

/-- and it is drained, as a body's end assumes. -/
theorem Quiet.drained {s : Mxu F} (hs : Quiet 0 0 s) : s.Drained := by
  refine ⟨fun q r => by rw [hs.reg]; rfl, fun q R => ?_⟩
  cases h : s.live q R with
  | false => rfl
  | true => exact absurd (hs.live q R h).2 (Nat.not_lt_zero _)

end Cert.Proof.MxuK
-- ==== Proof.PQuads.lean ====
module

public import proofs.«01_k».proof.Proof.Gen.Kernel.Skeleton
public import proofs.«01_k».proof.Proof.Gen.Kernel.Loops
public import proofs.«01_k».proof.Proof.Mxu
public import Idealize.ShloMosaic.Lib.Mxu.Walk

@[expose] public section

set_option maxRecDepth 8192
set_option maxHeartbeats 4000000

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [BitOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x5120 .i32) (harg10 : arg10.IsWhole) (arg11 : Memref sig .tc .vmem S2x128x128 .i32) (harg11 : arg11.IsWhole) (arg12 : Memref sig .tc .vmem S2x2x160x128 .i32) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over the 5 groups of four 256-column passes of one tile (rows 0 to 160 of both units): the buffers it reads stay as they are and
    the unit's state stays quiet. -/
@[sl_loop] def loopInv_t6 (k0_t5 : Fin k0_t5_loop.trips) (k0_mxu3 : Mxu F) (k0_h3 : k0_cond3 k0_t5 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t6 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t5 k0_mxu3 k0_h3 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 0 160 acc⌝)
  step k acc := by
    unfold k0_t6_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 0 _ _ (by decide) (by decide) (by decide)).pass 1 0 0 _ _ (by decide) (by decide) (by decide)).pass 0 1 0 _ _ (by decide) (by decide) (by decide)).pass 1 1 0 _ _ (by decide) (by decide) (by decide)

set_option sl_exec.squeezeSlice true in
set_option warn.classDefReducibility false in
/-- The loop over the 5 groups of four 256-column passes of one tile (rows 160 to 320 of both units): the buffers it reads stay as they are and
    the unit's state stays quiet. -/
@[sl_loop] def loopInv_t7 (k0_t5 : Fin k0_t5_loop.trips) (k0_mxu5 : Mxu F) (k0_h4 : k0_cond4 k0_t5 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t5 k0_mxu5 k0_h4 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 160 320 acc⌝)
  step k acc := by
    unfold k0_t7_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 40 _ _ (by decide) (by decide) (by decide)).pass 1 0 40 _ _ (by decide) (by decide) (by decide)).pass 0 1 40 _ _ (by decide) (by decide) (by decide)).pass 1 1 40 _ _ (by decide) (by decide) (by decide)

set_option sl_exec.squeezeSlice true in
set_option warn.classDefReducibility false in
/-- The loop over the 5 groups of four 256-column passes of one tile (rows 320 to 576 of both units): the buffers it reads stay as they are and
    the unit's state stays quiet. -/
@[sl_loop] def loopInv_t9 (k0_t8 : Fin k0_t8_loop.trips) (k0_mxu32 : Mxu F) (k0_h6 : k0_cond6 k0_t8 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t9 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t8 k0_mxu32 k0_h6 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 320 576 acc⌝)
  step k acc := by
    unfold k0_t9_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 80 _ _ (by decide) (by decide) (by decide)).pass 1 0 80 _ _ (by decide) (by decide) (by decide)).pass 0 1 80 _ _ (by decide) (by decide) (by decide)).pass 1 1 80 _ _ (by decide) (by decide) (by decide)

set_option sl_exec.squeezeSlice true in
set_option warn.classDefReducibility false in
/-- The loop over the 5 groups of four 256-column passes of one tile (rows 576 to 832 of both units): the buffers it reads stay as they are and
    the unit's state stays quiet. -/
@[sl_loop] def loopInv_t10 (k0_t8 : Fin k0_t8_loop.trips) (k0_mxu34 : Mxu F) (k0_h7 : k0_cond7 k0_t8 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t10 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t8 k0_mxu34 k0_h7 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 576 832 acc⌝)
  step k acc := by
    unfold k0_t10_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 144 _ _ (by decide) (by decide) (by decide)).pass 1 0 144 _ _ (by decide) (by decide) (by decide)).pass 0 1 144 _ _ (by decide) (by decide) (by decide)).pass 1 1 144 _ _ (by decide) (by decide) (by decide)

end Cert.Proof.P
-- ==== Proof.PTiles.lean ====
module

public import proofs.«01_k».proof.Proof.Gen.Kernel.Skeleton
public import proofs.«01_k».proof.Proof.Gen.Kernel.Loops
public import proofs.«01_k».proof.Proof.Mxu
public import Idealize.ShloMosaic.Lib.Mxu.Walk
public import proofs.«01_k».proof.Proof.PQuads

@[expose] public section

set_option maxRecDepth 8192
set_option maxHeartbeats 4000000

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [BitOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x5120 .i32) (harg10 : arg10.IsWhole) (arg11 : Memref sig .tc .vmem S2x128x128 .i32) (harg11 : arg11.IsWhole) (arg12 : Memref sig .tc .vmem S2x2x160x128 .i32) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over a step's 5 tiles (160 rows): it reads the weights, their scales, the bias, the quantised rows and the caps, and leaves the pooled block, the
    transposed scales and the l1 sums at some contents; between tiles the matrix unit is drained. -/
@[sl_loop] def loopInv_t5 (k0_mxu1 : Mxu F) (v0 : Elt F .i32) (v1 : Elt F .i32) (init : Mxu F)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    LoopInvTy_k0_t5 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_mxu1 v0 v1 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f)) ∗ ⌜Quiet 0 0 acc⌝)
  step k acc := by
    unfold k0_t5_body
    iintro ⟨H3, H4, H5, H10, H14, ⟨%f6, H6⟩, ⟨%f12, H12⟩, ⟨%f13, H13⟩, %hq⟩
    have h34 : k0_cond3 k = 1#1 → ¬ k0_cond4 k = 1#1 := by revert k; decide
    by_cases ha : k0_cond3 k = 1#1
    · have hb := h34 ha
      have hqa := hq.widen 0 160
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 0 160 _› (by decide)
    by_cases hb : k0_cond4 k = 1#1
    · have hqa := hq.widen 160 320
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 160 320 _› (by decide)
    · exfalso; revert k; decide

set_option sl_exec.squeezeSlice true in
set_option warn.classDefReducibility false in
/-- The loop over a step's 5 tiles (256 rows): it reads the weights, their scales, the bias, the quantised rows and the caps, and leaves the pooled block, the
    transposed scales and the l1 sums at some contents; between tiles the matrix unit is drained. -/
@[sl_loop] def loopInv_t8 (v0 : Elt F .i32) (v1 : Elt F .i32) (k0_mxu2 : Mxu F) (init : Mxu F)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    LoopInvTy_k0_t8 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v0 v1 k0_mxu2 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f)) ∗ ⌜Quiet 0 0 acc⌝)
  step k acc := by
    unfold k0_t8_body
    iintro ⟨H3, H4, H5, H10, H14, ⟨%f6, H6⟩, ⟨%f12, H12⟩, ⟨%f13, H13⟩, %hq⟩
    have h34 : k0_cond6 k = 1#1 → ¬ k0_cond7 k = 1#1 := by revert k; decide
    by_cases ha : k0_cond6 k = 1#1
    · have hb := h34 ha
      have hqa := hq.widen 320 576
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 320 576 _› (by decide)
    by_cases hb : k0_cond7 k = 1#1
    · have hqa := hq.widen 576 832
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 576 832 _› (by decide)
    · exfalso; revert k; decide

end Cert.Proof.P
-- ==== Proof.PCodes.lean ====
module

public import proofs.«01_k».proof.Proof.Gen.Kernel.Skeleton
public import proofs.«01_k».proof.Proof.Gen.Kernel.Loops
public import proofs.«01_k».proof.Proof.Mxu
public import Idealize.ShloMosaic.Lib.Mxu.Walk

@[expose] public section

set_option maxRecDepth 8192
set_option maxHeartbeats 4000000

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [BitOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x5120 .i32) (harg10 : arg10.IsWhole) (arg11 : Memref sig .tc .vmem S2x128x128 .i32) (harg11 : arg11.IsWhole) (arg12 : Memref sig .tc .vmem S2x2x160x128 .i32) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over the 8 groups of 32 rows that forms the codes: it reads the rows and the inverse scales and leaves the codes and the quantised rows at
    some contents. -/
@[sl_loop] def loopInv_t2 (v0 : Elt F .i32) (k0_hw1 : k0_chk1 i v0) (v22 : BitVec 32) (k0_h1 : k0_cond1 i = 1#1) (v54 : IVec S16x128 32) (c0_i32_27 : BitVec 32) (c1_i32_28 : BitVec 32)
    (X2 : BufTy.Contents (Elt F) arg2.view.ty) (X11 : BufTy.Contents (Elt F) arg11.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v0 k0_hw1 v22 k0_h1 v54 c0_i32_27 c1_i32_28 where
  inv k acc := iprop((arg2.view.loc (c : Thread nD τ) ↦[arg2.view.set]{fullShare} X2) ∗ (arg11.view.loc (c : Thread nD τ) ↦[arg11.view.set]{fullShare} X11) ∗ (∃ f, (arg8.view.loc (c : Thread nD τ) ↦[arg8.view.set]{fullShare} f)) ∗ (∃ f, (arg10.view.loc (c : Thread nD τ) ↦[arg10.view.set]{fullShare} f)))
  step k acc := by
    unfold k0_t2_body
    iintro ⟨H2, H11, ⟨%f8, H8⟩, ⟨%f10, H10⟩⟩
    sl_exec
    sl_step
    isplitl [H2]; · iexact H2
    isplitl [H11]; · iexact H11
    isplitl [H8]; · iexists _; iexact H8
    iexists _; iexact H10

end Cert.Proof.P
-- ==== Proof.PCheck.lean ====
module

public import proofs.«01_k».proof.Proof.Gen.Kernel.Skeleton
public import proofs.«01_k».proof.Proof.Gen.Kernel.Loops
public import proofs.«01_k».proof.Proof.Mxu
public import Idealize.ShloMosaic.Lib.Mxu.Walk

@[expose] public section

set_option maxRecDepth 8192
set_option maxHeartbeats 4000000

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [BitOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x5120 .i32) (harg10 : arg10.IsWhole) (arg11 : Memref sig .tc .vmem S2x128x128 .i32) (harg11 : arg11.IsWhole) (arg12 : Memref sig .tc .vmem S2x2x160x128 .i32) (harg12 : arg12.IsWhole) (arg13 : Memref sig .tc .vmem S256x128 .f32) (harg13 : arg13.IsWhole) (arg14 : Memref sig .tc .vmem S2x256x128 .f32) (harg14 : arg14.IsWhole)

/-- The first aligned row of the second sequence and the group's word row start stay inside their buffers when the first length is at most 128. -/
theorem chk1 (i : grid0.Coords) (v0 : BitVec 32) (h : v0.toNat ≤ 128) : k0_chk1 i v0 := by
  have hv : ∃ n : Fin 129, v0 = BitVec.ofNat 32 n.val :=
    ⟨⟨v0.toNat, by omega⟩, by apply BitVec.eq_of_toNat_eq; rw [BitVec.toNat_ofNat]; exact (Nat.mod_eq_of_lt v0.isLt).symm⟩
  have h1 : ∀ n : Fin 129, 16 ∣ (k0_mult1 (BitVec.ofNat 32 n.val)).toNat := by decide +kernel
  have h2 : ∀ n : Fin 129, ∀ t : Fin k0_t2_loop.trips, 8 ∣ (k0_mult6 (BitVec.ofNat 32 n.val) t).toNat := by decide +kernel
  have h3 : ∀ n : Fin 129, ∀ t : Fin k0_t2_loop.trips, ∀ u : Fin k0_t3_loop.trips, ∀ a : Fin 2, (k0_off47 (BitVec.ofNat 32 n.val) t u) a + S16x128.size a ≤ S128x5120.size a := by decide +kernel
  have h4 : ∀ n : Fin 129, ∀ t : Fin k0_t2_loop.trips, ∀ u : Fin k0_t4_loop.trips, ∀ a : Fin 2, (k0_off50 (BitVec.ofNat 32 n.val) t u) a + S16x128.size a ≤ S128x5120.size a := by decide +kernel
  have h5 : ∀ n : Fin 129, ∀ a : Fin 2, (k0_off83 (BitVec.ofNat 32 n.val)) a + S128x128.size a ≤ S256x128.size a := by decide +kernel
  obtain ⟨n, hn⟩ := hv
  have g1 := h1 n
  have g2 := h2 n
  have g3 := h3 n
  have g4 := h4 n
  have g5 := h5 n
  rw [← hn] at g1
  simp only [← hn] at g2 g3 g4 g5
  exact ⟨g1, fun t _ => g2 t, fun t2 t3 _ => g3 t2 t3, fun t2 t4 _ => g4 t2 t4, fun _ => g5⟩

end Cert.Proof.P
-- ==== Proof.PBody.lean ====
module

public import proofs.«01_k».proof.Proof.Gen.Kernel.Skeleton
public import proofs.«01_k».proof.Proof.Gen.Kernel.Loops
public import proofs.«01_k».proof.Proof.Mxu
public import Idealize.ShloMosaic.Lib.Mxu.Walk
public import proofs.«01_k».proof.Proof.PTiles
public import proofs.«01_k».proof.Proof.PCodes
public import proofs.«01_k».proof.Proof.PCheck

@[expose] public section

set_option maxRecDepth 8192
set_option maxHeartbeats 4000000

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [BitOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x5120 .i32) (harg10 : arg10.IsWhole) (arg11 : Memref sig .tc .vmem S2x128x128 .i32) (harg11 : arg11.IsWhole) (arg12 : Memref sig .tc .vmem S2x2x160x128 .i32) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The first step's work: quantise the rows, clear the sums and set the caps. -/
theorem part112 (v0 : Elt F .i32) (hw : k0_chk1 i v0) (v1 : Elt F .i32) (v22 : BitVec 32) (X2 : BufTy.Contents (Elt F) arg2.view.ty) :
    (iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg14.view.loc (c : Thread nD τ) ↦[arg14.view.set]{fullShare} f))) : sProp 𝕄) ⊢ wp frame (wpE (defs₀ (F := F)) Variants.none c none) Set.univ (k0_part112 i arg1 harg1 arg2 harg2 arg3 harg3 arg4 harg4 arg5 harg5 arg6 harg6 arg7 harg7 arg8 harg8 arg9 harg9 arg10 harg10 arg11 harg11 arg12 harg12 arg13 harg13 arg14 harg14 v0 hw v1 v22)
      (fun _ => iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg14.view.loc (c : Thread nD τ) ↦[arg14.view.set]{fullShare} f)))) := by
  rw [k0_part112_eq_skeleton]; unfold k0_part112_skel
  iintro ⟨H2, ⟨%f8, H8⟩, ⟨%f9, H9⟩, ⟨%f10, H10⟩, ⟨%f11, H11⟩, ⟨%f13, H13⟩, ⟨%f14, H14⟩⟩
  by_cases h : k0_cond1 i = 1#1
  · sl_exec
    sl_step
    isplitl [H2]; · iexact H2
    isplitl [H8]; · iexists _; iexact H8
    isplitl [H9]; · iexists _; iexact H9
    isplitl [H10]; · iexists _; iexact H10
    isplitl [H11]; · iexists _; iexact H11
    isplitl [H13]; · iexists _; iexact H13
    iexists _; iexact H14
  · sl_exec
    sl_step
    isplitl [H2]; · iexact H2
    isplitl [H8]; · iexists _; iexact H8
    isplitl [H9]; · iexists _; iexact H9
    isplitl [H10]; · iexists _; iexact H10
    isplitl [H11]; · iexists _; iexact H11
    isplitl [H13]; · iexists _; iexact H13
    iexists _; iexact H14

set_option sl_exec.squeezeSlice true in
set_option warn.classDefReducibility false in
/-- The tiles of a step at one of the two row counts: run if the condition holds, skipped otherwise; the matrix unit is left drained. -/
theorem part114 (mx : Mxu F) (v0 v1 : Elt F .i32) (hq : Quiet 0 0 mx)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := F)) Variants.none c none) Set.univ (k0_part114 i arg1 harg1 arg2 harg2 arg3 harg3 arg4 harg4 arg5 harg5 arg6 harg6 arg7 harg7 arg8 harg8 arg9 harg9 arg10 harg10 arg11 harg11 arg12 harg12 arg13 harg13 arg14 harg14 mx v0 v1)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  rw [k0_part114_eq_skeleton]; unfold k0_part114_skel
  iintro ⟨H3, H4, H5, H10, H14, ⟨%f6, H6⟩, ⟨%f12, H12⟩, ⟨%f13, H13⟩⟩
  by_cases h : k0_cond2 v0 v1 = 1#1
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; assumption
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; exact hq

set_option sl_exec.squeezeSlice true in
set_option warn.classDefReducibility false in
/-- The tiles of a step at one of the two row counts: run if the condition holds, skipped otherwise; the matrix unit is left drained. -/
theorem part116 (mx : Mxu F) (v0 v1 : Elt F .i32) (hq : Quiet 0 0 mx)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := F)) Variants.none c none) Set.univ (k0_part116 i arg1 harg1 arg2 harg2 arg3 harg3 arg4 harg4 arg5 harg5 arg6 harg6 arg7 harg7 arg8 harg8 arg9 harg9 arg10 harg10 arg11 harg11 arg12 harg12 arg13 harg13 arg14 harg14 v0 v1 mx)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  rw [k0_part116_eq_skeleton]; unfold k0_part116_skel
  iintro ⟨H3, H4, H5, H10, H14, ⟨%f6, H6⟩, ⟨%f12, H12⟩, ⟨%f13, H13⟩⟩
  by_cases h : k0_cond5 v0 v1 = 1#1
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; assumption
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; exact hq

set_option sl_exec.squeezeSlice true in
set_option warn.classDefReducibility false in
/-- The last step's work: the two l1 rows. -/
theorem part118 (v0 : Elt F .i32) (hw : k0_chk1 i v0) (v1 : Elt F .i32) (v22 : BitVec 32) :
    (iprop((∃ f, (arg7.view.loc (c : Thread nD τ) ↦[arg7.view.set]{fullShare} f)) ∗ (∃ f, (arg13.view.loc (c : Thread nD τ) ↦[arg13.view.set]{fullShare} f))) : sProp 𝕄) ⊢ wp frame (wpE (defs₀ (F := F)) Variants.none c none) Set.univ (k0_part118 i arg1 harg1 arg2 harg2 arg3 harg3 arg4 harg4 arg5 harg5 arg6 harg6 arg7 harg7 arg8 harg8 arg9 harg9 arg10 harg10 arg11 harg11 arg12 harg12 arg13 harg13 arg14 harg14 v0 hw v1 v22)
      (fun _ => iprop((∃ f, (arg7.view.loc (c : Thread nD τ) ↦[arg7.view.set]{fullShare} f)) ∗ (∃ f, (arg13.view.loc (c : Thread nD τ) ↦[arg13.view.set]{fullShare} f)))) := by
  rw [k0_part118_eq_skeleton]; unfold k0_part118_skel
  iintro ⟨⟨%f7, H7⟩, ⟨%f13, H13⟩⟩
  by_cases h : k0_cond8 i = 1#1
  · sl_exec
    sl_step
    isplitl [H7]; · iexists _; iexact H7
    iexists _; iexact H13
  · sl_exec
    sl_step
    isplitl [H7]; · iexists _; iexact H7
    iexists _; iexact H13

/-- A call whose specification is `h`, and then the rest of the program from what it leaves. -/
theorem call {α β : Type} {p : Prog (TpuEff nD τ sig (Elt F) Λ₀ .tc) α} {k : α → Prog (TpuEff nD τ sig (Elt F) Λ₀ .tc) β} {R : sProp 𝕄} {Q : α → sProp 𝕄} {K : β → sProp 𝕄}
    (h : R ⊢ wp frame (wpE (defs₀ (F := F)) Variants.none (c : Thread nD τ) none) Set.univ p Q) :
    iprop(R ∗ (∀ a, Q a -∗ wp frame (wpE (defs₀ (F := F)) Variants.none (c : Thread nD τ) none) Set.univ (k a) K)) ⊢ wp frame (wpE (defs₀ (F := F)) Variants.none (c : Thread nD τ) none) Set.univ (p >>= k) K := by
  rw [wp_bind]
  iintro ⟨HR, HK⟩
  iapply (wp_wand_r Idealize.ShloMosaic.frame (wpE (defs₀ (F := F)) Variants.none (c : Thread nD τ) none) Set.univ)
  isplitl [HR]
  · iapply h; iexact HR
  · iexact HK

set_option sl_exec.squeezeSlice true in
set_option warn.classDefReducibility false in
/-- The whole body at any grid point, its inputs at any contents and everything it writes at some: it runs to its end when the check on the first length holds. -/
theorem sound_kernel (qt : PosShare TreeShare) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (hw : ∀ x, k0_chk1 i (arg1.view.readAt (Elt F) (Rect.unit (s := S2) ![0] S1.size inb_S2_S1_0).toLoadRect X1 x)) :
    (iprop((arg1.view.loc (c : Thread nD τ) ↦[arg1.view.set]{qt} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) : sProp 𝕄) ⊢ wp frame (wpE (defs₀ (F := F)) Variants.none c none) Set.univ (cc0_splade_head i arg1 harg1 arg2 harg2 arg3 harg3 arg4 harg4 arg5 harg5 arg6 harg6 arg7 harg7 arg8 harg8 arg9 harg9 arg10 harg10 arg11 harg11 arg12 harg12 arg13 harg13 arg14 harg14)
      (fun _ => iprop((arg1.view.loc (c : Thread nD τ) ↦[arg1.view.set]{qt} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))) := by
  rw [cc0_splade_head_eq_skeleton]; unfold cc0_splade_head_skel
  iintro ⟨H1, H2, H3, H4, H5, H6, H7, H8, H9, H10, H11, H12, H13, H14⟩
  set_option sl_exec.stopBefore "k0_part112" in sl_exec
  iapply (call c (part112 (F := F) c i arg1 harg1 arg2 harg2 arg3 harg3 arg4 harg4 arg5 harg5 arg6 harg6 arg7 harg7 arg8 harg8 arg9 harg9 arg10 harg10 arg11 harg11 arg12 harg12 arg13 harg13 arg14 harg14 _ _ _ _ X2))
  isplitl [H2 H8 H9 H10 H11 H13 H14]
  · isplitl [H2]; · iexact H2
    isplitl [H8]; · iexact H8
    isplitl [H9]; · iexact H9
    isplitl [H10]; · iexact H10
    isplitl [H11]; · iexact H11
    isplitl [H13]; · iexact H13
    iexact H14
  iintro %_ ⟨H2, H8, H9, ⟨%X10, H10⟩, H11, H13, ⟨%X14, H14⟩⟩
  set_option sl_exec.stopBefore "k0_part114" in sl_exec
  iapply (call c (part114 (F := F) c i arg1 harg1 arg2 harg2 arg3 harg3 arg4 harg4 arg5 harg5 arg6 harg6 arg7 harg7 arg8 harg8 arg9 harg9 arg10 harg10 arg11 harg11 arg12 harg12 arg13 harg13 arg14 harg14 _ _ _ (Quiet.init 0 0) X3 X4 X5 X10 X14))
  isplitl [H3 H4 H5 H10 H14 H6 H12 H13]
  · isplitl [H3]; · iexact H3
    isplitl [H4]; · iexact H4
    isplitl [H5]; · iexact H5
    isplitl [H10]; · iexact H10
    isplitl [H14]; · iexact H14
    isplitl [H6]; · iexact H6
    isplitl [H12]; · iexact H12
    iexact H13
  iintro %mx2 ⟨⟨H3, H4, H5, H10, H14, H6, H12, H13⟩, %hq2⟩
  set_option sl_exec.stopBefore "k0_part116" in sl_exec
  iapply (call c (part116 (F := F) c i arg1 harg1 arg2 harg2 arg3 harg3 arg4 harg4 arg5 harg5 arg6 harg6 arg7 harg7 arg8 harg8 arg9 harg9 arg10 harg10 arg11 harg11 arg12 harg12 arg13 harg13 arg14 harg14 mx2 _ _ hq2 X3 X4 X5 X10 X14))
  isplitl [H3 H4 H5 H10 H14 H6 H12 H13]
  · isplitl [H3]; · iexact H3
    isplitl [H4]; · iexact H4
    isplitl [H5]; · iexact H5
    isplitl [H10]; · iexact H10
    isplitl [H14]; · iexact H14
    isplitl [H6]; · iexact H6
    isplitl [H12]; · iexact H12
    iexact H13
  iintro %mx3 ⟨⟨H3, H4, H5, H10, H14, H6, H12, H13⟩, %hq3⟩
  set_option sl_exec.stopBefore "k0_part118" in sl_exec
  iapply (call c (part118 (F := F) c i arg1 harg1 arg2 harg2 arg3 harg3 arg4 harg4 arg5 harg5 arg6 harg6 arg7 harg7 arg8 harg8 arg9 harg9 arg10 harg10 arg11 harg11 arg12 harg12 arg13 harg13 arg14 harg14 _ _ _ _))
  isplitl [H7 H13]
  · isplitl [H7]; · iexact H7
    iexact H13
  iintro %_ ⟨H7, H13⟩
  have hd := hq3.drained
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  iexists _; iexact H14

end Cert.Proof.P
-- ==== Proof.PRun.lean ====
module

public import proofs.«01_k».proof.Proof.Gen.Kernel.Skeleton
public import proofs.«01_k».proof.Proof.Gen.Kernel.Loops
public import proofs.«01_k».proof.Proof.Mxu
public import Idealize.ShloMosaic.Lib.Mxu.Walk
public import proofs.«01_k».proof.Proof.PBody
public import proofs.«01_k».proof.Proof.Gen.Kernel.Launch
public import Idealize.ShloMosaic.Lib.Pipeline.Frame
public import Idealize.ShloMosaic.Lib.Pipeline.FrameBody

@[expose] public section

set_option maxRecDepth 8192
set_option maxHeartbeats 4000000

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [BitOps F]

local notation "𝕄" => MT nD τ sig Unit (Elt F) ℕ (UR sig nD τ) ℕ

open Idealize.ShloMosaic.Pipeline (RDat Cfg Window)

variable (m : (ℓ : Loc nD τ sig) → Buf (Elt F) ℓ) (ρ : Dev nD → PrngReg)

/-! ## The buffers when the region is entered -/

/-- Core `c`'s buffers when the region is entered: after the two reshapes on the host. -/
abbrev V (c : Dev nD) (b : Ref sig .tc) : Buf (Elt F) ((c : Thread nD τ).loc b) := StableHlo.after hostOps0 (fun b => m (c, b)) b

/-- Neither reshape allocates a buffer. -/
theorem hostOps0_fresh : (hostOps0 : List (HloOp τ sig (Elt F))).Forall fun op => op.fresh = ∅ := by
  simp only [List.Forall]; repeat' constructor

/-- The program up to the region: the two reshapes, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the reshapes' results is as launched when the region is entered. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The lengths as the region finds them. -/
def tbl : pre0.Contents (Elt F) := fun j => V m (0 : Dev nD) (pre0.ref j)

/-- The table at the region's entry on every device. -/
theorem V_pre (c : Dev nD) (j : Fin 1) : V m c (pre0.ref j) = tbl m j := by
  obtain rfl : c = 0 := Subsingleton.elim _ _; rfl

/-- The table's contents, which no index map reads. -/
abbrev adm : (pcfg0 (F := F)).Adm := ⟨tbl m, trivial⟩
/-- The pipeline at the table's contents. -/
abbrev cfgM : Pipeline.Cfg sig Λ₀ := cfg0 (adm m)

/-- The table's half that the region hands to the body. -/
theorem PhiT0_eq (c : Dev nD) : (Pipeline.ΦT pre0 (tbl m) c : sProp 𝕄) = iprop((Memref.whole main_arg1).view.loc (c : Thread nD τ) ↦{fullShare.right} (tbl m 0)) := by
  unfold Pipeline.ΦT Pipeline.prefHeld
  rw [show (Finset.univ : Finset (Fin 1)) = {(0 : Fin 1)} from by decide, bigSep_singleton]
  rfl

/-! ## The proof data: inputs left as found, nothing said of the outputs -/

/-- The proof data on core `c`: an input's buffer is left as found, of an output's nothing is said; between points the
    scratch buffers are held at some contents and the table at its own. -/
def rdat (c : Dev nD) : RDat τ (Elt F) Unit ℕ (UR sig nD τ) ℕ (cfgM m) c where
  A w := V m c (Pipeline.arrRef spec0 w)
  after w _ Y X := (spec0 w).isOut = false → X = Y
  Φ _ := iprop(Pipeline.ΦA spec0 c ∗ Pipeline.ΦT pre0 (tbl m) c)
  q _ := fullShare
  owed _ := 0

/-- The body at point `t`, on that point's staging buffers. -/
def bodyAt0 (t : Fin (cfgM (F := F) m).N) : Prog (TpuEff nD τ sig (Elt F) Λ₀ .tc) PUnit :=
  cc0_splade_head (grid0.coords t) (Memref.whole main_arg1) (Memref.isWhole_whole _) (spec0_0.stage ((cfgM (F := F) m).slots t 0)) (hstage0_0 (((cfgM (F := F) m).slots t 0).cast nbuf0_0)) (spec0_1.stage ((cfgM (F := F) m).slots t 1)) (hstage0_1 (((cfgM (F := F) m).slots t 1).cast nbuf0_1)) (spec0_2.stage ((cfgM (F := F) m).slots t 2)) (hstage0_2 (((cfgM (F := F) m).slots t 2).cast nbuf0_2)) (spec0_3.stage ((cfgM (F := F) m).slots t 3)) (hstage0_3 (((cfgM (F := F) m).slots t 3).cast nbuf0_3)) (spec0_4.stage ((cfgM (F := F) m).slots t 4)) (hstage0_4 (((cfgM (F := F) m).slots t 4).cast nbuf0_4)) (spec0_5.stage ((cfgM (F := F) m).slots t 5)) (hstage0_5 (((cfgM (F := F) m).slots t 5).cast nbuf0_5)) (spec0_6.stage ((cfgM (F := F) m).slots t 6)) (hstage0_6 (((cfgM (F := F) m).slots t 6).cast nbuf0_6)) (spec0_7.stage ((cfgM (F := F) m).slots t 7)) (hstage0_7 (((cfgM (F := F) m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- The body table's row at point `t` is the body there. -/
theorem defs₀_row (t : Fin (cfgM (F := F) m).N) :
    defs₀ (F := F) .tc (cfgM m).body ((cfgM m).bodyArgs t ((cfgM m).slots t)) = bodyAt0 m t := by
  unfold defs₀; rw [Defs.onTc_tc]; rfl

/-- The first length is at most 128. -/
def LenOk : Prop := ∀ x, ((Memref.whole main_arg1).view.readAt (Elt F) (Rect.unit (s := S2) ![0] S1.size inb_S2_S1_0).toLoadRect (tbl m 0) x : BitVec 32).toNat ≤ 128

set_option backward.isDefEq.respectTransparency.types false in
/-- The body at any point, on staging buffers at any contents: it runs to its end and leaves the inputs as found. -/
theorem sound_body (hlen : LenOk m) (c : Dev nD) (t : Fin (cfgM (F := F) m).N) (Y : (w : Fin 8) → ((cfgM (F := F) m).win w).block.Idx → Elt F ((cfgM (F := F) m).win w).elt) :
    (iprop((rdat m c).Φ t.castSucc ∗ (rdat m c).owesAt () t.castSucc
        ∗ bigSep Finset.univ fun w : Fin 8 => owns (c : Thread nD τ) ((spec0 w).stage ((cfgM (F := F) m).slots t w)) fullShare (Y w)) : sProp 𝕄)
      ⊢ wp frame (wpE (defs₀ (F := F)) Variants.none c none) Set.univ (bodyAt0 m t) fun _ =>
        iprop((rdat m c).Φ t.succ ∗ (rdat m c).owesAt () t.succ
          ∗ bigSep Finset.univ fun w : Fin 8 => iprop(∃ X, ⌜(rdat m c).after w t (Y w) X⌝ ∗ owns (c : Thread nD τ) ((spec0 w).stage ((cfgM (F := F) m).slots t w)) fullShare X)) := by
  rw [bigSep_W0, bigSep_W0]
  rw [show (rdat m c).Φ t.succ = iprop(Pipeline.ΦA spec0 c ∗ Pipeline.ΦT pre0 (tbl m) c) from rfl,
    show (rdat m c).Φ t.castSucc = iprop(Pipeline.ΦA spec0 c ∗ Pipeline.ΦT pre0 (tbl m) c) from rfl,
    show (rdat m c).owesAt () t.succ = (rdat m c).owesAt () t.castSucc from rfl]
  unfold Pipeline.ΦA
  rw [scopedRest0_eq, PhiT0_eq]
  unfold owns
  iintro ⟨⟨⟨⟨S0, S1, S2, S3, S4⟩, Hp⟩, HT⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  unfold bodyAt0
  have s1 : (Memref.whole main_arg1 : Memref sig .tc _ _ _).view.set = Finset.univ := View.set_whole _
  have z0 : (Memref.whole cc0_scratch0 : Memref sig .tc _ _ _).view.set = Finset.univ := View.set_whole _
  have z1 : (Memref.whole cc0_scratch1 : Memref sig .tc _ _ _).view.set = Finset.univ := View.set_whole _
  have z2 : (Memref.whole cc0_scratch2 : Memref sig .tc _ _ _).view.set = Finset.univ := View.set_whole _
  have z3 : (Memref.whole cc0_scratch3 : Memref sig .tc _ _ _).view.set = Finset.univ := View.set_whole _
  have z4 : (Memref.whole cc0_scratch4 : Memref sig .tc _ _ _).view.set = Finset.univ := View.set_whole _
  iapply (wp_wand_r Idealize.ShloMosaic.frame (wpE (defs₀ (F := F)) Variants.none (c : Thread nD τ) none) Set.univ)
  isplitl [S0 S1 S2 S3 S4 HT H0 H1 H2 H3 H4 H5 H6 H7]
  · iapply (sound_kernel (F := F) c (grid0.coords t) (Memref.whole main_arg1) (Memref.isWhole_whole _) (spec0_0.stage ((cfgM (F := F) m).slots t 0)) (hstage0_0 (((cfgM (F := F) m).slots t 0).cast nbuf0_0)) (spec0_1.stage ((cfgM (F := F) m).slots t 1)) (hstage0_1 (((cfgM (F := F) m).slots t 1).cast nbuf0_1)) (spec0_2.stage ((cfgM (F := F) m).slots t 2)) (hstage0_2 (((cfgM (F := F) m).slots t 2).cast nbuf0_2)) (spec0_3.stage ((cfgM (F := F) m).slots t 3)) (hstage0_3 (((cfgM (F := F) m).slots t 3).cast nbuf0_3)) (spec0_4.stage ((cfgM (F := F) m).slots t 4)) (hstage0_4 (((cfgM (F := F) m).slots t 4).cast nbuf0_4)) (spec0_5.stage ((cfgM (F := F) m).slots t 5)) (hstage0_5 (((cfgM (F := F) m).slots t 5).cast nbuf0_5)) (spec0_6.stage ((cfgM (F := F) m).slots t 6)) (hstage0_6 (((cfgM (F := F) m).slots t 6).cast nbuf0_6)) (spec0_7.stage ((cfgM (F := F) m).slots t 7)) (hstage0_7 (((cfgM (F := F) m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) fullShare.right (tbl m 0) f0 f1 f2 f3 (fun x => chk1 _ _ (hlen x)))
    isplitl [HT]; · rw [s1]; iexact HT
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    rw [z0, z1, z2, z3, z4]
    isplitl [S0]; · iexact S0
    isplitl [S1]; · iexact S1
    isplitl [S2]; · iexact S2
    isplitl [S3]; · iexact S3
    iexact S4
  rw [s1, z0, z1, z2, z3, z4]
  iintro %_ ⟨HT, H0, H1, H2, H3, ⟨%g4, H4⟩, ⟨%g5, H5⟩, ⟨%g6, H6⟩, ⟨%g7, H7⟩, S0, S1, S2, S3, S4⟩
  isplitl [HT Hp S0 S1 S2 S3 S4]
  · isplitr [HT]
    · isplitr [Hp]
      · isplitl [S0]; · iexact S0
        isplitl [S1]; · iexact S1
        isplitl [S2]; · iexact S2
        isplitl [S3]; · iexact S3
        iexact S4
      · iexact Hp
    · iexact HT
  isplitl [Ho]; · iexact Ho
  isplitl [H0]
  · iexists (Y 0)
    isplitr; · ipureintro; exact fun _ => rfl
    iexists f0; isplitr; · ipureintro; exact e0
    iexact H0
  isplitl [H1]
  · iexists (Y 1)
    isplitr; · ipureintro; exact fun _ => rfl
    iexists f1; isplitr; · ipureintro; exact e1
    iexact H1
  isplitl [H2]
  · iexists (Y 2)
    isplitr; · ipureintro; exact fun _ => rfl
    iexists f2; isplitr; · ipureintro; exact e2
    iexact H2
  isplitl [H3]
  · iexists (Y 3)
    isplitr; · ipureintro; exact fun _ => rfl
    iexists f3; isplitr; · ipureintro; exact e3
    iexact H3
  isplitl [H4]
  · iexists (((spec0 4).stage ((cfgM m).slots t 4)).view.read (Elt F) g4)
    isplitr; · ipureintro; exact fun h => absurd h (by decide)
    iexists g4; isplitr; · ipureintro; rfl
    iexact H4
  isplitl [H5]
  · iexists (((spec0 5).stage ((cfgM m).slots t 5)).view.read (Elt F) g5)
    isplitr; · ipureintro; exact fun h => absurd h (by decide)
    iexists g5; isplitr; · ipureintro; rfl
    iexact H5
  isplitl [H6]
  · iexists (((spec0 6).stage ((cfgM m).slots t 6)).view.read (Elt F) g6)
    isplitr; · ipureintro; exact fun h => absurd h (by decide)
    iexists g6; isplitr; · ipureintro; rfl
    iexact H6
  iexists (((spec0 7).stage ((cfgM m).slots t 7)).view.read (Elt F) g7)
  isplitr; · ipureintro; exact fun h => absurd h (by decide)
  iexists g7; isplitr; · ipureintro; rfl
  iexact H7

set_option backward.isDefEq.respectTransparency.types false in
/-- The library's body obligation, at every point. -/
theorem body_obligation (hlen : LenOk m) (c : Dev nD) : (rdat (F := F) m c).BodyObligation (defs₀ (F := F)) Variants.none () Set.univ := fun t Y _ => by
  rw [defs₀_row]
  exact triple_restated (sound_body m hlen c t Y) rfl .rfl fun _ => .rfl

set_option backward.isDefEq.respectTransparency.types false in
/-- The launch: from any memory whose first length is at most 128 every execution terminates, and every semaphore counter ends at zero. -/
theorem run_main (hlen : LenOk m) : θ_run defs (onTc (τ := τ) (main (F := F))) (s₀ m ρ) (fun r => Pipeline.RDat.FramePost (cfgM m) (rdat m) (V m) r ∧ r.2.sem = fun _ => 0) :=
  Pipeline.RDat.θ_run_frameP (Q' := _) pcfgs (fun _ => adm m) (0 : Fin 1) launch0 defs₀ Variants.none (rdat m) m ρ main
    (hbody := body_obligation m hlen) (hshare := fun c w => by unfold Pipeline.RDat.share; split <;> rfl)
    (howed := fun _ _ => rfl) (V := V m) (hmain := hmain m Variants.none) (hA := fun _ _ => rfl) (hpf := V_pre m) (hΦ := fun _ _ => rfl)

/-- The frame: every execution terminates, the arguments end unchanged and every semaphore counter ends at zero. -/
theorem frame (hlen : LenOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (by decide : main_arg0 ∈ Pipeline.restRefs sig spec0)).trans (V_of_ne m c main_arg0 (by decide) (by decide)),
     ((h.1 c).2 main_arg1 (by decide : main_arg1 ∈ Pipeline.restRefs sig spec0)).trans (V_of_ne m c main_arg1 (by decide) (by decide)),
     (Pipeline.RDat.FramePost.arr_in h.1 c 1 rfl).trans (V_of_ne m c main_arg2 (by decide) (by decide)),
     (Pipeline.RDat.FramePost.arr_in h.1 c 2 rfl).trans (V_of_ne m c main_arg3 (by decide) (by decide)),
     ((h.1 c).2 main_arg4 (by decide : main_arg4 ∈ Pipeline.restRefs sig spec0)).trans (V_of_ne m c main_arg4 (by decide) (by decide))⟩, h.2⟩) (run_main m ρ hlen)

end Cert.Proof.P
-- ==== Proof.PIQuads.lean ====
module

public import proofs.«01_k».proof.Proof.Gen.KernelIdeal.Skeleton
public import proofs.«01_k».proof.Proof.Gen.KernelIdeal.Loops
public import proofs.«01_k».proof.Proof.Mxu
public import Idealize.ShloMosaic.Lib.Mxu.Walk

@[expose] public section

set_option maxRecDepth 8192
set_option maxHeartbeats 4000000

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over the 5 groups of four 256-column passes of one tile (rows 0 to 160 of both units): the buffers it reads stay as they are and
    the unit's state stays quiet. -/
@[sl_loop] def loopInv_t6 (k0_t5 : Fin k0_t5_loop.trips) (k0_mxu3 : Mxu F) (k0_h3 : k0_cond3 k0_t5 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t6 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t5 k0_mxu3 k0_h3 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 0 160 acc⌝)
  step k acc := by
    unfold k0_t6_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 0 _ _ (by decide) (by decide) (by decide)).pass 1 0 0 _ _ (by decide) (by decide) (by decide)).pass 0 1 0 _ _ (by decide) (by decide) (by decide)).pass 1 1 0 _ _ (by decide) (by decide) (by decide)

set_option sl_exec.squeezeSlice true in
set_option warn.classDefReducibility false in
/-- The loop over the 5 groups of four 256-column passes of one tile (rows 160 to 320 of both units): the buffers it reads stay as they are and
    the unit's state stays quiet. -/
@[sl_loop] def loopInv_t7 (k0_t5 : Fin k0_t5_loop.trips) (k0_mxu5 : Mxu F) (k0_h4 : k0_cond4 k0_t5 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t5 k0_mxu5 k0_h4 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 160 320 acc⌝)
  step k acc := by
    unfold k0_t7_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 40 _ _ (by decide) (by decide) (by decide)).pass 1 0 40 _ _ (by decide) (by decide) (by decide)).pass 0 1 40 _ _ (by decide) (by decide) (by decide)).pass 1 1 40 _ _ (by decide) (by decide) (by decide)

set_option sl_exec.squeezeSlice true in
set_option warn.classDefReducibility false in
/-- The loop over the 5 groups of four 256-column passes of one tile (rows 320 to 576 of both units): the buffers it reads stay as they are and
    the unit's state stays quiet. -/
@[sl_loop] def loopInv_t9 (k0_t8 : Fin k0_t8_loop.trips) (k0_mxu32 : Mxu F) (k0_h6 : k0_cond6 k0_t8 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t9 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t8 k0_mxu32 k0_h6 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 320 576 acc⌝)
  step k acc := by
    unfold k0_t9_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 80 _ _ (by decide) (by decide) (by decide)).pass 1 0 80 _ _ (by decide) (by decide) (by decide)).pass 0 1 80 _ _ (by decide) (by decide) (by decide)).pass 1 1 80 _ _ (by decide) (by decide) (by decide)

set_option sl_exec.squeezeSlice true in
set_option warn.classDefReducibility false in
/-- The loop over the 5 groups of four 256-column passes of one tile (rows 576 to 832 of both units): the buffers it reads stay as they are and
    the unit's state stays quiet. -/
@[sl_loop] def loopInv_t10 (k0_t8 : Fin k0_t8_loop.trips) (k0_mxu34 : Mxu F) (k0_h7 : k0_cond7 k0_t8 = 1#1) (v86_r0 : BitVec 32) (c0_i32_60_r0 : BitVec 32) (c1_i32_62_r0 : BitVec 32) (init : Mxu F)
    (X3 : BufTy.Contents (Elt F) arg3.view.ty) (X10 : BufTy.Contents (Elt F) arg10.view.ty) (X12 : BufTy.Contents (Elt F) arg12.view.ty) :
    LoopInvTy_k0_t10 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t8 k0_mxu34 k0_h7 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜Quiet 576 832 acc⌝)
  step k acc := by
    unfold k0_t10_body
    iintro ⟨H3, H10, H12, %hq⟩
    sl_exec (disch := first | exact Mxu.pushOk_of_none _ _ _ _ (hq.reg _ _) | (mxu_pushok_peel; exact Mxu.pushOk_of_none _ _ _ _ (hq.reg _ _)))
    sl_step
    isplitl [H3]; · iexact H3
    isplitl [H10]; · iexact H10
    isplitl [H12]; · iexact H12
    ipureintro
    exact (((hq.pass 0 0 144 _ _ (by decide) (by decide) (by decide)).pass 1 0 144 _ _ (by decide) (by decide) (by decide)).pass 0 1 144 _ _ (by decide) (by decide) (by decide)).pass 1 1 144 _ _ (by decide) (by decide) (by decide)

end Cert.Proof.PI
-- ==== Proof.PITiles.lean ====
module

public import proofs.«01_k».proof.Proof.Gen.KernelIdeal.Skeleton
public import proofs.«01_k».proof.Proof.Gen.KernelIdeal.Loops
public import proofs.«01_k».proof.Proof.Mxu
public import Idealize.ShloMosaic.Lib.Mxu.Walk
public import proofs.«01_k».proof.Proof.PIQuads

@[expose] public section

set_option maxRecDepth 8192
set_option maxHeartbeats 4000000

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over a step's 5 tiles (160 rows): it reads the weights, their scales, the bias, the quantised rows and the caps, and leaves the pooled block, the
    transposed scales and the l1 sums at some contents; between tiles the matrix unit is drained. -/
@[sl_loop] def loopInv_t5 (k0_mxu1 : Mxu F) (v0 : Elt F .i32) (v1 : Elt F .i32) (init : Mxu F)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    LoopInvTy_k0_t5 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_mxu1 v0 v1 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f)) ∗ ⌜Quiet 0 0 acc⌝)
  step k acc := by
    unfold k0_t5_body
    iintro ⟨H3, H4, H5, H10, H14, ⟨%f6, H6⟩, ⟨%f12, H12⟩, ⟨%f13, H13⟩, %hq⟩
    have h34 : k0_cond3 k = 1#1 → ¬ k0_cond4 k = 1#1 := by revert k; decide
    by_cases ha : k0_cond3 k = 1#1
    · have hb := h34 ha
      have hqa := hq.widen 0 160
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 0 160 _› (by decide)
    by_cases hb : k0_cond4 k = 1#1
    · have hqa := hq.widen 160 320
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 160 320 _› (by decide)
    · exfalso; revert k; decide

set_option sl_exec.squeezeSlice true in
set_option warn.classDefReducibility false in
/-- The loop over a step's 5 tiles (256 rows): it reads the weights, their scales, the bias, the quantised rows and the caps, and leaves the pooled block, the
    transposed scales and the l1 sums at some contents; between tiles the matrix unit is drained. -/
@[sl_loop] def loopInv_t8 (v0 : Elt F .i32) (v1 : Elt F .i32) (k0_mxu2 : Mxu F) (init : Mxu F)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    LoopInvTy_k0_t8 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v0 v1 k0_mxu2 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f)) ∗ ⌜Quiet 0 0 acc⌝)
  step k acc := by
    unfold k0_t8_body
    iintro ⟨H3, H4, H5, H10, H14, ⟨%f6, H6⟩, ⟨%f12, H12⟩, ⟨%f13, H13⟩, %hq⟩
    have h34 : k0_cond6 k = 1#1 → ¬ k0_cond7 k = 1#1 := by revert k; decide
    by_cases ha : k0_cond6 k = 1#1
    · have hb := h34 ha
      have hqa := hq.widen 320 576
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 320 576 _› (by decide)
    by_cases hb : k0_cond7 k = 1#1
    · have hqa := hq.widen 576 832
      sl_exec
      sl_step
      isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      isplitl [H13]; · iexists _; iexact H13
      ipureintro
      exact Quiet.pops ‹Quiet 576 832 _› (by decide)
    · exfalso; revert k; decide

end Cert.Proof.PI
-- ==== Proof.PICodes.lean ====
module

public import proofs.«01_k».proof.Proof.Gen.KernelIdeal.Skeleton
public import proofs.«01_k».proof.Proof.Gen.KernelIdeal.Loops
public import proofs.«01_k».proof.Proof.Mxu
public import Idealize.ShloMosaic.Lib.Mxu.Walk

@[expose] public section

set_option maxRecDepth 8192
set_option maxHeartbeats 4000000

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over the 8 groups of 32 rows that forms the codes: it reads the rows and the inverse scales and leaves the codes and the quantised rows at
    some contents. -/
@[sl_loop] def loopInv_t2 (v0 : Elt F .i32) (k0_hw1 : k0_chk1 i v0) (v22 : BitVec 32) (k0_h1 : k0_cond1 i = 1#1) (v54 : IVec S16x128 32) (c0_i32_27 : BitVec 32) (c1_i32_28 : BitVec 32)
    (X2 : BufTy.Contents (Elt F) arg2.view.ty) (X11 : BufTy.Contents (Elt F) arg11.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v0 k0_hw1 v22 k0_h1 v54 c0_i32_27 c1_i32_28 where
  inv k acc := iprop((arg2.view.loc (c : Thread nD τ) ↦[arg2.view.set]{fullShare} X2) ∗ (arg11.view.loc (c : Thread nD τ) ↦[arg11.view.set]{fullShare} X11) ∗ (∃ f, (arg8.view.loc (c : Thread nD τ) ↦[arg8.view.set]{fullShare} f)) ∗ (∃ f, (arg10.view.loc (c : Thread nD τ) ↦[arg10.view.set]{fullShare} f)))
  step k acc := by
    unfold k0_t2_body
    iintro ⟨H2, H11, ⟨%f8, H8⟩, ⟨%f10, H10⟩⟩
    sl_exec
    sl_step
    isplitl [H2]; · iexact H2
    isplitl [H11]; · iexact H11
    isplitl [H8]; · iexists _; iexact H8
    iexists _; iexact H10

end Cert.Proof.PI
-- ==== Proof.PICheck.lean ====
module

public import proofs.«01_k».proof.Proof.Gen.KernelIdeal.Skeleton
public import proofs.«01_k».proof.Proof.Gen.KernelIdeal.Loops
public import proofs.«01_k».proof.Proof.Mxu
public import Idealize.ShloMosaic.Lib.Mxu.Walk

@[expose] public section

set_option maxRecDepth 8192
set_option maxHeartbeats 4000000

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

/-- The first aligned row of the second sequence and the group's word row start stay inside their buffers when the first length is at most 128. -/
theorem chk1 (i : grid0.Coords) (v0 : BitVec 32) (h : v0.toNat ≤ 128) : k0_chk1 i v0 := by
  have hv : ∃ n : Fin 129, v0 = BitVec.ofNat 32 n.val :=
    ⟨⟨v0.toNat, by omega⟩, by apply BitVec.eq_of_toNat_eq; rw [BitVec.toNat_ofNat]; exact (Nat.mod_eq_of_lt v0.isLt).symm⟩
  have h1 : ∀ n : Fin 129, 16 ∣ (k0_mult1 (BitVec.ofNat 32 n.val)).toNat := by decide +kernel
  have h2 : ∀ n : Fin 129, ∀ t : Fin k0_t2_loop.trips, 8 ∣ (k0_mult6 (BitVec.ofNat 32 n.val) t).toNat := by decide +kernel
  have h3 : ∀ n : Fin 129, ∀ t : Fin k0_t2_loop.trips, ∀ u : Fin k0_t3_loop.trips, ∀ a : Fin 3, (k0_off47 (BitVec.ofNat 32 n.val) t u) a + S16x2x128.size a ≤ S128x2x5120.size a := by decide +kernel
  have h4 : ∀ n : Fin 129, ∀ t : Fin k0_t2_loop.trips, ∀ u : Fin k0_t4_loop.trips, ∀ a : Fin 3, (k0_off50 (BitVec.ofNat 32 n.val) t u) a + S16x2x128.size a ≤ S128x2x5120.size a := by decide +kernel
  have h5 : ∀ n : Fin 129, ∀ a : Fin 2, (k0_off83 (BitVec.ofNat 32 n.val)) a + S128x128.size a ≤ S256x128.size a := by decide +kernel
  obtain ⟨n, hn⟩ := hv
  have g1 := h1 n
  have g2 := h2 n
  have g3 := h3 n
  have g4 := h4 n
  have g5 := h5 n
  rw [← hn] at g1
  simp only [← hn] at g2 g3 g4 g5
  exact ⟨g1, fun t _ => g2 t, fun t2 t3 _ => g3 t2 t3, fun t2 t4 _ => g4 t2 t4, fun _ => g5⟩

end Cert.Proof.PI
-- ==== Proof.PIBody.lean ====
module

public import proofs.«01_k».proof.Proof.Gen.KernelIdeal.Skeleton
public import proofs.«01_k».proof.Proof.Gen.KernelIdeal.Loops
public import proofs.«01_k».proof.Proof.Mxu
public import Idealize.ShloMosaic.Lib.Mxu.Walk
public import proofs.«01_k».proof.Proof.PITiles
public import proofs.«01_k».proof.Proof.PICodes
public import proofs.«01_k».proof.Proof.PICheck

@[expose] public section

set_option maxRecDepth 8192
set_option maxHeartbeats 4000000

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The first step's work: quantise the rows, clear the sums and set the caps. -/
theorem part112 (v0 : Elt F .i32) (hw : k0_chk1 i v0) (v1 : Elt F .i32) (v22 : BitVec 32) (X2 : BufTy.Contents (Elt F) arg2.view.ty) :
    (iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg14.view.loc (c : Thread nD τ) ↦[arg14.view.set]{fullShare} f))) : sProp 𝕄) ⊢ wp frame (wpE (defs₀ (F := F)) Variants.none c none) Set.univ (k0_part119 i arg1 harg1 arg2 harg2 arg3 harg3 arg4 harg4 arg5 harg5 arg6 harg6 arg7 harg7 arg8 harg8 arg9 harg9 arg10 harg10 arg11 harg11 arg12 harg12 arg13 harg13 arg14 harg14 v0 hw v1 v22)
      (fun _ => iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg14.view.loc (c : Thread nD τ) ↦[arg14.view.set]{fullShare} f)))) := by
  rw [k0_part119_eq_skeleton]; unfold k0_part119_skel
  iintro ⟨H2, ⟨%f8, H8⟩, ⟨%f9, H9⟩, ⟨%f10, H10⟩, ⟨%f11, H11⟩, ⟨%f13, H13⟩, ⟨%f14, H14⟩⟩
  by_cases h : k0_cond1 i = 1#1
  · sl_exec
    sl_step
    isplitl [H2]; · iexact H2
    isplitl [H8]; · iexists _; iexact H8
    isplitl [H9]; · iexists _; iexact H9
    isplitl [H10]; · iexists _; iexact H10
    isplitl [H11]; · iexists _; iexact H11
    isplitl [H13]; · iexists _; iexact H13
    iexists _; iexact H14
  · sl_exec
    sl_step
    isplitl [H2]; · iexact H2
    isplitl [H8]; · iexists _; iexact H8
    isplitl [H9]; · iexists _; iexact H9
    isplitl [H10]; · iexists _; iexact H10
    isplitl [H11]; · iexists _; iexact H11
    isplitl [H13]; · iexists _; iexact H13
    iexists _; iexact H14

set_option sl_exec.squeezeSlice true in
set_option warn.classDefReducibility false in
/-- The tiles of a step at one of the two row counts: run if the condition holds, skipped otherwise; the matrix unit is left drained. -/
theorem part114 (mx : Mxu F) (v0 v1 : Elt F .i32) (hq : Quiet 0 0 mx)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := F)) Variants.none c none) Set.univ (k0_part121 i arg1 harg1 arg2 harg2 arg3 harg3 arg4 harg4 arg5 harg5 arg6 harg6 arg7 harg7 arg8 harg8 arg9 harg9 arg10 harg10 arg11 harg11 arg12 harg12 arg13 harg13 arg14 harg14 mx v0 v1)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  rw [k0_part121_eq_skeleton]; unfold k0_part121_skel
  iintro ⟨H3, H4, H5, H10, H14, ⟨%f6, H6⟩, ⟨%f12, H12⟩, ⟨%f13, H13⟩⟩
  by_cases h : k0_cond2 v0 v1 = 1#1
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; assumption
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; exact hq

set_option sl_exec.squeezeSlice true in
set_option warn.classDefReducibility false in
/-- The tiles of a step at one of the two row counts: run if the condition holds, skipped otherwise; the matrix unit is left drained. -/
theorem part116 (mx : Mxu F) (v0 v1 : Elt F .i32) (hq : Quiet 0 0 mx)
    (X3 : BufTy.Contents (Elt F) arg3.view.ty) (X4 : BufTy.Contents (Elt F) arg4.view.ty) (X5 : BufTy.Contents (Elt F) arg5.view.ty) (X10 : BufTy.Contents (Elt F) arg10.view.ty) (X14 : BufTy.Contents (Elt F) arg14.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := F)) Variants.none c none) Set.univ (k0_part123 i arg1 harg1 arg2 harg2 arg3 harg3 arg4 harg4 arg5 harg5 arg6 harg6 arg7 harg7 arg8 harg8 arg9 harg9 arg10 harg10 arg11 harg11 arg12 harg12 arg13 harg13 arg14 harg14 v0 v1 mx)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  rw [k0_part123_eq_skeleton]; unfold k0_part123_skel
  iintro ⟨H3, H4, H5, H10, H14, ⟨%f6, H6⟩, ⟨%f12, H12⟩, ⟨%f13, H13⟩⟩
  by_cases h : k0_cond5 v0 v1 = 1#1
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; assumption
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]; · iexists _; iexact H6
      isplitl [H12]; · iexists _; iexact H12
      iexists _; iexact H13
    ipureintro; exact hq

set_option sl_exec.squeezeSlice true in
set_option warn.classDefReducibility false in
/-- The last step's work: the two l1 rows. -/
theorem part118 (v0 : Elt F .i32) (hw : k0_chk1 i v0) (v1 : Elt F .i32) (v22 : BitVec 32) :
    (iprop((∃ f, (arg7.view.loc (c : Thread nD τ) ↦[arg7.view.set]{fullShare} f)) ∗ (∃ f, (arg13.view.loc (c : Thread nD τ) ↦[arg13.view.set]{fullShare} f))) : sProp 𝕄) ⊢ wp frame (wpE (defs₀ (F := F)) Variants.none c none) Set.univ (k0_part125 i arg1 harg1 arg2 harg2 arg3 harg3 arg4 harg4 arg5 harg5 arg6 harg6 arg7 harg7 arg8 harg8 arg9 harg9 arg10 harg10 arg11 harg11 arg12 harg12 arg13 harg13 arg14 harg14 v0 hw v1 v22)
      (fun _ => iprop((∃ f, (arg7.view.loc (c : Thread nD τ) ↦[arg7.view.set]{fullShare} f)) ∗ (∃ f, (arg13.view.loc (c : Thread nD τ) ↦[arg13.view.set]{fullShare} f)))) := by
  rw [k0_part125_eq_skeleton]; unfold k0_part125_skel
  iintro ⟨⟨%f7, H7⟩, ⟨%f13, H13⟩⟩
  by_cases h : k0_cond8 i = 1#1
  · sl_exec
    sl_step
    isplitl [H7]; · iexists _; iexact H7
    iexists _; iexact H13
  · sl_exec
    sl_step
    isplitl [H7]; · iexists _; iexact H7
    iexists _; iexact H13

/-- A call whose specification is `h`, and then the rest of the program from what it leaves. -/
theorem call {α β : Type} {p : Prog (TpuEff nD τ sig (Elt F) Λ₀ .tc) α} {k : α → Prog (TpuEff nD τ sig (Elt F) Λ₀ .tc) β} {R : sProp 𝕄} {Q : α → sProp 𝕄} {K : β → sProp 𝕄}
    (h : R ⊢ wp frame (wpE (defs₀ (F := F)) Variants.none (c : Thread nD τ) none) Set.univ p Q) :
    iprop(R ∗ (∀ a, Q a -∗ wp frame (wpE (defs₀ (F := F)) Variants.none (c : Thread nD τ) none) Set.univ (k a) K)) ⊢ wp frame (wpE (defs₀ (F := F)) Variants.none (c : Thread nD τ) none) Set.univ (p >>= k) K := by
  rw [wp_bind]
  iintro ⟨HR, HK⟩
  iapply (wp_wand_r Idealize.ShloMosaic.frame (wpE (defs₀ (F := F)) Variants.none (c : Thread nD τ) none) Set.univ)
  isplitl [HR]
  · iapply h; iexact HR
  · iexact HK

set_option sl_exec.squeezeSlice true in
set_option warn.classDefReducibility false in
/-- The whole body at any grid point, its inputs at any contents and everything it writes at some: it runs to its end when the check on the first length holds. -/
theorem sound_kernel (qt : PosShare TreeShare) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (hw : ∀ x, k0_chk1 i (arg1.view.readAt (Elt F) (Rect.unit (s := S2) ![0] S1.size inb_S2_S1_0).toLoadRect X1 x)) :
    (iprop((arg1.view.loc (c : Thread nD τ) ↦[arg1.view.set]{qt} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) : sProp 𝕄) ⊢ wp frame (wpE (defs₀ (F := F)) Variants.none c none) Set.univ (cc0_splade_head i arg1 harg1 arg2 harg2 arg3 harg3 arg4 harg4 arg5 harg5 arg6 harg6 arg7 harg7 arg8 harg8 arg9 harg9 arg10 harg10 arg11 harg11 arg12 harg12 arg13 harg13 arg14 harg14)
      (fun _ => iprop((arg1.view.loc (c : Thread nD τ) ↦[arg1.view.set]{qt} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))) := by
  rw [cc0_splade_head_eq_skeleton]; unfold cc0_splade_head_skel
  iintro ⟨H1, H2, H3, H4, H5, H6, H7, H8, H9, H10, H11, H12, H13, H14⟩
  set_option sl_exec.stopBefore "k0_part119" in sl_exec
  iapply (call c (part112 (F := F) c i arg1 harg1 arg2 harg2 arg3 harg3 arg4 harg4 arg5 harg5 arg6 harg6 arg7 harg7 arg8 harg8 arg9 harg9 arg10 harg10 arg11 harg11 arg12 harg12 arg13 harg13 arg14 harg14 _ _ _ _ X2))
  isplitl [H2 H8 H9 H10 H11 H13 H14]
  · isplitl [H2]; · iexact H2
    isplitl [H8]; · iexact H8
    isplitl [H9]; · iexact H9
    isplitl [H10]; · iexact H10
    isplitl [H11]; · iexact H11
    isplitl [H13]; · iexact H13
    iexact H14
  iintro %_ ⟨H2, H8, H9, ⟨%X10, H10⟩, H11, H13, ⟨%X14, H14⟩⟩
  set_option sl_exec.stopBefore "k0_part121" in sl_exec
  iapply (call c (part114 (F := F) c i arg1 harg1 arg2 harg2 arg3 harg3 arg4 harg4 arg5 harg5 arg6 harg6 arg7 harg7 arg8 harg8 arg9 harg9 arg10 harg10 arg11 harg11 arg12 harg12 arg13 harg13 arg14 harg14 _ _ _ (Quiet.init 0 0) X3 X4 X5 X10 X14))
  isplitl [H3 H4 H5 H10 H14 H6 H12 H13]
  · isplitl [H3]; · iexact H3
    isplitl [H4]; · iexact H4
    isplitl [H5]; · iexact H5
    isplitl [H10]; · iexact H10
    isplitl [H14]; · iexact H14
    isplitl [H6]; · iexact H6
    isplitl [H12]; · iexact H12
    iexact H13
  iintro %mx2 ⟨⟨H3, H4, H5, H10, H14, H6, H12, H13⟩, %hq2⟩
  set_option sl_exec.stopBefore "k0_part123" in sl_exec
  iapply (call c (part116 (F := F) c i arg1 harg1 arg2 harg2 arg3 harg3 arg4 harg4 arg5 harg5 arg6 harg6 arg7 harg7 arg8 harg8 arg9 harg9 arg10 harg10 arg11 harg11 arg12 harg12 arg13 harg13 arg14 harg14 mx2 _ _ hq2 X3 X4 X5 X10 X14))
  isplitl [H3 H4 H5 H10 H14 H6 H12 H13]
  · isplitl [H3]; · iexact H3
    isplitl [H4]; · iexact H4
    isplitl [H5]; · iexact H5
    isplitl [H10]; · iexact H10
    isplitl [H14]; · iexact H14
    isplitl [H6]; · iexact H6
    isplitl [H12]; · iexact H12
    iexact H13
  iintro %mx3 ⟨⟨H3, H4, H5, H10, H14, H6, H12, H13⟩, %hq3⟩
  set_option sl_exec.stopBefore "k0_part125" in sl_exec
  iapply (call c (part118 (F := F) c i arg1 harg1 arg2 harg2 arg3 harg3 arg4 harg4 arg5 harg5 arg6 harg6 arg7 harg7 arg8 harg8 arg9 harg9 arg10 harg10 arg11 harg11 arg12 harg12 arg13 harg13 arg14 harg14 _ _ _ _))
  isplitl [H7 H13]
  · isplitl [H7]; · iexact H7
    iexact H13
  iintro %_ ⟨H7, H13⟩
  have hd := hq3.drained
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  iexists _; iexact H14

end Cert.Proof.PI
-- ==== Proof.PIRun.lean ====
module

public import proofs.«01_k».proof.Proof.Gen.KernelIdeal.Skeleton
public import proofs.«01_k».proof.Proof.Gen.KernelIdeal.Loops
public import proofs.«01_k».proof.Proof.Mxu
public import Idealize.ShloMosaic.Lib.Mxu.Walk
public import proofs.«01_k».proof.Proof.PIBody
public import proofs.«01_k».proof.Proof.Gen.KernelIdeal.Launch
public import Idealize.ShloMosaic.Lib.Pipeline.Frame
public import Idealize.ShloMosaic.Lib.Pipeline.FrameBody

@[expose] public section

set_option maxRecDepth 8192
set_option maxHeartbeats 4000000

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

variable {F : FTy → Type} [FloatOps F]

local notation "𝕄" => MT nD τ sig Unit (Elt F) ℕ (UR sig nD τ) ℕ

open Idealize.ShloMosaic.Pipeline (RDat Cfg Window)

variable (m : (ℓ : Loc nD τ sig) → Buf (Elt F) ℓ) (ρ : Dev nD → PrngReg)

/-! ## The buffers when the region is entered -/

/-- Core `c`'s buffers when the region is entered: after the two reshapes on the host. -/
abbrev V (c : Dev nD) (b : Ref sig .tc) : Buf (Elt F) ((c : Thread nD τ).loc b) := StableHlo.after hostOps0 (fun b => m (c, b)) b

/-- Neither reshape allocates a buffer. -/
theorem hostOps0_fresh : (hostOps0 : List (HloOp τ sig (Elt F))).Forall fun op => op.fresh = ∅ := by
  simp only [List.Forall]; repeat' constructor

/-- The program up to the region: the two reshapes, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the reshapes' results is as launched when the region is entered. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The lengths as the region finds them. -/
def tbl : pre0.Contents (Elt F) := fun j => V m (0 : Dev nD) (pre0.ref j)

/-- The table at the region's entry on every device. -/
theorem V_pre (c : Dev nD) (j : Fin 1) : V m c (pre0.ref j) = tbl m j := by
  obtain rfl : c = 0 := Subsingleton.elim _ _; rfl

/-- The table's contents, which no index map reads. -/
abbrev adm : (pcfg0 (F := F)).Adm := ⟨tbl m, trivial⟩
/-- The pipeline at the table's contents. -/
abbrev cfgM : Pipeline.Cfg sig Λ₀ := cfg0 (adm m)

/-- The table's half that the region hands to the body. -/
theorem PhiT0_eq (c : Dev nD) : (Pipeline.ΦT pre0 (tbl m) c : sProp 𝕄) = iprop((Memref.whole main_arg1).view.loc (c : Thread nD τ) ↦{fullShare.right} (tbl m 0)) := by
  unfold Pipeline.ΦT Pipeline.prefHeld
  rw [show (Finset.univ : Finset (Fin 1)) = {(0 : Fin 1)} from by decide, bigSep_singleton]
  rfl

/-! ## The proof data: inputs left as found, nothing said of the outputs -/

/-- The proof data on core `c`: an input's buffer is left as found, of an output's nothing is said; between points the
    scratch buffers are held at some contents and the table at its own. -/
def rdat (c : Dev nD) : RDat τ (Elt F) Unit ℕ (UR sig nD τ) ℕ (cfgM m) c where
  A w := V m c (Pipeline.arrRef spec0 w)
  after w _ Y X := (spec0 w).isOut = false → X = Y
  Φ _ := iprop(Pipeline.ΦA spec0 c ∗ Pipeline.ΦT pre0 (tbl m) c)
  q _ := fullShare
  owed _ := 0

/-- The body at point `t`, on that point's staging buffers. -/
def bodyAt0 (t : Fin (cfgM (F := F) m).N) : Prog (TpuEff nD τ sig (Elt F) Λ₀ .tc) PUnit :=
  cc0_splade_head (grid0.coords t) (Memref.whole main_arg1) (Memref.isWhole_whole _) (spec0_0.stage ((cfgM (F := F) m).slots t 0)) (hstage0_0 (((cfgM (F := F) m).slots t 0).cast nbuf0_0)) (spec0_1.stage ((cfgM (F := F) m).slots t 1)) (hstage0_1 (((cfgM (F := F) m).slots t 1).cast nbuf0_1)) (spec0_2.stage ((cfgM (F := F) m).slots t 2)) (hstage0_2 (((cfgM (F := F) m).slots t 2).cast nbuf0_2)) (spec0_3.stage ((cfgM (F := F) m).slots t 3)) (hstage0_3 (((cfgM (F := F) m).slots t 3).cast nbuf0_3)) (spec0_4.stage ((cfgM (F := F) m).slots t 4)) (hstage0_4 (((cfgM (F := F) m).slots t 4).cast nbuf0_4)) (spec0_5.stage ((cfgM (F := F) m).slots t 5)) (hstage0_5 (((cfgM (F := F) m).slots t 5).cast nbuf0_5)) (spec0_6.stage ((cfgM (F := F) m).slots t 6)) (hstage0_6 (((cfgM (F := F) m).slots t 6).cast nbuf0_6)) (spec0_7.stage ((cfgM (F := F) m).slots t 7)) (hstage0_7 (((cfgM (F := F) m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- The body table's row at point `t` is the body there. -/
theorem defs₀_row (t : Fin (cfgM (F := F) m).N) :
    defs₀ (F := F) .tc (cfgM m).body ((cfgM m).bodyArgs t ((cfgM m).slots t)) = bodyAt0 m t := by
  unfold defs₀; rw [Defs.onTc_tc]; rfl

/-- The first length is at most 128. -/
def LenOk : Prop := ∀ x, ((Memref.whole main_arg1).view.readAt (Elt F) (Rect.unit (s := S2) ![0] S1.size inb_S2_S1_0).toLoadRect (tbl m 0) x : BitVec 32).toNat ≤ 128

set_option backward.isDefEq.respectTransparency.types false in
/-- The body at any point, on staging buffers at any contents: it runs to its end and leaves the inputs as found. -/
theorem sound_body (hlen : LenOk m) (c : Dev nD) (t : Fin (cfgM (F := F) m).N) (Y : (w : Fin 8) → ((cfgM (F := F) m).win w).block.Idx → Elt F ((cfgM (F := F) m).win w).elt) :
    (iprop((rdat m c).Φ t.castSucc ∗ (rdat m c).owesAt () t.castSucc
        ∗ bigSep Finset.univ fun w : Fin 8 => owns (c : Thread nD τ) ((spec0 w).stage ((cfgM (F := F) m).slots t w)) fullShare (Y w)) : sProp 𝕄)
      ⊢ wp frame (wpE (defs₀ (F := F)) Variants.none c none) Set.univ (bodyAt0 m t) fun _ =>
        iprop((rdat m c).Φ t.succ ∗ (rdat m c).owesAt () t.succ
          ∗ bigSep Finset.univ fun w : Fin 8 => iprop(∃ X, ⌜(rdat m c).after w t (Y w) X⌝ ∗ owns (c : Thread nD τ) ((spec0 w).stage ((cfgM (F := F) m).slots t w)) fullShare X)) := by
  rw [bigSep_W0, bigSep_W0]
  rw [show (rdat m c).Φ t.succ = iprop(Pipeline.ΦA spec0 c ∗ Pipeline.ΦT pre0 (tbl m) c) from rfl,
    show (rdat m c).Φ t.castSucc = iprop(Pipeline.ΦA spec0 c ∗ Pipeline.ΦT pre0 (tbl m) c) from rfl,
    show (rdat m c).owesAt () t.succ = (rdat m c).owesAt () t.castSucc from rfl]
  unfold Pipeline.ΦA
  rw [scopedRest0_eq, PhiT0_eq]
  unfold owns
  iintro ⟨⟨⟨⟨S0, S1, S2, S3, S4⟩, Hp⟩, HT⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  unfold bodyAt0
  have s1 : (Memref.whole main_arg1 : Memref sig .tc _ _ _).view.set = Finset.univ := View.set_whole _
  have z0 : (Memref.whole cc0_scratch0 : Memref sig .tc _ _ _).view.set = Finset.univ := View.set_whole _
  have z1 : (Memref.whole cc0_scratch1 : Memref sig .tc _ _ _).view.set = Finset.univ := View.set_whole _
  have z2 : (Memref.whole cc0_scratch2 : Memref sig .tc _ _ _).view.set = Finset.univ := View.set_whole _
  have z3 : (Memref.whole cc0_scratch3 : Memref sig .tc _ _ _).view.set = Finset.univ := View.set_whole _
  have z4 : (Memref.whole cc0_scratch4 : Memref sig .tc _ _ _).view.set = Finset.univ := View.set_whole _
  iapply (wp_wand_r Idealize.ShloMosaic.frame (wpE (defs₀ (F := F)) Variants.none (c : Thread nD τ) none) Set.univ)
  isplitl [S0 S1 S2 S3 S4 HT H0 H1 H2 H3 H4 H5 H6 H7]
  · iapply (sound_kernel (F := F) c (grid0.coords t) (Memref.whole main_arg1) (Memref.isWhole_whole _) (spec0_0.stage ((cfgM (F := F) m).slots t 0)) (hstage0_0 (((cfgM (F := F) m).slots t 0).cast nbuf0_0)) (spec0_1.stage ((cfgM (F := F) m).slots t 1)) (hstage0_1 (((cfgM (F := F) m).slots t 1).cast nbuf0_1)) (spec0_2.stage ((cfgM (F := F) m).slots t 2)) (hstage0_2 (((cfgM (F := F) m).slots t 2).cast nbuf0_2)) (spec0_3.stage ((cfgM (F := F) m).slots t 3)) (hstage0_3 (((cfgM (F := F) m).slots t 3).cast nbuf0_3)) (spec0_4.stage ((cfgM (F := F) m).slots t 4)) (hstage0_4 (((cfgM (F := F) m).slots t 4).cast nbuf0_4)) (spec0_5.stage ((cfgM (F := F) m).slots t 5)) (hstage0_5 (((cfgM (F := F) m).slots t 5).cast nbuf0_5)) (spec0_6.stage ((cfgM (F := F) m).slots t 6)) (hstage0_6 (((cfgM (F := F) m).slots t 6).cast nbuf0_6)) (spec0_7.stage ((cfgM (F := F) m).slots t 7)) (hstage0_7 (((cfgM (F := F) m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) fullShare.right (tbl m 0) f0 f1 f2 f3 (fun x => chk1 _ _ (hlen x)))
    isplitl [HT]; · rw [s1]; iexact HT
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    rw [z0, z1, z2, z3, z4]
    isplitl [S0]; · iexact S0
    isplitl [S1]; · iexact S1
    isplitl [S2]; · iexact S2
    isplitl [S3]; · iexact S3
    iexact S4
  rw [s1, z0, z1, z2, z3, z4]
  iintro %_ ⟨HT, H0, H1, H2, H3, ⟨%g4, H4⟩, ⟨%g5, H5⟩, ⟨%g6, H6⟩, ⟨%g7, H7⟩, S0, S1, S2, S3, S4⟩
  isplitl [HT Hp S0 S1 S2 S3 S4]
  · isplitr [HT]
    · isplitr [Hp]
      · isplitl [S0]; · iexact S0
        isplitl [S1]; · iexact S1
        isplitl [S2]; · iexact S2
        isplitl [S3]; · iexact S3
        iexact S4
      · iexact Hp
    · iexact HT
  isplitl [Ho]; · iexact Ho
  isplitl [H0]
  · iexists (Y 0)
    isplitr; · ipureintro; exact fun _ => rfl
    iexists f0; isplitr; · ipureintro; exact e0
    iexact H0
  isplitl [H1]
  · iexists (Y 1)
    isplitr; · ipureintro; exact fun _ => rfl
    iexists f1; isplitr; · ipureintro; exact e1
    iexact H1
  isplitl [H2]
  · iexists (Y 2)
    isplitr; · ipureintro; exact fun _ => rfl
    iexists f2; isplitr; · ipureintro; exact e2
    iexact H2
  isplitl [H3]
  · iexists (Y 3)
    isplitr; · ipureintro; exact fun _ => rfl
    iexists f3; isplitr; · ipureintro; exact e3
    iexact H3
  isplitl [H4]
  · iexists (((spec0 4).stage ((cfgM m).slots t 4)).view.read (Elt F) g4)
    isplitr; · ipureintro; exact fun h => absurd h (by decide)
    iexists g4; isplitr; · ipureintro; rfl
    iexact H4
  isplitl [H5]
  · iexists (((spec0 5).stage ((cfgM m).slots t 5)).view.read (Elt F) g5)
    isplitr; · ipureintro; exact fun h => absurd h (by decide)
    iexists g5; isplitr; · ipureintro; rfl
    iexact H5
  isplitl [H6]
  · iexists (((spec0 6).stage ((cfgM m).slots t 6)).view.read (Elt F) g6)
    isplitr; · ipureintro; exact fun h => absurd h (by decide)
    iexists g6; isplitr; · ipureintro; rfl
    iexact H6
  iexists (((spec0 7).stage ((cfgM m).slots t 7)).view.read (Elt F) g7)
  isplitr; · ipureintro; exact fun h => absurd h (by decide)
  iexists g7; isplitr; · ipureintro; rfl
  iexact H7

set_option backward.isDefEq.respectTransparency.types false in
/-- The library's body obligation, at every point. -/
theorem body_obligation (hlen : LenOk m) (c : Dev nD) : (rdat (F := F) m c).BodyObligation (defs₀ (F := F)) Variants.none () Set.univ := fun t Y _ => by
  rw [defs₀_row]
  exact triple_restated (sound_body m hlen c t Y) rfl .rfl fun _ => .rfl

set_option backward.isDefEq.respectTransparency.types false in
/-- The launch: from any memory whose first length is at most 128 every execution terminates, and every semaphore counter ends at zero. -/
theorem run_main (hlen : LenOk m) : θ_run defs (onTc (τ := τ) (main (F := F))) (s₀ m ρ) (fun r => Pipeline.RDat.FramePost (cfgM m) (rdat m) (V m) r ∧ r.2.sem = fun _ => 0) :=
  Pipeline.RDat.θ_run_frameP (Q' := _) pcfgs (fun _ => adm m) (0 : Fin 1) launch0 defs₀ Variants.none (rdat m) m ρ main
    (hbody := body_obligation m hlen) (hshare := fun c w => by unfold Pipeline.RDat.share; split <;> rfl)
    (howed := fun _ _ => rfl) (V := V m) (hmain := hmain m Variants.none) (hA := fun _ _ => rfl) (hpf := V_pre m) (hΦ := fun _ _ => rfl)

/-- The frame: every execution terminates, the arguments end unchanged and every semaphore counter ends at zero. -/
theorem frame (hlen : LenOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (by decide : main_arg0 ∈ Pipeline.restRefs sig spec0)).trans (V_of_ne m c main_arg0 (by decide) (by decide)),
     ((h.1 c).2 main_arg1 (by decide : main_arg1 ∈ Pipeline.restRefs sig spec0)).trans (V_of_ne m c main_arg1 (by decide) (by decide)),
     (Pipeline.RDat.FramePost.arr_in h.1 c 1 rfl).trans (V_of_ne m c main_arg2 (by decide) (by decide)),
     (Pipeline.RDat.FramePost.arr_in h.1 c 2 rfl).trans (V_of_ne m c main_arg3 (by decide) (by decide)),
     ((h.1 c).2 main_arg4 (by decide : main_arg4 ∈ Pipeline.restRefs sig spec0)).trans (V_of_ne m c main_arg4 (by decide) (by decide))⟩, h.2⟩) (run_main m ρ hlen)

end Cert.Proof.PI
-- ==== Proof.PVBase.lean ====
module

public import proofs.«01_k».proof.Proof.Gen.KernelIdeal.Skeleton
public import proofs.«01_k».proof.Proof.Mxu
public import Idealize.ShloMosaic.Lib.Mxu.Walk
public import Idealize.ShloMosaic.Lib.Mxu.PassChain
public import Idealize.ShloMosaic.Lib.Pointwise
public import Idealize.ShloMosaic.Lib.MatmulPlain

@[expose] public section

set_option maxRecDepth 8192
set_option maxHeartbeats 4000000

noncomputable section

namespace Cert.Proof.PV

open Idealize.ShloMosaic Idealize.ShloMosaic.TcCoe
open Cert.Proof.MxuK

/-! ## Entries at natural-number coordinates -/

variable {α : Type}

/-- The entry at the given coordinates, each taken modulo its extent. -/
def at1 {A : ℕ} [NeZero A] (X : (⟨1, ![A]⟩ : Shape).Idx → α) (a : ℕ) : α :=
  X (ix1 (Fin.ofNat A a))

theorem at1_ix {A : ℕ} [NeZero A] (X : (⟨1, ![A]⟩ : Shape).Idx → α) (a : Fin A) : X (ix1 a) = at1 X a := by
  have h : ∀ {n : ℕ} [NeZero n] (i : Fin n), Fin.ofNat n (i : ℕ) = i := fun i => Fin.ext (Nat.mod_eq_of_lt i.isLt)
  simp only [at1, h]

theorem at1_idx {A : ℕ} [NeZero A] (X : (⟨1, ![A]⟩ : Shape).Idx → α) (i : (⟨1, ![A]⟩ : Shape).Idx) : X i = at1 X (i 0 : ℕ) :=
  (congrArg X (eq_ix1 i)).trans (at1_ix X (i 0))

/-- A block read at an index. -/
theorem ld1 {A : ℕ} [NeZero A] (X : (⟨1, ![A]⟩ : Shape).Idx → α) (off size : Fin 1 → ℕ) (inb : ∀ a, off a + size a ≤ (⟨1, ![A]⟩ : Shape).size a)
    (x : (Rect.unit (s := (⟨1, ![A]⟩ : Shape)) off size inb).shape.Idx) :
    X ((Rect.unit (s := (⟨1, ![A]⟩ : Shape)) off size inb).toLoadRect.idx x) = at1 X (off 0 + (x 0 : ℕ)) := by
  refine (at1_idx X _).trans ?_
  show at1 X (off 0 + 1 * (x 0 : ℕ)) = _
  simp only [Nat.one_mul]

/-- The entry at the given coordinates, each taken modulo its extent. -/
def at2 {A B : ℕ} [NeZero A] [NeZero B] (X : (⟨2, ![A, B]⟩ : Shape).Idx → α) (a b : ℕ) : α :=
  X (ix2 (Fin.ofNat A a) (Fin.ofNat B b))

theorem at2_ix {A B : ℕ} [NeZero A] [NeZero B] (X : (⟨2, ![A, B]⟩ : Shape).Idx → α) (a : Fin A) (b : Fin B) : X (ix2 a b) = at2 X a b := by
  have h : ∀ {n : ℕ} [NeZero n] (i : Fin n), Fin.ofNat n (i : ℕ) = i := fun i => Fin.ext (Nat.mod_eq_of_lt i.isLt)
  simp only [at2, h]

theorem at2_idx {A B : ℕ} [NeZero A] [NeZero B] (X : (⟨2, ![A, B]⟩ : Shape).Idx → α) (i : (⟨2, ![A, B]⟩ : Shape).Idx) : X i = at2 X (i 0 : ℕ) (i 1 : ℕ) :=
  (congrArg X (eq_ix2 i)).trans (at2_ix X (i 0) (i 1))

/-- A block read at an index. -/
theorem ld2 {A B : ℕ} [NeZero A] [NeZero B] (X : (⟨2, ![A, B]⟩ : Shape).Idx → α) (off size : Fin 2 → ℕ) (inb : ∀ a, off a + size a ≤ (⟨2, ![A, B]⟩ : Shape).size a)
    (x : (Rect.unit (s := (⟨2, ![A, B]⟩ : Shape)) off size inb).shape.Idx) :
    X ((Rect.unit (s := (⟨2, ![A, B]⟩ : Shape)) off size inb).toLoadRect.idx x) = at2 X (off 0 + (x 0 : ℕ)) (off 1 + (x 1 : ℕ)) := by
  refine (at2_idx X _).trans ?_
  show at2 X (off 0 + 1 * (x 0 : ℕ)) (off 1 + 1 * (x 1 : ℕ)) = _
  simp only [Nat.one_mul]

/-- The entry at the given coordinates, each taken modulo its extent. -/
def at3 {A B C : ℕ} [NeZero A] [NeZero B] [NeZero C] (X : (⟨3, ![A, B, C]⟩ : Shape).Idx → α) (a b c : ℕ) : α :=
  X (ix3 (Fin.ofNat A a) (Fin.ofNat B b) (Fin.ofNat C c))

theorem at3_ix {A B C : ℕ} [NeZero A] [NeZero B] [NeZero C] (X : (⟨3, ![A, B, C]⟩ : Shape).Idx → α) (a : Fin A) (b : Fin B) (c : Fin C) : X (ix3 a b c) = at3 X a b c := by
  have h : ∀ {n : ℕ} [NeZero n] (i : Fin n), Fin.ofNat n (i : ℕ) = i := fun i => Fin.ext (Nat.mod_eq_of_lt i.isLt)
  simp only [at3, h]

theorem at3_idx {A B C : ℕ} [NeZero A] [NeZero B] [NeZero C] (X : (⟨3, ![A, B, C]⟩ : Shape).Idx → α) (i : (⟨3, ![A, B, C]⟩ : Shape).Idx) : X i = at3 X (i 0 : ℕ) (i 1 : ℕ) (i 2 : ℕ) :=
  (congrArg X (eq_ix3 i)).trans (at3_ix X (i 0) (i 1) (i 2))

/-- A block read at an index. -/
theorem ld3 {A B C : ℕ} [NeZero A] [NeZero B] [NeZero C] (X : (⟨3, ![A, B, C]⟩ : Shape).Idx → α) (off size : Fin 3 → ℕ) (inb : ∀ a, off a + size a ≤ (⟨3, ![A, B, C]⟩ : Shape).size a)
    (x : (Rect.unit (s := (⟨3, ![A, B, C]⟩ : Shape)) off size inb).shape.Idx) :
    X ((Rect.unit (s := (⟨3, ![A, B, C]⟩ : Shape)) off size inb).toLoadRect.idx x) = at3 X (off 0 + (x 0 : ℕ)) (off 1 + (x 1 : ℕ)) (off 2 + (x 2 : ℕ)) := by
  refine (at3_idx X _).trans ?_
  show at3 X (off 0 + 1 * (x 0 : ℕ)) (off 1 + 1 * (x 1 : ℕ)) (off 2 + 1 * (x 2 : ℕ)) = _
  simp only [Nat.one_mul]

/-- The entry at the given coordinates, each taken modulo its extent. -/
def at4 {A B C D : ℕ} [NeZero A] [NeZero B] [NeZero C] [NeZero D] (X : (⟨4, ![A, B, C, D]⟩ : Shape).Idx → α) (a b c d : ℕ) : α :=
  X (ix4 (Fin.ofNat A a) (Fin.ofNat B b) (Fin.ofNat C c) (Fin.ofNat D d))

theorem at4_ix {A B C D : ℕ} [NeZero A] [NeZero B] [NeZero C] [NeZero D] (X : (⟨4, ![A, B, C, D]⟩ : Shape).Idx → α) (a : Fin A) (b : Fin B) (c : Fin C) (d : Fin D) : X (ix4 a b c d) = at4 X a b c d := by
  have h : ∀ {n : ℕ} [NeZero n] (i : Fin n), Fin.ofNat n (i : ℕ) = i := fun i => Fin.ext (Nat.mod_eq_of_lt i.isLt)
  simp only [at4, h]

theorem at4_idx {A B C D : ℕ} [NeZero A] [NeZero B] [NeZero C] [NeZero D] (X : (⟨4, ![A, B, C, D]⟩ : Shape).Idx → α) (i : (⟨4, ![A, B, C, D]⟩ : Shape).Idx) : X i = at4 X (i 0 : ℕ) (i 1 : ℕ) (i 2 : ℕ) (i 3 : ℕ) :=
  (congrArg X (eq_ix4 i)).trans (at4_ix X (i 0) (i 1) (i 2) (i 3))

/-- A block read at an index. -/
theorem ld4 {A B C D : ℕ} [NeZero A] [NeZero B] [NeZero C] [NeZero D] (X : (⟨4, ![A, B, C, D]⟩ : Shape).Idx → α) (off size : Fin 4 → ℕ) (inb : ∀ a, off a + size a ≤ (⟨4, ![A, B, C, D]⟩ : Shape).size a)
    (x : (Rect.unit (s := (⟨4, ![A, B, C, D]⟩ : Shape)) off size inb).shape.Idx) :
    X ((Rect.unit (s := (⟨4, ![A, B, C, D]⟩ : Shape)) off size inb).toLoadRect.idx x) = at4 X (off 0 + (x 0 : ℕ)) (off 1 + (x 1 : ℕ)) (off 2 + (x 2 : ℕ)) (off 3 + (x 3 : ℕ)) := by
  refine (at4_idx X _).trans ?_
  show at4 X (off 0 + 1 * (x 0 : ℕ)) (off 1 + 1 * (x 1 : ℕ)) (off 2 + 1 * (x 2 : ℕ)) (off 3 + 1 * (x 3 : ℕ)) = _
  simp only [Nat.one_mul]

/-- The entry at the given coordinates, each taken modulo its extent. -/
def at5 {A B C D E : ℕ} [NeZero A] [NeZero B] [NeZero C] [NeZero D] [NeZero E] (X : (⟨5, ![A, B, C, D, E]⟩ : Shape).Idx → α) (a b c d e : ℕ) : α :=
  X (ix5 (Fin.ofNat A a) (Fin.ofNat B b) (Fin.ofNat C c) (Fin.ofNat D d) (Fin.ofNat E e))

theorem at5_ix {A B C D E : ℕ} [NeZero A] [NeZero B] [NeZero C] [NeZero D] [NeZero E] (X : (⟨5, ![A, B, C, D, E]⟩ : Shape).Idx → α) (a : Fin A) (b : Fin B) (c : Fin C) (d : Fin D) (e : Fin E) : X (ix5 a b c d e) = at5 X a b c d e := by
  have h : ∀ {n : ℕ} [NeZero n] (i : Fin n), Fin.ofNat n (i : ℕ) = i := fun i => Fin.ext (Nat.mod_eq_of_lt i.isLt)
  simp only [at5, h]

theorem at5_idx {A B C D E : ℕ} [NeZero A] [NeZero B] [NeZero C] [NeZero D] [NeZero E] (X : (⟨5, ![A, B, C, D, E]⟩ : Shape).Idx → α) (i : (⟨5, ![A, B, C, D, E]⟩ : Shape).Idx) : X i = at5 X (i 0 : ℕ) (i 1 : ℕ) (i 2 : ℕ) (i 3 : ℕ) (i 4 : ℕ) :=
  (congrArg X (eq_ix5 i)).trans (at5_ix X (i 0) (i 1) (i 2) (i 3) (i 4))

/-- A block read at an index. -/
theorem ld5 {A B C D E : ℕ} [NeZero A] [NeZero B] [NeZero C] [NeZero D] [NeZero E] (X : (⟨5, ![A, B, C, D, E]⟩ : Shape).Idx → α) (off size : Fin 5 → ℕ) (inb : ∀ a, off a + size a ≤ (⟨5, ![A, B, C, D, E]⟩ : Shape).size a)
    (x : (Rect.unit (s := (⟨5, ![A, B, C, D, E]⟩ : Shape)) off size inb).shape.Idx) :
    X ((Rect.unit (s := (⟨5, ![A, B, C, D, E]⟩ : Shape)) off size inb).toLoadRect.idx x) = at5 X (off 0 + (x 0 : ℕ)) (off 1 + (x 1 : ℕ)) (off 2 + (x 2 : ℕ)) (off 3 + (x 3 : ℕ)) (off 4 + (x 4 : ℕ)) := by
  refine (at5_idx X _).trans ?_
  show at5 X (off 0 + 1 * (x 0 : ℕ)) (off 1 + 1 * (x 1 : ℕ)) (off 2 + 1 * (x 2 : ℕ)) (off 3 + 1 * (x 3 : ℕ)) (off 4 + 1 * (x 4 : ℕ)) = _
  simp only [Nat.one_mul]

/-! ## The matrix unit's partial sums -/

/-- The rows of unit `q` at address `A`: not live and counted as zeros, or live and holding `f`. -/
structure Acc (s : Mxu Ideal) (q : Fin 2) (A : ℕ) {M : ℕ} (h : Mxu.Fits A M) (b : Bool) (f : Fin M → Fin 256 → EReal) : Prop where
  live : ∀ r : Fin M, s.live q (Mxu.row h r) = b
  read : b = true → ∀ (m : Fin M) (n : Fin 256), s.read q A h (ix2 m n) = f m n
  zero : b = false → ∀ (m : Fin M) (n : Fin 256), f m n = 0

/-- A pass adds its product to the rows of its unit. -/
theorem Acc.pass {s : Mxu Ideal} {q : Fin 2} {A M : ℕ} {h : Mxu.Fits A M} {b : Bool} {f : Fin M → Fin 256 → EReal}
    (hs : Acc s q A h b f) (hreg : ∀ q r, s.reg q r = none) (r : Fin 2) (lhs : FVec Ideal (Mxu.STile M) .bf16) (rhs : FVec Ideal (Mxu.STile 256) .bf16)
    (L : Fin M → Fin 256 → EReal) (R : Fin 256 → Fin 256 → EReal) (hL : ∀ m k, lhs (ix2 m k) = L m k) (hR : ∀ k n, rhs (ix2 k n) = R k n) :
    Acc (MxuK.pass s q r A lhs rhs h) q A h true (fun m n => f m n + ∑ k, L m k * R k n) := by
  have hv : ∀ (m : Fin M) (n : Fin 256), (Mxu.Staged.pass (⟨.bf16, false, rhs⟩ : Mxu.Staged Ideal) lhs) (ix2 m n) = ∑ k, L m k * R k n := by
    intro m n
    have h := Ideal.matmul_plain_apply (M := M) (K := 256) (N := 256) none lhs rhs (fun _ => 0) m n
    rw [Ideal.matmul_apply, zero_add, zero_add] at h
    exact h.trans (Finset.sum_congr rfl fun k _ => by rw [← hL, ← hR]; rfl)
  refine ⟨fun r' => Mxu.live_accLhs_row _ _ _ _ _ _ _, fun _ m n => ?_, fun h => by simp at h⟩
  cases b with
  | false =>
    have := Mxu.read_pushAcc_of_not_live q r false A h s rhs lhs (hreg q r) hs.live
    rw [show MxuK.pass s q r A lhs rhs h = Mxu.pushAcc q r false A h s rhs lhs from rfl, this, hs.zero rfl, zero_add]
    exact hv m n
  | true =>
    have := Mxu.read_pushAcc_of_live q r false A h s rhs lhs (hreg q r) hs.live
    rw [show MxuK.pass s q r A lhs rhs h = Mxu.pushAcc q r false A h s rhs lhs from rfl, this, ← hs.read rfl, ← hv m n]
    rfl

/-- and leaves those of the other unit. -/
theorem Acc.pass_ne {s : Mxu Ideal} {q q' : Fin 2} {A A' M M' : ℕ} {h : Mxu.Fits A M} {h' : Mxu.Fits A' M'} {b : Bool} {f : Fin M → Fin 256 → EReal}
    (hs : Acc s q A h b f) (hq : q ≠ q') (r : Fin 2) (lhs : FVec Ideal (Mxu.STile M') .bf16) (rhs : FVec Ideal (Mxu.STile 256) .bf16) :
    Acc (MxuK.pass s q' r A' lhs rhs h') q A h b f := by
  refine ⟨fun r' => ?_, fun hb m n => ?_, hs.zero⟩
  · rw [MxuK.pass, Mxu.live_accLhs]
    simp only [Mxu.live_pushed, hq, false_and, if_false]
    exact hs.live r'
  · rw [← hs.read hb m n]
    rw [MxuK.pass, Mxu.read_accLhs_ne _ _ _ _ _ _ _ _ _ (Or.inl hq), Mxu.read_pushed]

/-! ## What the passes of a tile add up to -/

open Cert.KernelIdeal Cert.KernelIdeal.Gen

/-- Quantised row `m` at coordinate `d`: the buffer holds two rows side by side. -/
def xvA (x10 : S128x2x5120.Idx → EReal) (m d : ℕ) : EReal := at3 x10 (m / 2) (m % 2) d

/-- The widened weight at coordinate `d` of column `n` of the tile whose first vocabulary row is `v`: the columns are the even rows,
    then the odd ones. -/
def rvA (x3 : S1280x5120.Idx → EReal) (x12 : S2x2x160x2x128.Idx → EReal) (v buf d n : ℕ) : EReal :=
  at2 x3 (v + (n % 128 * 2 + n / 128)) d * at5 x12 buf (n / 128) (d / 32) 1 (n % 128)

variable (x3 : S1280x5120.Idx → EReal) (x10 : S128x2x5120.Idx → EReal) (x12 : S2x2x160x2x128.Idx → EReal) (v buf : ℕ)

/-- The product of pass `t`. -/
def passV (t m n : ℕ) : EReal := ∑ k : Fin 256, xvA x10 m (256 * t + k) * rvA x3 x12 v buf (256 * t + k) n

/-- What unit `q` holds after `c` groups of four passes. -/
def partV (q c m n : ℕ) : EReal := ∑ i ∈ Finset.range (2 * c), passV x3 x10 x12 v buf (2 * i + q) m n

/-- After `c` groups of four passes at the rows from `4 * A`. -/
structure Quads (A M : ℕ) (h : Mxu.Fits A M) (c : ℕ) (s : Mxu Ideal) : Prop where
  quiet : Quiet (4 * A) (4 * A + M) s
  acc : ∀ q : Fin 2, Acc s q A h (decide (0 < c)) (fun m n => partV x3 x10 x12 v buf q c m n)

variable {x3 x10 x12 v buf}

theorem Quads.init {A M : ℕ} {h : Mxu.Fits A M} {s : Mxu Ideal} (hs : Quiet 0 0 s) : Quads x3 x10 x12 v buf A M h 0 s :=
  ⟨hs.widen _ _, fun q => ⟨fun r => by
      cases hl : s.live q (Mxu.row h r) with
      | false => rfl
      | true => exact absurd (hs.live _ _ hl).2 (Nat.not_lt_zero _), fun hb => by simp at hb, fun _ m n => by simp [partV]⟩⟩

variable (x3 x10 x12 v buf) in
/-- What a tile's loop keeps: drained at first, then the sums of the groups so far. -/
def QuadsUpTo (A M : ℕ) (h : Mxu.Fits A M) (c : ℕ) (s : Mxu Ideal) : Prop :=
  match c with
  | 0 => Quiet 0 0 s
  | c + 1 => Quads x3 x10 x12 v buf A M h (c + 1) s

theorem QuadsUpTo.quads {A M : ℕ} {h : Mxu.Fits A M} {c : ℕ} {s : Mxu Ideal} (hs : QuadsUpTo x3 x10 x12 v buf A M h c s) : Quads x3 x10 x12 v buf A M h c s := by
  cases c with
  | zero => exact Quads.init hs
  | succ c => exact hs

/-- A group of four passes. -/
theorem Quads.step {A M : ℕ} {h : Mxu.Fits A M} {c : ℕ} {s : Mxu Ideal} (hs : Quads x3 x10 x12 v buf A M h c s)
    {l0 l1 l2 l3 : FVec Ideal (Mxu.STile M) .bf16} {r0 r1 r2 r3 : FVec Ideal (Mxu.STile 256) .bf16}
    (hl0 : ∀ (m : Fin M) (k : Fin 256), l0 (ix2 m k) = xvA x10 m (256 * (4 * c + 0) + k)) (hr0 : ∀ k n : Fin 256, r0 (ix2 k n) = rvA x3 x12 v buf (256 * (4 * c + 0) + k) n)
    (hl1 : ∀ (m : Fin M) (k : Fin 256), l1 (ix2 m k) = xvA x10 m (256 * (4 * c + 1) + k)) (hr1 : ∀ k n : Fin 256, r1 (ix2 k n) = rvA x3 x12 v buf (256 * (4 * c + 1) + k) n)
    (hl2 : ∀ (m : Fin M) (k : Fin 256), l2 (ix2 m k) = xvA x10 m (256 * (4 * c + 2) + k)) (hr2 : ∀ k n : Fin 256, r2 (ix2 k n) = rvA x3 x12 v buf (256 * (4 * c + 2) + k) n)
    (hl3 : ∀ (m : Fin M) (k : Fin 256), l3 (ix2 m k) = xvA x10 m (256 * (4 * c + 3) + k)) (hr3 : ∀ k n : Fin 256, r3 (ix2 k n) = rvA x3 x12 v buf (256 * (4 * c + 3) + k) n) :
    Quads x3 x10 x12 v buf A M h (c + 1) (MxuK.pass (MxuK.pass (MxuK.pass (MxuK.pass s 0 0 A l0 r0 h) 1 0 A l1 r1 h) 0 1 A l2 r2 h) 1 1 A l3 r3 h) := by
  have q1 := hs.quiet.pass 0 0 A l0 r0 h le_rfl le_rfl
  have q2 := q1.pass 1 0 A l1 r1 h le_rfl le_rfl
  have q3 := q2.pass 0 1 A l2 r2 h le_rfl le_rfl
  have e : ∀ q m n, partV x3 x10 x12 v buf q (c + 1) m n = partV x3 x10 x12 v buf q c m n + passV x3 x10 x12 v buf (4 * c + q) m n + passV x3 x10 x12 v buf (4 * c + 2 + q) m n := by
    intro q m n
    rw [partV, partV, show 2 * (c + 1) = 2 * c + 1 + 1 by ring, Finset.sum_range_succ, Finset.sum_range_succ,
      show 2 * (2 * c) = 4 * c by ring, show 2 * (2 * c + 1) = 4 * c + 2 by ring]
  refine ⟨q3.pass 1 1 A l3 r3 h le_rfl le_rfl, fun q => ?_⟩
  have hq : q = 0 ∨ q = 1 := by omega
  rcases hq with rfl | rfl
  · have a := (((((hs.acc 0).pass hs.quiet.reg 0 l0 r0 _ _ hl0 hr0).pass_ne (by decide) 0 l1 r1 (h' := h)).pass q2.reg 1 l2 r2 _ _ hl2 hr2).pass_ne (q' := 1) (by decide) 1 l3 r3 (h' := h))
    refine ⟨fun r => (a.live r).trans (by simp), fun _ m n => (a.read rfl m n).trans ?_, fun hb => by simp at hb⟩
    exact (e 0 m n).symm
  · have a := (((((hs.acc 1).pass_ne (by decide) 0 l0 r0 (h' := h)).pass q1.reg 0 l1 r1 _ _ hl1 hr1).pass_ne (q' := 0) (by decide) 1 l2 r2 (h' := h)).pass q3.reg 1 l3 r3 _ _ hl3 hr3)
    refine ⟨fun r => (a.live r).trans (by simp), fun _ m n => (a.read rfl m n).trans ?_, fun hb => by simp at hb⟩
    exact (e 1 m n).symm

/-- The four operands of a tile's product as the passes form them. -/
theorem rhs_apply {w0 w1 : Vec Ideal S256x128 .fp8e4m3} {r00 r01 r10 r11 : Vec Ideal S1x4x2x128 .bf16} {t : ℕ}
    (hw0 : ∀ (i : Fin 256) (j : Fin 128), w0 (ix2 i j) = at2 x3 (v + i) (256 * t + j))
    (hr00 : ∀ (i : Fin 4) (n : Fin 128), r00 (ix4 0 i 1 n) = at5 x12 buf 0 (8 * t + i) 1 n)
    (hr01 : ∀ (i : Fin 4) (n : Fin 128), r01 (ix4 0 i 1 n) = at5 x12 buf 1 (8 * t + i) 1 n)
    (hw1 : ∀ (i : Fin 256) (j : Fin 128), w1 (ix2 i j) = at2 x3 (v + i) (256 * t + 128 + j))
    (hr10 : ∀ (i : Fin 4) (n : Fin 128), r10 (ix4 0 i 1 n) = at5 x12 buf 0 (8 * t + 4 + i) 1 n)
    (hr11 : ∀ (i : Fin 4) (n : Fin 128), r11 (ix4 0 i 1 n) = at5 x12 buf 1 (8 * t + 4 + i) 1 n) (k n : Fin 256) :
    k0_pay246 (k0_pay242 (k0_pay240 w0 r00) (k0_pay241 w0) r01) (k0_pay243 w1) (k0_pay244 w1) (k0_pay245 r10) r11 (ix2 k n) = rvA x3 x12 v buf (256 * t + k) n := by
  have hk := k.isLt
  have hn := n.isLt
  pointwise [k0_pay239, k0_pay240, k0_pay241, k0_pay242, k0_pay243, k0_pay244, k0_pay245, k0_pay246]
  unfold rvA
  simp only [hw0, hw1, hr00, hr01, hr10, hr11]
  split_ifs <;> first | (congr 2 <;> omega) | (exfalso; simp_all; done)

/-- The left operand of a pass: the words' two rows side by side, 160 rows of them. -/
theorem lhs_apply {raw : Vec Ideal S80x2x256 .bf16} {t : ℕ} (h : ∀ (i : Fin 80) (p : Fin 2) (j : Fin 256), raw (ix3 i p j) = at3 x10 i p (256 * t + j))
    (m : Fin 160) (k : Fin 256) : k0_pay247 raw (ix2 m k) = xvA x10 m (256 * t + k) := by
  have hm := m.isLt
  pointwise [k0_pay247]
  unfold xvA
  simp only [h]
  split_ifs <;> (congr 1; simp; omega)

/-- The left operand of a pass: the words' two rows side by side, 256 rows of them. -/
theorem lhs_apply' {raw : Vec Ideal S128x2x256 .bf16} {t : ℕ} (h : ∀ (i : Fin 128) (p : Fin 2) (j : Fin 256), raw (ix3 i p j) = at3 x10 i p (256 * t + j))
    (m : Fin 256) (k : Fin 256) : (k0_pay363 raw : FVec Ideal S256x256 .bf16) (ix2 m k) = xvA x10 m (256 * t + k) := by
  have hm := m.isLt
  pointwise [k0_pay363]
  unfold xvA
  simp only [h]
  split_ifs <;> (congr 1; simp; omega)

theorem along_apply {α : Type} (w : (⟨5, ![1, 1, 4, 2, 128]⟩ : Shape).Idx → α) (hR : (⟨4, ![1, 4, 2, 128]⟩ : Shape).numel = (⟨5, ![1, 1, 4, 2, 128]⟩ : Shape).numel)
    (i : Fin 4) (p : Fin 2) (n : Fin 128) : w (Shape.reshapeEquiv hR (ix4 0 i p n)) = w (ix5 0 0 i p n) := by
  pointwise

/-- Four scale rows of one plane of the transposed scales, read at an index. -/
theorem ld12 (arg12 : Memref sig .tc .vmem S2x2x160x2x128 .bf16) (X12 : BufTy.Contents (Elt Ideal) arg12.view.ty) (b : ℕ) (off : Fin 4 → ℕ)
    (inb0 : ∀ a, ![b, 0, 0, 0, 0] a + S1x2x160x2x128.size a ≤ S2x2x160x2x128.size a) (inb : ∀ a, off a + S1x4x2x128.size a ≤ S2x160x2x128.size a)
    (h0 : ![1, 2, 160, 2, 128] 0 = 1) (hs : ∀ i : Fin 4, ![1, 2, 160, 2, 128] i.succ = ![2, 160, 2, 128] i)
    (h1 : ∀ a, (Rect.unit (s := S2x2x160x2x128) ![b, 0, 0, 0, 0] S1x2x160x2x128.size inb0).stride a = 1)
    (hR : S1x4x2x128.numel = ((Rect.unit (s := S2x2x160x2x128) ![b, 0, 0, 0, 0] S1x2x160x2x128.size inb0).withinL
      (LoadRect.consLift (Rect.unit (s := S2x160x2x128) off S1x4x2x128.size inb).toLoadRect ![1, 2, 160, 2, 128] h0 hs) h1).shape.numel)
    (i : Fin 4) (p : Fin 2) (n : Fin 128) :
    LoadRect.valAlong (lr := (Rect.unit (s := S2x160x2x128) off S1x4x2x128.size inb).toLoadRect) hR (View.readAt (Elt Ideal) arg12.view ((Rect.unit (s := S2x2x160x2x128) ![b, 0, 0, 0, 0] S1x2x160x2x128.size inb0).withinL
      (LoadRect.consLift (Rect.unit (s := S2x160x2x128) off S1x4x2x128.size inb).toLoadRect ![1, 2, 160, 2, 128] h0 hs) h1) X12) (ix4 0 i p n)
      = at5 (arg12.view.read (Elt Ideal) X12) b (off 0) (off 1 + i) (off 2 + p) (off 3 + n) := by
  refine (along_apply (View.readAt (Elt Ideal) arg12.view ((Rect.unit (s := S2x2x160x2x128) ![b, 0, 0, 0, 0] S1x2x160x2x128.size inb0).withinL
      (LoadRect.consLift (Rect.unit (s := S2x160x2x128) off S1x4x2x128.size inb).toLoadRect ![1, 2, 160, 2, 128] h0 hs) h1) X12) hR i p n).trans ?_
  refine (at5_idx (arg12.view.read (Elt Ideal) X12) _).trans ?_
  show at5 (arg12.view.read (Elt Ideal) X12) (b + 0 + 1 * 0) (0 + off 0 + 1 * 0) (0 + off 1 + 1 * i) (0 + off 2 + 1 * p) (0 + off 3 + 1 * n) = _
  simp only [Nat.zero_add, Nat.add_zero, Nat.one_mul]

end Cert.Proof.PV
-- ==== Proof.PVQuads.lean ====
module

public import proofs.«01_k».proof.Proof.Gen.KernelIdeal.Skeleton
public import proofs.«01_k».proof.Proof.Gen.KernelIdeal.Loops
public import proofs.«01_k».proof.Proof.PVBase
public import Idealize.ShloMosaic.Lib.Mxu.Walk
public import Idealize.ShloMosaic.Lib.Tactic

@[expose] public section

set_option maxRecDepth 8192
set_option maxHeartbeats 4000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

theorem at2_off {α : Type} {A B : ℕ} [NeZero A] [NeZero B] {X : (⟨2, ![A, B]⟩ : Shape).Idx → α} {off off' : Fin 2 → ℕ} (h : off = off') {a b : ℕ} :
    at2 X (off 0 + a) (off 1 + b) = at2 X (off' 0 + a) (off' 1 + b) := by rw [h]

theorem at3_off {α : Type} {A B C : ℕ} [NeZero A] [NeZero B] [NeZero C] {X : (⟨3, ![A, B, C]⟩ : Shape).Idx → α} {off off' : Fin 3 → ℕ} (h : off = off') {a b c : ℕ} :
    at3 X (off 0 + a) (off 1 + b) (off 2 + c) = at3 X (off' 0 + a) (off' 1 + b) (off' 2 + c) := by rw [h]

theorem at5_off {α : Type} {A B C D E : ℕ} [NeZero A] [NeZero B] [NeZero C] [NeZero D] [NeZero E] {X : (⟨5, ![A, B, C, D, E]⟩ : Shape).Idx → α} {off off' : Fin 4 → ℕ}
    (h : off = off') {z b c d : ℕ} :
    at5 X z (off 0) (off 1 + b) (off 2 + c) (off 3 + d) = at5 X z (off' 0) (off' 1 + b) (off' 2 + c) (off' 3 + d) := by rw [h]

/-! ## Where the blocks a pass reads begin -/

theorem off52_eq (a : Fin k0_t5_loop.trips) (k : Fin k0_t6_loop.trips) (s : Fin 4) (c : Fin 2) :
    k0_off52 a k (BitVec.ofNat 32 s) (BitVec.ofNat 32 (128 * c)) = ![256 * a.val, 256 * (4 * k.val + s.val) + 128 * c.val] := by revert a k s c; decide +kernel
theorem off53_eq (k : Fin k0_t6_loop.trips) (s : Fin 4) (c : Fin 2) :
    k0_off53 k (BitVec.ofNat 32 s) (BitVec.ofNat 32 c) = ![0, 8 * (4 * k.val + s.val) + 4 * c.val, 0, 0] := by revert k s c; decide +kernel
theorem off54_eq (k : Fin k0_t6_loop.trips) (s : Fin 4) (c : Fin 2) :
    k0_off54 k (BitVec.ofNat 32 s) (BitVec.ofNat 32 c) = ![1, 8 * (4 * k.val + s.val) + 4 * c.val, 0, 0] := by revert k s c; decide +kernel
theorem off55_eq (k : Fin k0_t6_loop.trips) (s : Fin 4) :
    k0_off55 k (BitVec.ofNat 32 s) = ![0, 0, 256 * (4 * k.val + s.val)] := by revert k s; decide +kernel

theorem off60_eq (a : Fin k0_t5_loop.trips) (k : Fin k0_t7_loop.trips) (s : Fin 4) (c : Fin 2) :
    k0_off60 a k (BitVec.ofNat 32 s) (BitVec.ofNat 32 (128 * c)) = ![256 * a.val, 256 * (4 * k.val + s.val) + 128 * c.val] := by revert a k s c; decide +kernel
theorem off61_eq (k : Fin k0_t7_loop.trips) (s : Fin 4) (c : Fin 2) :
    k0_off61 k (BitVec.ofNat 32 s) (BitVec.ofNat 32 c) = ![0, 8 * (4 * k.val + s.val) + 4 * c.val, 0, 0] := by revert k s c; decide +kernel
theorem off62_eq (k : Fin k0_t7_loop.trips) (s : Fin 4) (c : Fin 2) :
    k0_off62 k (BitVec.ofNat 32 s) (BitVec.ofNat 32 c) = ![1, 8 * (4 * k.val + s.val) + 4 * c.val, 0, 0] := by revert k s c; decide +kernel
theorem off63_eq (k : Fin k0_t7_loop.trips) (s : Fin 4) :
    k0_off63 k (BitVec.ofNat 32 s) = ![0, 0, 256 * (4 * k.val + s.val)] := by revert k s; decide +kernel

theorem off68_eq (a : Fin k0_t8_loop.trips) (k : Fin k0_t9_loop.trips) (s : Fin 4) (c : Fin 2) :
    k0_off68 a k (BitVec.ofNat 32 s) (BitVec.ofNat 32 (128 * c)) = ![256 * a.val, 256 * (4 * k.val + s.val) + 128 * c.val] := by revert a k s c; decide +kernel
theorem off69_eq (k : Fin k0_t9_loop.trips) (s : Fin 4) (c : Fin 2) :
    k0_off69 k (BitVec.ofNat 32 s) (BitVec.ofNat 32 c) = ![0, 8 * (4 * k.val + s.val) + 4 * c.val, 0, 0] := by revert k s c; decide +kernel
theorem off70_eq (k : Fin k0_t9_loop.trips) (s : Fin 4) (c : Fin 2) :
    k0_off70 k (BitVec.ofNat 32 s) (BitVec.ofNat 32 c) = ![1, 8 * (4 * k.val + s.val) + 4 * c.val, 0, 0] := by revert k s c; decide +kernel
theorem off71_eq (k : Fin k0_t9_loop.trips) (s : Fin 4) :
    k0_off71 k (BitVec.ofNat 32 s) = ![0, 0, 256 * (4 * k.val + s.val)] := by revert k s; decide +kernel

theorem off76_eq (a : Fin k0_t8_loop.trips) (k : Fin k0_t10_loop.trips) (s : Fin 4) (c : Fin 2) :
    k0_off76 a k (BitVec.ofNat 32 s) (BitVec.ofNat 32 (128 * c)) = ![256 * a.val, 256 * (4 * k.val + s.val) + 128 * c.val] := by revert a k s c; decide +kernel
theorem off77_eq (k : Fin k0_t10_loop.trips) (s : Fin 4) (c : Fin 2) :
    k0_off77 k (BitVec.ofNat 32 s) (BitVec.ofNat 32 c) = ![0, 8 * (4 * k.val + s.val) + 4 * c.val, 0, 0] := by revert k s c; decide +kernel
theorem off78_eq (k : Fin k0_t10_loop.trips) (s : Fin 4) (c : Fin 2) :
    k0_off78 k (BitVec.ofNat 32 s) (BitVec.ofNat 32 c) = ![1, 8 * (4 * k.val + s.val) + 4 * c.val, 0, 0] := by revert k s c; decide +kernel
theorem off79_eq (k : Fin k0_t10_loop.trips) (s : Fin 4) :
    k0_off79 k (BitVec.ofNat 32 s) = ![0, 0, 256 * (4 * k.val + s.val)] := by revert k s; decide +kernel

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over the 5 groups of four 256-column passes of one tile (rows 0 to 160 of both units): the buffers it reads stay as they are and
    the unit holds the sum of the passes so far. -/
@[sl_loop] def loopInv_t6 (k0_t5 : Fin k0_t5_loop.trips) (k0_mxu3 : Mxu Ideal) (k0_h3 : k0_cond3 k0_t5 = 1#1) (v86_r0 : BitVec 32) (c0_i32_60_r0 : BitVec 32) (c1_i32_62_r0 : BitVec 32) (init : Mxu Ideal)
    (X3 : BufTy.Contents (Elt Ideal) arg3.view.ty) (X10 : BufTy.Contents (Elt Ideal) arg10.view.ty) (X12 : BufTy.Contents (Elt Ideal) arg12.view.ty) :
    LoopInvTy_k0_t6 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t5 k0_mxu3 k0_h3 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜QuadsUpTo (arg3.view.read (Elt Ideal) X3) (arg10.view.read (Elt Ideal) X10) (arg12.view.read (Elt Ideal) X12) (256 * k0_t5) 0 0 160 fits_0_160 k acc⌝)
  step k acc := by
    unfold k0_t6_body
    iintro ⟨H3, H10, H12, %hq⟩
    replace hq := QuadsUpTo.quads hq
    sl_exec (disch := first | exact Mxu.pushOk_of_none _ _ _ _ (hq.quiet.reg _ _) | (mxu_pushok_peel; exact Mxu.pushOk_of_none _ _ _ _ (hq.quiet.reg _ _)))
    sl_step
    isplitl [H3]; · iexact H3
    isplitl [H10]; · iexact H10
    isplitl [H12]; · iexact H12
    ipureintro
    sl_unfold_run_names
    refine Quads.step hq ?_ ?_ ?_ ?_ ?_ ?_ ?_ ?_
    · exact lhs_apply (fun i p j => (ld3 (arg10.view.read (Elt Ideal) X10) _ _ _ (ix3 i p j)).trans ((at3_off (off55_eq k 0)).trans (by simp)))
    · exact rhs_apply (fun i j => (ld2 (arg3.view.read (Elt Ideal) X3) _ _ _ (ix2 i j)).trans ((at2_off (off52_eq k0_t5 k 0 0)).trans (by simp [Nat.mul_add, Nat.add_assoc])))
        (fun i n => (ld12 arg12 X12 0 _ _ _ _ _ _ _ i 1 n).trans ((at5_off (off53_eq k 0 0)).trans (by simp)))
        (fun i n => (ld12 arg12 X12 0 _ _ _ _ _ _ _ i 1 n).trans ((at5_off (off54_eq k 0 0)).trans (by simp)))
        (fun i j => (ld2 (arg3.view.read (Elt Ideal) X3) _ _ _ (ix2 i j)).trans ((at2_off (off52_eq k0_t5 k 0 1)).trans (by simp [Nat.mul_add, Nat.add_assoc])))
        (fun i n => (ld12 arg12 X12 0 _ _ _ _ _ _ _ i 1 n).trans ((at5_off (off53_eq k 0 1)).trans (by simp)))
        (fun i n => (ld12 arg12 X12 0 _ _ _ _ _ _ _ i 1 n).trans ((at5_off (off54_eq k 0 1)).trans (by simp)))
    · exact lhs_apply (fun i p j => (ld3 (arg10.view.read (Elt Ideal) X10) _ _ _ (ix3 i p j)).trans ((at3_off (off55_eq k 1)).trans (by simp)))
    · exact rhs_apply (fun i j => (ld2 (arg3.view.read (Elt Ideal) X3) _ _ _ (ix2 i j)).trans ((at2_off (off52_eq k0_t5 k 1 0)).trans (by simp [Nat.mul_add, Nat.add_assoc])))
        (fun i n => (ld12 arg12 X12 0 _ _ _ _ _ _ _ i 1 n).trans ((at5_off (off53_eq k 1 0)).trans (by simp)))
        (fun i n => (ld12 arg12 X12 0 _ _ _ _ _ _ _ i 1 n).trans ((at5_off (off54_eq k 1 0)).trans (by simp)))
        (fun i j => (ld2 (arg3.view.read (Elt Ideal) X3) _ _ _ (ix2 i j)).trans ((at2_off (off52_eq k0_t5 k 1 1)).trans (by simp [Nat.mul_add, Nat.add_assoc])))
        (fun i n => (ld12 arg12 X12 0 _ _ _ _ _ _ _ i 1 n).trans ((at5_off (off53_eq k 1 1)).trans (by simp)))
        (fun i n => (ld12 arg12 X12 0 _ _ _ _ _ _ _ i 1 n).trans ((at5_off (off54_eq k 1 1)).trans (by simp)))
    · exact lhs_apply (fun i p j => (ld3 (arg10.view.read (Elt Ideal) X10) _ _ _ (ix3 i p j)).trans ((at3_off (off55_eq k 2)).trans (by simp)))
    · exact rhs_apply (fun i j => (ld2 (arg3.view.read (Elt Ideal) X3) _ _ _ (ix2 i j)).trans ((at2_off (off52_eq k0_t5 k 2 0)).trans (by simp [Nat.mul_add, Nat.add_assoc])))
        (fun i n => (ld12 arg12 X12 0 _ _ _ _ _ _ _ i 1 n).trans ((at5_off (off53_eq k 2 0)).trans (by simp)))
        (fun i n => (ld12 arg12 X12 0 _ _ _ _ _ _ _ i 1 n).trans ((at5_off (off54_eq k 2 0)).trans (by simp)))
        (fun i j => (ld2 (arg3.view.read (Elt Ideal) X3) _ _ _ (ix2 i j)).trans ((at2_off (off52_eq k0_t5 k 2 1)).trans (by simp [Nat.mul_add, Nat.add_assoc])))
        (fun i n => (ld12 arg12 X12 0 _ _ _ _ _ _ _ i 1 n).trans ((at5_off (off53_eq k 2 1)).trans (by simp)))
        (fun i n => (ld12 arg12 X12 0 _ _ _ _ _ _ _ i 1 n).trans ((at5_off (off54_eq k 2 1)).trans (by simp)))
    · exact lhs_apply (fun i p j => (ld3 (arg10.view.read (Elt Ideal) X10) _ _ _ (ix3 i p j)).trans ((at3_off (off55_eq k 3)).trans (by simp)))
    · exact rhs_apply (fun i j => (ld2 (arg3.view.read (Elt Ideal) X3) _ _ _ (ix2 i j)).trans ((at2_off (off52_eq k0_t5 k 3 0)).trans (by simp [Nat.mul_add, Nat.add_assoc])))
        (fun i n => (ld12 arg12 X12 0 _ _ _ _ _ _ _ i 1 n).trans ((at5_off (off53_eq k 3 0)).trans (by simp)))
        (fun i n => (ld12 arg12 X12 0 _ _ _ _ _ _ _ i 1 n).trans ((at5_off (off54_eq k 3 0)).trans (by simp)))
        (fun i j => (ld2 (arg3.view.read (Elt Ideal) X3) _ _ _ (ix2 i j)).trans ((at2_off (off52_eq k0_t5 k 3 1)).trans (by simp [Nat.mul_add, Nat.add_assoc])))
        (fun i n => (ld12 arg12 X12 0 _ _ _ _ _ _ _ i 1 n).trans ((at5_off (off53_eq k 3 1)).trans (by simp)))
        (fun i n => (ld12 arg12 X12 0 _ _ _ _ _ _ _ i 1 n).trans ((at5_off (off54_eq k 3 1)).trans (by simp)))

set_option sl_exec.squeezeSlice true in
set_option warn.classDefReducibility false in
/-- The loop over the 5 groups of four 256-column passes of one tile (rows 160 to 320 of both units): the buffers it reads stay as they are and
    the unit holds the sum of the passes so far. -/
@[sl_loop] def loopInv_t7 (k0_t5 : Fin k0_t5_loop.trips) (k0_mxu5 : Mxu Ideal) (k0_h4 : k0_cond4 k0_t5 = 1#1) (v86_r0 : BitVec 32) (c0_i32_60_r0 : BitVec 32) (c1_i32_62_r0 : BitVec 32) (init : Mxu Ideal)
    (X3 : BufTy.Contents (Elt Ideal) arg3.view.ty) (X10 : BufTy.Contents (Elt Ideal) arg10.view.ty) (X12 : BufTy.Contents (Elt Ideal) arg12.view.ty) :
    LoopInvTy_k0_t7 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t5 k0_mxu5 k0_h4 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜QuadsUpTo (arg3.view.read (Elt Ideal) X3) (arg10.view.read (Elt Ideal) X10) (arg12.view.read (Elt Ideal) X12) (256 * k0_t5) 1 40 160 fits_40_160 k acc⌝)
  step k acc := by
    unfold k0_t7_body
    iintro ⟨H3, H10, H12, %hq⟩
    replace hq := QuadsUpTo.quads hq
    sl_exec (disch := first | exact Mxu.pushOk_of_none _ _ _ _ (hq.quiet.reg _ _) | (mxu_pushok_peel; exact Mxu.pushOk_of_none _ _ _ _ (hq.quiet.reg _ _)))
    sl_step
    isplitl [H3]; · iexact H3
    isplitl [H10]; · iexact H10
    isplitl [H12]; · iexact H12
    ipureintro
    sl_unfold_run_names
    refine Quads.step hq ?_ ?_ ?_ ?_ ?_ ?_ ?_ ?_
    · exact lhs_apply (fun i p j => (ld3 (arg10.view.read (Elt Ideal) X10) _ _ _ (ix3 i p j)).trans ((at3_off (off63_eq k 0)).trans (by simp)))
    · exact rhs_apply (fun i j => (ld2 (arg3.view.read (Elt Ideal) X3) _ _ _ (ix2 i j)).trans ((at2_off (off60_eq k0_t5 k 0 0)).trans (by simp [Nat.mul_add, Nat.add_assoc])))
        (fun i n => (ld12 arg12 X12 1 _ _ _ _ _ _ _ i 1 n).trans ((at5_off (off61_eq k 0 0)).trans (by simp)))
        (fun i n => (ld12 arg12 X12 1 _ _ _ _ _ _ _ i 1 n).trans ((at5_off (off62_eq k 0 0)).trans (by simp)))
        (fun i j => (ld2 (arg3.view.read (Elt Ideal) X3) _ _ _ (ix2 i j)).trans ((at2_off (off60_eq k0_t5 k 0 1)).trans (by simp [Nat.mul_add, Nat.add_assoc])))
        (fun i n => (ld12 arg12 X12 1 _ _ _ _ _ _ _ i 1 n).trans ((at5_off (off61_eq k 0 1)).trans (by simp)))
        (fun i n => (ld12 arg12 X12 1 _ _ _ _ _ _ _ i 1 n).trans ((at5_off (off62_eq k 0 1)).trans (by simp)))
    · exact lhs_apply (fun i p j => (ld3 (arg10.view.read (Elt Ideal) X10) _ _ _ (ix3 i p j)).trans ((at3_off (off63_eq k 1)).trans (by simp)))
    · exact rhs_apply (fun i j => (ld2 (arg3.view.read (Elt Ideal) X3) _ _ _ (ix2 i j)).trans ((at2_off (off60_eq k0_t5 k 1 0)).trans (by simp [Nat.mul_add, Nat.add_assoc])))
        (fun i n => (ld12 arg12 X12 1 _ _ _ _ _ _ _ i 1 n).trans ((at5_off (off61_eq k 1 0)).trans (by simp)))
        (fun i n => (ld12 arg12 X12 1 _ _ _ _ _ _ _ i 1 n).trans ((at5_off (off62_eq k 1 0)).trans (by simp)))
        (fun i j => (ld2 (arg3.view.read (Elt Ideal) X3) _ _ _ (ix2 i j)).trans ((at2_off (off60_eq k0_t5 k 1 1)).trans (by simp [Nat.mul_add, Nat.add_assoc])))
        (fun i n => (ld12 arg12 X12 1 _ _ _ _ _ _ _ i 1 n).trans ((at5_off (off61_eq k 1 1)).trans (by simp)))
        (fun i n => (ld12 arg12 X12 1 _ _ _ _ _ _ _ i 1 n).trans ((at5_off (off62_eq k 1 1)).trans (by simp)))
    · exact lhs_apply (fun i p j => (ld3 (arg10.view.read (Elt Ideal) X10) _ _ _ (ix3 i p j)).trans ((at3_off (off63_eq k 2)).trans (by simp)))
    · exact rhs_apply (fun i j => (ld2 (arg3.view.read (Elt Ideal) X3) _ _ _ (ix2 i j)).trans ((at2_off (off60_eq k0_t5 k 2 0)).trans (by simp [Nat.mul_add, Nat.add_assoc])))
        (fun i n => (ld12 arg12 X12 1 _ _ _ _ _ _ _ i 1 n).trans ((at5_off (off61_eq k 2 0)).trans (by simp)))
        (fun i n => (ld12 arg12 X12 1 _ _ _ _ _ _ _ i 1 n).trans ((at5_off (off62_eq k 2 0)).trans (by simp)))
        (fun i j => (ld2 (arg3.view.read (Elt Ideal) X3) _ _ _ (ix2 i j)).trans ((at2_off (off60_eq k0_t5 k 2 1)).trans (by simp [Nat.mul_add, Nat.add_assoc])))
        (fun i n => (ld12 arg12 X12 1 _ _ _ _ _ _ _ i 1 n).trans ((at5_off (off61_eq k 2 1)).trans (by simp)))
        (fun i n => (ld12 arg12 X12 1 _ _ _ _ _ _ _ i 1 n).trans ((at5_off (off62_eq k 2 1)).trans (by simp)))
    · exact lhs_apply (fun i p j => (ld3 (arg10.view.read (Elt Ideal) X10) _ _ _ (ix3 i p j)).trans ((at3_off (off63_eq k 3)).trans (by simp)))
    · exact rhs_apply (fun i j => (ld2 (arg3.view.read (Elt Ideal) X3) _ _ _ (ix2 i j)).trans ((at2_off (off60_eq k0_t5 k 3 0)).trans (by simp [Nat.mul_add, Nat.add_assoc])))
        (fun i n => (ld12 arg12 X12 1 _ _ _ _ _ _ _ i 1 n).trans ((at5_off (off61_eq k 3 0)).trans (by simp)))
        (fun i n => (ld12 arg12 X12 1 _ _ _ _ _ _ _ i 1 n).trans ((at5_off (off62_eq k 3 0)).trans (by simp)))
        (fun i j => (ld2 (arg3.view.read (Elt Ideal) X3) _ _ _ (ix2 i j)).trans ((at2_off (off60_eq k0_t5 k 3 1)).trans (by simp [Nat.mul_add, Nat.add_assoc])))
        (fun i n => (ld12 arg12 X12 1 _ _ _ _ _ _ _ i 1 n).trans ((at5_off (off61_eq k 3 1)).trans (by simp)))
        (fun i n => (ld12 arg12 X12 1 _ _ _ _ _ _ _ i 1 n).trans ((at5_off (off62_eq k 3 1)).trans (by simp)))

set_option sl_exec.squeezeSlice true in
set_option warn.classDefReducibility false in
/-- The loop over the 5 groups of four 256-column passes of one tile (rows 320 to 576 of both units): the buffers it reads stay as they are and
    the unit holds the sum of the passes so far. -/
@[sl_loop] def loopInv_t9 (k0_t8 : Fin k0_t8_loop.trips) (k0_mxu32 : Mxu Ideal) (k0_h6 : k0_cond6 k0_t8 = 1#1) (v86_r0 : BitVec 32) (c0_i32_60_r0 : BitVec 32) (c1_i32_62_r0 : BitVec 32) (init : Mxu Ideal)
    (X3 : BufTy.Contents (Elt Ideal) arg3.view.ty) (X10 : BufTy.Contents (Elt Ideal) arg10.view.ty) (X12 : BufTy.Contents (Elt Ideal) arg12.view.ty) :
    LoopInvTy_k0_t9 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t8 k0_mxu32 k0_h6 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜QuadsUpTo (arg3.view.read (Elt Ideal) X3) (arg10.view.read (Elt Ideal) X10) (arg12.view.read (Elt Ideal) X12) (256 * k0_t8) 0 80 256 fits_80_256 k acc⌝)
  step k acc := by
    unfold k0_t9_body
    iintro ⟨H3, H10, H12, %hq⟩
    replace hq := QuadsUpTo.quads hq
    sl_exec (disch := first | exact Mxu.pushOk_of_none _ _ _ _ (hq.quiet.reg _ _) | (mxu_pushok_peel; exact Mxu.pushOk_of_none _ _ _ _ (hq.quiet.reg _ _)))
    sl_step
    isplitl [H3]; · iexact H3
    isplitl [H10]; · iexact H10
    isplitl [H12]; · iexact H12
    ipureintro
    sl_unfold_run_names
    refine Quads.step hq ?_ ?_ ?_ ?_ ?_ ?_ ?_ ?_
    · exact lhs_apply' (fun i p j => (ld3 (arg10.view.read (Elt Ideal) X10) _ _ _ (ix3 i p j)).trans ((at3_off (off71_eq k 0)).trans (by simp)))
    · exact rhs_apply (fun i j => (ld2 (arg3.view.read (Elt Ideal) X3) _ _ _ (ix2 i j)).trans ((at2_off (off68_eq k0_t8 k 0 0)).trans (by simp [Nat.mul_add, Nat.add_assoc])))
        (fun i n => (ld12 arg12 X12 0 _ _ _ _ _ _ _ i 1 n).trans ((at5_off (off69_eq k 0 0)).trans (by simp)))
        (fun i n => (ld12 arg12 X12 0 _ _ _ _ _ _ _ i 1 n).trans ((at5_off (off70_eq k 0 0)).trans (by simp)))
        (fun i j => (ld2 (arg3.view.read (Elt Ideal) X3) _ _ _ (ix2 i j)).trans ((at2_off (off68_eq k0_t8 k 0 1)).trans (by simp [Nat.mul_add, Nat.add_assoc])))
        (fun i n => (ld12 arg12 X12 0 _ _ _ _ _ _ _ i 1 n).trans ((at5_off (off69_eq k 0 1)).trans (by simp)))
        (fun i n => (ld12 arg12 X12 0 _ _ _ _ _ _ _ i 1 n).trans ((at5_off (off70_eq k 0 1)).trans (by simp)))
    · exact lhs_apply' (fun i p j => (ld3 (arg10.view.read (Elt Ideal) X10) _ _ _ (ix3 i p j)).trans ((at3_off (off71_eq k 1)).trans (by simp)))
    · exact rhs_apply (fun i j => (ld2 (arg3.view.read (Elt Ideal) X3) _ _ _ (ix2 i j)).trans ((at2_off (off68_eq k0_t8 k 1 0)).trans (by simp [Nat.mul_add, Nat.add_assoc])))
        (fun i n => (ld12 arg12 X12 0 _ _ _ _ _ _ _ i 1 n).trans ((at5_off (off69_eq k 1 0)).trans (by simp)))
        (fun i n => (ld12 arg12 X12 0 _ _ _ _ _ _ _ i 1 n).trans ((at5_off (off70_eq k 1 0)).trans (by simp)))
        (fun i j => (ld2 (arg3.view.read (Elt Ideal) X3) _ _ _ (ix2 i j)).trans ((at2_off (off68_eq k0_t8 k 1 1)).trans (by simp [Nat.mul_add, Nat.add_assoc])))
        (fun i n => (ld12 arg12 X12 0 _ _ _ _ _ _ _ i 1 n).trans ((at5_off (off69_eq k 1 1)).trans (by simp)))
        (fun i n => (ld12 arg12 X12 0 _ _ _ _ _ _ _ i 1 n).trans ((at5_off (off70_eq k 1 1)).trans (by simp)))
    · exact lhs_apply' (fun i p j => (ld3 (arg10.view.read (Elt Ideal) X10) _ _ _ (ix3 i p j)).trans ((at3_off (off71_eq k 2)).trans (by simp)))
    · exact rhs_apply (fun i j => (ld2 (arg3.view.read (Elt Ideal) X3) _ _ _ (ix2 i j)).trans ((at2_off (off68_eq k0_t8 k 2 0)).trans (by simp [Nat.mul_add, Nat.add_assoc])))
        (fun i n => (ld12 arg12 X12 0 _ _ _ _ _ _ _ i 1 n).trans ((at5_off (off69_eq k 2 0)).trans (by simp)))
        (fun i n => (ld12 arg12 X12 0 _ _ _ _ _ _ _ i 1 n).trans ((at5_off (off70_eq k 2 0)).trans (by simp)))
        (fun i j => (ld2 (arg3.view.read (Elt Ideal) X3) _ _ _ (ix2 i j)).trans ((at2_off (off68_eq k0_t8 k 2 1)).trans (by simp [Nat.mul_add, Nat.add_assoc])))
        (fun i n => (ld12 arg12 X12 0 _ _ _ _ _ _ _ i 1 n).trans ((at5_off (off69_eq k 2 1)).trans (by simp)))
        (fun i n => (ld12 arg12 X12 0 _ _ _ _ _ _ _ i 1 n).trans ((at5_off (off70_eq k 2 1)).trans (by simp)))
    · exact lhs_apply' (fun i p j => (ld3 (arg10.view.read (Elt Ideal) X10) _ _ _ (ix3 i p j)).trans ((at3_off (off71_eq k 3)).trans (by simp)))
    · exact rhs_apply (fun i j => (ld2 (arg3.view.read (Elt Ideal) X3) _ _ _ (ix2 i j)).trans ((at2_off (off68_eq k0_t8 k 3 0)).trans (by simp [Nat.mul_add, Nat.add_assoc])))
        (fun i n => (ld12 arg12 X12 0 _ _ _ _ _ _ _ i 1 n).trans ((at5_off (off69_eq k 3 0)).trans (by simp)))
        (fun i n => (ld12 arg12 X12 0 _ _ _ _ _ _ _ i 1 n).trans ((at5_off (off70_eq k 3 0)).trans (by simp)))
        (fun i j => (ld2 (arg3.view.read (Elt Ideal) X3) _ _ _ (ix2 i j)).trans ((at2_off (off68_eq k0_t8 k 3 1)).trans (by simp [Nat.mul_add, Nat.add_assoc])))
        (fun i n => (ld12 arg12 X12 0 _ _ _ _ _ _ _ i 1 n).trans ((at5_off (off69_eq k 3 1)).trans (by simp)))
        (fun i n => (ld12 arg12 X12 0 _ _ _ _ _ _ _ i 1 n).trans ((at5_off (off70_eq k 3 1)).trans (by simp)))

set_option sl_exec.squeezeSlice true in
set_option warn.classDefReducibility false in
/-- The loop over the 5 groups of four 256-column passes of one tile (rows 576 to 832 of both units): the buffers it reads stay as they are and
    the unit holds the sum of the passes so far. -/
@[sl_loop] def loopInv_t10 (k0_t8 : Fin k0_t8_loop.trips) (k0_mxu34 : Mxu Ideal) (k0_h7 : k0_cond7 k0_t8 = 1#1) (v86_r0 : BitVec 32) (c0_i32_60_r0 : BitVec 32) (c1_i32_62_r0 : BitVec 32) (init : Mxu Ideal)
    (X3 : BufTy.Contents (Elt Ideal) arg3.view.ty) (X10 : BufTy.Contents (Elt Ideal) arg10.view.ty) (X12 : BufTy.Contents (Elt Ideal) arg12.view.ty) :
    LoopInvTy_k0_t10 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_t8 k0_mxu34 k0_h7 v86_r0 c0_i32_60_r0 c1_i32_62_r0 init where
  inv k acc := iprop((arg3.view.loc (c : Thread nD τ) ↦[arg3.view.set]{fullShare} X3) ∗ (arg10.view.loc (c : Thread nD τ) ↦[arg10.view.set]{fullShare} X10) ∗ (arg12.view.loc (c : Thread nD τ) ↦[arg12.view.set]{fullShare} X12) ∗ ⌜QuadsUpTo (arg3.view.read (Elt Ideal) X3) (arg10.view.read (Elt Ideal) X10) (arg12.view.read (Elt Ideal) X12) (256 * k0_t8) 1 144 256 fits_144_256 k acc⌝)
  step k acc := by
    unfold k0_t10_body
    iintro ⟨H3, H10, H12, %hq⟩
    replace hq := QuadsUpTo.quads hq
    sl_exec (disch := first | exact Mxu.pushOk_of_none _ _ _ _ (hq.quiet.reg _ _) | (mxu_pushok_peel; exact Mxu.pushOk_of_none _ _ _ _ (hq.quiet.reg _ _)))
    sl_step
    isplitl [H3]; · iexact H3
    isplitl [H10]; · iexact H10
    isplitl [H12]; · iexact H12
    ipureintro
    sl_unfold_run_names
    refine Quads.step hq ?_ ?_ ?_ ?_ ?_ ?_ ?_ ?_
    · exact lhs_apply' (fun i p j => (ld3 (arg10.view.read (Elt Ideal) X10) _ _ _ (ix3 i p j)).trans ((at3_off (off79_eq k 0)).trans (by simp)))
    · exact rhs_apply (fun i j => (ld2 (arg3.view.read (Elt Ideal) X3) _ _ _ (ix2 i j)).trans ((at2_off (off76_eq k0_t8 k 0 0)).trans (by simp [Nat.mul_add, Nat.add_assoc])))
        (fun i n => (ld12 arg12 X12 1 _ _ _ _ _ _ _ i 1 n).trans ((at5_off (off77_eq k 0 0)).trans (by simp)))
        (fun i n => (ld12 arg12 X12 1 _ _ _ _ _ _ _ i 1 n).trans ((at5_off (off78_eq k 0 0)).trans (by simp)))
        (fun i j => (ld2 (arg3.view.read (Elt Ideal) X3) _ _ _ (ix2 i j)).trans ((at2_off (off76_eq k0_t8 k 0 1)).trans (by simp [Nat.mul_add, Nat.add_assoc])))
        (fun i n => (ld12 arg12 X12 1 _ _ _ _ _ _ _ i 1 n).trans ((at5_off (off77_eq k 0 1)).trans (by simp)))
        (fun i n => (ld12 arg12 X12 1 _ _ _ _ _ _ _ i 1 n).trans ((at5_off (off78_eq k 0 1)).trans (by simp)))
    · exact lhs_apply' (fun i p j => (ld3 (arg10.view.read (Elt Ideal) X10) _ _ _ (ix3 i p j)).trans ((at3_off (off79_eq k 1)).trans (by simp)))
    · exact rhs_apply (fun i j => (ld2 (arg3.view.read (Elt Ideal) X3) _ _ _ (ix2 i j)).trans ((at2_off (off76_eq k0_t8 k 1 0)).trans (by simp [Nat.mul_add, Nat.add_assoc])))
        (fun i n => (ld12 arg12 X12 1 _ _ _ _ _ _ _ i 1 n).trans ((at5_off (off77_eq k 1 0)).trans (by simp)))
        (fun i n => (ld12 arg12 X12 1 _ _ _ _ _ _ _ i 1 n).trans ((at5_off (off78_eq k 1 0)).trans (by simp)))
        (fun i j => (ld2 (arg3.view.read (Elt Ideal) X3) _ _ _ (ix2 i j)).trans ((at2_off (off76_eq k0_t8 k 1 1)).trans (by simp [Nat.mul_add, Nat.add_assoc])))
        (fun i n => (ld12 arg12 X12 1 _ _ _ _ _ _ _ i 1 n).trans ((at5_off (off77_eq k 1 1)).trans (by simp)))
        (fun i n => (ld12 arg12 X12 1 _ _ _ _ _ _ _ i 1 n).trans ((at5_off (off78_eq k 1 1)).trans (by simp)))
    · exact lhs_apply' (fun i p j => (ld3 (arg10.view.read (Elt Ideal) X10) _ _ _ (ix3 i p j)).trans ((at3_off (off79_eq k 2)).trans (by simp)))
    · exact rhs_apply (fun i j => (ld2 (arg3.view.read (Elt Ideal) X3) _ _ _ (ix2 i j)).trans ((at2_off (off76_eq k0_t8 k 2 0)).trans (by simp [Nat.mul_add, Nat.add_assoc])))
        (fun i n => (ld12 arg12 X12 1 _ _ _ _ _ _ _ i 1 n).trans ((at5_off (off77_eq k 2 0)).trans (by simp)))
        (fun i n => (ld12 arg12 X12 1 _ _ _ _ _ _ _ i 1 n).trans ((at5_off (off78_eq k 2 0)).trans (by simp)))
        (fun i j => (ld2 (arg3.view.read (Elt Ideal) X3) _ _ _ (ix2 i j)).trans ((at2_off (off76_eq k0_t8 k 2 1)).trans (by simp [Nat.mul_add, Nat.add_assoc])))
        (fun i n => (ld12 arg12 X12 1 _ _ _ _ _ _ _ i 1 n).trans ((at5_off (off77_eq k 2 1)).trans (by simp)))
        (fun i n => (ld12 arg12 X12 1 _ _ _ _ _ _ _ i 1 n).trans ((at5_off (off78_eq k 2 1)).trans (by simp)))
    · exact lhs_apply' (fun i p j => (ld3 (arg10.view.read (Elt Ideal) X10) _ _ _ (ix3 i p j)).trans ((at3_off (off79_eq k 3)).trans (by simp)))
    · exact rhs_apply (fun i j => (ld2 (arg3.view.read (Elt Ideal) X3) _ _ _ (ix2 i j)).trans ((at2_off (off76_eq k0_t8 k 3 0)).trans (by simp [Nat.mul_add, Nat.add_assoc])))
        (fun i n => (ld12 arg12 X12 1 _ _ _ _ _ _ _ i 1 n).trans ((at5_off (off77_eq k 3 0)).trans (by simp)))
        (fun i n => (ld12 arg12 X12 1 _ _ _ _ _ _ _ i 1 n).trans ((at5_off (off78_eq k 3 0)).trans (by simp)))
        (fun i j => (ld2 (arg3.view.read (Elt Ideal) X3) _ _ _ (ix2 i j)).trans ((at2_off (off76_eq k0_t8 k 3 1)).trans (by simp [Nat.mul_add, Nat.add_assoc])))
        (fun i n => (ld12 arg12 X12 1 _ _ _ _ _ _ _ i 1 n).trans ((at5_off (off77_eq k 3 1)).trans (by simp)))
        (fun i n => (ld12 arg12 X12 1 _ _ _ _ _ _ _ i 1 n).trans ((at5_off (off78_eq k 3 1)).trans (by simp)))

end Cert.Proof.PV
-- ==== Proof.PVTile.lean ====
module

public import proofs.«01_k».proof.Proof.Gen.KernelIdeal.Skeleton
public import proofs.«01_k».proof.Proof.Gen.KernelIdeal.Loops
public import proofs.«01_k».proof.Proof.PVQuads
public import Idealize.ShloMosaic.Lib.Mxu.Walk
public import Idealize.ShloMosaic.Lib.WritesUnit
public import Idealize.ShloMosaic.Lib.Tactic

@[expose] public section

set_option maxRecDepth 8192
set_option maxHeartbeats 4000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

/-- The lane numbers of eight rows of 128 lanes. -/
abbrev lanes : IVec S8x128 32 := iota .tc S8x128 32 [1] iota_S8x128_d1_w32

theorem tr_apply (w : Vec Ideal S256x160 .f32) (i : Fin 160) (p : Fin 2) (n : Fin 128) : k0_pay272 w (ix4 0 i p n) = w (ix2 ⟨2 * n, by omega⟩ i) := by
  pointwise [k0_pay272, k0_pay271]
  rw [ite_self]
  congr 3
  omega

theorem tr_apply' (w : Vec Ideal S256x160 .f32) (i : Fin 160) (p : Fin 2) (n : Fin 128) : k0_pay273 w (ix4 0 i p n) = w (ix2 ⟨2 * n + 1, by omega⟩ i) := by
  pointwise [k0_pay273, k0_pay271]
  rw [ite_self]
  congr 3
  omega

theorem e279 (r : Fin 8) (n : Fin 128) : k0_pay279 lanes (ix2 r n) = BitVec.ofNat 32 ((2 * n) % 128) := by
  pointwise [k0_pay279]
  clear r; revert n; decide +kernel

theorem e280 (r : Fin 8) (n : Fin 128) : k0_pay280 lanes (ix2 r n) = if (n : ℕ) < 64 then 1 else 0 := by
  pointwise [k0_pay280]
  clear r; revert n; decide +kernel

theorem e281 (r : Fin 8) (n : Fin 128) : k0_pay281 lanes (ix2 r n) = 0 := by
  pointwise [k0_pay281]
  simp only [e279]
  clear r; revert n; decide +kernel

theorem e286 (r : Fin 8) (n : Fin 128) : k0_pay286 lanes (ix2 r n) = BitVec.ofNat 32 (2 * n + 1) := by
  pointwise [k0_pay286]
  clear r; revert n; decide +kernel

theorem e292 (r : Fin 8) (n : Fin 128) : k0_pay292 lanes (ix2 r n) = BitVec.ofNat 32 (n / 2) := by
  pointwise [k0_pay292]
  clear r; revert n; decide +kernel

theorem e293 (r : Fin 8) (n : Fin 128) : k0_pay293 lanes (ix2 r n) = 0 := by
  pointwise [k0_pay293]
  clear r; revert n; decide +kernel

theorem e295 (r : Fin 8) (n : Fin 128) : k0_pay295 lanes (ix2 r n) = BitVec.ofNat 32 (64 + n / 2) := by
  pointwise [k0_pay295]
  clear r; revert n; decide +kernel

theorem e296 (r : Fin 8) (n : Fin 128) : k0_pay296 lanes (ix2 r n) = BitVec.ofNat 32 (n % 2) := by
  pointwise [k0_pay296]
  clear r; revert n; decide +kernel

/-- A choice by a bit between two gathered entries of the first row, at known lanes. -/
theorem sel_gather {α : Type} {u w : S8x128.Idx → α} {r : Fin 8} {p : BitVec 1} {a b : ℕ} {ha : a < 128} {hb : b < 128} (q : Prop) [Decidable q] (k : ℕ) (hk : k < 128)
    (hp : p = if q then 1 else 0) (h1 : a = k) (h2 : b = k) :
    Scalar.select p (u (ix2 r ⟨a, ha⟩)) (w (ix2 r ⟨b, hb⟩)) = if q then u (ix2 r ⟨k, hk⟩) else w (ix2 r ⟨k, hk⟩) := by
  subst h1 h2 hp
  by_cases q <;> simp [Scalar.select, *]

/-- The greatest capped logit of a vocabulary column of a tile: `l` its matrix product by lane-split column, `u` its bias, `t` the caps. -/
def best (M : ℕ) (l : ℕ → ℕ → EReal) (u : ℕ → ℕ → EReal) (t : ℕ → ℕ → EReal) (cc : ℕ) : EReal :=
  Finset.univ.fold max ⊥ fun m : Fin M => min (max (l m (cc % 2 * 128 + cc / 2) + u (cc / 128) (cc % 128)) 0) (t m (cc / 2))

section
variable {l u : ℕ → ℕ → EReal} {t : ℕ → ℕ → ℕ → EReal}

/-- The bits of the least f32. -/
theorem neg_inf_bits : (Ideal.ofBits .f32 4286578688#32 : EReal) = ⊥ := by
  simp [Ideal.ofBits, Ideal.ieee]

theorem t290 {v w : FVec Ideal S1x128 .f32} {f : ℕ → ℕ → EReal} (hv : ∀ z (n : Fin 128), v (ix2 z n) = f 0 n) (hw : ∀ z (n : Fin 128), w (ix2 z n) = f 1 n) (b : Fin 8) (n : Fin 128) :
    k0_pay290 v w (ix2 b n) = Ideal.log1p (f (b % 2) n) := by
  pointwise [k0_pay290]
  simp only [hv, hw]
  fin_cases b <;> simp

theorem y282 {L : FVec Ideal S160x256 .f32} {b0 b1 : FVec Ideal S8x128 .f32} (hL : ∀ (m : Fin 160) (n : Fin 256), L (ix2 m n) = l m n)
    (h0 : ∀ r (n : Fin 128), b0 (ix2 r n) = u 0 n) (h1 : ∀ r (n : Fin 128), b1 (ix2 r n) = u 1 n) (m : Fin 160) (n : Fin 128) :
    k0_pay282 L b0 b1 (k0_pay279 lanes) (k0_pay280 lanes) (k0_pay281 lanes) (ix2 m n) = max (l m n + u (2 * n / 128) (2 * n % 128)) 0 := by
  pointwise [k0_pay282]
  simp only [e279, e280, e281]
  rw [sel_gather ((n : ℕ) < 64) (2 * n % 128) (by omega) rfl (by clear hL m; revert n; decide +kernel) (by clear hL m; revert n; decide +kernel)]
  simp only [hL, h0, h1]
  split_ifs with h
  · rw [show 2 * (n : ℕ) / 128 = 0 by omega]
  · rw [show 2 * (n : ℕ) / 128 = 1 by omega]

theorem y287 {L : FVec Ideal S160x256 .f32} {b0 b1 : FVec Ideal S8x128 .f32} (hL : ∀ (m : Fin 160) (n : Fin 256), L (ix2 m n) = l m n)
    (h0 : ∀ r (n : Fin 128), b0 (ix2 r n) = u 0 n) (h1 : ∀ r (n : Fin 128), b1 (ix2 r n) = u 1 n) (m : Fin 160) (n : Fin 128) :
    k0_pay287 lanes L b0 b1 (k0_pay286 lanes) 128#32 0#32 (ix2 m n) = max (l m (128 + n) + u ((2 * n + 1) / 128) ((2 * n + 1) % 128)) 0 := by
  pointwise [k0_pay287]
  simp only [e286]
  rw [sel_gather ((n : ℕ) < 64) ((2 * n + 1) % 128) (by omega) (by clear hL m; revert n; decide +kernel) (by clear hL m; revert n; decide +kernel) (by clear hL m; revert n; decide +kernel)]
  simp only [hL, h0, h1]
  split_ifs with h
  · rw [show (2 * (n : ℕ) + 1) / 128 = 0 by omega, Nat.add_comm 128]
  · rw [show (2 * (n : ℕ) + 1) / 128 = 1 by omega, Nat.add_comm 128]

theorem t284 {L : FVec Ideal S160x256 .f32} {b0 b1 : FVec Ideal S8x128 .f32} {c0 : Vec Ideal S1x160x128 .f32} (hL : ∀ (m : Fin 160) (n : Fin 256), L (ix2 m n) = l m n)
    (h0 : ∀ r (n : Fin 128), b0 (ix2 r n) = u 0 n) (h1 : ∀ r (n : Fin 128), b1 (ix2 r n) = u 1 n) {b : ℕ} (hc : ∀ (m : Fin 160) (n : Fin 128), c0 (ix3 0 m n) = t b m n)
    (z) (n : Fin 128) :
   k0_pay284 L b0 b1 (k0_pay279 lanes) (k0_pay280 lanes) (k0_pay281 lanes) c0 (ix2 z n) = best 160 l u (t b) (2 * n) := by
  pointwise [k0_pay284]
  simp only [y282 hL h0 h1, hc, best, neg_inf_bits, Nat.mul_mod_right, Nat.zero_mul, Nat.zero_add, Nat.mul_div_cancel_left _ (show 0 < 2 by decide)]

theorem t291 {y : FVec Ideal S160x128 .f32} {c0 c1 : Vec Ideal S1x160x128 .f32} {f : ℕ → ℕ → EReal} (hy : ∀ (m : Fin 160) (n : Fin 128), y (ix2 m n) = f m n)
    (hc : ∀ (m : Fin 160) (n : Fin 128), c0 (ix3 0 m n) = t 0 m n) (hc' : ∀ (m : Fin 160) (n : Fin 128), c1 (ix3 0 m n) = t 1 m n) (b : Fin 8) (n : Fin 128) :
   k0_pay291 y c0 c1 (ix2 b n) = Ideal.log1p (Finset.univ.fold max ⊥ fun m : Fin 160 => min (f m n) (t (b % 2) m n)) := by
  pointwise [k0_pay291]
  simp only [hy, hc, hc', neg_inf_bits]
  fin_cases b <;> simp

theorem even160 {L : FVec Ideal S160x256 .f32} {b0 b1 : FVec Ideal S8x128 .f32} {c0 c1 : Vec Ideal S1x160x128 .f32} (hL : ∀ (m : Fin 160) (n : Fin 256), L (ix2 m n) = l m n)
    (h0 : ∀ r (n : Fin 128), b0 (ix2 r n) = u 0 n) (h1 : ∀ r (n : Fin 128), b1 (ix2 r n) = u 1 n)
    (hc0 : ∀ (m : Fin 160) (n : Fin 128), c0 (ix3 0 m n) = t 0 m n) (hc1 : ∀ (m : Fin 160) (n : Fin 128), c1 (ix3 0 m n) = t 1 m n) (b : Fin 8) (n : Fin 128) :
    k0_pay290 (k0_pay284 L b0 b1 (k0_pay279 lanes) (k0_pay280 lanes) (k0_pay281 lanes) c0) (k0_pay285 L b0 b1 (k0_pay279 lanes) (k0_pay280 lanes) (k0_pay281 lanes) c1)
      (ix2 b n) = Ideal.log1p (best 160 l u (t (b % 2)) (2 * n)) :=
  t290 (f := fun b n => best 160 l u (t b) (2 * n)) (t284 hL h0 h1 hc0) (t284 hL h0 h1 hc1) b n

theorem odd160 {L : FVec Ideal S160x256 .f32} {b0 b1 : FVec Ideal S8x128 .f32} {c0 c1 : Vec Ideal S1x160x128 .f32} (hL : ∀ (m : Fin 160) (n : Fin 256), L (ix2 m n) = l m n)
    (h0 : ∀ r (n : Fin 128), b0 (ix2 r n) = u 0 n) (h1 : ∀ r (n : Fin 128), b1 (ix2 r n) = u 1 n)
    (hc0 : ∀ (m : Fin 160) (n : Fin 128), c0 (ix3 0 m n) = t 0 m n) (hc1 : ∀ (m : Fin 160) (n : Fin 128), c1 (ix3 0 m n) = t 1 m n) (b : Fin 8) (n : Fin 128) :
    k0_pay291 (k0_pay287 lanes L b0 b1 (k0_pay286 lanes) 128#32 0#32) c0 c1 (ix2 b n) = Ideal.log1p (best 160 l u (t (b % 2)) (2 * n + 1)) := by
  refine (t291 (f := fun m n => max (l m (128 + n) + u ((2 * n + 1) / 128) ((2 * n + 1) % 128)) 0) (y287 hL h0 h1) hc0 hc1 b n).trans ?_
  simp only [best, show (2 * (n : ℕ) + 1) % 2 = 1 by omega, show (2 * (n : ℕ) + 1) / 2 = n by omega, Nat.one_mul]

theorem y398 {L : FVec Ideal S256x256 .f32} {b0 b1 : FVec Ideal S8x128 .f32} (hL : ∀ (m : Fin 256) (n : Fin 256), L (ix2 m n) = l m n)
    (h0 : ∀ r (n : Fin 128), b0 (ix2 r n) = u 0 n) (h1 : ∀ r (n : Fin 128), b1 (ix2 r n) = u 1 n) (m : Fin 256) (n : Fin 128) :
    k0_pay398 L b0 b1 (k0_pay279 lanes) (k0_pay280 lanes) (k0_pay281 lanes) (ix2 m n) = max (l m n + u (2 * n / 128) (2 * n % 128)) 0 := by
  pointwise [k0_pay398]
  simp only [e279, e280, e281]
  rw [sel_gather ((n : ℕ) < 64) (2 * n % 128) (by omega) rfl (by clear hL m; revert n; decide +kernel) (by clear hL m; revert n; decide +kernel)]
  simp only [hL, h0, h1]
  split_ifs with h
  · rw [show 2 * (n : ℕ) / 128 = 0 by omega]
  · rw [show 2 * (n : ℕ) / 128 = 1 by omega]

theorem y403 {L : FVec Ideal S256x256 .f32} {b0 b1 : FVec Ideal S8x128 .f32} (hL : ∀ (m : Fin 256) (n : Fin 256), L (ix2 m n) = l m n)
    (h0 : ∀ r (n : Fin 128), b0 (ix2 r n) = u 0 n) (h1 : ∀ r (n : Fin 128), b1 (ix2 r n) = u 1 n) (m : Fin 256) (n : Fin 128) :
    k0_pay403 lanes L b0 b1 (k0_pay286 lanes) 128#32 0#32 (ix2 m n) = max (l m (128 + n) + u ((2 * n + 1) / 128) ((2 * n + 1) % 128)) 0 := by
  pointwise [k0_pay403]
  simp only [e286]
  rw [sel_gather ((n : ℕ) < 64) ((2 * n + 1) % 128) (by omega) (by clear hL m; revert n; decide +kernel) (by clear hL m; revert n; decide +kernel) (by clear hL m; revert n; decide +kernel)]
  simp only [hL, h0, h1]
  split_ifs with h
  · rw [show (2 * (n : ℕ) + 1) / 128 = 0 by omega, Nat.add_comm 128]
  · rw [show (2 * (n : ℕ) + 1) / 128 = 1 by omega, Nat.add_comm 128]

theorem t400 {L : FVec Ideal S256x256 .f32} {b0 b1 : FVec Ideal S8x128 .f32} {c0 : Vec Ideal S1x256x128 .f32} (hL : ∀ (m : Fin 256) (n : Fin 256), L (ix2 m n) = l m n)
    (h0 : ∀ r (n : Fin 128), b0 (ix2 r n) = u 0 n) (h1 : ∀ r (n : Fin 128), b1 (ix2 r n) = u 1 n) {b : ℕ} (hc : ∀ (m : Fin 256) (n : Fin 128), c0 (ix3 0 m n) = t b m n)
    (z) (n : Fin 128) :
   k0_pay400 L b0 b1 (k0_pay279 lanes) (k0_pay280 lanes) (k0_pay281 lanes) c0 (ix2 z n) = best 256 l u (t b) (2 * n) := by
  pointwise [k0_pay400]
  simp only [y398 hL h0 h1, hc, best, neg_inf_bits, Nat.mul_mod_right, Nat.zero_mul, Nat.zero_add, Nat.mul_div_cancel_left _ (show 0 < 2 by decide)]

theorem t407 {y : FVec Ideal S256x128 .f32} {c0 c1 : Vec Ideal S1x256x128 .f32} {f : ℕ → ℕ → EReal} (hy : ∀ (m : Fin 256) (n : Fin 128), y (ix2 m n) = f m n)
    (hc : ∀ (m : Fin 256) (n : Fin 128), c0 (ix3 0 m n) = t 0 m n) (hc' : ∀ (m : Fin 256) (n : Fin 128), c1 (ix3 0 m n) = t 1 m n) (b : Fin 8) (n : Fin 128) :
   k0_pay407 y c0 c1 (ix2 b n) = Ideal.log1p (Finset.univ.fold max ⊥ fun m : Fin 256 => min (f m n) (t (b % 2) m n)) := by
  pointwise [k0_pay407]
  simp only [hy, hc, hc', neg_inf_bits]
  fin_cases b <;> simp

theorem even256 {L : FVec Ideal S256x256 .f32} {b0 b1 : FVec Ideal S8x128 .f32} {c0 c1 : Vec Ideal S1x256x128 .f32} (hL : ∀ (m : Fin 256) (n : Fin 256), L (ix2 m n) = l m n)
    (h0 : ∀ r (n : Fin 128), b0 (ix2 r n) = u 0 n) (h1 : ∀ r (n : Fin 128), b1 (ix2 r n) = u 1 n)
    (hc0 : ∀ (m : Fin 256) (n : Fin 128), c0 (ix3 0 m n) = t 0 m n) (hc1 : ∀ (m : Fin 256) (n : Fin 128), c1 (ix3 0 m n) = t 1 m n) (b : Fin 8) (n : Fin 128) :
    k0_pay290 (k0_pay400 L b0 b1 (k0_pay279 lanes) (k0_pay280 lanes) (k0_pay281 lanes) c0) (k0_pay401 L b0 b1 (k0_pay279 lanes) (k0_pay280 lanes) (k0_pay281 lanes) c1)
      (ix2 b n) = Ideal.log1p (best 256 l u (t (b % 2)) (2 * n)) :=
  t290 (f := fun b n => best 256 l u (t b) (2 * n)) (t400 hL h0 h1 hc0) (t400 hL h0 h1 hc1) b n

theorem odd256 {L : FVec Ideal S256x256 .f32} {b0 b1 : FVec Ideal S8x128 .f32} {c0 c1 : Vec Ideal S1x256x128 .f32} (hL : ∀ (m : Fin 256) (n : Fin 256), L (ix2 m n) = l m n)
    (h0 : ∀ r (n : Fin 128), b0 (ix2 r n) = u 0 n) (h1 : ∀ r (n : Fin 128), b1 (ix2 r n) = u 1 n)
    (hc0 : ∀ (m : Fin 256) (n : Fin 128), c0 (ix3 0 m n) = t 0 m n) (hc1 : ∀ (m : Fin 256) (n : Fin 128), c1 (ix3 0 m n) = t 1 m n) (b : Fin 8) (n : Fin 128) :
    k0_pay407 (k0_pay403 lanes L b0 b1 (k0_pay286 lanes) 128#32 0#32) c0 c1 (ix2 b n) = Ideal.log1p (best 256 l u (t (b % 2)) (2 * n + 1)) := by
  refine (t407 (f := fun m n => max (l m (128 + n) + u ((2 * n + 1) / 128) ((2 * n + 1) % 128)) 0) (y403 hL h0 h1) hc0 hc1 b n).trans ?_
  simp only [best, show (2 * (n : ℕ) + 1) % 2 = 1 by omega, show (2 * (n : ℕ) + 1) / 2 = n by omega, Nat.one_mul]

theorem o294 {e o : FVec Ideal S8x128 .f32} (b : Fin 2) (n : Fin 128) :
   k0_pay294 lanes e o (k0_pay292 lanes) (k0_pay293 lanes) (ix2 b n) = if (n : ℕ) % 2 = 0 then e (ix2 ⟨b, by omega⟩ ⟨n / 2, by omega⟩) else o (ix2 ⟨b, by omega⟩ ⟨n / 2, by omega⟩):= by
  pointwise [k0_pay294]
  simp only [e292, e293]
  exact sel_gather ((n : ℕ) % 2 = 0) (n / 2) (by omega) (by revert n; decide +kernel) (by revert n; decide +kernel) (by revert n; decide +kernel)

theorem o474 {e o : FVec Ideal S8x128 .f32} (b : Fin 2) (n : Fin 128) :
   k0_pay474 e o (k0_pay295 lanes) (k0_pay296 lanes) (ix2 b n) = if (n : ℕ) % 2 = 0 then e (ix2 ⟨b, by omega⟩ ⟨64 + n / 2, by omega⟩) else o (ix2 ⟨b, by omega⟩ ⟨64 + n / 2, by omega⟩):= by
  pointwise [k0_pay474]
  simp only [e295, e296]
  exact sel_gather ((n : ℕ) % 2 = 0) (64 + n / 2) (by omega) (by revert n; decide +kernel) (by revert n; decide +kernel) (by revert n; decide +kernel)

/-- The two halves of a tile's pooled columns, from their even and odd columns. -/
theorem halves {e o : FVec Ideal S8x128 .f32} {g : ℕ → ℕ → EReal} (he : ∀ (b : Fin 8) (n : Fin 128), e (ix2 b n) = Ideal.log1p (g (b % 2) (2 * n)))
    (ho : ∀ (b : Fin 8) (n : Fin 128), o (ix2 b n) = Ideal.log1p (g (b % 2) (2 * n + 1))) (b : Fin 2) (n : Fin 128) :
    k0_pay294 lanes e o (k0_pay292 lanes) (k0_pay293 lanes) (ix2 b n) = Ideal.log1p (g b n)
      ∧ k0_pay474 e o (k0_pay295 lanes) (k0_pay296 lanes) (ix2 b n) = Ideal.log1p (g b (128 + n)) := by
  have hb : (b : ℕ) % 2 = b := Nat.mod_eq_of_lt b.isLt
  rw [o294, o474]
  simp only [he, ho, hb]
  split_ifs with h
  · exact ⟨by congr 2; omega, by congr 2; omega⟩
  · exact ⟨by congr 2; omega, by congr 2; omega⟩

theorem e277 (w : Vec Ideal S1x1x128 .f32) (r : Fin 8) (n : Fin 128) : k0_pay277 w (ix2 r n) = w (ix3 0 0 n) := by
  pointwise [k0_pay277]

end

/-! ## A tile's logits -/

section
variable {f : ℕ → EReal}

theorem sum_pairs (n : ℕ) : ∑ i ∈ Finset.range n, f (2 * i) + ∑ i ∈ Finset.range n, f (2 * i + 1) = ∑ i ∈ Finset.range (2 * n), f i := by
  induction n with
  | zero => simp
  | succ n ih =>
    rw [Finset.sum_range_succ, Finset.sum_range_succ, show 2 * (n + 1) = 2 * n + 1 + 1 by ring, Finset.sum_range_succ, Finset.sum_range_succ, ← ih]
    abel

theorem sum_blocks (b n : ℕ) : ∑ t ∈ Finset.range n, ∑ k ∈ Finset.range b, f (b * t + k) = ∑ d ∈ Finset.range (b * n), f d := by
  induction n with
  | zero => simp
  | succ n ih => rw [Finset.sum_range_succ, ih, Nat.mul_succ, Finset.sum_range_add]
end

/-- The logit of row `m` at the step's vocabulary row `v`. -/
def rowV (x3 : S1280x5120.Idx → EReal) (x4 : S1280x160.Idx → EReal) (x10 : S128x2x5120.Idx → EReal) (v m : ℕ) : EReal :=
  ∑ d ∈ Finset.range 5120, xvA x10 m d * (at2 x3 v d * at2 x4 v (d / 32))

theorem logits_eq {x3 : S1280x5120.Idx → EReal} {x4 : S1280x160.Idx → EReal} {x10 : S128x2x5120.Idx → EReal} {x12 : S2x2x160x2x128.Idx → EReal} {v buf : ℕ}
    (h : ∀ p < 2, ∀ k < 160, ∀ n < 128, at5 x12 buf p k 1 n = at2 x4 (v + (2 * n + p)) k) (m : ℕ) {n : ℕ} (hn : n < 256) :
    partV x3 x10 x12 v buf 0 5 m n + partV x3 x10 x12 v buf 1 5 m n = rowV x3 x4 x10 (v + (n % 128 * 2 + n / 128)) m := by
  unfold partV
  refine (sum_pairs (f := fun t => passV x3 x10 x12 v buf t m n) 10).trans ?_
  unfold passV rowV
  rw [← sum_blocks 256 20]
  refine Finset.sum_congr rfl fun t ht => ?_
  rw [Finset.sum_range fun k => xvA x10 m (256 * t + k) * (at2 x3 (v + (n % 128 * 2 + n / 128)) (256 * t + k) * at2 x4 (v + (n % 128 * 2 + n / 128)) ((256 * t + k) / 32))]
  refine Finset.sum_congr rfl fun k _ => ?_
  have := Finset.mem_range.mp ht
  have := k.isLt
  unfold rvA
  rw [h _ (by omega) _ (by omega) _ (by omega), show 2 * (n % 128) = n % 128 * 2 by omega]

/-- The pooled value of batch `b` at the step's vocabulary row `v`. -/
def poolV (M : ℕ) (x3 : S1280x5120.Idx → EReal) (x4 : S1280x160.Idx → EReal) (x5 : S1x10x128.Idx → EReal) (x10 : S128x2x5120.Idx → EReal) (x14 : S2x256x128.Idx → EReal)
    (b v : ℕ) : EReal :=
  Ideal.log1p (Finset.univ.fold max ⊥ fun m : Fin M => min (max (rowV x3 x4 x10 v m + at3 x5 0 (v / 128) (v % 128)) 0) (at3 x14 b m (v % 256 / 2)))

theorem best_eq {M : ℕ} {x3 : S1280x5120.Idx → EReal} {x4 : S1280x160.Idx → EReal} {x5 : S1x10x128.Idx → EReal} {x10 : S128x2x5120.Idx → EReal} {x14 : S2x256x128.Idx → EReal}
    {j b cc : ℕ} (h : cc < 256) :
    Ideal.log1p (best M (fun m n => rowV x3 x4 x10 (256 * j + (n % 128 * 2 + n / 128)) m) (fun r n => at3 x5 0 (2 * j + r) n) (fun m n => at3 x14 b m n) cc)
      = poolV M x3 x4 x5 x10 x14 b (256 * j + cc) := by
  unfold best poolV
  simp only [show (cc % 2 * 128 + cc / 2) % 128 * 2 + (cc % 2 * 128 + cc / 2) / 128 = cc by omega, show 2 * j + cc / 128 = (256 * j + cc) / 128 by omega,
    show (256 * j + cc) % 128 = cc % 128 by omega, show (256 * j + cc) % 256 = cc by omega]

theorem logits160 {x3 : S1280x5120.Idx → EReal} {x4 : S1280x160.Idx → EReal} {x10 : S128x2x5120.Idx → EReal} {x12 : S2x2x160x2x128.Idx → EReal} {v buf A : ℕ} {h : Mxu.Fits A 160}
    {s : Mxu Ideal} (hs : QuadsUpTo x3 x10 x12 v buf A 160 h 5 s) (h12 : ∀ p < 2, ∀ k < 160, ∀ n < 128, at5 x12 buf p k 1 n = at2 x4 (v + (2 * n + p)) k) (m : Fin 160) (n : Fin 256) :
    k0_pay276 (s.read 0 A h) ((s.pop 0 A 160 h).read 1 A h) (ix2 m n) = rowV x3 x4 x10 (v + (n % 128 * 2 + n / 128)) m := by
  rw [Mxu.read_pop_ne _ _ _ _ _ _ _ (Or.inl (by decide)), ← logits_eq h12 m n.isLt]
  exact congrArg₂ (· + ·) ((hs.quads.acc 0).read rfl m n) ((hs.quads.acc 1).read rfl m n)

theorem logits256 {x3 : S1280x5120.Idx → EReal} {x4 : S1280x160.Idx → EReal} {x10 : S128x2x5120.Idx → EReal} {x12 : S2x2x160x2x128.Idx → EReal} {v buf A : ℕ} {h : Mxu.Fits A 256}
    {s : Mxu Ideal} (hs : QuadsUpTo x3 x10 x12 v buf A 256 h 5 s) (h12 : ∀ p < 2, ∀ k < 160, ∀ n < 128, at5 x12 buf p k 1 n = at2 x4 (v + (2 * n + p)) k) (m : Fin 256) (n : Fin 256) :
    k0_pay392 (s.read 0 A h) ((s.pop 0 A 256 h).read 1 A h) (ix2 m n) = rowV x3 x4 x10 (v + (n % 128 * 2 + n / 128)) m := by
  rw [Mxu.read_pop_ne _ _ _ _ _ _ _ (Or.inl (by decide)), ← logits_eq h12 m n.isLt]
  exact congrArg₂ (· + ·) ((hs.quads.acc 0).read rfl m n) ((hs.quads.acc 1).read rfl m n)

/-! ## The transposed scales and the pooled columns, after their stores -/

/-- The odd rows of both planes of the scales, after the two planes were stored. -/
theorem sc_read {arg12 : Memref sig .tc .vmem S2x2x160x2x128 .bf16} {f12 : BufTy.Contents (Elt Ideal) arg12.view.ty} {b : ℕ} (hb : b < 2)
    {inb0 inb0' : ∀ a, ![b, 0, 0, 0, 0] a + S1x2x160x2x128.size a ≤ S2x2x160x2x128.size a}
    {inb : ∀ a, ![0, 0, 0, 0] a + S1x160x2x128.size a ≤ S2x160x2x128.size a} {inb' : ∀ a, ![1, 0, 0, 0] a + S1x160x2x128.size a ≤ S2x160x2x128.size a}
    {h0 h0' : ![1, 2, 160, 2, 128] 0 = 1} {hs hs' : ∀ i : Fin 4, ![1, 2, 160, 2, 128] i.succ = ![2, 160, 2, 128] i}
    {h1 : ∀ a, (Rect.unit (s := S2x2x160x2x128) ![b, 0, 0, 0, 0] S1x2x160x2x128.size inb0).stride a = 1}
    {h1' : ∀ a, (Rect.unit (s := S2x2x160x2x128) ![b, 0, 0, 0, 0] S1x2x160x2x128.size inb0').stride a = 1}
    {hR : ((Rect.unit (s := S2x2x160x2x128) ![b, 0, 0, 0, 0] S1x2x160x2x128.size inb0).within
      ((Rect.unit (s := S2x160x2x128) ![0, 0, 0, 0] S1x160x2x128.size inb).consLift ![1, 2, 160, 2, 128] h0 hs) h1).shape.numel = S1x160x2x128.numel}
    {hR' : ((Rect.unit (s := S2x2x160x2x128) ![b, 0, 0, 0, 0] S1x2x160x2x128.size inb0').within
      ((Rect.unit (s := S2x160x2x128) ![1, 0, 0, 0] S1x160x2x128.size inb').consLift ![1, 2, 160, 2, 128] h0' hs') h1').shape.numel = S1x160x2x128.numel}
    {w w' : Vec Ideal S1x160x2x128 .bf16} (k : Fin 160) (n : Fin 128) :
    at5 (arg12.view.read (Elt Ideal) (arg12.view.writes (Elt Ideal) f12 [
      ⟨(Rect.unit (s := S2x2x160x2x128) ![b, 0, 0, 0, 0] S1x2x160x2x128.size inb0').within
        ((Rect.unit (s := S2x160x2x128) ![1, 0, 0, 0] S1x160x2x128.size inb').consLift ![1, 2, 160, 2, 128] h0' hs') h1',
        Rect.payAlong (r := Rect.unit (s := S2x160x2x128) ![1, 0, 0, 0] S1x160x2x128.size inb') hR' w'⟩,
      ⟨(Rect.unit (s := S2x2x160x2x128) ![b, 0, 0, 0, 0] S1x2x160x2x128.size inb0).within
        ((Rect.unit (s := S2x160x2x128) ![0, 0, 0, 0] S1x160x2x128.size inb).consLift ![1, 2, 160, 2, 128] h0 hs) h1,
        Rect.payAlong (r := Rect.unit (s := S2x160x2x128) ![0, 0, 0, 0] S1x160x2x128.size inb) hR w⟩])) b 0 k 1 n = w (ix4 0 k 1 n)
    ∧ at5 (arg12.view.read (Elt Ideal) (arg12.view.writes (Elt Ideal) f12 [
      ⟨(Rect.unit (s := S2x2x160x2x128) ![b, 0, 0, 0, 0] S1x2x160x2x128.size inb0').within
        ((Rect.unit (s := S2x160x2x128) ![1, 0, 0, 0] S1x160x2x128.size inb').consLift ![1, 2, 160, 2, 128] h0' hs') h1',
        Rect.payAlong (r := Rect.unit (s := S2x160x2x128) ![1, 0, 0, 0] S1x160x2x128.size inb') hR' w'⟩,
      ⟨(Rect.unit (s := S2x2x160x2x128) ![b, 0, 0, 0, 0] S1x2x160x2x128.size inb0).within
        ((Rect.unit (s := S2x160x2x128) ![0, 0, 0, 0] S1x160x2x128.size inb).consLift ![1, 2, 160, 2, 128] h0 hs) h1,
        Rect.payAlong (r := Rect.unit (s := S2x160x2x128) ![0, 0, 0, 0] S1x160x2x128.size inb) hR w⟩])) b 1 k 1 n = w' (ix4 0 k 1 n) := by
  have hb' : b % 2 = b := Nat.mod_eq_of_lt hb
  have hk : (k : ℕ) % 160 = k := Nat.mod_eq_of_lt k.isLt
  have hn : (n : ℕ) % 128 = n := Nat.mod_eq_of_lt n.isLt
  constructor
  · refine (View.read_writes_cons_miss_of_axis arg12.view f12 _ _ _ 1 1 1 rfl rfl rfl (Or.inl (by show 0 % 2 < 1; decide))).trans ?_
    refine (congrArg _ (Rect.emb_eq_of_coords _ (ix5 0 0 k 1 n : (⟨5, ![1, 1, 160, 2, 128]⟩ : Shape).Idx) _ ?_).symm).trans ((View.read_writes_cons_emb arg12.view f12 _ _ _ _).trans ?_)
    · intro a
      fin_cases a
      · show b % 2 = b + 0 + 1 * 0; omega
      · rfl
      · show (k : ℕ) % 160 = 0 + 0 + 1 * (k : ℕ); omega
      · rfl
      · show (n : ℕ) % 128 = 0 + 0 + 1 * (n : ℕ); omega
    · refine Rect.payAlong_consLift (Rect.unit (s := S2x160x2x128) ![0, 0, 0, 0] S1x160x2x128.size inb) ![1, 2, 160, 2, 128] h0 hs w _ _ (ix4 0 k 1 n) ?_
      intro a; fin_cases a <;> rfl
  · refine (congrArg _ (Rect.emb_eq_of_coords _ (ix5 0 0 k 1 n : (⟨5, ![1, 1, 160, 2, 128]⟩ : Shape).Idx) _ ?_).symm).trans ((View.read_writes_cons_emb arg12.view f12 _ _ _ _).trans ?_)
    · intro a
      fin_cases a
      · show b % 2 = b + 0 + 1 * 0; omega
      · rfl
      · show (k : ℕ) % 160 = 0 + 0 + 1 * (k : ℕ); omega
      · rfl
      · show (n : ℕ) % 128 = 0 + 0 + 1 * (n : ℕ); omega
    · refine Rect.payAlong_consLift (Rect.unit (s := S2x160x2x128) ![1, 0, 0, 0] S1x160x2x128.size inb') ![1, 2, 160, 2, 128] h0' hs' w' _ _ (ix4 0 k 1 n) ?_
      intro a; fin_cases a <;> rfl

theorem scales_of {arg4 : Memref sig .tc .vmem S1280x160 .f32} {X4 : BufTy.Contents (Elt Ideal) arg4.view.ty} {off : Fin 2 → ℕ} {j : ℕ} (ho : off = ![256 * j, 0])
    {hi : ∀ a, off a + S256x160.size a ≤ S1280x160.size a} {arg12 : Memref sig .tc .vmem S2x2x160x2x128 .bf16} {f12 : BufTy.Contents (Elt Ideal) arg12.view.ty} {b : ℕ} (hb : b < 2)
    {inb0 inb0' : ∀ a, ![b, 0, 0, 0, 0] a + S1x2x160x2x128.size a ≤ S2x2x160x2x128.size a}
    {inb : ∀ a, ![0, 0, 0, 0] a + S1x160x2x128.size a ≤ S2x160x2x128.size a} {inb' : ∀ a, ![1, 0, 0, 0] a + S1x160x2x128.size a ≤ S2x160x2x128.size a}
    {h0 h0' : ![1, 2, 160, 2, 128] 0 = 1} {hs hs' : ∀ i : Fin 4, ![1, 2, 160, 2, 128] i.succ = ![2, 160, 2, 128] i}
    {h1 : ∀ a, (Rect.unit (s := S2x2x160x2x128) ![b, 0, 0, 0, 0] S1x2x160x2x128.size inb0).stride a = 1}
    {h1' : ∀ a, (Rect.unit (s := S2x2x160x2x128) ![b, 0, 0, 0, 0] S1x2x160x2x128.size inb0').stride a = 1}
    {hR : ((Rect.unit (s := S2x2x160x2x128) ![b, 0, 0, 0, 0] S1x2x160x2x128.size inb0).within
      ((Rect.unit (s := S2x160x2x128) ![0, 0, 0, 0] S1x160x2x128.size inb).consLift ![1, 2, 160, 2, 128] h0 hs) h1).shape.numel = S1x160x2x128.numel}
    {hR' : ((Rect.unit (s := S2x2x160x2x128) ![b, 0, 0, 0, 0] S1x2x160x2x128.size inb0').within
      ((Rect.unit (s := S2x160x2x128) ![1, 0, 0, 0] S1x160x2x128.size inb').consLift ![1, 2, 160, 2, 128] h0' hs') h1').shape.numel = S1x160x2x128.numel}
    : ∀ p < 2, ∀ k < 160, ∀ n < 128, at5 (arg12.view.read (Elt Ideal) (arg12.view.writes (Elt Ideal) f12 [
      ⟨(Rect.unit (s := S2x2x160x2x128) ![b, 0, 0, 0, 0] S1x2x160x2x128.size inb0').within
        ((Rect.unit (s := S2x160x2x128) ![1, 0, 0, 0] S1x160x2x128.size inb').consLift ![1, 2, 160, 2, 128] h0' hs') h1',
        Rect.payAlong (r := Rect.unit (s := S2x160x2x128) ![1, 0, 0, 0] S1x160x2x128.size inb') hR' (k0_pay273 (View.readAt (Elt Ideal) arg4.view (Rect.unit (s := S1280x160) off S256x160.size hi).toLoadRect X4))⟩,
      ⟨(Rect.unit (s := S2x2x160x2x128) ![b, 0, 0, 0, 0] S1x2x160x2x128.size inb0).within
        ((Rect.unit (s := S2x160x2x128) ![0, 0, 0, 0] S1x160x2x128.size inb).consLift ![1, 2, 160, 2, 128] h0 hs) h1,
        Rect.payAlong (r := Rect.unit (s := S2x160x2x128) ![0, 0, 0, 0] S1x160x2x128.size inb) hR (k0_pay272 (View.readAt (Elt Ideal) arg4.view (Rect.unit (s := S1280x160) off S256x160.size hi).toLoadRect X4))⟩])) b p k 1 n = at2 (arg4.view.read (Elt Ideal) X4) (256 * j + (2 * n + p)) k := by
  intro p hp k hk n hn
  rcases (by omega : p = 0 ∨ p = 1) with rfl | rfl
  · exact (sc_read hb ⟨k, hk⟩ ⟨n, hn⟩).1.trans ((tr_apply _ _ _ _).trans ((ld2 (arg4.view.read (Elt Ideal) X4) _ _ _ (ix2 _ _)).trans ((at2_off ho).trans (by simp))))
  · exact (sc_read hb ⟨k, hk⟩ ⟨n, hn⟩).2.trans ((tr_apply' _ _ _ _).trans ((ld2 (arg4.view.read (Elt Ideal) X4) _ _ _ (ix2 _ _)).trans ((at2_off ho).trans (by simp))))

theorem cols160 {x3 : S1280x5120.Idx → EReal} {x4 : S1280x160.Idx → EReal} {x5 : S1x10x128.Idx → EReal} {x10 : S128x2x5120.Idx → EReal} {x14 : S2x256x128.Idx → EReal} {j : ℕ}
    {L : FVec Ideal S160x256 .f32} {v w : Vec Ideal S1x1x128 .f32} {c0 c1 : Vec Ideal S1x160x128 .f32}
    (hL : ∀ (m : Fin 160) (n : Fin 256), L (ix2 m n) = rowV x3 x4 x10 (256 * j + (n % 128 * 2 + n / 128)) m)
    (hv : ∀ n : Fin 128, v (ix3 0 0 n) = at3 x5 0 (2 * j) n) (hw : ∀ n : Fin 128, w (ix3 0 0 n) = at3 x5 0 (2 * j + 1) n)
    (hc0 : ∀ (m : Fin 160) (n : Fin 128), c0 (ix3 0 m n) = at3 x14 0 m n) (hc1 : ∀ (m : Fin 160) (n : Fin 128), c1 (ix3 0 m n) = at3 x14 1 m n) (b : Fin 2) (n : Fin 128) :
    k0_pay294 lanes (k0_pay290 (k0_pay284 L (k0_pay277 v) (k0_pay277 w) (k0_pay279 lanes) (k0_pay280 lanes) (k0_pay281 lanes) c0)
        (k0_pay285 L (k0_pay277 v) (k0_pay277 w) (k0_pay279 lanes) (k0_pay280 lanes) (k0_pay281 lanes) c1))
      (k0_pay291 (k0_pay287 lanes L (k0_pay277 v) (k0_pay277 w) (k0_pay286 lanes) 128#32 0#32) c0 c1) (k0_pay292 lanes) (k0_pay293 lanes) (ix2 b n)
        = poolV 160 x3 x4 x5 x10 x14 b (256 * j + n)
    ∧ k0_pay474 (k0_pay290 (k0_pay284 L (k0_pay277 v) (k0_pay277 w) (k0_pay279 lanes) (k0_pay280 lanes) (k0_pay281 lanes) c0)
        (k0_pay285 L (k0_pay277 v) (k0_pay277 w) (k0_pay279 lanes) (k0_pay280 lanes) (k0_pay281 lanes) c1))
      (k0_pay291 (k0_pay287 lanes L (k0_pay277 v) (k0_pay277 w) (k0_pay286 lanes) 128#32 0#32) c0 c1) (k0_pay295 lanes) (k0_pay296 lanes) (ix2 b n)
        = poolV 160 x3 x4 x5 x10 x14 b (256 * j + (128 + n)) := by
  have h0 : ∀ r (n : Fin 128), k0_pay277 v (ix2 r n) = (fun r n => at3 x5 0 (2 * j + r) n) 0 n := fun r n => (e277 v r n).trans (hv n)
  have h1 : ∀ r (n : Fin 128), k0_pay277 w (ix2 r n) = (fun r n => at3 x5 0 (2 * j + r) n) 1 n := fun r n => (e277 w r n).trans (hw n)
  have key := halves (g := fun b cc => best 160 _ _ ((fun b m n => at3 x14 b m n) b) cc) (even160 (t := fun b m n => at3 x14 b m n) (u := fun r n => at3 x5 0 (2 * j + r) n) (l := fun m n => rowV x3 x4 x10 (256 * j + (n % 128 * 2 + n / 128)) m) hL h0 h1 hc0 hc1)
    (odd160 (t := fun b m n => at3 x14 b m n) (u := fun r n => at3 x5 0 (2 * j + r) n) (l := fun m n => rowV x3 x4 x10 (256 * j + (n % 128 * 2 + n / 128)) m) hL h0 h1 hc0 hc1) b n
  exact ⟨key.1.trans (best_eq (by omega)), key.2.trans (best_eq (by omega))⟩

theorem cols256 {x3 : S1280x5120.Idx → EReal} {x4 : S1280x160.Idx → EReal} {x5 : S1x10x128.Idx → EReal} {x10 : S128x2x5120.Idx → EReal} {x14 : S2x256x128.Idx → EReal} {j : ℕ}
    {L : FVec Ideal S256x256 .f32} {v w : Vec Ideal S1x1x128 .f32} {c0 c1 : Vec Ideal S1x256x128 .f32}
    (hL : ∀ (m : Fin 256) (n : Fin 256), L (ix2 m n) = rowV x3 x4 x10 (256 * j + (n % 128 * 2 + n / 128)) m)
    (hv : ∀ n : Fin 128, v (ix3 0 0 n) = at3 x5 0 (2 * j) n) (hw : ∀ n : Fin 128, w (ix3 0 0 n) = at3 x5 0 (2 * j + 1) n)
    (hc0 : ∀ (m : Fin 256) (n : Fin 128), c0 (ix3 0 m n) = at3 x14 0 m n) (hc1 : ∀ (m : Fin 256) (n : Fin 128), c1 (ix3 0 m n) = at3 x14 1 m n) (b : Fin 2) (n : Fin 128) :
    k0_pay294 lanes (k0_pay290 (k0_pay400 L (k0_pay277 v) (k0_pay277 w) (k0_pay279 lanes) (k0_pay280 lanes) (k0_pay281 lanes) c0)
        (k0_pay401 L (k0_pay277 v) (k0_pay277 w) (k0_pay279 lanes) (k0_pay280 lanes) (k0_pay281 lanes) c1))
      (k0_pay407 (k0_pay403 lanes L (k0_pay277 v) (k0_pay277 w) (k0_pay286 lanes) 128#32 0#32) c0 c1) (k0_pay292 lanes) (k0_pay293 lanes) (ix2 b n)
        = poolV 256 x3 x4 x5 x10 x14 b (256 * j + n)
    ∧ k0_pay474 (k0_pay290 (k0_pay400 L (k0_pay277 v) (k0_pay277 w) (k0_pay279 lanes) (k0_pay280 lanes) (k0_pay281 lanes) c0)
        (k0_pay401 L (k0_pay277 v) (k0_pay277 w) (k0_pay279 lanes) (k0_pay280 lanes) (k0_pay281 lanes) c1))
      (k0_pay407 (k0_pay403 lanes L (k0_pay277 v) (k0_pay277 w) (k0_pay286 lanes) 128#32 0#32) c0 c1) (k0_pay295 lanes) (k0_pay296 lanes) (ix2 b n)
        = poolV 256 x3 x4 x5 x10 x14 b (256 * j + (128 + n)) := by
  have h0 : ∀ r (n : Fin 128), k0_pay277 v (ix2 r n) = (fun r n => at3 x5 0 (2 * j + r) n) 0 n := fun r n => (e277 v r n).trans (hv n)
  have h1 : ∀ r (n : Fin 128), k0_pay277 w (ix2 r n) = (fun r n => at3 x5 0 (2 * j + r) n) 1 n := fun r n => (e277 w r n).trans (hw n)
  have key := halves (g := fun b cc => best 256 _ _ ((fun b m n => at3 x14 b m n) b) cc) (even256 (t := fun b m n => at3 x14 b m n) (u := fun r n => at3 x5 0 (2 * j + r) n) (l := fun m n => rowV x3 x4 x10 (256 * j + (n % 128 * 2 + n / 128)) m) hL h0 h1 hc0 hc1)
    (odd256 (t := fun b m n => at3 x14 b m n) (u := fun r n => at3 x5 0 (2 * j + r) n) (l := fun m n => rowV x3 x4 x10 (256 * j + (n % 128 * 2 + n / 128)) m) hL h0 h1 hc0 hc1) b n
  exact ⟨key.1.trans (best_eq (by omega)), key.2.trans (best_eq (by omega))⟩

/-- The pooled block's columns, after a tile stored its two halves. -/
theorem pooled_step {arg6 : Memref sig .tc .vmem S2x1280 .bf16} {f6 : BufTy.Contents (Elt Ideal) arg6.view.ty} {g : ℕ → ℕ → EReal} {j : ℕ} (hj : j < 5) {oA oB : Fin 2 → ℕ}
    (hA : oA = ![0, 256 * j]) (hB : oB = ![0, 256 * j + 128]) {inbA : ∀ a, oA a + S2x128.size a ≤ S2x1280.size a} {inbB : ∀ a, oB a + S2x128.size a ≤ S2x1280.size a}
    {wA wB : Vec Ideal S2x128 .bf16} (h6 : ∀ b < 2, ∀ v < 256 * j, at2 (arg6.view.read (Elt Ideal) f6) b v = g b v)
    (hw : ∀ (b : Fin 2) (n : Fin 128), wA (ix2 b n) = g b (256 * j + n) ∧ wB (ix2 b n) = g b (256 * j + (128 + n))) :
    ∀ b < 2, ∀ v < 256 * (j + 1), at2 (arg6.view.read (Elt Ideal) (arg6.view.writes (Elt Ideal) f6 [
      ⟨Rect.unit (s := S2x1280) oB S2x128.size inbB, wB⟩, ⟨Rect.unit (s := S2x1280) oA S2x128.size inbA, wA⟩])) b v = g b v := by
  intro b hb v hv
  have hv' : v % 1280 = v := Nat.mod_eq_of_lt (by omega)
  have hb' : b % 2 = b := Nat.mod_eq_of_lt hb
  by_cases h2 : 256 * j + 128 ≤ v
  · refine (View.read_writes_cons_unit_of_mem arg6.view f6 inbB wB _ _ (ix2 (⟨b, hb⟩ : Fin 2) (⟨v - (256 * j + 128), by omega⟩ : Fin 128)) hB ?_).trans ?_
    · intro a; fin_cases a
      · show b % 2 = 0 + b; omega
      · show v % 1280 = 256 * j + 128 + (v - (256 * j + 128)); omega
    · refine (hw ⟨b, hb⟩ ⟨v - (256 * j + 128), by omega⟩).2.trans ?_
      show g b (256 * j + (128 + (v - (256 * j + 128)))) = g b v
      congr 1; omega
  refine (View.read_writes_cons_unit_of_not_mem arg6.view f6 inbB wB _ _ hB 1 (Or.inl (by show v % 1280 < 256 * j + 128; omega))).trans ?_
  by_cases h1 : 256 * j ≤ v
  · refine (View.read_writes_cons_unit_of_mem arg6.view f6 inbA wA _ _ (ix2 (⟨b, hb⟩ : Fin 2) (⟨v - 256 * j, by omega⟩ : Fin 128)) hA ?_).trans ?_
    · intro a; fin_cases a
      · show b % 2 = 0 + b; omega
      · show v % 1280 = 256 * j + (v - 256 * j); omega
    · refine (hw ⟨b, hb⟩ ⟨v - 256 * j, by omega⟩).1.trans ?_
      show g b (256 * j + (v - 256 * j)) = g b v
      congr 1; omega
  refine (View.read_writes_cons_unit_of_not_mem arg6.view f6 inbA wA _ _ hA 1 (Or.inl (by show v % 1280 < 256 * j; omega))).trans ?_
  exact h6 b hb v (by omega)

end Cert.Proof.PV
-- ==== Proof.PVTiles.lean ====
module

public import proofs.«01_k».proof.Proof.Gen.KernelIdeal.Skeleton
public import proofs.«01_k».proof.Proof.Gen.KernelIdeal.Loops
public import proofs.«01_k».proof.Proof.PVTile
public import Idealize.ShloMosaic.Lib.Mxu.Walk
public import Idealize.ShloMosaic.Lib.WritesUnit
public import Idealize.ShloMosaic.Lib.Tactic

@[expose] public section

set_option maxRecDepth 8192
set_option maxHeartbeats 4000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

/-! ## Where a tile's blocks begin -/

theorem off51_eq (k : Fin k0_t5_loop.trips) : k0_off51 k = ![256 * k.val, 0] := by revert k; decide +kernel
theorem off56_eq (k : Fin k0_t5_loop.trips) : k0_off56 k = ![0, 2 * k.val, 0] := by revert k; decide +kernel
theorem off57_eq (k : Fin k0_t5_loop.trips) : k0_off57 k = ![0, 2 * k.val + 1, 0] := by revert k; decide +kernel
theorem off58_eq (k : Fin k0_t5_loop.trips) (h : Fin 2) : k0_off58 k (BitVec.ofNat 32 (128 * h)) = ![0, 256 * k.val + 128 * h.val] := by revert k h; decide +kernel

theorem off59_eq (k : Fin k0_t5_loop.trips) : k0_off59 k = ![256 * k.val, 0] := by revert k; decide +kernel
theorem off64_eq (k : Fin k0_t5_loop.trips) : k0_off64 k = ![0, 2 * k.val, 0] := by revert k; decide +kernel
theorem off65_eq (k : Fin k0_t5_loop.trips) : k0_off65 k = ![0, 2 * k.val + 1, 0] := by revert k; decide +kernel
theorem off66_eq (k : Fin k0_t5_loop.trips) (h : Fin 2) : k0_off66 k (BitVec.ofNat 32 (128 * h)) = ![0, 256 * k.val + 128 * h.val] := by revert k h; decide +kernel

theorem off67_eq (k : Fin k0_t8_loop.trips) : k0_off67 k = ![256 * k.val, 0] := by revert k; decide +kernel
theorem off72_eq (k : Fin k0_t8_loop.trips) : k0_off72 k = ![0, 2 * k.val, 0] := by revert k; decide +kernel
theorem off73_eq (k : Fin k0_t8_loop.trips) : k0_off73 k = ![0, 2 * k.val + 1, 0] := by revert k; decide +kernel
theorem off74_eq (k : Fin k0_t8_loop.trips) (h : Fin 2) : k0_off74 k (BitVec.ofNat 32 (128 * h)) = ![0, 256 * k.val + 128 * h.val] := by revert k h; decide +kernel

theorem off75_eq (k : Fin k0_t8_loop.trips) : k0_off75 k = ![256 * k.val, 0] := by revert k; decide +kernel
theorem off80_eq (k : Fin k0_t8_loop.trips) : k0_off80 k = ![0, 2 * k.val, 0] := by revert k; decide +kernel
theorem off81_eq (k : Fin k0_t8_loop.trips) : k0_off81 k = ![0, 2 * k.val + 1, 0] := by revert k; decide +kernel
theorem off82_eq (k : Fin k0_t8_loop.trips) (h : Fin 2) : k0_off82 k (BitVec.ofNat 32 (128 * h)) = ![0, 256 * k.val + 128 * h.val] := by revert k h; decide +kernel

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over a step's 5 tiles (160 rows): it reads the weights, their scales, the bias, the quantised rows and the caps, and leaves in the pooled block the
    pooled values of the tiles so far, the transposed scales and the l1 sums at some contents; between tiles the matrix unit is drained. -/
@[sl_loop] def loopInv_t5 (k0_mxu1 : Mxu Ideal) (v0 : Elt Ideal .i32) (v1 : Elt Ideal .i32) (init : Mxu Ideal)
    (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X14 : BufTy.Contents (Elt Ideal) arg14.view.ty) :
    LoopInvTy_k0_t5 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 k0_mxu1 v0 v1 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, ⌜∀ b < 2, ∀ v < 256 * k, at2 (arg6.view.read (Elt Ideal) f) b v = poolV 160 (arg3.view.read (Elt Ideal) X3) (arg4.view.read (Elt Ideal) X4) (arg5.view.read (Elt Ideal) X5) (arg10.view.read (Elt Ideal) X10) (arg14.view.read (Elt Ideal) X14) b v⌝ ∗ (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f)) ∗ ⌜Quiet 0 0 acc⌝)
  step k acc := by
    unfold k0_t5_body
    have hk : k.val < 5 := k.isLt
    iintro ⟨H3, H4, H5, H10, H14, ⟨%f6, %h6, H6⟩, ⟨%f12, H12⟩, ⟨%f13, H13⟩, %hq⟩
    have h34 : k0_cond3 k = 1#1 → ¬ k0_cond4 k = 1#1 := by clear h6 hk; revert k; decide
    by_cases ha : k0_cond3 k = 1#1
    · have hb := h34 ha
      sl_exec
      sl_step
      isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        sl_unfold_run_names
        exact pooled_step hk (off58_eq k 0) (off58_eq k 1) h6 (cols160 (logits160 ‹QuadsUpTo _ _ _ _ _ _ _ _ _ _› (scales_of (off51_eq k) (by decide)))
          (fun n => (ld3 (arg5.view.read (Elt Ideal) X5) _ _ _ (ix3 0 0 n)).trans ((at3_off (off56_eq k)).trans (by simp)))
          (fun n => (ld3 (arg5.view.read (Elt Ideal) X5) _ _ _ (ix3 0 0 n)).trans ((at3_off (off57_eq k)).trans (by simp)))
          (fun m n => (ld3 (arg14.view.read (Elt Ideal) X14) _ _ _ (ix3 0 m n)).trans (by simp)) (fun m n => (ld3 (arg14.view.read (Elt Ideal) X14) _ _ _ (ix3 0 m n)).trans (by simp)))
      isplitl [H12]; · iexists _; iexact H12
      isplitl [H13]; · iexists _; iexact H13
      ipureintro
      exact Quiet.pops (QuadsUpTo.quads ‹QuadsUpTo _ _ _ _ _ _ _ _ _ _›).quiet (by decide)
    by_cases hb : k0_cond4 k = 1#1
    · have hqa := hq.widen 160 320
      sl_exec
      sl_step
      isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        sl_unfold_run_names
        exact pooled_step hk (off66_eq k 0) (off66_eq k 1) h6 (cols160 (logits160 ‹QuadsUpTo _ _ _ _ _ _ _ _ _ _› (scales_of (off59_eq k) (by decide)))
          (fun n => (ld3 (arg5.view.read (Elt Ideal) X5) _ _ _ (ix3 0 0 n)).trans ((at3_off (off64_eq k)).trans (by simp)))
          (fun n => (ld3 (arg5.view.read (Elt Ideal) X5) _ _ _ (ix3 0 0 n)).trans ((at3_off (off65_eq k)).trans (by simp)))
          (fun m n => (ld3 (arg14.view.read (Elt Ideal) X14) _ _ _ (ix3 0 m n)).trans (by simp)) (fun m n => (ld3 (arg14.view.read (Elt Ideal) X14) _ _ _ (ix3 0 m n)).trans (by simp)))
      isplitl [H12]; · iexists _; iexact H12
      isplitl [H13]; · iexists _; iexact H13
      ipureintro
      exact Quiet.pops (QuadsUpTo.quads ‹QuadsUpTo _ _ _ _ _ _ _ _ _ _›).quiet (by decide)
    · exfalso; clear h6 hk; revert k; decide

set_option sl_exec.squeezeSlice true in
set_option warn.classDefReducibility false in
/-- The loop over a step's 5 tiles (256 rows): it reads the weights, their scales, the bias, the quantised rows and the caps, and leaves in the pooled block the
    pooled values of the tiles so far, the transposed scales and the l1 sums at some contents; between tiles the matrix unit is drained. -/
@[sl_loop] def loopInv_t8 (v0 : Elt Ideal .i32) (v1 : Elt Ideal .i32) (k0_mxu2 : Mxu Ideal) (init : Mxu Ideal)
    (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X14 : BufTy.Contents (Elt Ideal) arg14.view.ty) :
    LoopInvTy_k0_t8 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v0 v1 k0_mxu2 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, ⌜∀ b < 2, ∀ v < 256 * k, at2 (arg6.view.read (Elt Ideal) f) b v = poolV 256 (arg3.view.read (Elt Ideal) X3) (arg4.view.read (Elt Ideal) X4) (arg5.view.read (Elt Ideal) X5) (arg10.view.read (Elt Ideal) X10) (arg14.view.read (Elt Ideal) X14) b v⌝ ∗ (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f)) ∗ ⌜Quiet 0 0 acc⌝)
  step k acc := by
    unfold k0_t8_body
    have hk : k.val < 5 := k.isLt
    iintro ⟨H3, H4, H5, H10, H14, ⟨%f6, %h6, H6⟩, ⟨%f12, H12⟩, ⟨%f13, H13⟩, %hq⟩
    have h34 : k0_cond6 k = 1#1 → ¬ k0_cond7 k = 1#1 := by clear h6 hk; revert k; decide
    by_cases ha : k0_cond6 k = 1#1
    · have hb := h34 ha
      sl_exec
      sl_step
      isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        sl_unfold_run_names
        exact pooled_step hk (off74_eq k 0) (off74_eq k 1) h6 (cols256 (logits256 ‹QuadsUpTo _ _ _ _ _ _ _ _ _ _› (scales_of (off67_eq k) (by decide)))
          (fun n => (ld3 (arg5.view.read (Elt Ideal) X5) _ _ _ (ix3 0 0 n)).trans ((at3_off (off72_eq k)).trans (by simp)))
          (fun n => (ld3 (arg5.view.read (Elt Ideal) X5) _ _ _ (ix3 0 0 n)).trans ((at3_off (off73_eq k)).trans (by simp)))
          (fun m n => (ld3 (arg14.view.read (Elt Ideal) X14) _ _ _ (ix3 0 m n)).trans (by simp)) (fun m n => (ld3 (arg14.view.read (Elt Ideal) X14) _ _ _ (ix3 0 m n)).trans (by simp)))
      isplitl [H12]; · iexists _; iexact H12
      isplitl [H13]; · iexists _; iexact H13
      ipureintro
      exact Quiet.pops (QuadsUpTo.quads ‹QuadsUpTo _ _ _ _ _ _ _ _ _ _›).quiet (by decide)
    by_cases hb : k0_cond7 k = 1#1
    · have hqa := hq.widen 576 832
      sl_exec
      sl_step
      isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        sl_unfold_run_names
        exact pooled_step hk (off82_eq k 0) (off82_eq k 1) h6 (cols256 (logits256 ‹QuadsUpTo _ _ _ _ _ _ _ _ _ _› (scales_of (off75_eq k) (by decide)))
          (fun n => (ld3 (arg5.view.read (Elt Ideal) X5) _ _ _ (ix3 0 0 n)).trans ((at3_off (off80_eq k)).trans (by simp)))
          (fun n => (ld3 (arg5.view.read (Elt Ideal) X5) _ _ _ (ix3 0 0 n)).trans ((at3_off (off81_eq k)).trans (by simp)))
          (fun m n => (ld3 (arg14.view.read (Elt Ideal) X14) _ _ _ (ix3 0 m n)).trans (by simp)) (fun m n => (ld3 (arg14.view.read (Elt Ideal) X14) _ _ _ (ix3 0 m n)).trans (by simp)))
      isplitl [H12]; · iexists _; iexact H12
      isplitl [H13]; · iexists _; iexact H13
      ipureintro
      exact Quiet.pops (QuadsUpTo.quads ‹QuadsUpTo _ _ _ _ _ _ _ _ _ _›).quiet (by decide)
    · exfalso; clear h6 hk; revert k; decide

end Cert.Proof.PV
-- ==== Proof.PVCodes.lean ====
module

public import proofs.«01_k».proof.Proof.Gen.KernelIdeal.Skeleton
public import proofs.«01_k».proof.Proof.Gen.KernelIdeal.Loops
public import proofs.«01_k».proof.Proof.PVQuads
public import Idealize.ShloMosaic.Lib.Mxu.Walk
public import Idealize.ShloMosaic.Lib.WritesUnit
public import Idealize.ShloMosaic.Lib.Tactic

@[expose] public section

set_option maxRecDepth 8192
set_option maxHeartbeats 4000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

/-! ## A row's quantised value -/

/-- The product of the code of `x` (its value scaled by `s`, clipped) and the inverse of `s`. -/
def quantV (x s : EReal) : EReal := min (Ideal.ofBits .f32 0x43E00000#32) (max (Ideal.ofBits .f32 0xC3E00000#32) (x * s)) * Ideal.div (Ideal.ofBits .f32 0x3F800000#32) s

/-- The inverse scale that row `r`'s entry `d` is multiplied by. -/
def invAt (x11 : S2x128x2x128.Idx → EReal) (r d : ℕ) : EReal :=
  if d < 4096 then at4 x11 0 (r / 2) (r % 2) (d % 128 / 32 * 32 + d / 128) else at4 x11 1 (r / 2) (r % 2) (d % 128 / 32 * 32 + 4 * (d / 128 - 32))

/-- Every entry's quantised value is the entry. -/
def Good (x2 : S256x5120.Idx → EReal) (x11 : S2x128x2x128.Idx → EReal) : Prop :=
  ∀ r < 256, ∀ d < 5120, quantV (at2 x2 r d) (invAt x11 r d) = at2 x2 r d

abbrev lanes16 : IVec S16x128 32 := iota .tc S16x128 32 [1] iota_S16x128_d1_w32

/-- The lane that a lane of a chunk takes its inverse scale from. -/
theorem src_lane (st : Fin 5) (t : Fin 32) (l : Fin 128) :
    (Scalar.select (IntOp.cmpi CmpIPredicate.slt (IntOp.addi (IntOp.andi (BitVec.ofNat 32 l) 4294967264#32) (Scalar.muli (BitVec.ofNat 32 st) (Scf.iv 0#32 1#32 t.val))) 0#32)
      (IntOp.addi (IntOp.addi (IntOp.andi (BitVec.ofNat 32 l) 4294967264#32) (Scalar.muli (BitVec.ofNat 32 st) (Scf.iv 0#32 1#32 t.val))) 128#32)
      (IntOp.addi (IntOp.andi (BitVec.ofNat 32 l) 4294967264#32) (Scalar.muli (BitVec.ofNat 32 st) (Scf.iv 0#32 1#32 t.val)))).toNat % 128 = (l / 32 * 32 + st * t) % 128 := by
  revert st t l
  decide +kernel

section
variable {x11 : S2x128x2x128.Idx → EReal} {P g : ℕ} {raw0 raw1 : Vec Ideal S1x8x2x128 .bf16}

theorem inv3 (t : Fin k0_t3_loop.trips) (h0 : ∀ (a : Fin 8) (p : Fin 2) (l : Fin 128), raw0 (ix4 0 a p l) = at4 x11 P (16 * g + a) p l)
    (h1 : ∀ (a : Fin 8) (p : Fin 2) (l : Fin 128), raw1 (ix4 0 a p l) = at4 x11 P (16 * g + 8 + a) p l) (r : Fin 32) (l : Fin 128) :
    k0_pay220 (F := Ideal) lanes16 (k0_pay228 raw0) (k0_pay229 raw0) (k0_pay230 raw1) (k0_pay231 raw1) 0#32 1#32 t (ix2 r l) = at4 x11 P ((32 * g + r) / 2) ((32 * g + r) % 2) (l / 32 * 32 + 1 * t) := by
  have ht : (t : ℕ) < 32 := lt_of_lt_of_le t.isLt (by decide)
  have h := src_lane 1 ⟨t, ht⟩ l
  have hl := l.isLt
  have ht' : (t : ℕ) < k0_t3_loop.trips := t.isLt
  have hs : (l / 32 * 32 + 1 * t : ℕ) % 128 = l / 32 * 32 + 1 * t := Nat.mod_eq_of_lt (by have : (t : ℕ) < 32 := lt_of_lt_of_le t.isLt (by decide); omega)
  replace h := h.trans hs
  pointwise [k0_pay220, k0_pay228, k0_pay229, k0_pay230, k0_pay231]
  simp only [h0, h1]
  erw [h]
  have hr := r.isLt
  split_ifs <;> congr 1 <;> omega

theorem quant3 (t : Fin k0_t3_loop.trips) (x : Vec Ideal S32x128 .bf16) (a : Fin 16) (p : Fin 2) (l : Fin 128) :
    k0_pay232 (F := Ideal) (k0_pay220 lanes16 (k0_pay228 raw0) (k0_pay229 raw0) (k0_pay230 raw1) (k0_pay231 raw1) 0#32 1#32 t)
      (k0_pay222 lanes16 (k0_pay228 raw0) (k0_pay229 raw0) (k0_pay230 raw1) (k0_pay231 raw1) 0#32 1#32 t x) k0_pay223 (ix3 a p l)
      = quantV (x (ix2 ⟨2 * a + p, by omega⟩ l)) (k0_pay220 (F := Ideal) lanes16 (k0_pay228 raw0) (k0_pay229 raw0) (k0_pay230 raw1) (k0_pay231 raw1) 0#32 1#32 t (ix2 ⟨2 * a + p, by omega⟩ l)) := by
  pointwise [k0_pay232, k0_pay222, k0_pay221, k0_pay223]
  fin_cases p <;> simp [quantV]

theorem inv4 (t : Fin k0_t4_loop.trips) (h0 : ∀ (a : Fin 8) (p : Fin 2) (l : Fin 128), raw0 (ix4 0 a p l) = at4 x11 P (16 * g + a) p l)
    (h1 : ∀ (a : Fin 8) (p : Fin 2) (l : Fin 128), raw1 (ix4 0 a p l) = at4 x11 P (16 * g + 8 + a) p l) (r : Fin 32) (l : Fin 128) :
    k0_pay224 (F := Ideal) lanes16 (k0_pay233 raw0) (k0_pay234 raw0) (k0_pay235 raw1) (k0_pay236 raw1) 0#32 1#32 t (ix2 r l) = at4 x11 P ((32 * g + r) / 2) ((32 * g + r) % 2) (l / 32 * 32 + 4 * t) := by
  have ht : (t : ℕ) < 32 := lt_of_lt_of_le t.isLt (by decide)
  have h := src_lane 4 ⟨t, ht⟩ l
  have hl := l.isLt
  have ht' : (t : ℕ) < k0_t4_loop.trips := t.isLt
  have hs : (l / 32 * 32 + 4 * t : ℕ) % 128 = l / 32 * 32 + 4 * t := Nat.mod_eq_of_lt (by have : (t : ℕ) < 8 := lt_of_lt_of_le t.isLt (by decide); omega)
  replace h := h.trans hs
  pointwise [k0_pay224, k0_pay233, k0_pay234, k0_pay235, k0_pay236]
  simp only [h0, h1]
  erw [h]
  have hr := r.isLt
  split_ifs <;> congr 1 <;> omega

theorem quant4 (t : Fin k0_t4_loop.trips) (x : Vec Ideal S32x128 .bf16) (a : Fin 16) (p : Fin 2) (l : Fin 128) :
    k0_pay237 (F := Ideal) (k0_pay224 lanes16 (k0_pay233 raw0) (k0_pay234 raw0) (k0_pay235 raw1) (k0_pay236 raw1) 0#32 1#32 t)
      (k0_pay226 lanes16 (k0_pay233 raw0) (k0_pay234 raw0) (k0_pay235 raw1) (k0_pay236 raw1) 0#32 1#32 t x) k0_pay227 (ix3 a p l)
      = quantV (x (ix2 ⟨2 * a + p, by omega⟩ l)) (k0_pay224 (F := Ideal) lanes16 (k0_pay233 raw0) (k0_pay234 raw0) (k0_pay235 raw1) (k0_pay236 raw1) 0#32 1#32 t (ix2 ⟨2 * a + p, by omega⟩ l)) := by
  pointwise [k0_pay237, k0_pay226, k0_pay225, k0_pay227]
  fin_cases p <;> simp [quantV]

end

/-! ## Where the blocks begin -/

/-- The first row that sequence 1 is packed to. -/
def packed (v0 : BitVec 32) : ℕ := (v0.toNat + 15) / 16 * 16

/-- The first packed row of group `k` of 32 rows. -/
def groupRow (v0 : BitVec 32) (k : ℕ) : ℕ := if k < 4 then 32 * k else packed v0 + 32 * k - 128

theorem off45_eq (k : Fin k0_t2_loop.trips) (h : Fin 2) : k0_off45 k (BitVec.ofNat 32 h) = ![0, 16 * k.val + 8 * h.val, 0, 0] := by revert k h; decide +kernel
theorem off48_eq (k : Fin k0_t2_loop.trips) (h : Fin 2) : k0_off48 k (BitVec.ofNat 32 h) = ![1, 16 * k.val + 8 * h.val, 0, 0] := by revert k h; decide +kernel
theorem off46_eq (k : Fin k0_t2_loop.trips) (t : Fin k0_t3_loop.trips) : k0_off46 k t = ![32 * k.val, 128 * (0 + t.val)] := by revert k t; decide +kernel
theorem off49_eq (k : Fin k0_t2_loop.trips) (t : Fin k0_t4_loop.trips) : k0_off49 k t = ![32 * k.val, 128 * (32 + t.val)] := by revert k t; decide +kernel

theorem row47 (n : Fin 129) (k : Fin k0_t2_loop.trips) : k0_off47 (BitVec.ofNat 32 n) k ⟨0, by decide⟩ 0 = groupRow (BitVec.ofNat 32 n) k / 2 := by revert n k; decide +kernel
theorem col47 (t : Fin k0_t3_loop.trips) : k0_off47 0#32 ⟨0, by decide⟩ t 2 = 128 * (0 + t.val) := by revert t; decide +kernel
theorem row50 (n : Fin 129) (k : Fin k0_t2_loop.trips) : k0_off50 (BitVec.ofNat 32 n) k ⟨0, by decide⟩ 0 = groupRow (BitVec.ofNat 32 n) k / 2 := by revert n k; decide +kernel
theorem col50 (t : Fin k0_t4_loop.trips) : k0_off50 0#32 ⟨0, by decide⟩ t 2 = 128 * (32 + t.val) := by revert t; decide +kernel

theorem ofNat_toNat {v0 : BitVec 32} : BitVec.ofNat 32 v0.toNat = v0 := by simp

theorem off47_eq {v0 : BitVec 32} (h : v0.toNat ≤ 128) (k : Fin k0_t2_loop.trips) (t : Fin k0_t3_loop.trips) : k0_off47 v0 k t = ![groupRow v0 k / 2, 0, 128 * (0 + t.val)] := by
  funext a
  fin_cases a
  · have := row47 ⟨v0.toNat, by omega⟩ k
    simp only [ofNat_toNat] at this
    exact this
  · rfl
  · exact col47 t

theorem off50_eq {v0 : BitVec 32} (h : v0.toNat ≤ 128) (k : Fin k0_t2_loop.trips) (t : Fin k0_t4_loop.trips) : k0_off50 v0 k t = ![groupRow v0 k / 2, 0, 128 * (32 + t.val)] := by
  funext a
  fin_cases a
  · have := row50 ⟨v0.toNat, by omega⟩ k
    simp only [ofNat_toNat] at this
    exact this
  · rfl
  · exact col50 t

/-- Stores of 32 rows by 128 columns, each right of the one before: what the buffer then reads. -/
theorem band {arg10 : Memref sig .tc .vmem S128x2x5120 .bf16} {f : BufTy.Contents (Elt Ideal) arg10.view.ty} {w first n : ℕ} (hn : first + n ≤ 40)
    (L : ℕ → List (View.Piece (Elt Ideal) S128x2x5120 .bf16)) (V : ℕ → ℕ → EReal) (h0 : L 0 = [])
    (hs : ∀ k < n, ∃ (o : Fin 3 → ℕ) (inb : ∀ a, o a + S16x2x128.size a ≤ S128x2x5120.size a) (p : Vec Ideal S16x2x128 .bf16),
      o = ![w, 0, 128 * (first + k)] ∧ L (k + 1) = ⟨Rect.unit (s := S128x2x5120) o S16x2x128.size inb, p⟩ :: L k
        ∧ ∀ (a : Fin 16) (q : Fin 2) (l : Fin 128), p (ix3 a q l) = V (2 * a + q) (128 * (first + k) + l)) :
    ∀ k ≤ n, ∀ m < 256, ∀ d < 5120, xvA (arg10.view.read (Elt Ideal) (arg10.view.writes (Elt Ideal) f (L k))) m d
      = if 2 * w ≤ m ∧ m < 2 * w + 32 ∧ 128 * first ≤ d ∧ d < 128 * (first + k) then V (m - 2 * w) d else xvA (arg10.view.read (Elt Ideal) f) m d := by
  intro k
  induction k with
  | zero =>
    intro _ m hm d hd
    rw [if_neg (by omega), h0]
    rfl
  | succ k ih =>
    intro hk m hm d hd
    obtain ⟨o, inb, p, ho, hL, hp⟩ := hs k (by omega)
    rw [hL]
    have hm2 : m / 2 % 128 = m / 2 := Nat.mod_eq_of_lt (by omega)
    have hm1 : m % 2 % 2 = m % 2 := Nat.mod_eq_of_lt (by omega)
    have hd' : d % 5120 = d := Nat.mod_eq_of_lt hd
    by_cases h : 2 * w ≤ m ∧ m < 2 * w + 32 ∧ 128 * (first + k) ≤ d ∧ d < 128 * (first + k + 1)
    · rw [if_pos (by omega)]
      refine (View.read_writes_cons_unit_of_mem arg10.view f inb p _ _ (ix3 (⟨m / 2 - w, by omega⟩ : Fin 16) (⟨m % 2, by omega⟩ : Fin 2) (⟨d - 128 * (first + k), by omega⟩ : Fin 128)) ho ?_).trans ?_
      · intro a; fin_cases a
        · show m / 2 % 128 = w + (m / 2 - w); omega
        · show m % 2 % 2 = 0 + m % 2; omega
        · show d % 5120 = 128 * (first + k) + (d - 128 * (first + k)); omega
      · refine (hp _ _ _).trans ?_
        show V (2 * (m / 2 - w) + m % 2) (128 * (first + k) + (d - 128 * (first + k))) = V (m - 2 * w) d
        congr 1 <;> omega
    · have e : (if 2 * w ≤ m ∧ m < 2 * w + 32 ∧ 128 * first ≤ d ∧ d < 128 * (first + (k + 1)) then V (m - 2 * w) d else xvA (arg10.view.read (Elt Ideal) f) m d)
          = if 2 * w ≤ m ∧ m < 2 * w + 32 ∧ 128 * first ≤ d ∧ d < 128 * (first + k) then V (m - 2 * w) d else xvA (arg10.view.read (Elt Ideal) f) m d :=
        if_congr (by omega) rfl rfl
      rw [e, ← ih (by omega) m hm d hd]
      by_cases h1 : 2 * w ≤ m ∧ m < 2 * w + 32
      · exact View.read_writes_cons_unit_of_not_mem arg10.view f inb p _ _ ho 2 (by show d % 5120 < 128 * (first + k) ∨ 128 * (first + k) + 128 ≤ d % 5120; omega)
      · exact View.read_writes_cons_unit_of_not_mem arg10.view f inb p _ _ ho 0 (by show m / 2 % 128 < w ∨ w + 16 ≤ m / 2 % 128; omega)

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

/-- What one chunk of part 0 stores. -/
theorem trip3 (v0 : Elt Ideal .i32) (k0_hw1 : k0_chk1 i v0) (k0_h1 : k0_cond1 i = 1#1) (v54 : IVec S16x128 32) (g : Fin k0_t2_loop.trips) (v83 v107 : BitVec 32) (a b e f : FVec Ideal S8x128 .bf16) (c0 c1 : BitVec 32) (X2 : BufTy.Contents (Elt Ideal) arg2.view.ty) (k : Fin k0_t3_loop.trips) :
    (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 v54 g v83 v107 a b e f c0 c1 X2 k).2 =
      [⟨Rect.unit (s := S128x2x5120) (k0_off47 v0 g k) S16x2x128.size (k0_off47_inb i v0 k0_hw1 g k k0_h1), k0_pay232 (k0_pay220 v54 a b e f c0 c1 k)
        (k0_pay222 v54 a b e f c0 c1 k (View.readAt (Elt Ideal) arg2.view (Rect.unit (s := S256x5120) (k0_off46 g k) S32x128.size (k0_off46_inb i g k k0_h1)).toLoadRect X2)) k0_pay223⟩] := by
  unfold tripL_k0_t3 trip_k0_t3
  rfl

/-- The rows that part 0 of a group of rows stores. -/
theorem fill3 {v0 : Elt Ideal .i32} (k0_hw1 : k0_chk1 i v0) (k0_h1 : k0_cond1 i = 1#1) (g : Fin k0_t2_loop.trips) (v83 v107 : BitVec 32) {raw0 raw1 : Vec Ideal S1x8x2x128 .bf16}
    (X2 : BufTy.Contents (Elt Ideal) arg2.view.ty) (x11 : S2x128x2x128.Idx → EReal) (f : BufTy.Contents (Elt Ideal) arg10.view.ty) (hv : BitVec.toNat v0 ≤ 128)
    (h0 : ∀ (a : Fin 8) (p : Fin 2) (l : Fin 128), raw0 (ix4 0 a p l) = at4 x11 0 (16 * g + a) p l)
    (h1 : ∀ (a : Fin 8) (p : Fin 2) (l : Fin 128), raw1 (ix4 0 a p l) = at4 x11 0 (16 * g + 8 + a) p l) :
    ∀ k ≤ k0_t3_loop.trips, ∀ m < 256, ∀ d < 5120, xvA (arg10.view.read (Elt Ideal) (arg10.view.writes (Elt Ideal) f
      (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 lanes16 g v83 v107 (k0_pay228 raw0) (k0_pay229 raw0) (k0_pay230 raw1) (k0_pay231 raw1) 0#32 1#32 X2 k).2)) m d
      = if 2 * (groupRow v0 g / 2) ≤ m ∧ m < 2 * (groupRow v0 g / 2) + 32 ∧ 128 * 0 ≤ d ∧ d < 128 * (0 + k) then
          (fun r d => quantV (at2 (arg2.view.read (Elt Ideal) X2) (32 * g + r) d) (at4 x11 0 ((32 * g + r) / 2) ((32 * g + r) % 2) (d % 128 / 32 * 32 + 1 * (d / 128 - 0)))) (m - 2 * (groupRow v0 g / 2)) d
        else xvA (arg10.view.read (Elt Ideal) f) m d := by
  refine band (by decide) _ (fun r d => quantV (at2 (arg2.view.read (Elt Ideal) X2) (32 * g + r) d) (at4 x11 0 ((32 * g + r) / 2) ((32 * g + r) % 2) (d % 128 / 32 * 32 + 1 * (d / 128 - 0)))) rfl ?_
  intro k hk
  refine ⟨_, _, _, off47_eq hv g ⟨k, hk⟩, (congrArg Prod.snd (pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 lanes16 g v83 v107 (k0_pay228 raw0) (k0_pay229 raw0) (k0_pay230 raw1) (k0_pay231 raw1) 0#32 1#32 X2 ⟨k, hk⟩)).trans (congrArg (· ++ _) (trip3 c i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 lanes16 g v83 v107 _ _ _ _ 0#32 1#32 X2 ⟨k, hk⟩)), ?_⟩
  intro a q l
  refine (quant3 ⟨k, hk⟩ _ a q l).trans ?_
  refine congrArg₂ quantV ?_ ?_
  · refine (ld2 (arg2.view.read (Elt Ideal) X2) _ _ _ (ix2 (⟨2 * a + q, by omega⟩ : Fin 32) l)).trans ((at2_off (off46_eq g ⟨k, hk⟩)).trans ?_)
    simp
  · refine (inv3 ⟨k, hk⟩ h0 h1 ⟨2 * a + q, by omega⟩ l).trans ?_
    have hl := l.isLt
    show at4 x11 0 _ _ ((l : ℕ) / 32 * 32 + 1 * k) = _
    congr 1
    omega

/-- What one chunk of part 1 stores. -/
theorem trip4 (v0 : Elt Ideal .i32) (k0_hw1 : k0_chk1 i v0) (k0_h1 : k0_cond1 i = 1#1) (v54 : IVec S16x128 32) (g : Fin k0_t2_loop.trips) (v83 v107 : BitVec 32) (a b e f : FVec Ideal S8x128 .bf16) (c0 c1 : BitVec 32) (X2 : BufTy.Contents (Elt Ideal) arg2.view.ty) (k : Fin k0_t4_loop.trips) :
    (tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 v54 g v83 v107 a b e f c0 c1 X2 k).2 =
      [⟨Rect.unit (s := S128x2x5120) (k0_off50 v0 g k) S16x2x128.size (k0_off50_inb i v0 k0_hw1 g k k0_h1), k0_pay237 (k0_pay224 v54 a b e f c0 c1 k)
        (k0_pay226 v54 a b e f c0 c1 k (View.readAt (Elt Ideal) arg2.view (Rect.unit (s := S256x5120) (k0_off49 g k) S32x128.size (k0_off49_inb i g k k0_h1)).toLoadRect X2)) k0_pay227⟩] := by
  unfold tripL_k0_t4 trip_k0_t4
  rfl

/-- The rows that part 1 of a group of rows stores. -/
theorem fill4 {v0 : Elt Ideal .i32} (k0_hw1 : k0_chk1 i v0) (k0_h1 : k0_cond1 i = 1#1) (g : Fin k0_t2_loop.trips) (v83 v107 : BitVec 32) {raw0 raw1 : Vec Ideal S1x8x2x128 .bf16}
    (X2 : BufTy.Contents (Elt Ideal) arg2.view.ty) (x11 : S2x128x2x128.Idx → EReal) (f : BufTy.Contents (Elt Ideal) arg10.view.ty) (hv : BitVec.toNat v0 ≤ 128)
    (h0 : ∀ (a : Fin 8) (p : Fin 2) (l : Fin 128), raw0 (ix4 0 a p l) = at4 x11 1 (16 * g + a) p l)
    (h1 : ∀ (a : Fin 8) (p : Fin 2) (l : Fin 128), raw1 (ix4 0 a p l) = at4 x11 1 (16 * g + 8 + a) p l) :
    ∀ k ≤ k0_t4_loop.trips, ∀ m < 256, ∀ d < 5120, xvA (arg10.view.read (Elt Ideal) (arg10.view.writes (Elt Ideal) f
      (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 lanes16 g v83 v107 (k0_pay233 raw0) (k0_pay234 raw0) (k0_pay235 raw1) (k0_pay236 raw1) 0#32 1#32 X2 k).2)) m d
      = if 2 * (groupRow v0 g / 2) ≤ m ∧ m < 2 * (groupRow v0 g / 2) + 32 ∧ 128 * 32 ≤ d ∧ d < 128 * (32 + k) then
          (fun r d => quantV (at2 (arg2.view.read (Elt Ideal) X2) (32 * g + r) d) (at4 x11 1 ((32 * g + r) / 2) ((32 * g + r) % 2) (d % 128 / 32 * 32 + 4 * (d / 128 - 32)))) (m - 2 * (groupRow v0 g / 2)) d
        else xvA (arg10.view.read (Elt Ideal) f) m d := by
  refine band (by decide) _ (fun r d => quantV (at2 (arg2.view.read (Elt Ideal) X2) (32 * g + r) d) (at4 x11 1 ((32 * g + r) / 2) ((32 * g + r) % 2) (d % 128 / 32 * 32 + 4 * (d / 128 - 32)))) rfl ?_
  intro k hk
  refine ⟨_, _, _, off50_eq hv g ⟨k, hk⟩, (congrArg Prod.snd (pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 lanes16 g v83 v107 (k0_pay233 raw0) (k0_pay234 raw0) (k0_pay235 raw1) (k0_pay236 raw1) 0#32 1#32 X2 ⟨k, hk⟩)).trans (congrArg (· ++ _) (trip4 c i arg1 harg1 arg2 harg2 arg3 harg3 arg4 harg4 arg5 harg5 arg6 harg6 arg7 harg7 arg8 harg8 arg9 harg9 arg10 harg10 arg11 harg11 arg12 harg12 arg13 harg13 arg14 harg14 v0 k0_hw1 k0_h1 lanes16 g v83 v107 _ _ _ _ 0#32 1#32 X2 ⟨k, hk⟩)), ?_⟩
  intro a q l
  refine (quant4 ⟨k, hk⟩ _ a q l).trans ?_
  refine congrArg₂ quantV ?_ ?_
  · refine (ld2 (arg2.view.read (Elt Ideal) X2) _ _ _ (ix2 (⟨2 * a + q, by omega⟩ : Fin 32) l)).trans ((at2_off (off49_eq g ⟨k, hk⟩)).trans ?_)
    simp
  · refine (inv4 ⟨k, hk⟩ h0 h1 ⟨2 * a + q, by omega⟩ l).trans ?_
    have hl := l.isLt
    show at4 x11 1 _ _ ((l : ℕ) / 32 * 32 + 4 * k) = _
    congr 1
    omega

end Cert.Proof.PV
-- ==== Proof.PVGroups.lean ====
module

public import proofs.«01_k».proof.Proof.Gen.KernelIdeal.Skeleton
public import proofs.«01_k».proof.Proof.Gen.KernelIdeal.Loops
public import proofs.«01_k».proof.Proof.PVCodes
public import Idealize.ShloMosaic.Lib.Mxu.Walk
public import Idealize.ShloMosaic.Lib.WritesUnit
public import Idealize.ShloMosaic.Lib.Tactic

@[expose] public section

set_option maxRecDepth 8192
set_option maxHeartbeats 4000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

theorem at4_off {α : Type} {A B C D : ℕ} [NeZero A] [NeZero B] [NeZero C] [NeZero D] {X : (⟨4, ![A, B, C, D]⟩ : Shape).Idx → α} {off off' : Fin 4 → ℕ} (h : off = off') {a b c d : ℕ} :
    at4 X (off 0 + a) (off 1 + b) (off 2 + c) (off 3 + d) = at4 X (off' 0 + a) (off' 1 + b) (off' 2 + c) (off' 3 + d) := by rw [h]

/-- The packed rows after the first `k` groups of 32 rows: sequence 0's from row 0 (its rows from `p` on may have been replaced), sequence 1's from row `p`. -/
def XvUpTo (x2 : S256x5120.Idx → EReal) (x10 : S128x2x5120.Idx → EReal) (p k : ℕ) : Prop :=
  (∀ m < 128, m < 32 * k → (k ≤ 4 ∨ m < p) → ∀ d < 5120, xvA x10 m d = at2 x2 m d) ∧
    ∀ r < 256, 128 ≤ r → r < 32 * k → ∀ d < 5120, xvA x10 (p + r - 128) d = at2 x2 r d

theorem packed_le {v0 : BitVec 32} (h : v0.toNat ≤ 128) : packed v0 ≤ 128 ∧ packed v0 % 16 = 0 := by
  unfold packed
  omega

theorem XvUpTo.step {x2 : S256x5120.Idx → EReal} {x10 x10' : S128x2x5120.Idx → EReal} {v0 : BitVec 32} {k : ℕ} (hv : v0.toNat ≤ 128) (hk : k < 8)
    (h : XvUpTo x2 x10 (packed v0) k)
    (hs : ∀ m < 256, ∀ d < 5120, xvA x10' m d = if 2 * (groupRow v0 k / 2) ≤ m ∧ m < 2 * (groupRow v0 k / 2) + 32 then at2 x2 (32 * k + (m - 2 * (groupRow v0 k / 2))) d else xvA x10 m d) :
    XvUpTo x2 x10' (packed v0) (k + 1) := by
  obtain ⟨hp, hp'⟩ := packed_le hv
  have hg : 2 * (groupRow v0 k / 2) = if k < 4 then 32 * k else packed v0 + 32 * k - 128 := by
    unfold groupRow
    split_ifs <;> omega
  rw [hg] at hs
  constructor
  · intro m hm hm' ho d hd
    rw [hs m (by omega) d hd]
    by_cases hk4 : k < 4
    · simp only [if_pos hk4]
      by_cases hmk : 32 * k ≤ m
      · rw [if_pos (by omega)]
        congr 1
        omega
      · rw [if_neg (by omega)]
        exact h.1 m hm (by omega) (by omega) d hd
    · simp only [if_neg hk4]
      rw [if_neg (by omega)]
      exact h.1 m hm (by omega) (by omega) d hd
  · intro r hr hr' hrk d hd
    by_cases hk4 : k < 4
    · omega
    · rw [hs (packed v0 + r - 128) (by omega) d hd]
      simp only [if_neg hk4]
      by_cases hrk' : 32 * k ≤ r
      · rw [if_pos (by omega)]
        congr 1
        omega
      · rw [if_neg (by omega)]
        exact h.2 r hr hr' (by omega) d hd

theorem XvUpTo.zero (x2 : S256x5120.Idx → EReal) (x10 : S128x2x5120.Idx → EReal) (p : ℕ) : XvUpTo x2 x10 p 0 := ⟨fun m _ h => absurd h (by omega), fun r _ _ h => absurd h (by omega)⟩

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The loop over the 8 groups of 32 rows that forms the codes: it reads the rows and the inverse scales and leaves the codes at some contents and, given good inverse scales,
    the rows themselves in the packed buffer. -/
@[sl_loop] def loopInv_t2 (v0 : Elt Ideal .i32) (k0_hw1 : k0_chk1 i v0) (v22 : BitVec 32) (k0_h1 : k0_cond1 i = 1#1) (v54 : IVec S16x128 32) (c0_i32_27 : BitVec 32) (c1_i32_28 : BitVec 32)
    (X2 : BufTy.Contents (Elt Ideal) arg2.view.ty) (X11 : BufTy.Contents (Elt Ideal) arg11.view.ty) :
    LoopInvTy_k0_t2 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v0 k0_hw1 v22 k0_h1 v54 c0_i32_27 c1_i32_28 where
  inv k acc := iprop((arg2.view.loc (c : Thread nD τ) ↦[arg2.view.set]{fullShare} X2) ∗ (arg11.view.loc (c : Thread nD τ) ↦[arg11.view.set]{fullShare} X11) ∗ (∃ f, (arg8.view.loc (c : Thread nD τ) ↦[arg8.view.set]{fullShare} f)) ∗ (∃ f, ⌜0 < k → v54 = lanes16 → BitVec.toNat v0 ≤ 128 → Good (arg2.view.read (Elt Ideal) X2) (arg11.view.read (Elt Ideal) X11) → XvUpTo (arg2.view.read (Elt Ideal) X2) (arg10.view.read (Elt Ideal) f) (packed v0) k⌝ ∗ (arg10.view.loc (c : Thread nD τ) ↦[arg10.view.set]{fullShare} f)))
  step k acc := by
    unfold k0_t2_body
    have hk : k.val < 8 := k.isLt
    iintro ⟨H2, H11, ⟨%f8, H8⟩, ⟨%f10, %h10, H10⟩⟩
    sl_exec
    sl_step
    isplitl [H2]; · iexact H2
    isplitl [H11]; · iexact H11
    isplitl [H8]; · iexists _; iexact H8
    iexists _
    isplitr [H10]
    swap
    · iexact H10
    ipureintro
    intro _ hl hv hG
    subst hl
    have h10' : XvUpTo (arg2.view.read (Elt Ideal) X2) (arg10.view.read (Elt Ideal) f10) (packed v0) k := by
      rcases Nat.eq_zero_or_pos (k : ℕ) with h | h
      · rw [h]; exact XvUpTo.zero _ _ _
      · exact h10 h rfl hv hG
    refine XvUpTo.step hv hk h10' ?_
    intro m hm d hd
    rw [View.writes_append]
    refine (fill4 c i arg1 harg1 arg2 harg2 arg3 harg3 arg4 harg4 arg5 harg5 arg6 harg6 arg7 harg7 arg8 harg8 arg9 harg9 arg10 harg10 arg11 harg11 arg12 harg12 arg13 harg13 arg14 harg14 k0_hw1 k0_h1 k _ _ X2 (arg11.view.read (Elt Ideal) X11) _ hv
      (fun a p l => (ld4 (arg11.view.read (Elt Ideal) X11) _ _ _ (ix4 0 a p l)).trans ((at4_off (off48_eq k 0)).trans (by simp)))
      (fun a p l => (ld4 (arg11.view.read (Elt Ideal) X11) _ _ _ (ix4 0 a p l)).trans ((at4_off (off48_eq k 1)).trans (by simp))) k0_t4_loop.trips (le_refl _) m hm d hd).trans ?_
    refine (if_congr Iff.rfl rfl (fill3 c i arg1 harg1 arg2 harg2 arg3 harg3 arg4 harg4 arg5 harg5 arg6 harg6 arg7 harg7 arg8 harg8 arg9 harg9 arg10 harg10 arg11 harg11 arg12 harg12 arg13 harg13 arg14 harg14 k0_hw1 k0_h1 k _ _ X2 (arg11.view.read (Elt Ideal) X11) f10 hv
      (fun a p l => (ld4 (arg11.view.read (Elt Ideal) X11) _ _ _ (ix4 0 a p l)).trans ((at4_off (off45_eq k 0)).trans (by simp)))
      (fun a p l => (ld4 (arg11.view.read (Elt Ideal) X11) _ _ _ (ix4 0 a p l)).trans ((at4_off (off45_eq k 1)).trans (by simp))) k0_t3_loop.trips (le_refl _) m hm d hd)).trans ?_
    have e3 : k0_t3_loop.trips = 32 := by decide
    have e4 : k0_t4_loop.trips = 8 := by decide
    simp only [e3, e4]
    by_cases hb : 2 * (groupRow v0 k / 2) ≤ m ∧ m < 2 * (groupRow v0 k / 2) + 32
    · have hg := hG (32 * k + (m - 2 * (groupRow v0 k / 2))) (by omega) d hd
      rw [if_pos hb]
      refine Eq.trans ?_ hg
      by_cases hd4 : d < 4096
      · rw [if_neg (by omega), if_pos (by omega)]
        simp only [invAt, if_pos hd4]
        congr 2
        omega
      · rw [if_pos (by omega)]
        simp only [invAt, if_neg hd4]
    · rw [if_neg (by omega), if_neg (by omega), if_neg hb]

end Cert.Proof.PV
-- ==== Proof.PVScale.lean ====
module

public import proofs.«01_k».proof.Proof.Gen.KernelIdeal.Skeleton
public import proofs.«01_k».proof.Proof.Gen.KernelIdeal.Loops
public import proofs.«01_k».proof.Proof.PVCodes
public import Idealize.ShloMosaic.Lib.Mxu.Walk
public import Idealize.ShloMosaic.Lib.WritesUnit
public import Idealize.ShloMosaic.Lib.Tactic

@[expose] public section

set_option maxRecDepth 8192
set_option maxHeartbeats 400000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

/-! ## The largest magnitudes of the blocks of a row -/

abbrev lanes8 : IVec S8x128 32 := iota .tc S8x128 32 [1] iota_S8x128_d1_w32

abbrev Chunk := FVec Ideal S16x128 .bf16

/-- The lanes that have the bit `s`. -/
def bitMask (s : BitVec 32) : IVec S8x128 1 := cmpi .ne (andi lanes8 (broadcast S8x128 s)) (broadcast S8x128 0#32)

/-- The lanes that have the bit from `a`, the others from `b`. -/
def pick (m : IVec S8x128 1) (a b : Chunk) : Chunk :=
  interleaveRows S16x128 (select m (rowsOfParity 0 S8x128 a bitcasts_S16x128_w16_S8x128_w32) (rowsOfParity 0 S8x128 b bitcasts_S16x128_w16_S8x128_w32))
    (select m (rowsOfParity 1 S8x128 a bitcasts_S16x128_w16_S8x128_w32) (rowsOfParity 1 S8x128 b bitcasts_S16x128_w16_S8x128_w32)) bitcasts_S16x128_w16_S8x128_w32

def flipIdx (s : BitVec 32) : IVec S16x128 32 :=
  select (cmpi .slt (xori lanes16 (broadcast S16x128 s)) (broadcast S16x128 0#32)) (addi (xori lanes16 (broadcast S16x128 s)) (broadcast S16x128 128#32)) (xori lanes16 (broadcast S16x128 s))

/-- Every lane from the lane that differs in the bit `s`. -/
def flip (s : BitVec 32) (v : Chunk) : Chunk :=
  truncf .bf16 (dynamicGather 1 (extf .f32 v bitsLt_bf16_f32) (shapeCast S16x128 (shapeCast S16x128x1 (flipIdx s) shapeCasts_S16x128_S16x128x1) shapeCasts_S16x128x1_S16x128)) bitsLt_bf16_f32

/-- One step of the maximum, of two chunks into one. -/
def merge (s : BitVec 32) (lo hi : Chunk) : Chunk := maximumf (pick (bitMask s) hi lo) (flip s (pick (bitMask s) lo hi))

/-- One step of the maximum, in one chunk. -/
def fold (s : BitVec 32) (v : Chunk) : Chunk :=
  maximumf v (flip s (interleaveRows S16x128 (rowsOfParity 0 S8x128 v bitcasts_S16x128_w16_S8x128_w32) (rowsOfParity 1 S8x128 v bitcasts_S16x128_w16_S8x128_w32) bitcasts_S16x128_w16_S8x128_w32))

/-- One level of the maximum: chunk `j` with chunk `j + h`. -/
def level (s : BitVec 32) (h : ℕ) (y : ℕ → Chunk) : ℕ → Chunk := fun j => merge s (y j) (y (j + h))

/-- One comparison of the exponent. -/
def rung (t : FVec Ideal S16x128 .f32) (b : BitVec 32) (e : IVec S16x128 32) : IVec S16x128 32 :=
  select (cmpf .oge t (bitcastToFloat .f32 (shli (addi e (broadcast S16x128 b)) (broadcast S16x128 23#32)))) (addi e (broadcast S16x128 b)) e

/-- The exponent field of the scale. -/
def upField (t : FVec Ideal S16x128 .f32) : IVec S16x128 32 :=
  (fun e => select (cmpi .eq e (broadcast S16x128 0#32)) (broadcast S16x128 127#32) (addi e (broadcast S16x128 1#32)))
    (rung t 1#32 (rung t 2#32 (rung t 4#32 (rung t 8#32 (rung t 16#32 (rung t 32#32 (rung t 64#32 (rung t 128#32 (broadcast S16x128 0#32)))))))))

/-- The inverse scales of a group of rows. -/
def inverses (m : Chunk) : Chunk :=
  truncf .bf16 (bitcastToFloat .f32 (shli (subi (broadcast S16x128 254#32) (upField (mulf (extf .f32 m bitsLt_bf16_f32) (broadcast S16x128 (Scalar.ofBits (F := Ideal) .f32 0x3B124925#32))))) (broadcast S16x128 23#32))) bitsLt_bf16_f32

/-- The inverse scales as the kernel stores them, by pairs of rows. -/
def stored (v : Chunk) : Vec Ideal S1x8x2x128 .bf16 :=
  interleaveRows S1x8x2x128 (shapeCast S1x8x1x128 (shapeCast S1x8x128 (rowsOfParity 0 S8x128 v bitcasts_S16x128_w16_S8x128_w32) shapeCasts_S8x128_S1x8x128) shapeCasts_S1x8x128_S1x8x1x128)
    (shapeCast S1x8x1x128 (shapeCast S1x8x128 (rowsOfParity 1 S8x128 v bitcasts_S16x128_w16_S8x128_w32) shapeCasts_S8x128_S1x8x128) shapeCasts_S1x8x128_S1x8x1x128) bitcasts_S1x8x2x128_w16_S1x8x1x128_w32

def tree32 (y : ℕ → Chunk) : Chunk := level 1#32 1 (level 2#32 2 (level 4#32 4 (level 8#32 8 (level 16#32 16 y)))) 0
def tree8 (y : ℕ → Chunk) : Chunk := fold 1#32 (fold 2#32 (level 4#32 1 (level 8#32 2 (level 16#32 4 y)) 0))

def rowStart (k : Fin k0_t1_loop.trips) : ℕ := (Scalar.indexCast (Scalar.muli (Scf.iv 0#32 1#32 k) 16#32)).toNat
theorem rowStart_eq (k : Fin k0_t1_loop.trips) : rowStart k = 16 * k := by revert k; decide +kernel

theorem chunk_inb (k : Fin k0_t1_loop.trips) (c : ℕ) : ∀ a, (![rowStart k, 128 * (c % 40)] : Fin 2 → ℕ) a + S16x128.size a ≤ S256x5120.size a := by
  have hk : (k : ℕ) < 16 := lt_of_lt_of_le k.isLt (by decide)
  intro a
  fin_cases a
  · show rowStart k + 16 ≤ 256
    rw [rowStart_eq]
    omega
  · show 128 * (c % 40) + 128 ≤ 5120
    omega

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

/-- The magnitudes of a chunk of a group of rows. -/
def chunk (X2 : BufTy.Contents (Elt Ideal) arg2.view.ty) (k : Fin k0_t1_loop.trips) (c : ℕ) : Chunk :=
  absf (F := Ideal) (φ := .bf16) (shapeCast S16x128 (View.readAt (Elt Ideal) arg2.view (Rect.unit (s := S256x5120) ![rowStart k, 128 * (c % 40)] S16x128.size (chunk_inb k c)).toLoadRect X2) shapeCasts_S16x128_S16x128)

/-- What one group of rows stores of its inverse scales. -/
theorem trip1 (k0_h1 : k0_cond1 i = 1#1) (c0 c1 : BitVec 32) (X2 : BufTy.Contents (Elt Ideal) arg2.view.ty) (k : Fin k0_t1_loop.trips) :
    (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 lanes8 lanes16 c0 c1 X2 k).2 =
      [⟨Rect.unit (s := S2x128x2x128) (k0_off43 k) S1x8x2x128.size (k0_off43_inb i k k0_h1), stored (inverses (tree8 fun j => chunk arg2 X2 k (32 + j)))⟩,
       ⟨Rect.unit (s := S2x128x2x128) (k0_off33 k) S1x8x2x128.size (k0_off33_inb i k k0_h1), stored (inverses (tree32 fun j => chunk arg2 X2 k j))⟩] := by
  unfold tripL_k0_t1 trip_k0_t1
  rfl
end

/-! ## What one step of the maximum holds -/

/-- The lane that differs in one bit. -/
def other (s : ℕ) (l : Fin 128) : Fin 128 := if l.val % (2 * s) < s then Fin.ofNat 128 (l.val + s) else Fin.ofNat 128 (l.val - s)

theorem bit_mask (e : Fin 5) (l : Fin 128) : IntOp.cmpi CmpIPredicate.ne (IntOp.andi (BitVec.ofNat 32 l) (BitVec.ofNat 32 (2 ^ e.val))) 0#32 = if l.val % (2 * 2 ^ e.val) < 2 ^ e.val then 0#1 else 1#1 := by
  revert e l
  decide +kernel

theorem flip_lane (e : Fin 5) (r : Fin 16) (l : Fin 128) : (flipIdx (BitVec.ofNat 32 (2 ^ e.val)) (ix2 r l)).toNat % 128 = other (2 ^ e.val) l := by
  pointwise [flipIdx]
  clear r
  revert e l
  decide +kernel

theorem flip_at (e : Fin 5) (v : Chunk) (r : Fin 16) (l : Fin 128) : flip (BitVec.ofNat 32 (2 ^ e.val)) v (ix2 r l) = v (ix2 r (other (2 ^ e.val) l)) := by
  have h := flip_lane e r l
  pointwise [flip]
  refine congrArg (fun n => v (ix2 r n)) (Fin.ext ?_)
  exact h

theorem pick_at (e : Fin 5) (a b : Chunk) (r : Fin 16) (l : Fin 128) :
    pick (bitMask (BitVec.ofNat 32 (2 ^ e.val))) a b (ix2 r l) = if l.val % (2 * 2 ^ e.val) < 2 ^ e.val then b (ix2 r l) else a (ix2 r l) := by
  have h1 := bit_mask e l
  pointwise [pick, bitMask]
  rw [h1]
  have hr0 : ∀ h : r.val % 2 = 0, (⟨2 * (r.val / 2), by omega⟩ : Fin 16) = r := fun h => Fin.ext (by show 2 * (r.val / 2) = r.val; omega)
  have hr1 : ∀ h : ¬ r.val % 2 = 0, (⟨2 * (r.val / 2) + 1, by omega⟩ : Fin 16) = r := fun h => Fin.ext (by show 2 * (r.val / 2) + 1 = r.val; omega)
  split_ifs with h2 h3 h3
  · rw [hr0 h2]; rfl
  · rw [hr0 h2]; rfl
  · rw [hr1 h2]; rfl
  · rw [hr1 h2]; rfl

theorem halves_at (v : Chunk) (r : Fin 16) (l : Fin 128) :
    interleaveRows S16x128 (rowsOfParity 0 S8x128 v bitcasts_S16x128_w16_S8x128_w32) (rowsOfParity 1 S8x128 v bitcasts_S16x128_w16_S8x128_w32) bitcasts_S16x128_w16_S8x128_w32 (ix2 r l) = v (ix2 r l) := by
  pointwise []
  have hr0 : ∀ h : r.val % 2 = 0, (⟨2 * (r.val / 2), by omega⟩ : Fin 16) = r := fun h => Fin.ext (by show 2 * (r.val / 2) = r.val; omega)
  have hr1 : ∀ h : ¬ r.val % 2 = 0, (⟨2 * (r.val / 2) + 1, by omega⟩ : Fin 16) = r := fun h => Fin.ext (by show 2 * (r.val / 2) + 1 = r.val; omega)
  split_ifs with h2
  · rw [hr0 h2]
  · rw [hr1 h2]

theorem other_bit (e : Fin 5) (l : Fin 128) : (other (2 ^ e.val) l).val % (2 * 2 ^ e.val) < 2 ^ e.val ↔ ¬ (l.val % (2 * 2 ^ e.val) < 2 ^ e.val) := by
  revert e l
  decide +kernel

theorem merge_at (e : Fin 5) (lo hi : Chunk) (r : Fin 16) (l : Fin 128) :
    merge (BitVec.ofNat 32 (2 ^ e.val)) lo hi (ix2 r l) =
      if l.val % (2 * 2 ^ e.val) < 2 ^ e.val then max (lo (ix2 r l)) (lo (ix2 r (other (2 ^ e.val) l))) else max (hi (ix2 r l)) (hi (ix2 r (other (2 ^ e.val) l))) := by
  show max (pick _ hi lo (ix2 r l)) (flip _ (pick _ lo hi) (ix2 r l)) = _
  rw [flip_at, pick_at, pick_at]
  have ho := other_bit e l
  by_cases h : l.val % (2 * 2 ^ e.val) < 2 ^ e.val
  · have h' : ¬ (other (2 ^ e.val) l).val % (2 * 2 ^ e.val) < 2 ^ e.val := fun a => ho.mp a h
    rw [if_pos h, if_pos h, if_neg h']
  · rw [if_neg h, if_neg h, if_pos (ho.mpr h)]

theorem fold_at (e : Fin 5) (v : Chunk) (r : Fin 16) (l : Fin 128) :
    fold (BitVec.ofNat 32 (2 ^ e.val)) v (ix2 r l) = max (v (ix2 r l)) (v (ix2 r (other (2 ^ e.val) l))) := by
  show max (v (ix2 r l)) (flip _ _ (ix2 r l)) = _
  rw [flip_at, halves_at]

/-! ## Which entries a chunk of maxima is above -/

/-- Lane `l` of row `r` of `f` is above the entries of chunk `j + (l % 32) / w * q` in the lanes of the same block that agree with `l` modulo `v`. -/
def Above (X : ℕ → ℕ → ℕ → EReal) (w v q j : ℕ) (f : Chunk) : Prop :=
  ∀ (r : Fin 16) (l : Fin 128) (l' : ℕ), l' / 32 = l.val / 32 → l' % v = l.val % v → X (j + l.val % 32 / w * q) r l' ≤ f (ix2 r l)

/-- The facts on lanes that a merge needs. -/
theorem lane_facts (e : Fin 5) (l : Fin 128) :
    (other (2 ^ e.val) l).val / 32 = l.val / 32 ∧ (other (2 ^ e.val) l).val % (2 * 2 ^ e.val) = (l.val + 2 ^ e.val) % (2 * 2 ^ e.val) ∧ (other (2 ^ e.val) l).val % 32 / (2 * 2 ^ e.val) = l.val % 32 / (2 * 2 ^ e.val)
      ∧ l.val % 32 / 2 ^ e.val = 2 * (l.val % 32 / (2 * 2 ^ e.val)) + (if l.val % (2 * 2 ^ e.val) < 2 ^ e.val then 0 else 1) := by
  revert e l
  decide +kernel

theorem same_or_other (s l l' : ℕ) (h : l' % s = l % s) (hs : 0 < s) : l' % (2 * s) = l % (2 * s) ∨ l' % (2 * s) = (l + s) % (2 * s) := by
  have h1 := Nat.mod_mul (x := l') (a := s) (b := 2)
  have h2 := Nat.mod_mul (x := l) (a := s) (b := 2)
  have h3 := Nat.mod_mul (x := l + s) (a := s) (b := 2)
  rw [Nat.add_mod_right, Nat.add_div_right _ hs] at h3
  rw [Nat.mul_comm] at h1 h2 h3
  rw [h1, h2, h3, h]
  rcases Nat.mod_two_eq_zero_or_one (l' / s) with a | a <;> rcases Nat.mod_two_eq_zero_or_one (l / s) with b | b <;> (have c : (l / s).succ % 2 = 1 - (l / s) % 2 := by omega) <;> rw [c, a, b] <;> simp

theorem Above.merge {X : ℕ → ℕ → ℕ → EReal} (e : Fin 5) {q j : ℕ} {lo hi : Chunk} (h0 : Above X (2 * 2 ^ e.val) (2 * 2 ^ e.val) (2 * q) j lo) (h1 : Above X (2 * 2 ^ e.val) (2 * 2 ^ e.val) (2 * q) (j + q) hi) :
    Above X (2 ^ e.val) (2 ^ e.val) q j (merge (BitVec.ofNat 32 (2 ^ e.val)) lo hi) := by
  intro r l l' hb hm
  rw [merge_at]
  obtain ⟨f1, f2, f3, f4⟩ := lane_facts e l
  rw [f4]
  have hc : ∀ b, j + (2 * (l.val % 32 / (2 * 2 ^ e.val)) + b) * q = j + b * q + l.val % 32 / (2 * 2 ^ e.val) * (2 * q) := fun b => by ring
  rw [hc]
  rcases same_or_other _ _ _ hm (by positivity) with h | h
  · by_cases hl : l.val % (2 * 2 ^ e.val) < 2 ^ e.val
    · simp only [if_pos hl, Nat.zero_mul, Nat.add_zero]
      exact le_max_of_le_left (h0 r l l' hb h)
    · simp only [if_neg hl, Nat.one_mul]
      exact le_max_of_le_left (h1 r l l' hb h)
  · rw [← f2] at h
    rw [← f1] at hb
    rw [← f3]
    by_cases hl : l.val % (2 * 2 ^ e.val) < 2 ^ e.val
    · simp only [if_pos hl, Nat.zero_mul, Nat.add_zero]
      exact le_max_of_le_right (h0 r _ l' hb h)
    · simp only [if_neg hl, Nat.one_mul]
      exact le_max_of_le_right (h1 r _ l' hb h)

theorem quarter (e : Fin 2) (l : Fin 128) : (other (2 ^ e.val) l).val % 32 / 4 = l.val % 32 / 4 := by
  revert e l
  decide +kernel

theorem Above.fold {X : ℕ → ℕ → ℕ → EReal} (e : Fin 2) {q j : ℕ} {f : Chunk} (h0 : Above X 4 (2 * 2 ^ e.val) q j f) :
    Above X 4 (2 ^ e.val) q j (fold (BitVec.ofNat 32 (2 ^ e.val)) f) := by
  intro r l l' hb hm
  have hf := fold_at ⟨e.val, by omega⟩ f r l
  simp only at hf
  rw [hf]
  obtain ⟨f1, f2, f3, f4⟩ := lane_facts ⟨e.val, by omega⟩ l
  simp only at f1 f2 f3
  rcases same_or_other _ _ _ hm (by positivity) with h | h
  · exact le_max_of_le_left (h0 r l l' hb h)
  · rw [← f2] at h
    rw [← f1] at hb
    have hq : (other (2 ^ e.val) l).val % 32 / 4 = l.val % 32 / 4 := quarter e l
    rw [← hq]
    exact le_max_of_le_right (h0 r _ l' hb h)

theorem tree32_above {X : ℕ → ℕ → ℕ → EReal} {y : ℕ → Chunk} (h : ∀ j, Above X 32 32 32 j (y j)) : Above X 1 1 1 0 (tree32 y) := by
  have h16 : ∀ j, Above X 16 16 16 j (level 16#32 16 y j) := fun j => Above.merge (q := 16) 4 (h j) (fun r l l' a b => by have := h (j + 16) r l l' a b; exact this)
  have h8 : ∀ j, Above X 8 8 8 j (level 8#32 8 (level 16#32 16 y) j) := fun j => Above.merge (q := 8) 3 (h16 j) (h16 (j + 8))
  have h4 : ∀ j, Above X 4 4 4 j (level 4#32 4 (level 8#32 8 (level 16#32 16 y)) j) := fun j => Above.merge (q := 4) 2 (h8 j) (h8 (j + 4))
  have h2 : ∀ j, Above X 2 2 2 j (level 2#32 2 (level 4#32 4 (level 8#32 8 (level 16#32 16 y))) j) := fun j => Above.merge (q := 2) 1 (h4 j) (h4 (j + 2))
  exact Above.merge (q := 1) 0 (h2 0) (h2 1)

theorem tree8_above {X : ℕ → ℕ → ℕ → EReal} {y : ℕ → Chunk} (h : ∀ j, Above X 32 32 8 j (y j)) : Above X 4 1 1 0 (tree8 y) := by
  have h16 : ∀ j, Above X 16 16 4 j (level 16#32 4 y j) := fun j => Above.merge (q := 4) 4 (h j) (h (j + 4))
  have h8 : ∀ j, Above X 8 8 2 j (level 8#32 2 (level 16#32 4 y) j) := fun j => Above.merge (q := 2) 3 (h16 j) (h16 (j + 2))
  have h4 : Above X 4 4 1 0 (level 4#32 1 (level 8#32 2 (level 16#32 4 y)) 0) := Above.merge (q := 1) 2 (h8 0) (h8 1)
  exact Above.fold 0 (Above.fold 1 h4)

/-! ## Bounds that the maxima keep -/

def Within (b : EReal) (f : Chunk) : Prop := ∀ (r : Fin 16) (l : Fin 128), 0 ≤ f (ix2 r l) ∧ f (ix2 r l) ≤ b

theorem Within.merge {b : EReal} (e : Fin 5) {lo hi : Chunk} (h0 : Within b lo) (h1 : Within b hi) : Within b (merge (BitVec.ofNat 32 (2 ^ e.val)) lo hi) := by
  intro r l
  rw [merge_at]
  split_ifs
  · exact ⟨le_max_of_le_left (h0 r l).1, max_le (h0 r l).2 (h0 r _).2⟩
  · exact ⟨le_max_of_le_left (h1 r l).1, max_le (h1 r l).2 (h1 r _).2⟩

theorem Within.fold {b : EReal} (e : Fin 5) {f : Chunk} (h0 : Within b f) : Within b (fold (BitVec.ofNat 32 (2 ^ e.val)) f) := by
  intro r l
  rw [fold_at]
  exact ⟨le_max_of_le_left (h0 r l).1, max_le (h0 r l).2 (h0 r _).2⟩

theorem tree32_within {b : EReal} {y : ℕ → Chunk} (h : ∀ j, Within b (y j)) : Within b (tree32 y) := by
  have h16 : ∀ j, Within b (level 16#32 16 y j) := fun j => Within.merge 4 (h j) (h (j + 16))
  have h8 : ∀ j, Within b (level 8#32 8 (level 16#32 16 y) j) := fun j => Within.merge 3 (h16 j) (h16 (j + 8))
  have h4 : ∀ j, Within b (level 4#32 4 (level 8#32 8 (level 16#32 16 y)) j) := fun j => Within.merge 2 (h8 j) (h8 (j + 4))
  have h2 : ∀ j, Within b (level 2#32 2 (level 4#32 4 (level 8#32 8 (level 16#32 16 y))) j) := fun j => Within.merge 1 (h4 j) (h4 (j + 2))
  exact Within.merge 0 (h2 0) (h2 1)

theorem tree8_within {b : EReal} {y : ℕ → Chunk} (h : ∀ j, Within b (y j)) : Within b (tree8 y) := by
  have h16 : ∀ j, Within b (level 16#32 4 y j) := fun j => Within.merge 4 (h j) (h (j + 4))
  have h8 : ∀ j, Within b (level 8#32 2 (level 16#32 4 y) j) := fun j => Within.merge 3 (h16 j) (h16 (j + 2))
  have h4 : Within b (level 4#32 1 (level 8#32 2 (level 16#32 4 y)) 0) := Within.merge 2 (h8 0) (h8 1)
  exact Within.fold 0 (Within.fold 1 h4)

/-! ## The scale's exponent -/

/-- The value of the pattern that has only the exponent field `k`. -/
def pw (k : ℕ) : EReal := if k = 0 then 0 else if k < 255 then (((2 : ℝ) ^ ((k : ℤ) - 127) : ℝ) : EReal) else ⊤

theorem fields (k : Fin 256) : (IntOp.shli .vector (BitVec.ofNat 32 k) 23#32).extractLsb' 31 1 = 0#1 ∧ ((IntOp.shli .vector (BitVec.ofNat 32 k) 23#32).extractLsb' 23 8).toNat = k ∧ ((IntOp.shli .vector (BitVec.ofNat 32 k) 23#32).extractLsb' 0 23).toNat = 0 := by
  revert k
  decide +kernel

theorem ieee_pw {b : BitVec 32} {k : ℕ} (hk : k < 256) (h1 : b.extractLsb' (8 + 23) 1 = 0#1) (h2 : (b.extractLsb' 23 8).toNat = k) (h3 : (b.extractLsb' 0 23).toNat = 0) : Ideal.ieee 8 23 b = pw k := by
  unfold Ideal.ieee pw
  simp only [h1, h2, h3]
  by_cases h0 : k = 0
  · simp [h0]
  · by_cases h5 : k = 255
    · simp [h5]
    · have h255 : ¬ k = 2 ^ 8 - 1 := by norm_num; exact h5
      have hlt : k < 255 := by omega
      simp only [if_neg h255, if_neg h0, if_pos hlt]
      congr 1
      have : ((k : ℤ) - 127) = ((k : ℤ) - 127 - 23) + 23 := by ring
      rw [this, zpow_add₀ (by norm_num)]
      norm_num
      ring

theorem ofBits_pw {k : ℕ} (hk : k < 256) : Ideal.ofBits .f32 (IntOp.shli .vector (BitVec.ofNat 32 k) 23#32) = pw k := by
  obtain ⟨h1, h2, h3⟩ := fields ⟨k, hk⟩
  exact ieee_pw hk h1 h2 h3

theorem rung_at {t : FVec Ideal S16x128 .f32} {e : IVec S16x128 32} {r : Fin 16} {l : Fin 128} {n b : ℕ} (he : e (ix2 r l) = BitVec.ofNat 32 n) (hb : n + 2 * b ≤ 256) (hb' : 0 < b)
    (h0 : pw n ≤ t (ix2 r l)) (h1 : t (ix2 r l) < pw (n + 2 * b)) :
    ∃ n', rung t (BitVec.ofNat 32 b) e (ix2 r l) = BitVec.ofNat 32 n' ∧ n' + b ≤ 256 ∧ pw n' ≤ t (ix2 r l) ∧ t (ix2 r l) < pw (n' + b) := by
  have hp := ofBits_pw (k := n + b) (by omega)
  have ha : IntOp.addi (e (ix2 r l)) (BitVec.ofNat 32 b) = BitVec.ofNat 32 (n + b) := by
    rw [he]
    exact (BitVec.ofNat_add n b).symm
  have hv : rung t (BitVec.ofNat 32 b) e (ix2 r l) = Scalar.select (BitVec.ofBool (decide (Ideal.ofBits .f32 (IntOp.shli .vector (IntOp.addi (e (ix2 r l)) (BitVec.ofNat 32 b)) 23#32) ≤ t (ix2 r l)))) (IntOp.addi (e (ix2 r l)) (BitVec.ofNat 32 b)) (e (ix2 r l)) := rfl
  rw [hv, ha, hp, he]
  by_cases h : pw (n + b) ≤ t (ix2 r l)
  · refine ⟨n + b, ?_, by omega, h, ?_⟩
    · simp [h, Scalar.select]
    · rw [show n + b + b = n + 2 * b by omega]
      exact h1
  · refine ⟨n, ?_, by omega, h0, not_le.mp h⟩
    simp [h, Scalar.select]

theorem up_at {t : FVec Ideal S16x128 .f32} {r : Fin 16} {l : Fin 128} (h0 : 0 ≤ t (ix2 r l)) (h1 : t (ix2 r l) < ⊤) :
    ∃ n, n < 256 ∧ upField t (ix2 r l) = BitVec.ofNat 32 (if n = 0 then 127 else n + 1) ∧ pw n ≤ t (ix2 r l) ∧ t (ix2 r l) < pw (n + 1) := by
  obtain ⟨n1, e1, b1, l1, u1⟩ := rung_at (t := t) (e := broadcast S16x128 0#32) (r := r) (l := l) (n := 0) (b := 128) rfl (by norm_num) (by norm_num) (by simpa [pw] using h0) (by simpa [pw] using h1)
  obtain ⟨n2, e2, b2, l2, u2⟩ := rung_at (b := 64) e1 b1 (by norm_num) l1 u1
  obtain ⟨n3, e3, b3, l3, u3⟩ := rung_at (b := 32) e2 b2 (by norm_num) l2 u2
  obtain ⟨n4, e4, b4, l4, u4⟩ := rung_at (b := 16) e3 b3 (by norm_num) l3 u3
  obtain ⟨n5, e5, b5, l5, u5⟩ := rung_at (b := 8) e4 b4 (by norm_num) l4 u4
  obtain ⟨n6, e6, b6, l6, u6⟩ := rung_at (b := 4) e5 b5 (by norm_num) l5 u5
  obtain ⟨n7, e7, b7, l7, u7⟩ := rung_at (b := 2) e6 b6 (by norm_num) l6 u6
  obtain ⟨n, e8, b8, l8, u8⟩ := rung_at (b := 1) e7 b7 (by norm_num) l7 u7
  refine ⟨n, by omega, ?_, l8, u8⟩
  have hs : ∀ n : Fin 256, Scalar.select (IntOp.cmpi CmpIPredicate.eq (BitVec.ofNat 32 n) 0#32) 127#32 (IntOp.addi (BitVec.ofNat 32 n) 1#32) = BitVec.ofNat 32 (if n.val = 0 then 127 else n + 1) := by decide +kernel
  refine Eq.trans ?_ (hs ⟨n, by omega⟩)
  show Scalar.select (IntOp.cmpi CmpIPredicate.eq (rung _ _ _ (ix2 r l)) 0#32) 127#32 (IntOp.addi (rung _ _ _ (ix2 r l)) 1#32) = _
  erw [e8]

theorem coef : Ideal.ofBits .f32 0x3B124925#32 = ((9586981 / 4294967296 : ℝ) : EReal) := by
  simp [Ideal.ofBits, Ideal.ieee, -EReal.coe_mul]
  norm_num
theorem top448 : Ideal.ofBits .f32 0x43E00000#32 = ((448 : ℝ) : EReal) := by
  simp [Ideal.ofBits, Ideal.ieee, -EReal.coe_mul]
  norm_num
theorem bot448 : Ideal.ofBits .f32 0xC3E00000#32 = ((-448 : ℝ) : EReal) := by
  simp [Ideal.ofBits, Ideal.ieee, -EReal.coe_mul, -EReal.coe_neg]
  norm_num

/-- The inverse scale of a block of magnitude at most `a`. -/
theorem inverses_at {m : Chunk} {r : Fin 16} {l : Fin 128} {a : ℝ} (hm : m (ix2 r l) = (a : EReal)) (h0 : 0 ≤ a) (h1 : a ≤ 2 ^ 128) :
    ∃ s : ℝ, 0 < s ∧ inverses m (ix2 r l) = (s : EReal) ∧ a * s ≤ 448 := by
  set t : FVec Ideal S16x128 .f32 := mulf (extf .f32 m bitsLt_bf16_f32) (broadcast S16x128 (Scalar.ofBits (F := Ideal) .f32 0x3B124925#32)) with ht
  have hta : t (ix2 r l) = ((a * (9586981 / 4294967296) : ℝ) : EReal) := by
    show m (ix2 r l) * Ideal.ofBits .f32 0x3B124925#32 = _
    rw [hm, coef, EReal.coe_mul]
  obtain ⟨n, hn, hu, hl, hh⟩ := up_at (t := t) (r := r) (l := l) (by rw [hta]; exact EReal.coe_nonneg.mpr (by positivity)) (by rw [hta]; exact EReal.coe_lt_top _)
  rw [hta] at hl hh
  have hv : inverses m (ix2 r l) = Ideal.ofBits .f32 (IntOp.shli .vector (IntOp.subi 254#32 (upField t (ix2 r l))) 23#32) := rfl
  rw [hv, hu]
  by_cases hz : n = 0
  · subst hz
    refine ⟨1, one_pos, ?_, ?_⟩
    · exact (ofBits_pw (k := 127) (by norm_num)).trans (by simp [pw])
    · simp only [pw] at hh
      norm_num at hh
      have hh' := EReal.coe_lt_coe_iff.mp hh
      have : (2 : ℝ) ^ (-126 : ℤ) ≤ 1 := by norm_num
      nlinarith
  · have hn7 : n < 247 := by
      by_contra hge
      have h247 : ((2 : ℝ) ^ (120 : ℤ) : ℝ) ≤ a * (9586981 / 4294967296) := by
        refine EReal.coe_le_coe_iff.mp (le_trans ?_ hl)
        unfold pw
        rw [if_neg hz]
        split_ifs
        · refine EReal.coe_le_coe_iff.mpr (zpow_le_zpow_right₀ (by norm_num) (by omega))
        · exact le_top
      norm_num at h247 h1
      linarith
    have hsub : ∀ n : Fin 247, IntOp.subi 254#32 (BitVec.ofNat 32 (n + 1)) = BitVec.ofNat 32 (253 - n) := by decide +kernel
    refine ⟨(2 : ℝ) ^ (126 - (n : ℤ)), by positivity, ?_, ?_⟩
    · rw [if_neg hz, hsub ⟨n, hn7⟩, ofBits_pw (by show 253 - n < 256; omega)]
      show pw (253 - n) = _
      unfold pw
      rw [if_neg (by omega), if_pos (by omega)]
      congr 2
      omega
    · unfold pw at hh
      rw [if_neg (by omega), if_pos (by omega)] at hh
      have hh' := EReal.coe_lt_coe_iff.mp hh
      have hp : (0 : ℝ) < (2 : ℝ) ^ (126 - (n : ℤ)) := by positivity
      have hm1 : (2 : ℝ) ^ (((n + 1 : ℕ) : ℤ) - 127) * (2 : ℝ) ^ (126 - (n : ℤ)) = 1 := by
        rw [← zpow_add₀ (by norm_num)]
        have : ((n + 1 : ℕ) : ℤ) - 127 + (126 - (n : ℤ)) = 0 := by push_cast; ring
        rw [this, zpow_zero]
      have := mul_lt_mul_of_pos_right hh' hp
      rw [hm1] at this
      nlinarith

theorem quantV_eq {x s : ℝ} (hs : 0 < s) (h : |x| * s ≤ 448) : quantV x s = x := by
  unfold quantV
  rw [top448, bot448, Ideal.ofBits_one_f32]
  have h1 : |x * s| ≤ 448 := by rw [abs_mul, abs_of_pos hs]; exact h
  obtain ⟨ha, hb⟩ := abs_le.mp h1
  rw [← EReal.coe_mul, max_eq_right (EReal.coe_le_coe_iff.mpr ha), min_eq_right (EReal.coe_le_coe_iff.mpr hb)]
  unfold Ideal.div
  rw [if_neg (by exact_mod_cast hs.ne'), one_mul, ← EReal.coe_inv, ← EReal.coe_mul, mul_assoc, mul_inv_cancel₀ hs.ne', mul_one]

/-! ## The inverse scales after the loop over the groups of rows -/

theorem stored_at (v : Chunk) (a : Fin 8) (p : Fin 2) (l : Fin 128) : stored v (ix4 0 a p l) = v (ix2 (⟨2 * a + p, by omega⟩ : Fin 16) l) := by
  pointwise [stored]
  fin_cases p
  · rfl
  · rfl

theorem off33_eq (k : Fin k0_t1_loop.trips) : k0_off33 k = ![0, 8 * k.val, 0, 0] := by revert k; decide +kernel
theorem off43_eq (k : Fin k0_t1_loop.trips) : k0_off43 k = ![1, 8 * k.val, 0, 0] := by revert k; decide +kernel

/-- Stores of eight pairs of rows in each of the two parts: what the buffer then reads. -/
theorem pairs_read {arg11 : Memref sig .tc .vmem S2x128x2x128 .bf16} {f : BufTy.Contents (Elt Ideal) arg11.view.ty} {n : ℕ} (hn : n ≤ 16)
    (L : ℕ → List (View.Piece (Elt Ideal) S2x128x2x128 .bf16)) (W0 W1 : ℕ → Chunk)
    (hs : ∀ k < n, ∃ (o0 o1 : Fin 4 → ℕ) (inb0 : ∀ a, o0 a + S1x8x2x128.size a ≤ S2x128x2x128.size a) (inb1 : ∀ a, o1 a + S1x8x2x128.size a ≤ S2x128x2x128.size a),
      o0 = ![0, 8 * k, 0, 0] ∧ o1 = ![1, 8 * k, 0, 0] ∧ L (k + 1) = ⟨Rect.unit (s := S2x128x2x128) o1 S1x8x2x128.size inb1, stored (W1 k)⟩ :: ⟨Rect.unit (s := S2x128x2x128) o0 S1x8x2x128.size inb0, stored (W0 k)⟩ :: L k) :
    ∀ k ≤ n, ∀ r < 16 * k, ∀ l < 128, at4 (arg11.view.read (Elt Ideal) (arg11.view.writes (Elt Ideal) f (L k))) 0 (r / 2) (r % 2) l = W0 (r / 16) (ix2 (Fin.ofNat 16 r) (Fin.ofNat 128 l))
      ∧ at4 (arg11.view.read (Elt Ideal) (arg11.view.writes (Elt Ideal) f (L k))) 1 (r / 2) (r % 2) l = W1 (r / 16) (ix2 (Fin.ofNat 16 r) (Fin.ofNat 128 l)) := by
  intro k
  induction k with
  | zero => intro _ r hr; omega
  | succ k ih =>
    intro hk r hr l hl
    obtain ⟨o0, o1, inb0, inb1, h0, h1, hL⟩ := hs k (by omega)
    rw [hL]
    have hr2 : r / 2 % 128 = r / 2 := Nat.mod_eq_of_lt (by omega)
    have hr1 : r % 2 % 2 = r % 2 := Nat.mod_eq_of_lt (by omega)
    have hl' : l % 128 = l := Nat.mod_eq_of_lt hl
    by_cases h : 16 * k ≤ r
    · have hx : ∀ W : Chunk, stored W (ix4 0 (⟨r / 2 - 8 * k, by omega⟩ : Fin 8) (⟨r % 2, by omega⟩ : Fin 2) (⟨l, hl⟩ : Fin 128)) = W (ix2 (Fin.ofNat 16 r) (Fin.ofNat 128 l)) := by
        intro W
        refine (stored_at _ _ _ _).trans (congrArg W ?_)
        have e1 : (⟨2 * (r / 2 - 8 * k) + r % 2, by omega⟩ : Fin 16) = Fin.ofNat 16 r := Fin.ext (by show 2 * (r / 2 - 8 * k) + r % 2 = r % 16; omega)
        have e2 : (⟨l, hl⟩ : Fin 128) = Fin.ofNat 128 l := Fin.ext hl'.symm
        exact congrArg₂ ix2 e1 e2
      have hk' : r / 16 = k := by omega
      rw [hk']
      constructor
      · refine (View.read_writes_cons_unit_of_not_mem arg11.view f inb1 _ _ _ h1 0 (by show 0 % 2 < 1 ∨ 1 + 1 ≤ 0 % 2; omega)).trans ?_
        refine (View.read_writes_cons_unit_of_mem arg11.view f inb0 _ _ _ (ix4 0 (⟨r / 2 - 8 * k, by omega⟩ : Fin 8) (⟨r % 2, by omega⟩ : Fin 2) (⟨l, hl⟩ : Fin 128)) h0 ?_).trans (hx _)
        intro a; fin_cases a
        · rfl
        · show r / 2 % 128 = 8 * k + (r / 2 - 8 * k); omega
        · show r % 2 % 2 = 0 + r % 2; omega
        · show l % 128 = 0 + l; omega
      · refine (View.read_writes_cons_unit_of_mem arg11.view f inb1 _ _ _ (ix4 0 (⟨r / 2 - 8 * k, by omega⟩ : Fin 8) (⟨r % 2, by omega⟩ : Fin 2) (⟨l, hl⟩ : Fin 128)) h1 ?_).trans (hx _)
        intro a; fin_cases a
        · rfl
        · show r / 2 % 128 = 8 * k + (r / 2 - 8 * k); omega
        · show r % 2 % 2 = 0 + r % 2; omega
        · show l % 128 = 0 + l; omega
    · obtain ⟨i0, i1⟩ := ih (by omega) r (by omega) l hl
      constructor
      · refine (View.read_writes_cons_unit_of_not_mem arg11.view f inb1 _ _ _ h1 1 (by show r / 2 % 128 < 8 * k ∨ 8 * k + 8 ≤ r / 2 % 128; omega)).trans ?_
        exact (View.read_writes_cons_unit_of_not_mem arg11.view f inb0 _ _ _ h0 1 (by show r / 2 % 128 < 8 * k ∨ 8 * k + 8 ≤ r / 2 % 128; omega)).trans i0
      · refine (View.read_writes_cons_unit_of_not_mem arg11.view f inb1 _ _ _ h1 1 (by show r / 2 % 128 < 8 * k ∨ 8 * k + 8 ≤ r / 2 % 128; omega)).trans ?_
        exact (View.read_writes_cons_unit_of_not_mem arg11.view f inb0 _ _ _ h0 1 (by show r / 2 % 128 < 8 * k ∨ 8 * k + 8 ≤ r / 2 % 128; omega)).trans i1

/-- Every entry of the rows is a real number of the 16-bit format's range. -/
def Finite (x2 : S256x5120.Idx → EReal) : Prop := ∀ r < 256, ∀ d < 5120, ∃ a : ℝ, at2 x2 r d = (a : EReal) ∧ |a| ≤ 2 ^ 128

theorem chunk_at {arg2 : Memref sig .tc .vmem S256x5120 .bf16} (X2 : BufTy.Contents (Elt Ideal) arg2.view.ty) (k : Fin k0_t1_loop.trips) (j : ℕ) (r : Fin 16) (l : Fin 128) :
    chunk arg2 X2 k j (ix2 r l) = max (at2 (arg2.view.read (Elt Ideal) X2) (16 * k + r) (128 * (j % 40) + l)) (-at2 (arg2.view.read (Elt Ideal) X2) (16 * k + r) (128 * (j % 40) + l)) := by
  have h : shapeCast S16x128 (View.readAt (Elt Ideal) arg2.view (Rect.unit (s := S256x5120) ![rowStart k, 128 * (j % 40)] S16x128.size (chunk_inb k j)).toLoadRect X2) shapeCasts_S16x128_S16x128 (ix2 r l)
      = at2 (arg2.view.read (Elt Ideal) X2) (16 * k + r) (128 * (j % 40) + l) := by
    pointwise []
    refine (ld2 (arg2.view.read (Elt Ideal) X2) _ _ _ (ix2 r l)).trans ?_
    show at2 _ (rowStart k + r) (128 * (j % 40) + l) = _
    rw [rowStart_eq]
  show max (shapeCast S16x128 _ _ (ix2 r l)) (-shapeCast S16x128 _ _ (ix2 r l)) = _
  rw [h]

theorem abs_real {x : EReal} {a : ℝ} (h : x = (a : EReal)) : max x (-x) = ((|a| : ℝ) : EReal) := by
  subst h
  rw [← EReal.coe_neg, abs_eq_max_neg]
  exact (EReal.coe_strictMono.monotone.map_max).symm

theorem chunk_within {arg2 : Memref sig .tc .vmem S256x5120 .bf16} {X2 : BufTy.Contents (Elt Ideal) arg2.view.ty} (hf : Finite (arg2.view.read (Elt Ideal) X2)) (k : Fin k0_t1_loop.trips) (j : ℕ) :
    Within ((2 ^ 128 : ℝ) : EReal) (chunk arg2 X2 k j) := by
  have hk : (k : ℕ) < 16 := lt_of_lt_of_le k.isLt (by decide)
  intro r l
  have hr := r.isLt
  have hl := l.isLt
  obtain ⟨a, h1, h2⟩ := hf (16 * k + r) (by omega) (128 * (j % 40) + l) (by omega)
  rw [chunk_at, abs_real h1]
  exact ⟨EReal.coe_nonneg.mpr (abs_nonneg a), EReal.coe_le_coe_iff.mpr h2⟩

theorem chunk_above {arg2 : Memref sig .tc .vmem S256x5120 .bf16} (X2 : BufTy.Contents (Elt Ideal) arg2.view.ty) (k : Fin k0_t1_loop.trips) (first q j : ℕ) :
    Above (fun c r l => max (at2 (arg2.view.read (Elt Ideal) X2) (16 * k + r) (128 * ((first + c) % 40) + l)) (-at2 (arg2.view.read (Elt Ideal) X2) (16 * k + r) (128 * ((first + c) % 40) + l))) 32 32 q j (chunk arg2 X2 k (first + j)) := by
  intro r l l' hb hm
  have : l' = l := by omega
  subst this
  rw [chunk_at, Nat.div_eq_of_lt (Nat.mod_lt _ (by norm_num)), Nat.zero_mul, Nat.add_zero]

/-- An entry of magnitude at most the maximum whose inverse scale it takes is its own quantised value. -/
theorem quant_of {m : Chunk} {r : Fin 16} {l : Fin 128} {x : EReal} {a : ℝ} (hx : x = (a : EReal)) (hm : Within ((2 ^ 128 : ℝ) : EReal) m) (h : max x (-x) ≤ m (ix2 r l)) :
    quantV x (inverses m (ix2 r l)) = x := by
  obtain ⟨h0, h1⟩ := hm r l
  have hb : m (ix2 r l) ≠ ⊥ := fun e => by rw [e] at h0; exact absurd h0 (by simp)
  have ht : m (ix2 r l) ≠ ⊤ := fun e => by rw [e] at h1; exact absurd (top_le_iff.mp h1) (EReal.coe_ne_top _)
  obtain ⟨b, hb'⟩ : ∃ b : ℝ, m (ix2 r l) = (b : EReal) := ⟨(m (ix2 r l)).toReal, (EReal.coe_toReal ht hb).symm⟩
  rw [hb'] at h0 h1
  obtain ⟨s, hs, hv, hle⟩ := inverses_at hb' (EReal.coe_nonneg.mp h0) (EReal.coe_le_coe_iff.mp h1)
  rw [abs_real hx, hb'] at h
  rw [hv, hx]
  exact quantV_eq hs (le_trans (mul_le_mul_of_nonneg_right (EReal.coe_le_coe_iff.mp h) hs.le) hle)

theorem lane_lo {b q : ℕ} (hb : b < 4) (hq : q < 32) : (b * 32 + q) % 128 / 32 = b ∧ (b * 32 + q) % 128 % 32 = q := by omega

theorem lane_hi {b q : ℕ} (hb : b < 4) (hq : q < 8) : (b * 32 + 4 * q) % 128 / 32 = b ∧ (b * 32 + 4 * q) % 128 % 32 / 4 = q := by omega

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

/-- After the loop over the groups of rows, the inverse scales are good ones. -/
theorem scales_good (k0_h1 : k0_cond1 i = 1#1) (X2 : BufTy.Contents (Elt Ideal) arg2.view.ty) (f : BufTy.Contents (Elt Ideal) arg11.view.ty) (hf : Finite (arg2.view.read (Elt Ideal) X2)) :
    Good (arg2.view.read (Elt Ideal) X2) (arg11.view.read (Elt Ideal) (arg11.view.writes (Elt Ideal) f
      (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 lanes8 lanes16 0#32 1#32 X2 k0_t1_loop.trips).2)) := by
  have e1 : k0_t1_loop.trips = 16 := by decide
  have h := pairs_read (arg11 := arg11) (f := f) (n := 16) (le_refl _)
    (fun k => (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 lanes8 lanes16 0#32 1#32 X2 k).2)
    (fun k => inverses (tree32 fun j => chunk arg2 X2 (⟨k % k0_t1_loop.trips, Nat.mod_lt _ (by decide)⟩ : Fin k0_t1_loop.trips) (0 + j))) (fun k => inverses (tree8 fun j => chunk arg2 X2 (⟨k % k0_t1_loop.trips, Nat.mod_lt _ (by decide)⟩ : Fin k0_t1_loop.trips) (32 + j)))
    (fun k hk => by
      have hk' : k < k0_t1_loop.trips := by omega
      have hm : (⟨k % k0_t1_loop.trips, Nat.mod_lt _ (by decide)⟩ : Fin k0_t1_loop.trips) = ⟨k, hk'⟩ := Fin.ext (Nat.mod_eq_of_lt hk')
      refine ⟨_, _, k0_off33_inb i ⟨k, hk'⟩ k0_h1, k0_off43_inb i ⟨k, hk'⟩ k0_h1, off33_eq ⟨k, hk'⟩, off43_eq ⟨k, hk'⟩, ?_⟩
      refine (congrArg Prod.snd (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 lanes8 lanes16 0#32 1#32 X2 ⟨k, hk'⟩)).trans ((congrArg (· ++ _) (trip1 c i arg1 harg1 arg2 harg2 arg3 harg3 arg4 harg4 arg5 harg5 arg6 harg6 arg7 harg7 arg8 harg8 arg9 harg9 arg10 harg10 arg11 harg11 arg12 harg12 arg13 harg13 arg14 harg14 k0_h1 0#32 1#32 X2 ⟨k, hk'⟩)).trans ?_)
      simp only [hm, Nat.zero_add]
      rfl) 16 (le_refl _)
  rw [e1]
  intro r hr d hd
  obtain ⟨a, ha, -⟩ := hf r hr d hd
  have hk : r / 16 % k0_t1_loop.trips = r / 16 := Nat.mod_eq_of_lt (by rw [e1]; omega)
  have hrow : 16 * (r / 16 % k0_t1_loop.trips) + r % 16 = r := by rw [hk]; omega
  unfold invAt
  split_ifs with h4
  · rw [(h r (by omega) (d % 128 / 32 * 32 + d / 128) (by omega)).1]
    refine quant_of ha (tree32_within fun j => chunk_within hf _ _) ?_
    obtain ⟨g1, g2⟩ := lane_lo (b := d % 128 / 32) (q := d / 128) (by omega) (by omega)
    have := tree32_above (fun j => chunk_above X2 (⟨r / 16 % k0_t1_loop.trips, Nat.mod_lt _ (by decide)⟩ : Fin k0_t1_loop.trips) 0 32 j) (Fin.ofNat 16 r) (Fin.ofNat 128 (d % 128 / 32 * 32 + d / 128)) (d % 128)
      (by show d % 128 / 32 = (d % 128 / 32 * 32 + d / 128) % 128 / 32; exact g1.symm) (by rw [Nat.mod_one, Nat.mod_one])
    refine le_trans (le_of_eq ?_) this
    have hc : 128 * ((0 + (0 + (d % 128 / 32 * 32 + d / 128) % 128 % 32 / 1 * 1)) % 40) + d % 128 = d := by rw [g2]; clear g1 g2 this; omega
    show _ = max (at2 _ (16 * (r / 16 % k0_t1_loop.trips) + r % 16) (128 * ((0 + (0 + (d % 128 / 32 * 32 + d / 128) % 128 % 32 / 1 * 1)) % 40) + d % 128)) (-at2 _ (16 * (r / 16 % k0_t1_loop.trips) + r % 16) (128 * ((0 + (0 + (d % 128 / 32 * 32 + d / 128) % 128 % 32 / 1 * 1)) % 40) + d % 128))
    rw [hrow, hc]
  · rw [(h r (by omega) (d % 128 / 32 * 32 + 4 * (d / 128 - 32)) (by omega)).2]
    refine quant_of ha (tree8_within fun j => chunk_within hf _ _) ?_
    obtain ⟨g1, g2⟩ := lane_hi (b := d % 128 / 32) (q := d / 128 - 32) (by omega) (by omega)
    have := tree8_above (fun j => chunk_above X2 (⟨r / 16 % k0_t1_loop.trips, Nat.mod_lt _ (by decide)⟩ : Fin k0_t1_loop.trips) 32 8 j) (Fin.ofNat 16 r) (Fin.ofNat 128 (d % 128 / 32 * 32 + 4 * (d / 128 - 32))) (d % 128)
      (by show d % 128 / 32 = (d % 128 / 32 * 32 + 4 * (d / 128 - 32)) % 128 / 32; exact g1.symm) (by rw [Nat.mod_one, Nat.mod_one])
    refine le_trans (le_of_eq ?_) this
    have hc : 128 * ((32 + (0 + (d % 128 / 32 * 32 + 4 * (d / 128 - 32)) % 128 % 32 / 4 * 1)) % 40) + d % 128 = d := by rw [g2]; clear g1 g2 this; omega
    show _ = max (at2 _ (16 * (r / 16 % k0_t1_loop.trips) + r % 16) (128 * ((32 + (0 + (d % 128 / 32 * 32 + 4 * (d / 128 - 32)) % 128 % 32 / 4 * 1)) % 40) + d % 128)) (-at2 _ (16 * (r / 16 % k0_t1_loop.trips) + r % 16) (128 * ((32 + (0 + (d % 128 / 32 * 32 + 4 * (d / 128 - 32)) % 128 % 32 / 4 * 1)) % 40) + d % 128))
    rw [hrow, hc]
end

end Cert.Proof.PV
-- ==== Proof.PVBody1.lean ====
module

public import proofs.«01_k».proof.Proof.Gen.KernelIdeal.Skeleton
public import proofs.«01_k».proof.Proof.Gen.KernelIdeal.Loops
public import proofs.«01_k».proof.Proof.PVTiles
public import proofs.«01_k».proof.Proof.PVGroups
public import proofs.«01_k».proof.Proof.PVScale
public import Idealize.ShloMosaic.Lib.Mxu.Walk
public import Idealize.ShloMosaic.Lib.WritesUnit
public import Idealize.ShloMosaic.Lib.Tactic

@[expose] public section

set_option maxRecDepth 8192
set_option maxHeartbeats 1000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

/-! ## The first step's work -/

/-- The caps: no bound on a row of the sequence, 0 on any other. -/
def Caps (v0 v1 : BitVec 32) (x14 : S2x256x128.Idx → EReal) : Prop :=
  ∀ m < 256, ∀ l < 128, at3 x14 0 m l = (if m < v0.toNat then ⊤ else 0) ∧ at3 x14 1 m l = if packed v0 ≤ m ∧ m < packed v0 + v1.toNat then ⊤ else 0

/-- What the first step leaves for the others: the rows in the packed buffer and the caps. -/
def Ready (v0 v1 : BitVec 32) (x2 : S256x5120.Idx → EReal) (x10 : S128x2x5120.Idx → EReal) (x14 : S2x256x128.Idx → EReal) : Prop :=
  XvUpTo x2 x10 (packed v0) 8 ∧ Caps v0 v1 x14

theorem inf_bits : Ideal.ofBits FTy.f32 2139095040#32 = (⊤ : EReal) := by
  simp [Ideal.ofBits, Ideal.ieee]

theorem slt_at {x y : BitVec 32} (hx : x.toNat < 2 ^ 31) (hy : y.toNat < 2 ^ 31) : IntOp.cmpi CmpIPredicate.slt x y = if x.toNat < y.toNat then 1#1 else 0#1 := by
  have ex : x.toInt = x.toNat := BitVec.toInt_eq_toNat_of_lt (by omega)
  have ey : y.toInt = y.toNat := BitVec.toInt_eq_toNat_of_lt (by omega)
  simp only [IntOp.cmpi, BitVec.slt, ex, ey, Nat.cast_lt]
  split_ifs with h <;> simp [h]

theorem sge_at {x y : BitVec 32} (hx : x.toNat < 2 ^ 31) (hy : y.toNat < 2 ^ 31) : IntOp.cmpi CmpIPredicate.sge x y = if y.toNat ≤ x.toNat then 1#1 else 0#1 := by
  have ex : x.toInt = x.toNat := BitVec.toInt_eq_toNat_of_lt (by omega)
  have ey : y.toInt = y.toNat := BitVec.toInt_eq_toNat_of_lt (by omega)
  simp only [IntOp.cmpi, BitVec.sle, ex, ey, Nat.cast_le]
  split_ifs with h <;> simp [h]

theorem cap0_at (v0 : BitVec 32) (h0 : v0.toNat ≤ 128) (m : Fin 256) (l : Fin 128) :
    k0_pay472 (F := Ideal) v0 (ix3 0 m l) = if (m : ℕ) < v0.toNat then ⊤ else 0 := by
  have hm := m.isLt
  have e : (BitVec.ofNat 32 (m : ℕ)).toNat = m := by rw [BitVec.toNat_ofNat]; omega
  pointwise [k0_pay472]
  rw [slt_at (by omega) (by omega), inf_bits, e]
  by_cases h : (m : ℕ) < v0.toNat
  · rw [if_pos h, if_pos h]; rfl
  · rw [if_neg h, if_neg h]; rfl

theorem cap1_at (v0 v1 v22 : BitVec 32) (h0 : v0.toNat ≤ 128) (h1 : v1.toNat ≤ 128) (h22 : v22.toNat = packed v0) (m : Fin 256) (l : Fin 128) :
    k0_pay473 (F := Ideal) v1 v22 (ix3 0 m l) = if packed v0 ≤ (m : ℕ) ∧ (m : ℕ) < packed v0 + v1.toNat then ⊤ else 0 := by
  have hm := m.isLt
  obtain ⟨hp, hp'⟩ := packed_le h0
  have e : (BitVec.ofNat 32 (m : ℕ)).toNat = m := by rw [BitVec.toNat_ofNat]; omega
  have ea : (Scalar.addi v22 v1).toNat = packed v0 + v1.toNat := by show (v22 + v1).toNat = _; rw [BitVec.toNat_add, h22]; omega
  pointwise [k0_pay473]
  rw [slt_at (by omega) (by omega), sge_at (by omega) (by omega), inf_bits, e, ea, h22]
  by_cases ha : packed v0 ≤ (m : ℕ)
  · by_cases hb : (m : ℕ) < packed v0 + v1.toNat
    · rw [if_pos ha, if_pos hb, if_pos ⟨ha, hb⟩]; rfl
    · rw [if_pos ha, if_neg hb, if_neg (fun h => hb h.2)]; rfl
  · by_cases hb : (m : ℕ) < packed v0 + v1.toNat
    · rw [if_neg ha, if_pos hb, if_neg (fun h => ha h.1)]; rfl
    · rw [if_neg ha, if_neg hb, if_neg (fun h => ha h.1)]; rfl

theorem of_le {v : BitVec 32} (h : v.toNat ≤ 128) : ∃ n : Fin 129, v = BitVec.ofNat 32 n.val :=
  ⟨⟨v.toNat, by omega⟩, by apply BitVec.eq_of_toNat_eq; rw [BitVec.toNat_ofNat]; exact (Nat.mod_eq_of_lt v.isLt).symm⟩

/-- The first packed row of sequence 1, as the kernel computes it. -/
theorem mult1_packed {v0 : BitVec 32} (h : v0.toNat ≤ 128) : (k0_mult1 v0).toNat = packed v0 := by
  obtain ⟨n, rfl⟩ := of_le h
  clear h
  revert n
  decide +kernel

/-- The steps use 160 rows if that is enough for both sequences, 256 if not. -/
theorem conds {v0 v1 : BitVec 32} (h0 : v0.toNat ≤ 128) (h1 : v1.toNat ≤ 128) :
    (k0_cond2 v0 v1 = 1#1 → packed v0 + packed v1 ≤ 160 ∧ ¬ k0_cond5 v0 v1 = 1#1) ∧ (¬ k0_cond2 v0 v1 = 1#1 → k0_cond5 v0 v1 = 1#1) := by
  obtain ⟨n, rfl⟩ := of_le h0
  obtain ⟨n', rfl⟩ := of_le h1
  clear h0 h1
  revert n n'
  decide +kernel

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The first step's work: quantise the rows, clear the sums and set the caps; the other steps leave the packed rows and the caps as they are. -/
theorem part112 (v0 : Elt Ideal .i32) (hw : k0_chk1 i v0) (v1 : Elt Ideal .i32) (v22 : BitVec 32) (X2 : BufTy.Contents (Elt Ideal) arg2.view.ty)
    (h0 : BitVec.toNat v0 ≤ 128) (h1 : BitVec.toNat v1 ≤ 128) (h22 : v22.toNat = packed v0) (hX : Finite (arg2.view.read (Elt Ideal) X2))
    (X10 : BufTy.Contents (Elt Ideal) arg10.view.ty) (X14 : BufTy.Contents (Elt Ideal) arg14.view.ty)
    (hr : ¬ k0_cond1 i = 1#1 → Ready v0 v1 (arg2.view.read (Elt Ideal) X2) (arg10.view.read (Elt Ideal) X10) (arg14.view.read (Elt Ideal) X14)) :
    (iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} X10) ∗ (∃ f, (arg11.view.loc (c : Thread nD τ) ↦[arg11.view.set]{fullShare} f)) ∗ (∃ f, (arg13.view.loc (c : Thread nD τ) ↦[arg13.view.set]{fullShare} f)) ∗ (arg14.view.loc (c : Thread nD τ) ↦[arg14.view.set]{fullShare} X14)) : sProp 𝕄) ⊢ wp frame (wpE (defs₀ (F := Ideal)) Variants.none c none) Set.univ (k0_part119 i arg1 harg1 arg2 harg2 arg3 harg3 arg4 harg4 arg5 harg5 arg6 harg6 arg7 harg7 arg8 harg8 arg9 harg9 arg10 harg10 arg11 harg11 arg12 harg12 arg13 harg13 arg14 harg14 v0 hw v1 v22)
      (fun _ => iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (∃ f, (arg11.view.loc (c : Thread nD τ) ↦[arg11.view.set]{fullShare} f)) ∗ (∃ f, (arg13.view.loc (c : Thread nD τ) ↦[arg13.view.set]{fullShare} f))
        ∗ (∃ f10 f14, ⌜Ready v0 v1 (arg2.view.read (Elt Ideal) X2) (arg10.view.read (Elt Ideal) f10) (arg14.view.read (Elt Ideal) f14)⌝ ∗ (arg10.view.loc (c : Thread nD τ) ↦[arg10.view.set]{fullShare} f10) ∗ (arg14.view.loc (c : Thread nD τ) ↦[arg14.view.set]{fullShare} f14)))) := by
  rw [k0_part119_eq_skeleton]; unfold k0_part119_skel
  iintro ⟨H2, ⟨%f8, H8⟩, ⟨%f9, H9⟩, H10, ⟨%f11, H11⟩, ⟨%f13, H13⟩, H14⟩
  by_cases h : k0_cond1 i = 1#1
  · sl_exec
    sl_step
    isplitl [H2]; · iexact H2
    isplitl [H8]; · iexists _; iexact H8
    isplitl [H9]; · iexists _; iexact H9
    isplitl [H11]; · iexists _; iexact H11
    isplitl [H13]; · iexists _; iexact H13
    iexists _, _
    isplitr [H10 H14]
    swap
    · isplitl [H10]; · iexact H10
      iexact H14
    ipureintro
    sl_unfold_run_names
    refine ⟨?_, ?_⟩
    · exact hL8 (by decide) rfl h0 (scales_good c i arg1 harg1 arg2 harg2 arg3 harg3 arg4 harg4 arg5 harg5 arg6 harg6 arg7 harg7 arg8 harg8 arg9 harg9 arg10 harg10 arg11 harg11 arg12 harg12 arg13 harg13 arg14 harg14 h X2 f11 hX)
    · intro m hm l hl
      have hm' : m % 256 = m := Nat.mod_eq_of_lt hm
      have hl' : l % 128 = l := Nat.mod_eq_of_lt hl
      constructor
      · refine (View.read_writes_cons_unit_of_not_mem arg14.view _ _ _ _ _ rfl 0 (by show 0 % 2 < 1 ∨ 1 + 1 ≤ 0 % 2; omega)).trans ?_
        refine (View.read_writes_cons_unit_of_mem arg14.view _ _ _ _ _ (ix3 0 (⟨m, hm⟩ : Fin 256) (⟨l, hl⟩ : Fin 128)) rfl ?_).trans (cap0_at v0 h0 _ _)
        intro a; fin_cases a
        · rfl
        · show m % 256 = 0 + m; omega
        · show l % 128 = 0 + l; omega
      · refine (View.read_writes_cons_unit_of_mem arg14.view _ _ _ _ _ (ix3 0 (⟨m, hm⟩ : Fin 256) (⟨l, hl⟩ : Fin 128)) rfl ?_).trans (cap1_at v0 v1 v22 h0 h1 h22 _ _)
        intro a; fin_cases a
        · rfl
        · show m % 256 = 0 + m; omega
        · show l % 128 = 0 + l; omega
  · sl_exec
    sl_step
    isplitl [H2]; · iexact H2
    isplitl [H8]; · iexists _; iexact H8
    isplitl [H9]; · iexists _; iexact H9
    isplitl [H11]; · iexists _; iexact H11
    isplitl [H13]; · iexists _; iexact H13
    iexists _, _
    isplitr [H10 H14]
    swap
    · isplitl [H10]; · iexact H10
      iexact H14
    ipureintro
    exact hr h

end Cert.Proof.PV
-- ==== Proof.PVBody2.lean ====
module

public import proofs.«01_k».proof.Proof.Gen.KernelIdeal.Skeleton
public import proofs.«01_k».proof.Proof.Gen.KernelIdeal.Loops
public import proofs.«01_k».proof.Proof.PVBody1
public import Idealize.ShloMosaic.Lib.Mxu.Walk
public import Idealize.ShloMosaic.Lib.WritesUnit
public import Idealize.ShloMosaic.Lib.Tactic

@[expose] public section

set_option maxRecDepth 8192
set_option maxHeartbeats 1000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

/-! ## The tiles, the l1 rows and the whole body -/

variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S1280x5120 .fp8e4m3) (harg3 : arg3.IsWhole) (arg4 : Memref sig .tc .vmem S1280x160 .f32) (harg4 : arg4.IsWhole) (arg5 : Memref sig .tc .vmem S1x10x128 .f32) (harg5 : arg5.IsWhole) (arg6 : Memref sig .tc .vmem S2x1280 .bf16) (harg6 : arg6.IsWhole) (arg7 : Memref sig .tc .vmem S2x128x1 .f32) (harg7 : arg7.IsWhole) (arg8 : Memref sig .tc .vmem S256x5120 .fp8e4m3) (harg8 : arg8.IsWhole) (arg9 : Memref sig .tc .vmem S256x160 .f32) (harg9 : arg9.IsWhole) (arg10 : Memref sig .tc .vmem S128x2x5120 .bf16) (harg10 : arg10.IsWhole) (arg11 : Memref sig .tc .vmem S2x128x2x128 .bf16) (harg11 : arg11.IsWhole) (arg12 : Memref sig .tc .vmem S2x2x160x2x128 .bf16) (harg12 : arg12.IsWhole) (arg13 : Memref sig .tc .vmem S256x128 .f32) (harg13 : arg13.IsWhole) (arg14 : Memref sig .tc .vmem S2x256x128 .f32) (harg14 : arg14.IsWhole)

set_option sl_exec.squeezeSlice true in
set_option warn.classDefReducibility false in
/-- The tiles of a step at one of the two row counts: run if the condition holds, skipped otherwise; the matrix unit is left drained and the pooled block holds the tiles' values. -/
theorem part114 (mx : Mxu Ideal) (v0 v1 : Elt Ideal .i32) (hq : Quiet 0 0 mx)
    (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X14 : BufTy.Contents (Elt Ideal) arg14.view.ty) (X6 : BufTy.Contents (Elt Ideal) arg6.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (arg6.view.loc (c : Thread nD τ) ↦[arg6.view.set]{fullShare} X6) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := Ideal)) Variants.none c none) Set.univ (k0_part121 i arg1 harg1 arg2 harg2 arg3 harg3 arg4 harg4 arg5 harg5 arg6 harg6 arg7 harg7 arg8 harg8 arg9 harg9 arg10 harg10 arg11 harg11 arg12 harg12 arg13 harg13 arg14 harg14 mx v0 v1)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, ⌜(k0_cond2 v0 v1 = 1#1 → ∀ b < 2, ∀ v < 1280, at2 (arg6.view.read (Elt Ideal) f) b v = poolV 160 (arg3.view.read (Elt Ideal) X3) (arg4.view.read (Elt Ideal) X4) (arg5.view.read (Elt Ideal) X5) (arg10.view.read (Elt Ideal) X10) (arg14.view.read (Elt Ideal) X14) b v) ∧ (¬ k0_cond2 v0 v1 = 1#1 → f = X6)⌝ ∗ (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  rw [k0_part121_eq_skeleton]; unfold k0_part121_skel
  iintro ⟨H3, H4, H5, H10, H14, H6, ⟨%f12, H12⟩, ⟨%f13, H13⟩⟩
  by_cases h : k0_cond2 v0 v1 = 1#1
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        refine ⟨fun _ b hb v hv => ?_, fun hn => absurd h hn⟩
        exact hL5 b hb v (lt_of_lt_of_le hv (by decide))
      isplitl [H12]; · iexists _; iexact H12
      iexists _; iexact H13
    ipureintro; assumption
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        exact ⟨fun hn => absurd hn h, fun _ => rfl⟩
      isplitl [H12]; · iexists _; iexact H12
      iexists _; iexact H13
    ipureintro; exact hq

set_option sl_exec.squeezeSlice true in
set_option warn.classDefReducibility false in
/-- The tiles of a step at one of the two row counts: run if the condition holds, skipped otherwise; the matrix unit is left drained and the pooled block holds the tiles' values. -/
theorem part116 (mx : Mxu Ideal) (v0 v1 : Elt Ideal .i32) (hq : Quiet 0 0 mx)
    (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X14 : BufTy.Contents (Elt Ideal) arg14.view.ty) (X6 : BufTy.Contents (Elt Ideal) arg6.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (arg6.view.loc (c : Thread nD τ) ↦[arg6.view.set]{fullShare} X6) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := Ideal)) Variants.none c none) Set.univ (k0_part123 i arg1 harg1 arg2 harg2 arg3 harg3 arg4 harg4 arg5 harg5 arg6 harg6 arg7 harg7 arg8 harg8 arg9 harg9 arg10 harg10 arg11 harg11 arg12 harg12 arg13 harg13 arg14 harg14 v0 v1 mx)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, ⌜(k0_cond5 v0 v1 = 1#1 → ∀ b < 2, ∀ v < 1280, at2 (arg6.view.read (Elt Ideal) f) b v = poolV 256 (arg3.view.read (Elt Ideal) X3) (arg4.view.read (Elt Ideal) X4) (arg5.view.read (Elt Ideal) X5) (arg10.view.read (Elt Ideal) X10) (arg14.view.read (Elt Ideal) X14) b v) ∧ (¬ k0_cond5 v0 v1 = 1#1 → f = X6)⌝ ∗ (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  rw [k0_part123_eq_skeleton]; unfold k0_part123_skel
  iintro ⟨H3, H4, H5, H10, H14, H6, ⟨%f12, H12⟩, ⟨%f13, H13⟩⟩
  by_cases h : k0_cond5 v0 v1 = 1#1
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        refine ⟨fun _ b hb v hv => ?_, fun hn => absurd h hn⟩
        exact hL5 b hb v (lt_of_lt_of_le hv (by decide))
      isplitl [H12]; · iexists _; iexact H12
      iexists _; iexact H13
    ipureintro; assumption
  · sl_exec
    sl_step
    isplitl [H3 H4 H5 H10 H14 H6 H12 H13]
    · isplitl [H3]; · iexact H3
      isplitl [H4]; · iexact H4
      isplitl [H5]; · iexact H5
      isplitl [H10]; · iexact H10
      isplitl [H14]; · iexact H14
      isplitl [H6]
      · iexists _
        isplitr [H6]
        swap
        · iexact H6
        ipureintro
        exact ⟨fun hn => absurd hn h, fun _ => rfl⟩
      isplitl [H12]; · iexists _; iexact H12
      iexists _; iexact H13
    ipureintro; exact hq

set_option sl_exec.squeezeSlice true in
set_option warn.classDefReducibility false in
/-- The last step's work: the two l1 rows. -/
theorem part118 (v0 : Elt Ideal .i32) (hw : k0_chk1 i v0) (v1 : Elt Ideal .i32) (v22 : BitVec 32) :
    (iprop((∃ f, (arg7.view.loc (c : Thread nD τ) ↦[arg7.view.set]{fullShare} f)) ∗ (∃ f, (arg13.view.loc (c : Thread nD τ) ↦[arg13.view.set]{fullShare} f))) : sProp 𝕄) ⊢ wp frame (wpE (defs₀ (F := Ideal)) Variants.none c none) Set.univ (k0_part125 i arg1 harg1 arg2 harg2 arg3 harg3 arg4 harg4 arg5 harg5 arg6 harg6 arg7 harg7 arg8 harg8 arg9 harg9 arg10 harg10 arg11 harg11 arg12 harg12 arg13 harg13 arg14 harg14 v0 hw v1 v22)
      (fun _ => iprop((∃ f, (arg7.view.loc (c : Thread nD τ) ↦[arg7.view.set]{fullShare} f)) ∗ (∃ f, (arg13.view.loc (c : Thread nD τ) ↦[arg13.view.set]{fullShare} f)))) := by
  rw [k0_part125_eq_skeleton]; unfold k0_part125_skel
  iintro ⟨⟨%f7, H7⟩, ⟨%f13, H13⟩⟩
  by_cases h : k0_cond8 i = 1#1
  · sl_exec
    sl_step
    isplitl [H7]; · iexists _; iexact H7
    iexists _; iexact H13
  · sl_exec
    sl_step
    isplitl [H7]; · iexists _; iexact H7
    iexists _; iexact H13

/-- A call whose specification is `h`, and then the rest of the program from what it leaves. -/
theorem call {α β : Type} {p : Prog (TpuEff nD τ sig (Elt Ideal) Λ₀ .tc) α} {k : α → Prog (TpuEff nD τ sig (Elt Ideal) Λ₀ .tc) β} {R : sProp 𝕄} {Q : α → sProp 𝕄} {K : β → sProp 𝕄}
    (h : R ⊢ wp frame (wpE (defs₀ (F := Ideal)) Variants.none (c : Thread nD τ) none) Set.univ p Q) :
    iprop(R ∗ (∀ a, Q a -∗ wp frame (wpE (defs₀ (F := Ideal)) Variants.none (c : Thread nD τ) none) Set.univ (k a) K)) ⊢ wp frame (wpE (defs₀ (F := Ideal)) Variants.none (c : Thread nD τ) none) Set.univ (p >>= k) K := by
  rw [wp_bind]
  iintro ⟨HR, HK⟩
  iapply (wp_wand_r Idealize.ShloMosaic.frame (wpE (defs₀ (F := Ideal)) Variants.none (c : Thread nD τ) none) Set.univ)
  isplitl [HR]
  · iapply h; iexact HR
  · iexact HK

/-- The first step's work, the two lengths' values given. -/
theorem part112' {v0 v1 : Elt Ideal .i32} {l0 l1 : BitVec 32} (e0 : v0 = l0) (e1 : v1 = l1) (hw : k0_chk1 i v0) {v22 : BitVec 32} (e22 : v22 = k0_mult1 v0) (X2 : BufTy.Contents (Elt Ideal) arg2.view.ty)
    (h0 : BitVec.toNat l0 ≤ 128) (h1 : BitVec.toNat l1 ≤ 128) (hX : Finite (arg2.view.read (Elt Ideal) X2))
    (X10 : BufTy.Contents (Elt Ideal) arg10.view.ty) (X14 : BufTy.Contents (Elt Ideal) arg14.view.ty)
    (hr : ¬ k0_cond1 i = 1#1 → Ready l0 l1 (arg2.view.read (Elt Ideal) X2) (arg10.view.read (Elt Ideal) X10) (arg14.view.read (Elt Ideal) X14)) :
    (iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} X10) ∗ (∃ f, (arg11.view.loc (c : Thread nD τ) ↦[arg11.view.set]{fullShare} f)) ∗ (∃ f, (arg13.view.loc (c : Thread nD τ) ↦[arg13.view.set]{fullShare} f)) ∗ (arg14.view.loc (c : Thread nD τ) ↦[arg14.view.set]{fullShare} X14)) : sProp 𝕄) ⊢ wp frame (wpE (defs₀ (F := Ideal)) Variants.none c none) Set.univ (k0_part119 i arg1 harg1 arg2 harg2 arg3 harg3 arg4 harg4 arg5 harg5 arg6 harg6 arg7 harg7 arg8 harg8 arg9 harg9 arg10 harg10 arg11 harg11 arg12 harg12 arg13 harg13 arg14 harg14 v0 hw v1 v22)
      (fun _ => iprop((arg2.view.loc (c : Thread nD τ) ↦[arg2.view.set]{fullShare} X2) ∗ (∃ f, (arg8.view.loc (c : Thread nD τ) ↦[arg8.view.set]{fullShare} f)) ∗ (∃ f, (arg9.view.loc (c : Thread nD τ) ↦[arg9.view.set]{fullShare} f)) ∗ (∃ f, (arg11.view.loc (c : Thread nD τ) ↦[arg11.view.set]{fullShare} f)) ∗ (∃ f, (arg13.view.loc (c : Thread nD τ) ↦[arg13.view.set]{fullShare} f))
        ∗ (∃ f10 f14, ⌜Ready l0 l1 (arg2.view.read (Elt Ideal) X2) (arg10.view.read (Elt Ideal) f10) (arg14.view.read (Elt Ideal) f14)⌝ ∗ (arg10.view.loc (c : Thread nD τ) ↦[arg10.view.set]{fullShare} f10) ∗ (arg14.view.loc (c : Thread nD τ) ↦[arg14.view.set]{fullShare} f14)))) := by
  subst e0 e1 e22
  exact part112 c i arg1 harg1 arg2 harg2 arg3 harg3 arg4 harg4 arg5 harg5 arg6 harg6 arg7 harg7 arg8 harg8 arg9 harg9 arg10 harg10 arg11 harg11 arg12 harg12 arg13 harg13 arg14 harg14 _ hw _ _ X2 h0 h1 (mult1_packed h0) hX X10 X14 hr

/-- The tiles, the two lengths' values given. -/
theorem part114' (mx : Mxu Ideal) {v0 v1 : Elt Ideal .i32} {l0 l1 : BitVec 32} (e0 : v0 = l0) (e1 : v1 = l1) (hq : Quiet 0 0 mx)
    (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X14 : BufTy.Contents (Elt Ideal) arg14.view.ty) (X6 : BufTy.Contents (Elt Ideal) arg6.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (arg6.view.loc (c : Thread nD τ) ↦[arg6.view.set]{fullShare} X6) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := Ideal)) Variants.none c none) Set.univ (k0_part121 i arg1 harg1 arg2 harg2 arg3 harg3 arg4 harg4 arg5 harg5 arg6 harg6 arg7 harg7 arg8 harg8 arg9 harg9 arg10 harg10 arg11 harg11 arg12 harg12 arg13 harg13 arg14 harg14 mx v0 v1)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, ⌜(k0_cond2 l0 l1 = 1#1 → ∀ b < 2, ∀ v < 1280, at2 (arg6.view.read (Elt Ideal) f) b v = poolV 160 (arg3.view.read (Elt Ideal) X3) (arg4.view.read (Elt Ideal) X4) (arg5.view.read (Elt Ideal) X5) (arg10.view.read (Elt Ideal) X10) (arg14.view.read (Elt Ideal) X14) b v) ∧ (¬ k0_cond2 l0 l1 = 1#1 → f = X6)⌝ ∗ (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  subst e0 e1
  exact part114 c i arg1 harg1 arg2 harg2 arg3 harg3 arg4 harg4 arg5 harg5 arg6 harg6 arg7 harg7 arg8 harg8 arg9 harg9 arg10 harg10 arg11 harg11 arg12 harg12 arg13 harg13 arg14 harg14 mx _ _ hq X3 X4 X5 X10 X14 X6

/-- The tiles, the two lengths' values given. -/
theorem part116' (mx : Mxu Ideal) {v0 v1 : Elt Ideal .i32} {l0 l1 : BitVec 32} (e0 : v0 = l0) (e1 : v1 = l1) (hq : Quiet 0 0 mx)
    (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X14 : BufTy.Contents (Elt Ideal) arg14.view.ty) (X6 : BufTy.Contents (Elt Ideal) arg6.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (arg6.view.loc (c : Thread nD τ) ↦[arg6.view.set]{fullShare} X6) ∗ (∃ f, (arg12.view.loc (c : Thread nD τ) ↦[arg12.view.set]{fullShare} f)) ∗ (∃ f, (arg13.view.loc (c : Thread nD τ) ↦[arg13.view.set]{fullShare} f))) : sProp 𝕄) ⊢ wp frame (wpE (defs₀ (F := Ideal)) Variants.none c none) Set.univ (k0_part123 i arg1 harg1 arg2 harg2 arg3 harg3 arg4 harg4 arg5 harg5 arg6 harg6 arg7 harg7 arg8 harg8 arg9 harg9 arg10 harg10 arg11 harg11 arg12 harg12 arg13 harg13 arg14 harg14 v0 v1 mx)
      (fun r => iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg14.view.loc (c : Thread nD τ) ↦[arg14.view.set]{fullShare} X14) ∗ (∃ f, ⌜(k0_cond5 l0 l1 = 1#1 → ∀ b < 2, ∀ v < 1280, at2 (arg6.view.read (Elt Ideal) f) b v = poolV 256 (arg3.view.read (Elt Ideal) X3) (arg4.view.read (Elt Ideal) X4) (arg5.view.read (Elt Ideal) X5) (arg10.view.read (Elt Ideal) X10) (arg14.view.read (Elt Ideal) X14) b v) ∧ (¬ k0_cond5 l0 l1 = 1#1 → f = X6)⌝ ∗ (arg6.view.loc (c : Thread nD τ) ↦[arg6.view.set]{fullShare} f)) ∗ (∃ f, (arg12.view.loc (c : Thread nD τ) ↦[arg12.view.set]{fullShare} f)) ∗ (∃ f, (arg13.view.loc (c : Thread nD τ) ↦[arg13.view.set]{fullShare} f))) ∗ ⌜Quiet 0 0 r⌝)) := by
  subst e0 e1
  exact part116 c i arg1 harg1 arg2 harg2 arg3 harg3 arg4 harg4 arg5 harg5 arg6 harg6 arg7 harg7 arg8 harg8 arg9 harg9 arg10 harg10 arg11 harg11 arg12 harg12 arg13 harg13 arg14 harg14 mx _ _ hq X3 X4 X5 X10 X14 X6

set_option sl_exec.squeezeSlice true in
set_option warn.classDefReducibility false in
/-- The whole body at any grid point, its inputs at any contents and everything it writes at some: it runs to its end when the lengths fit, and if the packed rows and the caps are ready or this is the first step,
    they are ready afterwards and the pooled block holds the step's values. -/
theorem sound_kernel (qt : PosShare TreeShare) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (l0 l1 : BitVec 32) (h0 : l0.toNat ≤ 128) (h1 : l1.toNat ≤ 128) (hw : k0_chk1 i l0) (hX : Finite (arg2.view.read (Elt Ideal) X2))
    (e0 : ∀ x, arg1.view.readAt (Elt Ideal) (Rect.unit (s := S2) ![0] S1.size inb_S2_S1_0).toLoadRect X1 x = l0)
    (e1 : ∀ x, arg1.view.readAt (Elt Ideal) (Rect.unit (s := S2) ![1] S1.size inb_S2_S1_1).toLoadRect X1 x = l1)
    (X6 : BufTy.Contents (Elt Ideal) arg6.view.ty) (X10 : BufTy.Contents (Elt Ideal) arg10.view.ty) (X14 : BufTy.Contents (Elt Ideal) arg14.view.ty)
    (hr : ¬ k0_cond1 i = 1#1 → Ready l0 l1 (arg2.view.read (Elt Ideal) X2) (arg10.view.read (Elt Ideal) X10) (arg14.view.read (Elt Ideal) X14)) :
    (iprop((arg1.view.loc (c : Thread nD τ) ↦[arg1.view.set]{qt} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} X10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (arg14.view.loc (c : Thread nD τ) ↦[arg14.view.set]{fullShare} X14)) : sProp 𝕄) ⊢ wp frame (wpE (defs₀ (F := Ideal)) Variants.none c none) Set.univ (cc0_splade_head i arg1 harg1 arg2 harg2 arg3 harg3 arg4 harg4 arg5 harg5 arg6 harg6 arg7 harg7 arg8 harg8 arg9 harg9 arg10 harg10 arg11 harg11 arg12 harg12 arg13 harg13 arg14 harg14)
      (fun _ => iprop((arg1.view.loc (c : Thread nD τ) ↦[arg1.view.set]{qt} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))
        ∗ (∃ f6 f10 f14, ⌜Ready l0 l1 (arg2.view.read (Elt Ideal) X2) (arg10.view.read (Elt Ideal) f10) (arg14.view.read (Elt Ideal) f14)
              ∧ ∀ b < 2, ∀ v < 1280, at2 (arg6.view.read (Elt Ideal) f6) b v = poolV (if k0_cond2 l0 l1 = 1#1 then 160 else 256) (arg3.view.read (Elt Ideal) X3) (arg4.view.read (Elt Ideal) X4) (arg5.view.read (Elt Ideal) X5) (arg10.view.read (Elt Ideal) f10) (arg14.view.read (Elt Ideal) f14) b v⌝
            ∗ (arg6.view.loc (c : Thread nD τ) ↦[arg6.view.set]{fullShare} f6) ∗ (arg10.view.loc (c : Thread nD τ) ↦[arg10.view.set]{fullShare} f10) ∗ (arg14.view.loc (c : Thread nD τ) ↦[arg14.view.set]{fullShare} f14)))) := by
  rw [cc0_splade_head_eq_skeleton]; unfold cc0_splade_head_skel
  have hw : ∀ x, k0_chk1 i (arg1.view.readAt (Elt Ideal) (Rect.unit (s := S2) ![0] S1.size inb_S2_S1_0).toLoadRect X1 x) := fun x => by rw [e0]; exact hw
  iintro ⟨H1, H2, H3, H4, H5, H6, H7, H8, H9, H10, H11, H12, H13, H14⟩
  set_option sl_exec.stopBefore "k0_part119" in sl_exec
  iapply (call c (part112' c i arg1 harg1 arg2 harg2 arg3 harg3 arg4 harg4 arg5 harg5 arg6 harg6 arg7 harg7 arg8 harg8 arg9 harg9 arg10 harg10 arg11 harg11 arg12 harg12 arg13 harg13 arg14 harg14 (e0 _) (e1 _) _ rfl X2 h0 h1 hX X10 X14 hr))
  isplitl [H2 H8 H9 H10 H11 H13 H14]
  · isplitl [H2]; · iexact H2
    isplitl [H8]; · iexact H8
    isplitl [H9]; · iexact H9
    isplitl [H10]; · iexact H10
    isplitl [H11]; · iexact H11
    isplitl [H13]; · iexact H13
    iexact H14
  iintro %_ ⟨H2, H8, H9, H11, H13, ⟨%f10, %f14, %hR, H10, H14⟩⟩
  set_option sl_exec.stopBefore "k0_part121" in sl_exec
  iapply (call c (part114' c i arg1 harg1 arg2 harg2 arg3 harg3 arg4 harg4 arg5 harg5 arg6 harg6 arg7 harg7 arg8 harg8 arg9 harg9 arg10 harg10 arg11 harg11 arg12 harg12 arg13 harg13 arg14 harg14 _ (e0 _) (e1 _) (Quiet.init 0 0) X3 X4 X5 f10 f14 X6))
  isplitl [H3 H4 H5 H10 H14 H6 H12 H13]
  · isplitl [H3]; · iexact H3
    isplitl [H4]; · iexact H4
    isplitl [H5]; · iexact H5
    isplitl [H10]; · iexact H10
    isplitl [H14]; · iexact H14
    isplitl [H6]; · iexact H6
    isplitl [H12]; · iexact H12
    iexact H13
  iintro %mx2 ⟨⟨H3, H4, H5, H10, H14, ⟨%f6, %h6, H6⟩, H12, H13⟩, %hq2⟩
  set_option sl_exec.stopBefore "k0_part123" in sl_exec
  iapply (call c (part116' c i arg1 harg1 arg2 harg2 arg3 harg3 arg4 harg4 arg5 harg5 arg6 harg6 arg7 harg7 arg8 harg8 arg9 harg9 arg10 harg10 arg11 harg11 arg12 harg12 arg13 harg13 arg14 harg14 mx2 (e0 _) (e1 _) hq2 X3 X4 X5 f10 f14 f6))
  isplitl [H3 H4 H5 H10 H14 H6 H12 H13]
  · isplitl [H3]; · iexact H3
    isplitl [H4]; · iexact H4
    isplitl [H5]; · iexact H5
    isplitl [H10]; · iexact H10
    isplitl [H14]; · iexact H14
    isplitl [H6]; · iexact H6
    isplitl [H12]; · iexact H12
    iexact H13
  iintro %mx3 ⟨⟨H3, H4, H5, H10, H14, ⟨%g6, %k6, H6⟩, H12, H13⟩, %hq3⟩
  set_option sl_exec.stopBefore "k0_part125" in sl_exec
  iapply (call c (part118 c i arg1 harg1 arg2 harg2 arg3 harg3 arg4 harg4 arg5 harg5 arg6 harg6 arg7 harg7 arg8 harg8 arg9 harg9 arg10 harg10 arg11 harg11 arg12 harg12 arg13 harg13 arg14 harg14 _ _ _ _))
  isplitl [H7 H13]
  · isplitl [H7]; · iexact H7
    iexact H13
  iintro %_ ⟨H7, H13⟩
  have hd := hq3.drained
  sl_exec
  sl_step
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H11]; · iexact H11
  isplitl [H12]; · iexact H12
  isplitl [H13]; · iexact H13
  iexists _, _, _
  isplitr [H6 H10 H14]
  swap
  · isplitl [H6]; · iexact H6
    isplitl [H10]; · iexact H10
    iexact H14
  ipureintro
  refine ⟨hR, fun b hb v hv => ?_⟩
  by_cases h : k0_cond2 l0 l1 = 1#1
  · rw [k6.2 ((conds h0 h1).1 h).2, if_pos h]
    exact h6.1 h b hb v hv
  · rw [if_neg h]
    exact k6.1 ((conds h0 h1).2 h) b hb v hv

end Cert.Proof.PV
-- ==== Proof.PVHead.lean ====
module

public import proofs.«01_k».proof.Proof.Gen.KernelIdeal.Skeleton
public import proofs.«01_k».proof.Proof.Gen.KernelIdeal.Loops
public import proofs.«01_k».proof.Proof.PVBody1
public import Idealize.ShloMosaic.Lib.Mxu.Walk
public import Idealize.ShloMosaic.Lib.WritesUnit
public import Idealize.ShloMosaic.Lib.Tactic

@[expose] public section

set_option maxRecDepth 8192
set_option maxHeartbeats 4000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK

local notation "𝕄" => MT nD τ sig Unit (Elt Ideal) ℕ (UR sig nD τ) ℕ

/-! ## The pooled value: a maximum over the sequence's own rows -/

/-- The pooled value of a sequence of `l` rows whose logits are `y`: the maximum over the rows of `log (1 + max y 0)`, a row past the end counting as 0. -/
def headF (l : ℕ) (y : ℕ → EReal) : EReal := Finset.univ.fold max ⊥ fun r : Fin 128 => if (r : ℕ) < l then Ideal.log1p (max (y r) 0) else 0

theorem log_coe (r : ℝ) : Ideal.log (r : EReal) = if r ≤ 0 then ⊥ else (Real.log r : EReal) := rfl

theorem log_mono {a b : EReal} (h : a ≤ b) : Ideal.log a ≤ Ideal.log b := by
  induction a with
  | bot => exact bot_le
  | top => rw [top_le_iff.mp h]
  | coe x =>
    induction b with
    | bot => exact absurd (le_bot_iff.mp h) (EReal.coe_ne_bot _)
    | top => exact le_top
    | coe y =>
      have hxy := EReal.coe_le_coe_iff.mp h
      rw [log_coe, log_coe]
      by_cases hx : x ≤ 0
      · rw [if_pos hx]; exact bot_le
      · rw [if_neg hx, if_neg (by linarith)]
        exact EReal.coe_le_coe_iff.mpr (Real.log_le_log (by linarith) hxy)

theorem log1p_mono {a b : EReal} (ha : 0 ≤ a) (h : a ≤ b) : Ideal.log1p a ≤ Ideal.log1p b := by
  unfold Ideal.log1p
  exact log_mono (add_le_add (le_refl _) h)

theorem log1p_zero : Ideal.log1p (0 : EReal) = 0 := by
  unfold Ideal.log1p
  rw [add_zero, show (1 : EReal) = ((1 : ℝ) : EReal) from rfl, log_coe, if_neg (by norm_num), Real.log_one]
  rfl

theorem log1p_nonneg {a : EReal} (ha : 0 ≤ a) : 0 ≤ Ideal.log1p a := log1p_zero ▸ log1p_mono (le_refl _) ha

/-- The maximum of non-negative values under the caps is the pooled value. -/
theorem fold_head {M : ℕ} (hM : 0 < M) {l : ℕ} {y : ℕ → EReal} {w cap : Fin M → EReal}
    (hin : ∀ r < 128, r < l → ∃ m : Fin M, cap m = ⊤ ∧ w m = y r)
    (hout : ∀ m : Fin M, cap m = 0 ∨ (cap m = ⊤ ∧ ∃ r < 128, r < l ∧ w m = y r)) :
    Ideal.log1p (Finset.univ.fold max ⊥ fun m : Fin M => min (max (w m) 0) (cap m)) = headF l y := by
  have h0 : ∀ m : Fin M, 0 ≤ min (max (w m) 0) (cap m) := fun m => le_min (le_max_right _ _) ((hout m).elim (fun h => by rw [h]) fun h => by rw [h.1]; exact le_top)
  apply le_antisymm
  · obtain ⟨m, -, hm⟩ := Finset.exists_max_image (Finset.univ : Finset (Fin M)) (fun m => min (max (w m) 0) (cap m)) ⟨⟨0, hM⟩, Finset.mem_univ _⟩
    have e : (Finset.univ.fold max ⊥ fun m : Fin M => min (max (w m) 0) (cap m)) ≤ min (max (w m) 0) (cap m) :=
      (Finset.fold_max_le _).mpr ⟨bot_le, hm⟩
    have e0 : 0 ≤ Finset.univ.fold max ⊥ fun m : Fin M => min (max (w m) 0) (cap m) :=
      (h0 m).trans ((Finset.le_fold_max _).mpr (Or.inr ⟨m, Finset.mem_univ _, le_refl _⟩))
    refine (log1p_mono e0 e).trans ?_
    rcases hout m with h | ⟨h, r, hr, hl, hw⟩
    · rw [h, min_eq_right (le_max_right _ _), log1p_zero]
      refine (Finset.le_fold_max _).mpr (Or.inr ⟨0, Finset.mem_univ _, ?_⟩)
      split_ifs
      · exact log1p_nonneg (le_max_right _ _)
      · exact le_refl _
    · rw [h, min_eq_left le_top, hw]
      refine (Finset.le_fold_max _).mpr (Or.inr ⟨⟨r, hr⟩, Finset.mem_univ _, ?_⟩)
      rw [if_pos hl]
  · refine (Finset.fold_max_le _).mpr ⟨bot_le, fun r _ => ?_⟩
    split_ifs with hl
    · obtain ⟨m, hc, hw⟩ := hin r r.isLt hl
      refine log1p_mono (le_max_right _ _) ((Finset.le_fold_max _).mpr (Or.inr ⟨m, Finset.mem_univ _, ?_⟩))
      rw [hc, min_eq_left le_top, hw]
    · exact log1p_nonneg ((h0 ⟨0, hM⟩).trans ((Finset.le_fold_max _).mpr (Or.inr ⟨⟨0, hM⟩, Finset.mem_univ _, le_refl _⟩)))

/-- The logit of row `r` of the rows and row `v` of the weights. -/
def logitV (x2 : S256x5120.Idx → EReal) (x3 : S1280x5120.Idx → EReal) (x4 : S1280x160.Idx → EReal) (x5 : S1x10x128.Idx → EReal) (r v : ℕ) : EReal :=
  (∑ d ∈ Finset.range 5120, at2 x2 r d * (at2 x3 v d * at2 x4 v (d / 32))) + at3 x5 0 (v / 128) (v % 128)

/-- Once the rows are packed and the caps set, a tile's pooled values are those of the two sequences. -/
theorem pool_of_ready {l0 l1 : BitVec 32} (h0 : l0.toNat ≤ 128) (h1 : l1.toNat ≤ 128) {M : ℕ} (hM : M ≤ 256) (hM' : packed l0 + packed l1 ≤ M) (hM0 : 128 ≤ M)
    {x2 : S256x5120.Idx → EReal} {x3 : S1280x5120.Idx → EReal} {x4 : S1280x160.Idx → EReal} {x5 : S1x10x128.Idx → EReal} {x10 : S128x2x5120.Idx → EReal} {x14 : S2x256x128.Idx → EReal}
    (h : Ready l0 l1 x2 x10 x14) (v : ℕ) :
    poolV M x3 x4 x5 x10 x14 0 v = headF l0.toNat (fun r => logitV x2 x3 x4 x5 r v) ∧ poolV M x3 x4 x5 x10 x14 1 v = headF l1.toNat (fun r => logitV x2 x3 x4 x5 (128 + r) v) := by
  obtain ⟨⟨hx0, hx1⟩, hc⟩ := h
  have p0 : l0.toNat ≤ packed l0 := by unfold packed; omega
  have p1 : l1.toNat ≤ packed l1 := by unfold packed; omega
  have q0 := (packed_le h0).1
  have q1 := (packed_le h1).1
  have r0 : ∀ m < l0.toNat, rowV x3 x4 x10 v m + at3 x5 0 (v / 128) (v % 128) = logitV x2 x3 x4 x5 m v := fun m hm => by
    unfold rowV logitV
    congr 1
    exact Finset.sum_congr rfl fun d hd => by rw [hx0 m (by omega) (by omega) (Or.inr (by omega)) d (Finset.mem_range.mp hd)]
  have r1 : ∀ m < l1.toNat, rowV x3 x4 x10 v (packed l0 + m) + at3 x5 0 (v / 128) (v % 128) = logitV x2 x3 x4 x5 (128 + m) v := fun m hm => by
    unfold rowV logitV
    congr 1
    refine Finset.sum_congr rfl fun d hd => ?_
    rw [show packed l0 + m = packed l0 + (128 + m) - 128 by omega, hx1 (128 + m) (by omega) (by omega) (by omega) d (Finset.mem_range.mp hd)]
  constructor
  · refine fold_head (by omega) (fun r hr hl => ⟨⟨r, by omega⟩, ?_, r0 r hl⟩) (fun m => ?_)
    · refine ((hc r (by omega) (v % 256 / 2) (by omega)).1).trans (if_pos hl)
    · have e := (hc m (by omega) (v % 256 / 2) (by omega)).1
      by_cases hl : (m : ℕ) < l0.toNat
      · exact Or.inr ⟨e.trans (if_pos hl), m, by omega, hl, r0 m hl⟩
      · exact Or.inl (e.trans (if_neg hl))
  · refine fold_head (by omega) (fun r hr hl => ⟨⟨packed l0 + r, by omega⟩, ?_, r1 r hl⟩) (fun m => ?_)
    · exact ((hc (packed l0 + r) (by omega) (v % 256 / 2) (by omega)).2).trans (if_pos ⟨by omega, by omega⟩)
    · have e := (hc m (by omega) (v % 256 / 2) (by omega)).2
      by_cases hl : packed l0 ≤ (m : ℕ) ∧ (m : ℕ) < packed l0 + l1.toNat
      · refine Or.inr ⟨e.trans (if_pos hl), m - packed l0, by omega, by omega, ?_⟩
        rw [← r1 (m - packed l0) (by omega), show packed l0 + ((m : ℕ) - packed l0) = m by omega]
      · exact Or.inl (e.trans (if_neg hl))

end Cert.Proof.PV
-- ==== Proof.PVRun.lean ====
module

public import proofs.«01_k».proof.Proof.PIRun
public import proofs.«01_k».proof.Proof.PVBody2
public import proofs.«01_k».proof.Proof.PVHead

@[expose] public section

set_option maxRecDepth 8192
set_option maxHeartbeats 1000000

noncomputable section

namespace Cert.Proof.PV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.MxuK
open Idealize.ShloMosaic.Pipeline (RDat Cfg Window)

local notation "𝕄" => MT nD τ sig Unit (Elt Ideal) ℕ (UR sig nD τ) ℕ

/-! ## What an array holds, given what the body leaves in each block -/

section General

variable {nD : Nat} {τ : Topo} {sig : RefSig} {Val : EltTy → Type} {Λ₀ : Labels}
variable {Ix : Type} [DecidableEq Ix] {Name : Type} [DecidableEq Name] {U : Type} [URA U] {Lvl : Type}
variable {cfg : Cfg sig Λ₀} {c : Dev nD} (rd : RDat τ Val Ix Name U Lvl cfg c)

/-- If whatever the body may leave in a window's buffer is the block of `T`, then `T` is what the array holds under every block written back. -/
theorem arr_of_blocks (w : Fin cfg.W) (T : Buf Val ((cfg.win w).arr.view.loc (c.tc : Thread nD τ)))
    (h : ∀ t X, rd.Leaves w t X → (cfg.win w).cut (cfg.grid.coords t) X = ((cfg.win w).blk t).view.read Val T) :
    ∀ (n : ℕ) (G), rd.ArrAt w n G → ∀ t : Fin cfg.N, t.val < n → (cfg.win w).flush t = true → ∀ i ∈ ((cfg.win w).blk t).view.set, G i = T i
  | 0, _, _, t, ht, _, _, _ => absurd ht (Nat.not_lt_zero _)
  | n + 1, G, hG, t, ht, hf, i, hi => by
    by_cases hn : n < cfg.N
    · have hG' : (if (cfg.win w).flush ⟨n, hn⟩ then rd.ArrStep w ⟨n, hn⟩ (rd.ArrAt w n) else rd.ArrAt w n) G := (rd.ArrAt_succ w ⟨n, hn⟩) ▸ hG
      by_cases hfn : (cfg.win w).flush ⟨n, hn⟩ = true
      · rw [if_pos hfn] at hG'
        obtain ⟨G₀, X, hG₀, hX, rfl⟩ := hG'
        rw [h _ _ hX]
        by_cases hin : i ∈ ((cfg.win w).blk ⟨n, hn⟩).view.set
        · obtain ⟨x, -, rfl⟩ := Finset.mem_map.mp hin
          rw [View.write_emb_of_mem _ _ (Finset.mem_univ _), View.read_apply, cast_cast, cast_eq]
        · rw [View.write_of_not_mem _ _ _ hin]
          refine arr_of_blocks w T h n G₀ hG₀ t ?_ hf i hi
          rcases Nat.lt_succ_iff_lt_or_eq.mp ht with h' | h'
          · exact h'
          · exact absurd (by have e : t = ⟨n, hn⟩ := Fin.ext h'; exact e ▸ hi) hin
      · rw [if_neg hfn] at hG'
        refine arr_of_blocks w T h n G hG' t ?_ hf i hi
        rcases Nat.lt_succ_iff_lt_or_eq.mp ht with h' | h'
        · exact h'
        · exact absurd (by have e : t = ⟨n, hn⟩ := Fin.ext h'; exact e ▸ hf) hfn
    · have ht' : t.val < n := Nat.lt_of_lt_of_le t.isLt (Nat.not_lt.mp hn)
      have hG' : rd.ArrAt w n G := by
        rw [rd.ArrAt_stable w n (Nat.not_lt.mp hn)]; rw [rd.ArrAt_stable w (n + 1) (Nat.le_succ_of_le (Nat.not_lt.mp hn))] at hG; exact hG
      exact arr_of_blocks w T h n G hG' t ht' hf i hi

/-- A window that the body leaves as found and that is fetched at the first point holds a fetched block, of that point or an earlier one. -/
theorem finds_fetched (w : Fin cfg.W) (hk : ∀ t Y X, rd.after w t Y X → X = Y) (hfl : ∀ t, (cfg.win w).flush t = false)
    (h0 : ∀ t : Fin cfg.N, t.val = 0 → (cfg.win w).fetch t = true) :
    ∀ (n : ℕ) (t : Fin cfg.N), t.val = n → ∀ X, rd.Finds w t X → ∃ t' d, X = rd.fetched w t' d
  | n, t, hn, X, hX => by
    by_cases hf : (cfg.win w).fetch t = true
    · obtain ⟨d, hd⟩ := (rd.finds_of_fetch hf X).mp hX
      exact ⟨t, d, hd⟩
    · have hp : t.val ≠ 0 := fun h => hf (h0 t h)
      rcases (rd.finds_of_pos (by simpa using hf) hp X).mp hX with h | ⟨Y, hY, hYX⟩
      · rw [hfl] at h; exact absurd h Bool.false_ne_true
      · rw [hk _ _ _ hYX]
        exact finds_fetched w hk hfl h0 (n - 1) ⟨t.val - 1, by omega⟩ (by simp only [hn]) Y hY
  termination_by n => n
  decreasing_by omega

end General

variable (m : (ℓ : Loc nD τ sig) → Buf (Elt Ideal) ℓ) (ρ : Dev nD → PrngReg)

/-! ## The blocks of the arrays -/

/-- The hidden states, one row per token, as the region finds them. -/
def xA (c : Dev nD) : S256x5120.Idx → EReal := PI.V m c main_v0
/-- The weight codes as the region finds them. -/
def wA (c : Dev nD) : S32000x5120.Idx → EReal := PI.V m c main_arg2
/-- The weight scales as the region finds them. -/
def sA (c : Dev nD) : S32000x160.Idx → EReal := PI.V m c main_arg3
/-- The bias as the region finds it. -/
def bA (c : Dev nD) : S25x10x128.Idx → EReal := PI.V m c main_v1
/-- The lengths as the region finds them. -/
def lA : S2.Idx → BitVec 32 := PI.tbl m 0

theorem coords_val (t : Fin grid0.N) : BitVec.toNat (BitVec.ofNat 32 (grid0.coords t 0).val) = t.val := by
  revert t; decide +kernel

theorem N_eq : grid0.N = 25 := by decide

/-- A window that fetches whole blocks holds, once fetched into, the array's block. -/
theorem block0_at (c : Dev nD) (t : Fin (PI.cfgM m).N) :
    ((((PI.cfgM m).win 0).blk t).view.read (Elt Ideal) (PI.V m c (Pipeline.arrRef spec0 0)) : S256x5120.Idx → EReal) = xA m c := by
  refine funext fun j : S256x5120.Idx => ?_
  refine congrArg (PI.V m c main_v0) (funext fun a => Fin.ext ?_)
  revert a
  refine Fin.forall_fin_two.mpr ⟨?_, ?_⟩
  · show 0 * 256 + 1 * (j 0 : ℕ) = j 0
    omega
  · show 0 * 5120 + 1 * (j 1 : ℕ) = j 1
    omega

theorem block1_at (c : Dev nD) (t : Fin (PI.cfgM m).N) (v d : ℕ) (hv : v < 1280) :
    at2 (A := 1280) (B := 5120) (α := EReal) (((((PI.cfgM m).win 1).blk t).view.read (Elt Ideal) (PI.V m c (Pipeline.arrRef spec0 1)))) v d = at2 (wA m c) (1280 * t.val + v) d := by
  refine congrArg (PI.V m c main_arg2) (funext fun a => Fin.ext ?_)
  have hc := coords_val t
  have ht : t.val < 25 := t.isLt
  revert a
  refine Fin.forall_fin_two.mpr ⟨?_, ?_⟩
  · show BitVec.toNat (BitVec.ofNat 32 (grid0.coords t 0).val) * 1280 + 1 * (v % 1280) = (1280 * t.val + v) % 32000
    rw [hc]; omega
  · show 0 * 5120 + 1 * (d % 5120) = d % 5120
    omega

theorem block2_at (c : Dev nD) (t : Fin (PI.cfgM m).N) (v d : ℕ) (hv : v < 1280) :
    at2 (A := 1280) (B := 160) (α := EReal) (((((PI.cfgM m).win 2).blk t).view.read (Elt Ideal) (PI.V m c (Pipeline.arrRef spec0 2)))) v d = at2 (sA m c) (1280 * t.val + v) d := by
  refine congrArg (PI.V m c main_arg3) (funext fun a => Fin.ext ?_)
  have hc := coords_val t
  have ht : t.val < 25 := t.isLt
  revert a
  refine Fin.forall_fin_two.mpr ⟨?_, ?_⟩
  · show BitVec.toNat (BitVec.ofNat 32 (grid0.coords t 0).val) * 1280 + 1 * (v % 1280) = (1280 * t.val + v) % 32000
    rw [hc]; omega
  · show 0 * 160 + 1 * (d % 160) = d % 160
    omega

theorem block3_at (c : Dev nD) (t : Fin (PI.cfgM m).N) (p q : ℕ) :
    at3 (A := 1) (B := 10) (C := 128) (α := EReal) (((((PI.cfgM m).win 3).blk t).view.read (Elt Ideal) (PI.V m c (Pipeline.arrRef spec0 3)))) 0 p q = at3 (bA m c) t.val p q := by
  refine congrArg (PI.V m c main_v1) (funext fun a => Fin.ext ?_)
  have hc := coords_val t
  have ht : t.val < 25 := t.isLt
  revert a
  refine (Fin.forall_fin_succ (n := 2)).mpr ⟨?_, Fin.forall_fin_two.mpr ⟨?_, ?_⟩⟩
  · show BitVec.toNat (BitVec.ofNat 32 (grid0.coords t 0).val) * 1 + 1 * 0 = t.val % 25
    rw [hc]; omega
  · show 0 * 10 + 1 * (p % 10) = p % 10
    omega
  · show 0 * 128 + 1 * (q % 128) = q % 128
    omega

theorem fetch0 : ∀ t : Fin (PI.cfgM m).N, t.val = 0 → ((PI.cfgM m).win 0).fetch t = true := by
  show ∀ t : Fin grid0.N, t.val = 0 → Window.fetchOf grid0 false cc0_transform_0 t = true
  decide +kernel
theorem fetch1 : ∀ t : Fin (PI.cfgM m).N, ((PI.cfgM m).win 1).fetch t = true := by
  show ∀ t : Fin grid0.N, Window.fetchOf grid0 false cc0_transform_1 t = true
  decide +kernel
theorem fetch2 : ∀ t : Fin (PI.cfgM m).N, ((PI.cfgM m).win 2).fetch t = true := by
  show ∀ t : Fin grid0.N, Window.fetchOf grid0 false cc0_transform_2 t = true
  decide +kernel
theorem fetch3 : ∀ t : Fin (PI.cfgM m).N, ((PI.cfgM m).win 3).fetch t = true := by
  show ∀ t : Fin grid0.N, Window.fetchOf grid0 false cc0_transform_3 t = true
  decide +kernel
theorem flush0 : ∀ t : Fin (PI.cfgM m).N, ((PI.cfgM m).win 0).flush t = false := by
  show ∀ t : Fin grid0.N, Window.flushOf grid0 false cc0_transform_0 t = false
  decide +kernel
theorem flush4 : ∀ t : Fin (PI.cfgM m).N, ((PI.cfgM m).win 4).flush t = true := by
  show ∀ t : Fin grid0.N, Window.flushOf grid0 true cc0_transform_4 t = true
  decide +kernel

theorem first_iff : ∀ t : Fin grid0.N, k0_cond1 (grid0.coords t) = 1#1 ↔ t.val = 0 := by
  decide +kernel

/-! ## The pooled array -/

/-- The logit of token `r` of sequence `b` at vocabulary entry `v`. -/
def logitG (c : Dev nD) (b r v : ℕ) : EReal :=
  (∑ d ∈ Finset.range 5120, at2 (xA m c) (128 * b + r) d * (at2 (wA m c) v d * at2 (sA m c) v (d / 32))) + at3 (bA m c) (v / 1280) (v % 1280 / 128) (v % 128)

/-- The pooled value of sequence `b` at vocabulary entry `v`. -/
def poolG (c : Dev nD) (b v : ℕ) : EReal := headF (at1 (lA m) b).toNat fun r => logitG m c b r v

/-- The pooled values, one row per sequence. -/
def pooledG (c : Dev nD) : S2x32000.Idx → EReal := fun i => poolG m c (i 0) (i 1)

/-- A step's blocks give the pooled values of its vocabulary entries. -/
theorem pool_step (c : Dev nD) (t : ℕ) (hl : ∀ b, (at1 (lA m) b).toNat ≤ 128) {x3 : S1280x5120.Idx → EReal} {x4 : S1280x160.Idx → EReal} {x5 : S1x10x128.Idx → EReal}
    (e3 : ∀ v d, v < 1280 → at2 x3 v d = at2 (wA m c) (1280 * t + v) d) (e4 : ∀ v d, v < 1280 → at2 x4 v d = at2 (sA m c) (1280 * t + v) d)
    (e5 : ∀ p q, at3 x5 0 p q = at3 (bA m c) t p q) {x10 : S128x2x5120.Idx → EReal} {x14 : S2x256x128.Idx → EReal}
    (h : Ready (at1 (lA m) 0) (at1 (lA m) 1) (xA m c) x10 x14) {b v : ℕ} (hb : b < 2) (hv : v < 1280) :
    poolV (if k0_cond2 (at1 (lA m) 0) (at1 (lA m) 1) = 1#1 then 160 else 256) x3 x4 x5 x10 x14 b v = poolG m c b (1280 * t + v) := by
  have hlog : ∀ b r, logitV (xA m c) x3 x4 x5 (128 * b + r) v = logitG m c b r (1280 * t + v) := by
    intro b r
    unfold logitV logitG
    rw [e5, show (1280 * t + v) / 1280 = t from by omega, show (1280 * t + v) % 1280 / 128 = v / 128 from by omega, show (1280 * t + v) % 128 = v % 128 from by omega]
    refine congrArg (· + _) (Finset.sum_congr rfl fun d _ => ?_)
    rw [e3 _ _ hv, e4 _ _ hv]
  have p0 := (packed_le (hl 0)).1
  have p1 := (packed_le (hl 1)).1
  have key : ∀ M, M ≤ 256 → packed (at1 (lA m) 0) + packed (at1 (lA m) 1) ≤ M → 128 ≤ M → poolV M x3 x4 x5 x10 x14 b v = poolG m c b (1280 * t + v) := by
    intro M hM hM' hM0
    obtain ⟨q0, q1⟩ := pool_of_ready (x3 := x3) (x4 := x4) (x5 := x5) (hl 0) (hl 1) hM hM' hM0 h v
    unfold poolG
    match b, hb with
    | 0, _ => rw [q0]; exact congrArg _ (funext fun r => by rw [← hlog 0 r, Nat.mul_zero, Nat.zero_add])
    | 1, _ => rw [q1]; exact congrArg _ (funext fun r => by rw [← hlog 1 r, Nat.mul_one])
  by_cases hc : k0_cond2 (at1 (lA m) 0) (at1 (lA m) 1) = 1#1
  · rw [if_pos hc]; exact key _ (by omega) ((conds (hl 0) (hl 1)).1 hc).1 (by omega)
  · rw [if_neg hc]; exact key _ (by omega) (by omega) (by omega)

/-! ## The proof data -/

/-- The arrays, the pooled one at the pooled values. -/
def arrG (c : Dev nD) : (w : Fin 8) → Buf (Elt Ideal) ((c : Thread nD τ).loc (Pipeline.arrRef spec0 w))
  | ⟨4, _⟩ => pooledG m c
  | w => PI.V m c (Pipeline.arrRef spec0 w)

theorem block4_at (c : Dev nD) (t : Fin (PI.cfgM m).N) (X : S2x1280.Idx → EReal) (h : ∀ b < 2, ∀ v < 1280, at2 X b v = poolG m c b (1280 * t.val + v)) :
    X = ((((PI.cfgM m).win 4).blk t).view.read (Elt Ideal) (arrG m c 4) : S2x1280.Idx → EReal) := by
  funext j
  have hc := coords_val t
  have ht : t.val < 25 := t.isLt
  have h1 : (j 1 : ℕ) < 1280 := (j 1).isLt
  refine (at2_idx X j).trans ((h _ (j 0).isLt _ h1).trans ?_)
  show _ = poolG m c (0 * 2 + 1 * (j 0 : ℕ)) (BitVec.toNat (BitVec.ofNat 32 (grid0.coords t 0).val) * 1280 + 1 * (j 1 : ℕ))
  rw [hc, show 0 * 2 + 1 * (j 0 : ℕ) = j 0 from by omega, show t.val * 1280 + 1 * (j 1 : ℕ) = 1280 * t.val + j 1 from by omega]

/-- The proof data on core `c`: an input's buffer is left as found, the pooled buffer holds its block of the pooled values; between points,
    after the first, the packed rows and the caps are ready. -/
def rdat (c : Dev nD) : RDat τ (Elt Ideal) Unit ℕ (UR sig nD τ) ℕ (PI.cfgM m) c where
  A w := PI.V m c (Pipeline.arrRef spec0 w)
  after w t Y X := ((spec0 w).isOut = false → X = Y) ∧ (w = 4 → ((PI.cfgM m).win w).cut ((PI.cfgM m).grid.coords t) X = (((PI.cfgM m).win w).blk t).view.read (Elt Ideal) (arrG m c w))
  Φ t := iprop((((∃ f0 f4, ⌜t.val ≠ 0 → Ready (at1 (lA m) 0) (at1 (lA m) 1) (xA m c) f0 f4⌝ ∗ (((c : Thread nD τ).loc cc0_scratch0) ↦{fullShare} f0) ∗ (((c : Thread nD τ).loc cc0_scratch4) ↦{fullShare} f4))
      ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f)) ∗ ∃ r, prngReg c r) ∗ Pipeline.ΦT pre0 (PI.tbl m) c)
  q _ := fullShare
  owed _ := 0

theorem len0 (x : S1.Idx) : (Memref.whole main_arg1).view.readAt (Elt Ideal) (Rect.unit (s := S2) ![0] S1.size inb_S2_S1_0).toLoadRect (PI.tbl m 0) x = at1 (lA m) 0 := by
  have h : (x 0 : ℕ) = 0 := by have h1 : (x 0 : ℕ) < 1 := (x 0).isLt; omega
  refine (ld1 (lA m) ![0] S1.size inb_S2_S1_0 x).trans ?_
  rw [h]; rfl
theorem len1 (x : S1.Idx) : (Memref.whole main_arg1).view.readAt (Elt Ideal) (Rect.unit (s := S2) ![1] S1.size inb_S2_S1_1).toLoadRect (PI.tbl m 0) x = at1 (lA m) 1 := by
  have h : (x 0 : ℕ) = 0 := by have h1 : (x 0 : ℕ) < 1 := (x 0).isLt; omega
  refine (ld1 (lA m) ![1] S1.size inb_S2_S1_1 x).trans ?_
  rw [h]; rfl

/-- What a step finds in the buffer of an array's block. -/
theorem finds_eq (c : Dev nD) (t : Fin (PI.cfgM m).N) (w : Fin 8) (h : ((PI.cfgM m).win w).fetch t = true) (Y) (hY : (rdat m c).Finds w t Y) : ∃ d, Y = (rdat m c).fetched w t d :=
  ((rdat m c).finds_of_fetch h Y).mp hY

set_option backward.isDefEq.respectTransparency.types false in
/-- The body at any point: the inputs are left as found, the pooled buffer holds its block of the pooled values, and the packed rows and the caps are ready. -/
theorem sound_body (hl : ∀ b, (at1 (lA m) b).toNat ≤ 128) (hX : ∀ c, Finite (xA m c)) (c : Dev nD) (t : Fin (PI.cfgM m).N)
    (Y : (w : Fin 8) → ((PI.cfgM m).win w).block.Idx → Elt Ideal ((PI.cfgM m).win w).elt)
    (y0 : (Y 0 : S256x5120.Idx → EReal) = xA m c)
    (y1 : ∀ v d, v < 1280 → at2 (A := 1280) (B := 5120) (α := EReal) (Y 1) v d = at2 (wA m c) (1280 * t.val + v) d)
    (y2 : ∀ v d, v < 1280 → at2 (A := 1280) (B := 160) (α := EReal) (Y 2) v d = at2 (sA m c) (1280 * t.val + v) d)
    (y3 : ∀ p q, at3 (A := 1) (B := 10) (C := 128) (α := EReal) (Y 3) 0 p q = at3 (bA m c) t.val p q) :
    (iprop((rdat m c).Φ t.castSucc ∗ (rdat m c).owesAt () t.castSucc
        ∗ bigSep Finset.univ fun w : Fin 8 => owns (c : Thread nD τ) ((spec0 w).stage ((PI.cfgM m).slots t w)) fullShare (Y w)) : sProp 𝕄)
      ⊢ wp frame (wpE (defs₀ (F := Ideal)) Variants.none c none) Set.univ (PI.bodyAt0 m t) fun _ =>
        iprop((rdat m c).Φ t.succ ∗ (rdat m c).owesAt () t.succ
          ∗ bigSep Finset.univ fun w : Fin 8 => iprop(∃ X, ⌜(rdat m c).after w t (Y w) X⌝ ∗ owns (c : Thread nD τ) ((spec0 w).stage ((PI.cfgM m).slots t w)) fullShare X)) := by
  rw [bigSep_W0, bigSep_W0]
  rw [show (rdat m c).owesAt () t.succ = (rdat m c).owesAt () t.castSucc from rfl]
  dsimp only [rdat]
  rw [PI.PhiT0_eq]
  unfold owns
  iintro ⟨⟨⟨⟨⟨%g0, %g4, %hr, S0, S4⟩, S1, S2, S3⟩, Hp⟩, HT⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  unfold PI.bodyAt0
  have r0 := e0.trans y0
  have s1 : (Memref.whole main_arg1 : Memref sig .tc _ _ _).view.set = Finset.univ := View.set_whole _
  have z0 : (Memref.whole cc0_scratch0 : Memref sig .tc _ _ _).view.set = Finset.univ := View.set_whole _
  have z1 : (Memref.whole cc0_scratch1 : Memref sig .tc _ _ _).view.set = Finset.univ := View.set_whole _
  have z2 : (Memref.whole cc0_scratch2 : Memref sig .tc _ _ _).view.set = Finset.univ := View.set_whole _
  have z3 : (Memref.whole cc0_scratch3 : Memref sig .tc _ _ _).view.set = Finset.univ := View.set_whole _
  have z4 : (Memref.whole cc0_scratch4 : Memref sig .tc _ _ _).view.set = Finset.univ := View.set_whole _
  iapply (wp_wand_r Idealize.ShloMosaic.frame (wpE (defs₀ (F := Ideal)) Variants.none (c : Thread nD τ) none) Set.univ)
  isplitl [S0 S1 S2 S3 S4 HT H0 H1 H2 H3 H4 H5 H6 H7]
  · iapply (sound_kernel c (grid0.coords t) (Memref.whole main_arg1) (Memref.isWhole_whole _) (spec0_0.stage ((PI.cfgM m).slots t 0)) (hstage0_0 (((PI.cfgM m).slots t 0).cast nbuf0_0)) (spec0_1.stage ((PI.cfgM m).slots t 1)) (hstage0_1 (((PI.cfgM m).slots t 1).cast nbuf0_1)) (spec0_2.stage ((PI.cfgM m).slots t 2)) (hstage0_2 (((PI.cfgM m).slots t 2).cast nbuf0_2)) (spec0_3.stage ((PI.cfgM m).slots t 3)) (hstage0_3 (((PI.cfgM m).slots t 3).cast nbuf0_3)) (spec0_4.stage ((PI.cfgM m).slots t 4)) (hstage0_4 (((PI.cfgM m).slots t 4).cast nbuf0_4)) (spec0_5.stage ((PI.cfgM m).slots t 5)) (hstage0_5 (((PI.cfgM m).slots t 5).cast nbuf0_5)) (spec0_6.stage ((PI.cfgM m).slots t 6)) (hstage0_6 (((PI.cfgM m).slots t 6).cast nbuf0_6)) (spec0_7.stage ((PI.cfgM m).slots t 7)) (hstage0_7 (((PI.cfgM m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) fullShare.right (PI.tbl m 0) f0 f1 f2 f3 (at1 (lA m) 0) (at1 (lA m) 1) (hl 0) (hl 1) (PI.chk1 _ _ (hl 0)) (by rw [r0]; exact hX c) (len0 m) (len1 m) f4 g0 g4 (fun hn => by rw [r0]; exact hr fun h0 => hn ((first_iff t).mpr h0)))
    isplitl [HT]; · rw [s1]; iexact HT
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    rw [z0, z1, z2, z3, z4]
    isplitl [S0]; · iexact S0
    isplitl [S1]; · iexact S1
    isplitl [S2]; · iexact S2
    isplitl [S3]; · iexact S3
    iexact S4
  rw [s1, z0, z1, z2, z3, z4]
  iintro %_ ⟨HT, H0, H1, H2, H3, ⟨%g5, H5⟩, ⟨%g6, H6⟩, ⟨%g7, H7⟩, S1, S2, S3, ⟨%q4, %q10, %q14, %hq, H4, S0, S4⟩⟩
  rw [r0] at hq
  isplitl [HT Hp S0 S1 S2 S3 S4]
  · isplitr [HT]
    · isplitr [Hp]
      · isplitl [S0 S4]
        · iexists q10; iexists q14
          isplitr; · ipureintro; exact fun _ => hq.1
          isplitl [S0]; · iexact S0
          iexact S4
        isplitl [S1]; · iexact S1
        isplitl [S2]; · iexact S2
        iexact S3
      · iexact Hp
    · iexact HT
  isplitl [Ho]; · iexact Ho
  isplitl [H0]
  · iexists (Y 0)
    isplitr; · ipureintro; exact ⟨fun _ => rfl, fun h => absurd (congrArg Fin.val h) (by simp)⟩
    iexists f0; isplitr; · ipureintro; exact e0
    iexact H0
  isplitl [H1]
  · iexists (Y 1)
    isplitr; · ipureintro; exact ⟨fun _ => rfl, fun h => absurd (congrArg Fin.val h) (by simp)⟩
    iexists f1; isplitr; · ipureintro; exact e1
    iexact H1
  isplitl [H2]
  · iexists (Y 2)
    isplitr; · ipureintro; exact ⟨fun _ => rfl, fun h => absurd (congrArg Fin.val h) (by simp)⟩
    iexists f2; isplitr; · ipureintro; exact e2
    iexact H2
  isplitl [H3]
  · iexists (Y 3)
    isplitr; · ipureintro; exact ⟨fun _ => rfl, fun h => absurd (congrArg Fin.val h) (by simp)⟩
    iexists f3; isplitr; · ipureintro; exact e3
    iexact H3
  isplitl [H4]
  · iexists (((spec0 4).stage ((PI.cfgM m).slots t 4)).view.read (Elt Ideal) q4)
    isplitr
    · ipureintro
      refine ⟨fun h => absurd h (by decide), fun _ => block4_at m c t _ fun b hb v hv => ?_⟩
      refine (hq.2 b hb v hv).trans (pool_step m c t.val hl ?_ ?_ ?_ hq.1 hb hv)
      · rw [e1]; exact y1
      · rw [e2]; exact y2
      · rw [e3]; exact y3
    iexists q4; isplitr; · ipureintro; rfl
    iexact H4
  isplitl [H5]
  · iexists (((spec0 5).stage ((PI.cfgM m).slots t 5)).view.read (Elt Ideal) g5)
    isplitr; · ipureintro; exact ⟨fun h => absurd h (by decide), fun h => absurd (congrArg Fin.val h) (by simp)⟩
    iexists g5; isplitr; · ipureintro; rfl
    iexact H5
  isplitl [H6]
  · iexists (((spec0 6).stage ((PI.cfgM m).slots t 6)).view.read (Elt Ideal) g6)
    isplitr; · ipureintro; exact ⟨fun h => absurd h (by decide), fun h => absurd (congrArg Fin.val h) (by simp)⟩
    iexists g6; isplitr; · ipureintro; rfl
    iexact H6
  iexists (((spec0 7).stage ((PI.cfgM m).slots t 7)).view.read (Elt Ideal) g7)
  isplitr; · ipureintro; exact ⟨fun h => absurd h (by decide), fun h => absurd (congrArg Fin.val h) (by simp)⟩
  iexists g7; isplitr; · ipureintro; rfl
  iexact H7

set_option backward.isDefEq.respectTransparency.types false in
/-- The library's body obligation, at every point. -/
theorem body_obligation (hl : ∀ b, (at1 (lA m) b).toNat ≤ 128) (hX : ∀ c, Finite (xA m c)) (c : Dev nD) : (rdat m c).BodyObligation (defs₀ (F := Ideal)) Variants.none () Set.univ := fun t Y hY => by
  rw [PI.defs₀_row]
  refine triple_restated (sound_body m hl hX c t Y ?_ ?_ ?_ ?_) rfl .rfl fun _ => .rfl
  · obtain ⟨t', d, h⟩ := finds_fetched (rdat m c) 0 (fun _ _ _ h => h.1 rfl) (flush0 m) (fetch0 m) _ t rfl _ (hY 0)
    exact h.trans (block0_at m c t')
  · obtain ⟨d, h⟩ := finds_eq m c t 1 (fetch1 m t) _ (hY 1)
    intro v d' hv
    rw [h]; exact block1_at m c t v d' hv
  · obtain ⟨d, h⟩ := finds_eq m c t 2 (fetch2 m t) _ (hY 2)
    intro v d' hv
    rw [h]; exact block2_at m c t v d' hv
  · obtain ⟨d, h⟩ := finds_eq m c t 3 (fetch3 m t) _ (hY 3)
    intro p q
    rw [h]; exact block3_at m c t p q

set_option backward.isDefEq.respectTransparency.types false in
/-- The launch, with what every array may hold at its end. -/
theorem run_main (hl : ∀ b, (at1 (lA m) b).toNat ≤ 128) (hX : ∀ c, Finite (xA m c)) :
    θ_run defs (onTc (τ := τ) (main (F := Ideal))) (s₀ m ρ) (fun r => Pipeline.RDat.FramePost (PI.cfgM m) (rdat m) (PI.V m) r ∧ r.2.sem = fun _ => 0) :=
  Pipeline.RDat.θ_run_frameP_track (Q' := _) pcfgs (fun _ => PI.adm m) (0 : Fin 1) launch0 defs₀ Variants.none (rdat m) m ρ main
    (hbody := body_obligation m hl hX) (hshare := fun c w => by unfold Pipeline.RDat.share; split <;> rfl)
    (howed := fun _ _ => rfl) (V := PI.V m) (hmain := PI.hmain m Variants.none) (hA := fun _ _ => rfl) (hpf := PI.V_pre m)
    (hin := fun c => by
      dsimp only [rdat]
      unfold Pipeline.ΦA
      rw [scopedRest0_eq]
      iintro ⟨⟨⟨⟨%f0, S0⟩, S1, S2, S3, ⟨%f4, S4⟩⟩, Hp⟩, HT⟩
      isplitr [HT]
      · isplitr [Hp]
        · isplitl [S0 S4]
          · iexists f0; iexists f4
            isplitr; · ipureintro; exact fun h => absurd rfl h
            isplitl [S0]; · iexact S0
            iexact S4
          isplitl [S1]; · iexact S1
          isplitl [S2]; · iexact S2
          iexact S3
        · iexact Hp
      · iexact HT)
    (hout := fun c => by
      dsimp only [rdat]
      unfold Pipeline.ΦA
      rw [scopedRest0_eq]
      iintro ⟨⟨⟨⟨%f0, %f4, %hr, S0, S4⟩, S1, S2, S3⟩, Hp⟩, HT⟩
      isplitr [Hp]
      · isplitl [S0]; · iexists f0; iexact S0
        isplitl [S1]; · iexact S1
        isplitl [S2]; · iexact S2
        isplitl [S3]; · iexact S3
        iexists f4; iexact S4
      · iexact Hp)

/-- Every entry of the pooled array is in the block of its step. -/
theorem covered (i : S2x32000.Idx) : ∃ t : Fin (PI.cfgM m).N, i ∈ ((((PI.cfgM m).win 4).blk t).view.set : Finset S2x32000.Idx) := by
  have h1 : (i 1 : ℕ) < 32000 := (i 1).isLt
  have ht : (i 1 : ℕ) / 1280 < 25 := by omega
  refine ⟨⟨(i 1 : ℕ) / 1280, ht⟩, Finset.mem_map.mpr ⟨(ix2 (i 0) ⟨(i 1 : ℕ) % 1280, by omega⟩ : S2x1280.Idx), Finset.mem_univ _, ?_⟩⟩
  have hc := coords_val ⟨(i 1 : ℕ) / 1280, ht⟩
  refine funext fun a => Fin.ext ?_
  revert a
  refine Fin.forall_fin_two.mpr ⟨?_, ?_⟩
  · show 0 * 2 + 1 * (i 0 : ℕ) = i 0
    omega
  · show BitVec.toNat (BitVec.ofNat 32 (grid0.coords ⟨(i 1 : ℕ) / 1280, ht⟩ 0).val) * 1280 + 1 * ((i 1 : ℕ) % 1280) = i 1
    rw [hc]; show (i 1 : ℕ) / 1280 * 1280 + 1 * ((i 1 : ℕ) % 1280) = i 1; omega

/-- The run: the pooled array ends at the pooled values, the arguments end unchanged. -/
theorem run (hl : ∀ b, (at1 (lA m) b).toNat ≤ 128) (hX : ∀ c, Finite (xA m c)) : θ_run defs (onTc (τ := τ) (main (F := Ideal))) ⟨m, fun _ => 0, ρ⟩ (fun r => ∀ c : Dev nD,
      r.2.mem ((c.tc : Thread nD τ).loc main_v2_0) = pooledG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨funext fun i => by
        obtain ⟨t, ht⟩ := covered m i
        exact arr_of_blocks (rdat m c) 4 (arrG m c 4) (fun _ _ h => h.choose_spec.2.2 rfl) _ _ ((h.1 c).1 4) t t.isLt (flush4 m t) i ht,
     ((h.1 c).2 main_arg0 (by decide : main_arg0 ∈ Pipeline.restRefs sig spec0)).trans (PI.V_of_ne m c main_arg0 (by decide) (by decide)),
     ((h.1 c).2 main_arg1 (by decide : main_arg1 ∈ Pipeline.restRefs sig spec0)).trans (PI.V_of_ne m c main_arg1 (by decide) (by decide)),
     (Pipeline.RDat.FramePost.arr_in h.1 c 1 rfl).trans (PI.V_of_ne m c main_arg2 (by decide) (by decide)),
     (Pipeline.RDat.FramePost.arr_in h.1 c 2 rfl).trans (PI.V_of_ne m c main_arg3 (by decide) (by decide)),
     ((h.1 c).2 main_arg4 (by decide : main_arg4 ∈ Pipeline.restRefs sig spec0)).trans (PI.V_of_ne m c main_arg4 (by decide) (by decide))⟩) (run_main m ρ hl hX)

end Cert.Proof.PV
-- ==== Proof.PVRef.lean ====
module

public import proofs.«01_k».proof.Proof.Gen.ReferenceIdeal.Value
public import proofs.«01_k».proof.Proof.PVHead
public import Idealize.ShloMosaic.Lib.MatmulPlain

@[expose] public section

set_option maxRecDepth 65536
set_option maxHeartbeats 1000000

noncomputable section

namespace Cert.Proof.PR

open Cert.ReferenceIdeal Cert.ReferenceIdeal.Gen
open Idealize.ShloMosaic Idealize.ShloMosaic.TcCoe Idealize.ShloMosaic.Tactic
open Cert.Proof.PV

/-! ## Quantising a block with a power of two gives its entries back -/

/-- The exponent of a block of magnitude `a`. -/
def expV (a : EReal) : EReal :=
  if a = Ideal.ofBits .f32 0x00000000#32 then Ideal.ofBits .f32 0x00000000#32
  else Ideal.liftRound Int.floor (Ideal.div (Ideal.log (a * Ideal.ofBits .f32 0x3B124925#32)) (Ideal.log (Ideal.ofBits .f32 0x40000000#32))) + Ideal.ofBits .f32 0x3F800000#32

theorem two_bits : Ideal.ofBits .f32 0x40000000#32 = ((2 : ℝ) : EReal) := by
  simp [Ideal.ofBits, Ideal.ieee, -EReal.coe_mul]
  norm_num

theorem expV_real {a : ℝ} (ha : 0 ≤ a) : ∃ e : ℝ, expV a = (e : EReal) ∧ a * Real.rpow 2 (-e) ≤ 448 := by
  unfold expV
  rw [Ideal.ofBits_zero_f32]
  by_cases h : a = 0
  · subst h
    exact ⟨0, by simp, by simp⟩
  · have hp : 0 < a := lt_of_le_of_ne ha (Ne.symm h)
    have hl2 : 0 < Real.log 2 := Real.log_pos (by norm_num)
    set t : ℝ := a * (9586981 / 4294967296) with ht
    have htp : 0 < t := by positivity
    rw [if_neg (by exact_mod_cast h), coef, two_bits, ← EReal.coe_mul, log_coe, log_coe, if_neg (by linarith), if_neg (by norm_num), Ideal.ofBits_one_f32]
    unfold Ideal.div
    rw [if_neg (by exact_mod_cast hl2.ne'), ← EReal.coe_inv, ← EReal.coe_mul]
    refine ⟨(⌊Real.log t * (Real.log 2)⁻¹⌋ : ℝ) + 1, ?_, ?_⟩
    · show (((⌊Real.log t * (Real.log 2)⁻¹⌋ : ℝ)) : EReal) + 1 = _
      rw [EReal.coe_add]; rfl
    · set e : ℝ := (⌊Real.log t * (Real.log 2)⁻¹⌋ : ℝ) + 1 with he
      have h1 : Real.log t * (Real.log 2)⁻¹ < e := Int.lt_floor_add_one _
      have h2 : Real.log t < Real.log 2 * e := by
        rw [mul_inv_lt_iff₀ hl2] at h1; linarith
      have h3 : t < Real.rpow 2 e := by
        have := Real.exp_lt_exp.mpr h2
        rw [Real.exp_log htp] at this
        show t < (2 : ℝ) ^ e
        rw [Real.rpow_def_of_pos (by norm_num)]; exact this
      have h4 : Real.rpow 2 (-e) = (Real.rpow 2 e)⁻¹ := Real.rpow_neg (by norm_num) e
      have h5 : 0 < Real.rpow 2 e := Real.rpow_pos_of_pos (by norm_num) e
      rw [h4, mul_inv_le_iff₀ h5]
      have : a ≤ 448 * t := by rw [ht]; nlinarith
      linarith

theorem quant_back {x a : ℝ} (h : |x| ≤ a) :
    min (Ideal.ofBits .f32 0x43E00000#32) (max (Ideal.ofBits .f32 0xC3E00000#32) ((x : EReal) * Ideal.exp2 (Ideal.ofBits .f32 0x00000000#32 - expV a))) * Ideal.exp2 (expV a) = x := by
  obtain ⟨e, he, hb⟩ := expV_real (le_trans (abs_nonneg x) h)
  have h5 : 0 < Real.rpow 2 (-e) := Real.rpow_pos_of_pos (by norm_num) _
  have h1 : |x * Real.rpow 2 (-e)| ≤ 448 := by
    rw [abs_mul, abs_of_pos h5]
    exact le_trans (mul_le_mul_of_nonneg_right h h5.le) hb
  obtain ⟨ha, hb⟩ := abs_le.mp h1
  rw [he, Ideal.ofBits_zero_f32, zero_sub, ← EReal.coe_neg, Ideal.exp2_coe, Ideal.exp2_coe, top448, bot448, ← EReal.coe_mul,
    max_eq_right (EReal.coe_le_coe_iff.mpr ha), min_eq_right (EReal.coe_le_coe_iff.mpr hb), ← EReal.coe_mul]
  congr 1
  have : Real.rpow 2 (-e) * Real.rpow 2 e = 1 := by
    show (2 : ℝ) ^ (-e) * (2 : ℝ) ^ e = 1
    rw [← Real.rpow_add (by norm_num)]; simp
  rw [mul_assoc, this, mul_one]

/-! ## The hidden states -/

theorem bc_x {α : Type} (x : S256x160x1.Idx → α) (r : Fin 256) (b : Fin 160) (q : Fin 32) : broadcastTo S256x160x32 x broadcasts_S256x160x1_S256x160x32 (ix3 r b q) = x (ix3 r b (0 : Fin 1)) := by
  refine broadcastTo_apply _ _ _ _ ?_
  refine (Fin.forall_fin_succ (n := 2)).mpr ⟨?_, Fin.forall_fin_two.mpr ⟨?_, ?_⟩⟩ <;> rfl

theorem bc_w {α : Type} (x : S32000x160x1.Idx → α) (r : Fin 32000) (b : Fin 160) (q : Fin 32) : broadcastTo S32000x160x32 x broadcasts_S32000x160x1_S32000x160x32 (ix3 r b q) = x (ix3 r b (0 : Fin 1)) := by
  refine broadcastTo_apply _ _ _ _ ?_
  refine (Fin.forall_fin_succ (n := 2)).mpr ⟨?_, Fin.forall_fin_two.mpr ⟨?_, ?_⟩⟩ <;> rfl

/-- The entries in blocks of 32. -/
def blocked (v0 : S256x5120.Idx → EReal) : S256x160x32.Idx → EReal := shapeCast S256x160x32 v0 shapeCasts_S256x5120_S256x160x32

theorem blocked_at (v0 : S256x5120.Idx → EReal) (r : Fin 256) (b : Fin 160) (q : Fin 32) : blocked v0 (ix3 r b q) = at2 v0 r (32 * b + q) := by
  rw [show at2 v0 r (32 * b + q) = v0 (ix2 r ⟨32 * b + q, by omega⟩) from (at2_ix v0 r ⟨32 * b + q, by omega⟩).symm]
  refine shapeCast_apply _ _ _ _ ?_
  rw [Shape.rowMajor_val_two, Shape.rowMajor_val_three]
  show (r : ℕ) * 5120 + (32 * b + q) = ((r : ℕ) * 160 + b) * 32 + q
  omega

/-- The magnitude of a block. -/
def magn (v0 : S256x5120.Idx → EReal) : S256x160.Idx → EReal :=
  multiReduction (F := Ideal) (φ := .f32) .maximumf [2] S256x160 (absf (F := Ideal) (φ := .f32) (blocked v0)) 0xFF800000#32 reduces_S256x160x32_S256x160 (.inl rfl) rfl

theorem ninf : Ideal.ofBits .f32 0xFF800000#32 = ⊥ := by simp [Ideal.ofBits, Ideal.ieee]

theorem magn_at {v0 : S256x5120.Idx → EReal} (hf : Finite v0) (r : Fin 256) (b : Fin 160) :
    ∃ a : ℝ, magn v0 (ix2 r b) = (a : EReal) ∧ ∀ q : Fin 32, ∃ x : ℝ, at2 v0 r (32 * b + q) = (x : EReal) ∧ |x| ≤ a := by
  have e : magn v0 (ix2 r b) = (Finset.univ : Finset (Fin 32)).fold max ⊥ fun q : Fin 32 => max (at2 v0 r (32 * b + q)) (-at2 v0 r (32 * b + q)) := by
    unfold magn
    refine (Ideal.multiReduction_maximumf_single _ _ _ _ _ _).trans ?_
    show (Finset.univ : Finset (Fin 32)).fold max (Ideal.ofBits .f32 0xFF800000#32) _ = _
    rw [ninf]
    refine Finset.fold_congr fun q _ => ?_
    have hq : reduces_S256x160x32_S256x160.lift (ix2 r b) q = ix3 r b q := by
      funext a
      revert a
      refine (Fin.forall_fin_succ (n := 2)).mpr ⟨?_, Fin.forall_fin_two.mpr ⟨?_, ?_⟩⟩ <;> rfl
    show max (blocked v0 (reduces_S256x160x32_S256x160.lift (ix2 r b) q)) (-blocked v0 (reduces_S256x160x32_S256x160.lift (ix2 r b) q)) = _
    rw [hq, blocked_at]
  have hx : ∀ q : Fin 32, ∃ x : ℝ, at2 v0 r (32 * b + q) = (x : EReal) ∧ |x| ≤ 2 ^ 128 := fun q => hf r r.isLt _ (by omega)
  choose x hx hb using hx
  have hm : ∀ q : Fin 32, max (at2 v0 r (32 * b + q)) (-at2 v0 r (32 * b + q)) = ((|x q| : ℝ) : EReal) := fun q => abs_real (hx q)
  rw [e]
  simp only [hm]
  have hle : ∀ q : Fin 32, ((|x q| : ℝ) : EReal) ≤ (Finset.univ : Finset (Fin 32)).fold max ⊥ fun q : Fin 32 => ((|x q| : ℝ) : EReal) :=
    fun q => (Finset.le_fold_max _).mpr (.inr ⟨q, Finset.mem_univ _, le_refl _⟩)
  have hlt : ((Finset.univ : Finset (Fin 32)).fold max ⊥ fun q : Fin 32 => ((|x q| : ℝ) : EReal)) ≤ ((2 ^ 128 : ℝ) : EReal) :=
    (Finset.fold_max_le _).mpr ⟨bot_le, fun q _ => EReal.coe_le_coe_iff.mpr (hb q)⟩
  have hbot : (⊥ : EReal) < (Finset.univ : Finset (Fin 32)).fold max ⊥ fun q : Fin 32 => ((|x q| : ℝ) : EReal) := lt_of_lt_of_le (EReal.bot_lt_coe _) (hle 0)
  obtain ⟨a, ha⟩ : ∃ a : ℝ, ((Finset.univ : Finset (Fin 32)).fold max ⊥ fun q : Fin 32 => ((|x q| : ℝ) : EReal)) = (a : EReal) :=
    ⟨_, (EReal.coe_toReal (lt_of_le_of_lt hlt (EReal.coe_lt_top _)).ne hbot.ne').symm⟩
  exact ⟨a, ha, fun q => ⟨x q, hx q, EReal.coe_le_coe_iff.mp (ha ▸ hle q)⟩⟩

/-- The exponents of blocks of magnitudes `v6`. -/
def expoOf (v6 : FVec Ideal S256x160x1 .f32) : FVec Ideal S256x160x1 .f32 :=
  select (cmpf .oeq v6 (broadcast S256x160x1 (Scalar.ofBits (F := Ideal) .f32 0x00000000#32))) (broadcast S256x160x1 (Scalar.ofBits (F := Ideal) .f32 0x00000000#32))
    (addf (floor (divf (log (mulf v6 (broadcast S256x160x1 (Scalar.ofBits (F := Ideal) .f32 0x3B124925#32)))) (log (broadcast S256x160x1 (Scalar.ofBits (F := Ideal) .f32 0x40000000#32))))) (broadcast S256x160x1 (Scalar.ofBits (F := Ideal) .f32 0x3F800000#32)))

theorem expoOf_at (v6 : FVec Ideal S256x160x1 .f32) (i : S256x160x1.Idx) : expoOf v6 i = expV (v6 i) := by
  have e : expoOf v6 i = Scalar.select (BitVec.ofBool (decide (v6 i = Ideal.ofBits .f32 0x00000000#32))) (Ideal.ofBits .f32 0x00000000#32)
      (Ideal.liftRound Int.floor (Ideal.div (Ideal.log (v6 i * Ideal.ofBits .f32 0x3B124925#32)) (Ideal.log (Ideal.ofBits .f32 0x40000000#32))) + Ideal.ofBits .f32 0x3F800000#32) := rfl
  rw [e]
  unfold expV
  by_cases h : v6 i = Ideal.ofBits .f32 0x00000000#32
  · rw [if_pos h, decide_eq_true h]; rfl
  · rw [if_neg h, decide_eq_false h]; rfl

/-- The exponents of the blocks. -/
def expo (v0 : S256x5120.Idx → EReal) : FVec Ideal S256x160x1 .f32 := expoOf (shapeCast S256x160x1 (magn v0) shapeCasts_S256x160_S256x160x1)

theorem expo_at (v0 : S256x5120.Idx → EReal) (r : Fin 256) (b : Fin 160) : expo v0 (ix3 r b (0 : Fin 1)) = expV (magn v0 (ix2 r b)) := by
  unfold expo
  rw [expoOf_at]
  refine congrArg expV (shapeCast_apply _ _ _ _ ?_)
  rw [Shape.rowMajor_val_two, Shape.rowMajor_val_three]
  show (r : ℕ) * 160 + b = ((r : ℕ) * 160 + b) * 1 + 0
  omega

theorem exp2_at (E : FVec Ideal S256x160x1 .f32) (i : S256x160x1.Idx) : (exp2 E : FVec Ideal S256x160x1 .f32) i = Ideal.exp2 (E i) := rfl

theorem sub_at (E : FVec Ideal S256x160x1 .f32) (i : S256x160x1.Idx) : (subf (broadcast S256x160x1 (Scalar.ofBits (F := Ideal) .f32 0x00000000#32)) E : FVec Ideal S256x160x1 .f32) i = Ideal.ofBits .f32 0x00000000#32 - E i := rfl

/-- The hidden states after quantising. -/
def restored (v2 : FVec Ideal S256x5120 .f32) : FVec Ideal S256x5120 .bf16 :=
  shapeCast S256x5120 (mulf (extf .bf16 (truncf .fp8e4m3 (minimumf (broadcast S256x160x32 (Scalar.ofBits (F := Ideal) .f32 0x43E00000#32))
      (maximumf (broadcast S256x160x32 (Scalar.ofBits (F := Ideal) .f32 0xC3E00000#32)) (mulf (shapeCast S256x160x32 v2 shapeCasts_S256x5120_S256x160x32)
        (broadcastTo S256x160x32 (exp2 (subf (broadcast S256x160x1 (Scalar.ofBits (F := Ideal) .f32 0x00000000#32)) (expo v2))) broadcasts_S256x160x1_S256x160x32)))) bitsLt_fp8e4m3_f32) bitsLt_fp8e4m3_bf16)
      (broadcastTo S256x160x32 (truncf .bf16 (exp2 (expo v2)) bitsLt_bf16_f32) broadcasts_S256x160x1_S256x160x32)) shapeCasts_S256x160x32_S256x5120

theorem trunc_at (E : FVec Ideal S256x160x1 .f32) (i : S256x160x1.Idx) : (truncf .bf16 E bitsLt_bf16_f32 : FVec Ideal S256x160x1 .bf16) i = E i := rfl

theorem trunc_out (E : FVec Ideal S2x32000 .f32) (i : S2x32000.Idx) : (truncf .bf16 E bitsLt_bf16_f32 : FVec Ideal S2x32000 .bf16) i = E i := rfl

theorem pay2_eq {v0 : Vec Ideal S256x5120 .bf16} (hf : Finite v0) : (k0_pay2 (F := Ideal) v0 : S256x5120.Idx → EReal) = v0 := by
  funext j
  obtain ⟨r, d, rfl⟩ : ∃ (r : Fin 256) (d : Fin 5120), j = ix2 r d := ⟨j 0, j 1, eq_ix2 j⟩
  have h1 : extf (F := Ideal) (φ := .bf16) .f32 (shapeCast S256x5120 v0 shapeCasts_S256x5120_S256x5120) bitsLt_bf16_f32 = v0 := funext fun i => congrFun (shapeCast_id v0 shapeCasts_S256x5120_S256x5120) i
  have e : k0_pay2 (F := Ideal) v0 = restored (extf (F := Ideal) (φ := .bf16) .f32 (shapeCast S256x5120 v0 shapeCasts_S256x5120_S256x5120) bitsLt_bf16_f32) := rfl
  rw [e, h1]
  unfold restored
  have hd := d.isLt
  have hb : (d : ℕ) / 32 < 160 := by omega
  refine (shapeCast_apply _ _ _ (ix3 r ⟨(d : ℕ) / 32, hb⟩ ⟨(d : ℕ) % 32, by omega⟩) ?_).trans ?_
  · rw [Shape.rowMajor_val_two, Shape.rowMajor_val_three]
    show ((r : ℕ) * 160 + (d : ℕ) / 32) * 32 + (d : ℕ) % 32 = (r : ℕ) * 5120 + d
    omega
  obtain ⟨a, ha, hx⟩ := magn_at hf r ⟨(d : ℕ) / 32, hb⟩
  obtain ⟨x, hx, hxa⟩ := hx ⟨(d : ℕ) % 32, by omega⟩
  have hv : v0 (ix2 r d) = (x : EReal) := by
    rw [← hx, at2_ix (α := EReal) v0]
    show at2 v0 r d = at2 v0 r (32 * ((d : ℕ) / 32) + (d : ℕ) % 32)
    rw [Nat.div_add_mod]
  show min (Ideal.ofBits .f32 0x43E00000#32) (max (Ideal.ofBits .f32 0xC3E00000#32) (blocked v0 (ix3 r ⟨(d : ℕ) / 32, hb⟩ ⟨(d : ℕ) % 32, by omega⟩) * broadcastTo S256x160x32 _ broadcasts_S256x160x1_S256x160x32 (ix3 r ⟨(d : ℕ) / 32, hb⟩ ⟨(d : ℕ) % 32, by omega⟩)))
    * broadcastTo S256x160x32 _ broadcasts_S256x160x1_S256x160x32 (ix3 r ⟨(d : ℕ) / 32, hb⟩ ⟨(d : ℕ) % 32, by omega⟩) = _
  rw [bc_x, bc_x, blocked_at, hx, hv]
  rw [trunc_at, exp2_at, exp2_at, sub_at, expo_at, ha]
  exact quant_back hxa

/-! ## The weights -/

theorem pay3_at (w : Vec Ideal S32000x5120 .fp8e4m3) (s : Vec Ideal S32000x160 .f32) (v : Fin 32000) (d : Fin 5120) :
    (k0_pay3 (F := Ideal) w s : S32000x5120.Idx → EReal) (ix2 v d) = at2 (α := EReal) w v d * at2 (α := EReal) s v ((d : ℕ) / 32) := by
  have hd := d.isLt
  have hb : (d : ℕ) / 32 < 160 := by omega
  unfold k0_pay3
  refine (shapeCast_apply _ _ _ (ix3 v ⟨(d : ℕ) / 32, hb⟩ ⟨(d : ℕ) % 32, by omega⟩) ?_).trans ?_
  · rw [Shape.rowMajor_val_two, Shape.rowMajor_val_three]
    show ((v : ℕ) * 160 + (d : ℕ) / 32) * 32 + (d : ℕ) % 32 = (v : ℕ) * 5120 + d
    omega
  show shapeCast S32000x160x32 w shapeCasts_S32000x5120_S32000x160x32 (ix3 v ⟨(d : ℕ) / 32, hb⟩ ⟨(d : ℕ) % 32, by omega⟩)
    * broadcastTo S32000x160x32 (shapeCast S32000x160x1 s shapeCasts_S32000x160_S32000x160x1) broadcasts_S32000x160x1_S32000x160x32 (ix3 v ⟨(d : ℕ) / 32, hb⟩ ⟨(d : ℕ) % 32, by omega⟩) = _
  rw [bc_w]
  refine congrArg₂ (· * ·) ?_ ?_
  · rw [← at2_ix (α := EReal) w v d]
    refine shapeCast_apply _ _ _ _ ?_
    rw [Shape.rowMajor_val_two, Shape.rowMajor_val_three]
    show (v : ℕ) * 5120 + d = ((v : ℕ) * 160 + (d : ℕ) / 32) * 32 + (d : ℕ) % 32
    omega
  · rw [show at2 (α := EReal) s v ((d : ℕ) / 32) = s (ix2 v ⟨(d : ℕ) / 32, hb⟩) from (at2_ix (α := EReal) s v ⟨(d : ℕ) / 32, hb⟩).symm]
    refine shapeCast_apply _ _ _ _ ?_
    rw [Shape.rowMajor_val_two, Shape.rowMajor_val_three]
    show (v : ℕ) * 160 + (d : ℕ) / 32 = ((v : ℕ) * 160 + (d : ℕ) / 32) * 1 + 0
    omega

/-! ## The pooled values -/

theorem dot_eq : (dot_S256x5120_S32000x5120_S256x32000_1_1_0_0_n_n : DotDims S256x5120 S32000x5120 S256x32000) = DotDims.transposedRhs 256 5120 32000 := rfl

/-- The logits. -/
def logits (x : FVec Ideal S256x5120 .bf16) (w : FVec Ideal S32000x5120 .bf16) (b : Vec Ideal S1x32000 .f32) : FVec Ideal S256x32000 .f32 :=
  addf (matmul dot_S256x5120_S32000x5120_S256x32000_1_1_0_0_n_n none x w (constant S256x32000 .f32 0x00000000#32))
    (broadcastTo S256x32000 (shapeCast S1x32000 b shapeCasts_S1x32000_S1x32000) broadcasts_S1x32000_S256x32000)

theorem logits_at (x : FVec Ideal S256x5120 .bf16) (w : FVec Ideal S32000x5120 .bf16) (b : Vec Ideal S1x32000 .f32) (r : Fin 256) (v : Fin 32000) :
    logits x w b (ix2 r v) = (∑ d ∈ Finset.range 5120, at2 (α := EReal) x r d * at2 (α := EReal) w v d) + at2 (α := EReal) b 0 v := by
  have h1 : shapeCast S1x32000 b shapeCasts_S1x32000_S1x32000 = b := shapeCast_id _ _
  have h2 : matmul (F := Ideal) dot_S256x5120_S32000x5120_S256x32000_1_1_0_0_n_n none x w (constant S256x32000 .f32 0x00000000#32) (ix2 r v)
      = ∑ k : Fin 5120, x (ix2 r k) * w (ix2 v k) := by
    rw [dot_eq]
    refine (Ideal.matmul_transposedRhs_apply (M := 256) (K := 5120) (N := 32000) none x w (constant S256x32000 .f32 0x00000000#32) r v).trans ?_
    show Ideal.ofBits .f32 0x00000000#32 + _ = _
    rw [Ideal.ofBits_zero_f32, zero_add]
    rfl
  unfold logits
  rw [h1]
  refine congrArg₂ (· + ·) (h2.trans ?_) ?_
  · rw [← Fin.sum_univ_eq_sum_range fun d => at2 (α := EReal) x r d * at2 (α := EReal) w v d]
    exact Finset.sum_congr rfl fun k _ => by rw [at2_ix (α := EReal) x, at2_ix (α := EReal) w]
  · rw [show at2 (α := EReal) b 0 v = b (ix2 (0 : Fin 1) v) from (at2_ix (α := EReal) b (0 : Fin 1) v).symm]
    refine broadcastTo_apply _ _ _ _ ?_
    exact Fin.forall_fin_two.mpr ⟨rfl, rfl⟩

theorem pay1_at (x : FVec Ideal S256x5120 .bf16) (w : FVec Ideal S32000x5120 .bf16) (bias : Vec Ideal S1x32000 .f32) (l : Vec Ideal S2x1 .i32)
    (b : Fin 2) (v : Fin 32000) (hl : (at2 (α := BitVec 32) l b 0).toNat ≤ 128) :
    (k0_pay1 (F := Ideal) x w bias l : S2x32000.Idx → EReal) (ix2 b v) = headF (at2 (α := BitVec 32) l b 0).toNat fun r => (∑ d ∈ Finset.range 5120, at2 (α := EReal) x (128 * b + r) d * at2 (α := EReal) w v d) + at2 (α := EReal) bias 0 v := by
  have e : k0_pay1 (F := Ideal) x w bias l = truncf (F := Ideal) .bf16 (multiReduction (F := Ideal) (φ := .f32) .maximumf [1] S2x32000
      (select (cmpi .slt (iota .tc S2x128x32000 32 [1] iota_S2x128x32000_d1_w32) (broadcastTo S2x128x32000 (shapeCast S2x1x1 (shapeCast S2x1 l shapeCasts_S2x1_S2x1) shapeCasts_S2x1_S2x1x1) broadcasts_S2x1x1_S2x128x32000))
        (shapeCast S2x128x32000 (log1p (F := Ideal) (φ := .f32) (maximumf (logits x w bias) (broadcast S256x32000 (Scalar.ofBits (F := Ideal) .f32 0x00000000#32)))) shapeCasts_S256x32000_S2x128x32000)
        (broadcast S2x128x32000 (Scalar.ofBits (F := Ideal) .f32 0x00000000#32))) 0xFF800000#32 reduces_S2x128x32000_S2x32000 (.inl rfl) rfl) bitsLt_bf16_f32 := rfl
  rw [e, trunc_out]
  refine (Ideal.multiReduction_maximumf_single _ _ _ _ _ _).trans ?_
  show (Finset.univ : Finset (Fin 128)).fold max (Ideal.ofBits .f32 0xFF800000#32) _ = _
  rw [ninf]
  unfold headF
  refine Finset.fold_congr fun r _ => ?_
  have hr := r.isLt
  have hb := b.isLt
  have hq : reduces_S2x128x32000_S2x32000.lift (ix2 b v) r = ix3 b r v := by
    funext a
    revert a
    refine (Fin.forall_fin_succ (n := 2)).mpr ⟨?_, Fin.forall_fin_two.mpr ⟨?_, ?_⟩⟩ <;> rfl
  have h1 : shapeCast S2x1 l shapeCasts_S2x1_S2x1 = l := shapeCast_id _ _
  have hlen : broadcastTo S2x128x32000 (shapeCast S2x1x1 (shapeCast S2x1 l shapeCasts_S2x1_S2x1) shapeCasts_S2x1_S2x1x1) broadcasts_S2x1x1_S2x128x32000 (ix3 b r v) = at2 (α := BitVec 32) l b 0 := by
    rw [h1]
    refine (broadcastTo_apply _ _ _ (ix3 b (0 : Fin 1) (0 : Fin 1)) ?_).trans ?_
    · refine (Fin.forall_fin_succ (n := 2)).mpr ⟨?_, Fin.forall_fin_two.mpr ⟨?_, ?_⟩⟩ <;> rfl
    · rw [show at2 (α := BitVec 32) l b 0 = l (ix2 b (0 : Fin 1)) from (at2_ix (α := BitVec 32) l b (0 : Fin 1)).symm]
      refine shapeCast_apply _ _ _ _ ?_
      rw [Shape.rowMajor_val_two, Shape.rowMajor_val_three]
      show (b : ℕ) * 1 + 0 = ((b : ℕ) * 1 + 0) * 1 + 0
      omega
  have hval : shapeCast S2x128x32000 (log1p (F := Ideal) (φ := .f32) (maximumf (logits x w bias) (broadcast S256x32000 (Scalar.ofBits (F := Ideal) .f32 0x00000000#32)))) shapeCasts_S256x32000_S2x128x32000 (ix3 b r v)
      = Ideal.log1p (max ((∑ d ∈ Finset.range 5120, at2 (α := EReal) x (128 * b + r) d * at2 (α := EReal) w v d) + at2 (α := EReal) bias 0 v) 0) := by
    refine (shapeCast_apply _ _ _ (ix2 (⟨128 * b + r, by omega⟩ : Fin 256) v) ?_).trans ?_
    · rw [Shape.rowMajor_val_two, Shape.rowMajor_val_three]
      show (128 * (b : ℕ) + r) * 32000 + v = ((b : ℕ) * 128 + r) * 32000 + v
      omega
    · show Ideal.log1p (max (logits x w bias (ix2 (⟨128 * b + r, by omega⟩ : Fin 256) v)) (Ideal.ofBits .f32 0x00000000#32)) = _
      rw [logits_at, Ideal.ofBits_zero_f32]
  show (select _ _ _ : S2x128x32000.Idx → EReal) (reduces_S2x128x32000_S2x32000.lift (ix2 b v) r) = _
  rw [hq]
  show Scalar.select (IntOp.cmpi .slt (iota .tc S2x128x32000 32 [1] iota_S2x128x32000_d1_w32 (ix3 b r v)) (broadcastTo S2x128x32000 (shapeCast S2x1x1 (shapeCast S2x1 l shapeCasts_S2x1_S2x1) shapeCasts_S2x1_S2x1x1) broadcasts_S2x1x1_S2x128x32000 (ix3 b r v)))
    (shapeCast S2x128x32000 (log1p (F := Ideal) (φ := .f32) (maximumf (logits x w bias) (broadcast S256x32000 (Scalar.ofBits (F := Ideal) .f32 0x00000000#32)))) shapeCasts_S256x32000_S2x128x32000 (ix3 b r v)) (Ideal.ofBits .f32 0x00000000#32) = _
  rw [hlen, hval, iota_single_apply, Ideal.ofBits_zero_f32]
  have hi : (BitVec.ofNat 32 ((ix3 b r v : S2x128x32000.Idx) 1).val).toNat = r := by
    rw [BitVec.toNat_ofNat]
    exact Nat.mod_eq_of_lt (by show (r : ℕ) < 2 ^ 32; omega)
  rw [slt_at (by rw [hi]; omega) (by omega), hi]
  by_cases h : (r : ℕ) < (at2 (α := BitVec 32) l b 0).toNat
  · rw [if_pos h, if_pos h]; rfl
  · rw [if_neg h, if_neg h]; rfl

end Cert.Proof.PR
-- ==== Proof.PVRefRun.lean ====
module

public import proofs.«01_k».proof.Proof.PVRef
public import Idealize.ShloMosaic.Lib.Pipeline.ValueKit.Basic

@[expose] public section

set_option maxRecDepth 65536
set_option maxHeartbeats 1000000

noncomputable section

namespace Cert.Proof.PR

open Cert.ReferenceIdeal Cert.ReferenceIdeal.Gen
open Idealize.ShloMosaic Idealize.ShloMosaic.TcCoe Idealize.ShloMosaic.Tactic Idealize.SL.Sem
open Cert.Proof.PV (at1 at2 at2_ix Finite headF)

variable (m : (ℓ : Loc nD τ sig) → Buf (Elt Ideal) ℓ) (ρ : Dev nD → PrngReg)

/-! ## The arrays the reference finds, and the values it leaves -/

def xA (c : Dev nD) : S256x5120.Idx → EReal := V m c main_v0
def lA (c : Dev nD) : S2x1.Idx → BitVec 32 := V m c main_v1
def wA (c : Dev nD) : S32000x5120.Idx → EReal := V m c main_arg2
def sA (c : Dev nD) : S32000x160.Idx → EReal := V m c main_arg3
def bA (c : Dev nD) : S1x32000.Idx → EReal := V m c main_v2

/-- Entry `(b, v)` of the pooled array. -/
def poolG (c : Dev nD) (b v : ℕ) : EReal := headF (at2 (lA m c) b 0).toNat fun r =>
  (∑ d ∈ Finset.range 5120, at2 (xA m c) (128 * b + r) d * (at2 (wA m c) v d * at2 (sA m c) v (d / 32))) + at2 (bA m c) 0 v

/-- The pooled array. -/
def pooledG (c : Dev nD) : S2x32000.Idx → EReal := fun i => poolG m c (i 0) (i 1)

theorem zeros : ∀ a : Fin 2, (![0, 0] : Fin 2 → ℕ) a = 0 := by decide

theorem out_eq (x0 : Vec Ideal S256x5120 .bf16) (x1 : Vec Ideal S2x1 .i32) (x2 : Vec Ideal S32000x5120 .fp8e4m3) (x3 : Vec Ideal S32000x160 .f32) (x4 : Vec Ideal S1x32000 .f32) :
    out0_5 x0 x1 x2 x3 x4 = k0_pay1 (k0_pay2 x0) (k0_pay3 x2 x3) x4 x1 := by
  have e0 : View.ld (Val := Elt Ideal) x0 r0_0 = x0 := View.ld_unit_lit _ _ zeros
  have e1 : View.ld (Val := Elt Ideal) x1 r0_4 = x1 := View.ld_unit_lit _ _ zeros
  have e2 : View.ld (Val := Elt Ideal) x2 r0_1 = x2 := View.ld_unit_lit _ _ zeros
  have e3 : View.ld (Val := Elt Ideal) x3 r0_2 = x3 := View.ld_unit_lit _ _ zeros
  have e4 : View.ld (Val := Elt Ideal) x4 r0_3 = x4 := View.ld_unit_lit _ _ zeros
  unfold out0_5
  rw [e0, e1, e2, e3, e4]
  exact View.canon_cons_unit_lit _ _ _ zeros

theorem block0 (c : Dev nD) (t : Fin cfg0.N) : (iblk m c 0 t : S256x5120.Idx → EReal) = xA m c := by
  funext i
  refine congrArg (V m c main_v0) (funext fun a => Fin.ext ?_)
  revert a
  refine Fin.forall_fin_two.mpr ⟨?_, ?_⟩
  · show 0 * 256 + 1 * (i 0 : ℕ) = i 0
    omega
  · show 0 * 5120 + 1 * (i 1 : ℕ) = i 1
    omega

theorem block1 (c : Dev nD) (t : Fin cfg0.N) : (iblk m c 1 t : S2x1.Idx → BitVec 32) = lA m c := by
  funext i
  refine congrArg (V m c main_v1) (funext fun a => Fin.ext ?_)
  revert a
  refine Fin.forall_fin_two.mpr ⟨?_, ?_⟩
  · show 0 * 2 + 1 * (i 0 : ℕ) = i 0
    omega
  · show 0 * 1 + 1 * (i 1 : ℕ) = i 1
    omega

theorem block2 (c : Dev nD) (t : Fin cfg0.N) : (iblk m c 2 t : S32000x5120.Idx → EReal) = wA m c := by
  funext i
  refine congrArg (V m c main_arg2) (funext fun a => Fin.ext ?_)
  revert a
  refine Fin.forall_fin_two.mpr ⟨?_, ?_⟩
  · show 0 * 32000 + 1 * (i 0 : ℕ) = i 0
    omega
  · show 0 * 5120 + 1 * (i 1 : ℕ) = i 1
    omega

theorem block3 (c : Dev nD) (t : Fin cfg0.N) : (iblk m c 3 t : S32000x160.Idx → EReal) = sA m c := by
  funext i
  refine congrArg (V m c main_arg3) (funext fun a => Fin.ext ?_)
  revert a
  refine Fin.forall_fin_two.mpr ⟨?_, ?_⟩
  · show 0 * 32000 + 1 * (i 0 : ℕ) = i 0
    omega
  · show 0 * 160 + 1 * (i 1 : ℕ) = i 1
    omega

theorem block4 (c : Dev nD) (t : Fin cfg0.N) : (iblk m c 4 t : S1x32000.Idx → EReal) = bA m c := by
  funext i
  refine congrArg (V m c main_v2) (funext fun a => Fin.ext ?_)
  revert a
  refine Fin.forall_fin_two.mpr ⟨?_, ?_⟩
  · show 0 * 1 + 1 * (i 0 : ℕ) = i 0
    omega
  · show 0 * 32000 + 1 * (i 1 : ℕ) = i 1
    omega

/-- What the body leaves in the output's block. -/
theorem out_pooled (c : Dev nD) (t : Fin cfg0.N) (hl : ∀ b, (at2 (lA m c) b 0).toNat ≤ 128) (hX : Finite (xA m c)) :
    (out0_5 (iblk m c 0 t) (iblk m c 1 t) (iblk m c 2 t) (iblk m c 3 t) (iblk m c 4 t) : S2x32000.Idx → EReal) = pooledG m c := by
  rw [out_eq]
  funext i
  obtain ⟨b, v, rfl⟩ : ∃ (b : Fin 2) (v : Fin 32000), i = ix2 b v := ⟨i 0, i 1, eq_ix2 i⟩
  have h0 : (k0_pay2 (F := Ideal) (iblk m c 0 t) : S256x5120.Idx → EReal) = xA m c := by
    rw [show iblk m c 0 t = xA m c from block0 m c t]; exact pay2_eq hX
  refine (pay1_at (k0_pay2 (F := Ideal) (iblk m c 0 t)) (k0_pay3 (F := Ideal) (iblk m c 2 t) (iblk m c 3 t)) (iblk m c 4 t) (iblk m c 1 t) b v ?_).trans ?_
  · rw [show iblk m c 1 t = lA m c from block1 m c t]; exact hl b
  rw [show k0_pay2 (F := Ideal) (iblk m c 0 t) = xA m c from h0, show iblk m c 1 t = lA m c from block1 m c t, show iblk m c 4 t = bA m c from block4 m c t,
    show iblk m c 2 t = wA m c from block2 m c t, show iblk m c 3 t = sA m c from block3 m c t]
  show _ = poolG m c b v
  unfold poolG
  refine congrArg _ (funext fun r => congrArg (· + _) (Finset.sum_congr rfl fun d hd => ?_))
  have hd := Finset.mem_range.mp hd
  have e := pay3_at (wA m c) (sA m c) v ⟨d, hd⟩
  exact congrArg (at2 (xA m c) (128 * b + r) d * ·) ((at2_ix (α := EReal) (k0_pay3 (F := Ideal) (wA m c) (sA m c)) v ⟨d, hd⟩).symm.trans e)

set_option backward.isDefEq.respectTransparency.types false in
theorem final (c : Dev nD) (hl : ∀ b, (at2 (lA m c) b 0).toNat ≤ 128) (hX : Finite (xA m c)) :
    ((dats m 0 c).arrAt 5 cfg0.N : S2x32000.Idx → EReal) = pooledG m c := by
  funext i
  have t : Fin cfg0.N := ⟨0, by decide⟩
  have h := congrFun (Value.blocks5 m c t (by revert t; decide)) i
  rw [Value.flushed5, out_pooled m c t hl hX] at h
  have hi : ((cfg0.win 5).blk t).view.emb i = i := by
    funext a
    refine Fin.ext ?_
    revert a
    refine Fin.forall_fin_two.mpr ⟨?_, ?_⟩
    · show 0 * 2 + 1 * (i 0 : ℕ) = i 0
      omega
    · show 0 * 32000 + 1 * (i 1 : ℕ) = i 1
      omega
  have h' : ((dats m 0 c).arrAt 5 cfg0.N : S2x32000.Idx → EReal) (((cfg0.win 5).blk t).view.emb i) = pooledG m c i := h
  rw [hi] at h'
  exact h'

/-- The run: the pooled array ends at the pooled values, the arguments end unchanged. -/
theorem run (hl : ∀ c b, (at2 (lA m c) b 0).toNat ≤ 128) (hX : ∀ c, Finite (xA m c)) : θ_run defs (onTc (τ := τ) (main (F := Ideal))) ⟨m, fun _ => 0, ρ⟩ (fun r => ∀ c : Dev nD,
      r.2.mem ((c.tc : Thread nD τ).loc main_v3) = pooledG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final m c (hl c) (hX c)), (h c).2⟩) (Value.run_blocks m ρ)

end Cert.Proof.PR
-- ==== Proof.PVEq.lean ====
module

public import proofs.«01_k».proof.Defs
public import proofs.«01_k».proof.Proof.Gen.Pre_inputs_fit
public import proofs.«01_k».proof.Proof.PVRun
public import proofs.«01_k».proof.Proof.PVRefRun

@[expose] public section

set_option maxRecDepth 65536
set_option maxHeartbeats 1000000

noncomputable section

namespace Cert.Proof.PE

open Idealize.ShloMosaic Idealize.ShloMosaic.TcCoe Idealize.SL.Sem
open Cert.Proof.PV (at1 at2 at3 at1_ix at2_ix at3_ix Finite headF slt_at)

/-! ## What the host's reshapes give -/

section Kernel
open Cert.KernelIdeal Cert.KernelIdeal.Gen
variable (m : (ℓ : Loc nD τ sig) → Buf (Elt Ideal) ℓ)

theorem kernel_x (c : Dev nD) : PV.xA m c = shapeCast S256x5120 (m ((c.tc : Thread nD τ).loc main_arg0) : S2x128x5120.Idx → EReal) shapeCasts_S2x128x5120_S256x5120 := by
  unfold PV.xA PI.V
  simp only [StableHlo.after_cons, StableHlo.after_nil]
  rw [StableHlo.reshape_result_ne , StableHlo.reshape_result]
  · rfl
  all_goals decide

theorem kernel_b (c : Dev nD) : PV.bA m c = shapeCast S25x10x128 (m ((c.tc : Thread nD τ).loc main_arg4) : S32000.Idx → EReal) shapeCasts_S32000_S25x10x128 := by
  unfold PV.bA PI.V
  simp only [StableHlo.after_cons, StableHlo.after_nil]
  rw [StableHlo.reshape_result, StableHlo.reshape_result_ne ]
  · rfl
  all_goals decide

theorem kernel_l (c : Dev nD) : PV.lA m = (m ((c.tc : Thread nD τ).loc main_arg1) : S2.Idx → BitVec 32) :=
  (PI.V_pre m c 0).symm.trans (PI.V_of_ne m c main_arg1 (by decide) (by decide))

theorem kernel_w (c : Dev nD) : PV.wA m c = (m ((c.tc : Thread nD τ).loc main_arg2) : S32000x5120.Idx → EReal) := PI.V_of_ne m c main_arg2 (by decide) (by decide)

theorem kernel_s (c : Dev nD) : PV.sA m c = (m ((c.tc : Thread nD τ).loc main_arg3) : S32000x160.Idx → EReal) := PI.V_of_ne m c main_arg3 (by decide) (by decide)

end Kernel

section Reference
open Cert.ReferenceIdeal Cert.ReferenceIdeal.Gen
variable (m : (ℓ : Loc nD τ sig) → Buf (Elt Ideal) ℓ)

theorem ref_x (c : Dev nD) : PR.xA m c = shapeCast S256x5120 (m ((c.tc : Thread nD τ).loc main_arg0) : S2x128x5120.Idx → EReal) shapeCasts_S2x128x5120_S256x5120 := by
  unfold PR.xA V
  simp only [StableHlo.after_cons, StableHlo.after_nil]
  rw [StableHlo.reshape_result_ne , StableHlo.reshape_result_ne , StableHlo.reshape_result]
  · rfl
  all_goals decide

theorem ref_l (c : Dev nD) : PR.lA m c = shapeCast S2x1 (m ((c.tc : Thread nD τ).loc main_arg1) : S2.Idx → BitVec 32) shapeCasts_S2_S2x1 := by
  unfold PR.lA V
  simp only [StableHlo.after_cons, StableHlo.after_nil]
  rw [StableHlo.reshape_result_ne , StableHlo.reshape_result, StableHlo.reshape_result_ne ]
  · rfl
  all_goals decide

theorem ref_b (c : Dev nD) : PR.bA m c = shapeCast S1x32000 (m ((c.tc : Thread nD τ).loc main_arg4) : S32000.Idx → EReal) shapeCasts_S32000_S1x32000 := by
  unfold PR.bA V
  simp only [StableHlo.after_cons, StableHlo.after_nil]
  rw [StableHlo.reshape_result, StableHlo.reshape_result_ne , StableHlo.reshape_result_ne ]
  · rfl
  all_goals decide

theorem ref_w (c : Dev nD) : PR.wA m c = (m ((c.tc : Thread nD τ).loc main_arg2) : S32000x5120.Idx → EReal) := V_main_arg2 m c

theorem ref_s (c : Dev nD) : PR.sA m c = (m ((c.tc : Thread nD τ).loc main_arg3) : S32000x160.Idx → EReal) := V_main_arg3 m c

/-- The lengths at the reference's shape. -/
theorem ref_l_at (l : S2.Idx → BitVec 32) (b : ℕ) : at2 (shapeCast S2x1 l shapeCasts_S2_S2x1) b 0 = at1 l b := by
  show shapeCast S2x1 l shapeCasts_S2_S2x1 (ix2 (Fin.ofNat 2 b) (Fin.ofNat 1 0)) = l (ix1 (Fin.ofNat 2 b))
  refine shapeCast_apply _ _ _ _ ?_
  rw [Shape.rowMajor_val_two, Shape.rowMajor_val_one]
  show b % 2 = b % 2 * 1 + 0
  omega

end Reference

/-- The bias at the two shapes. -/
theorem bias_at (x : Cert.KernelIdeal.S32000.Idx → EReal) (v : ℕ) (hv : v < 32000) :
    at3 (A := 25) (B := 10) (C := 128) (shapeCast Cert.KernelIdeal.S25x10x128 x Cert.KernelIdeal.Facts₀.shapeCasts_S32000_S25x10x128) (v / 1280) (v % 1280 / 128) (v % 128)
      = at2 (A := 1) (B := 32000) (shapeCast Cert.ReferenceIdeal.S1x32000 x Cert.ReferenceIdeal.Facts₀.shapeCasts_S32000_S1x32000) 0 v := by
  have h1 : at3 (A := 25) (B := 10) (C := 128) (shapeCast Cert.KernelIdeal.S25x10x128 x Cert.KernelIdeal.Facts₀.shapeCasts_S32000_S25x10x128) (v / 1280) (v % 1280 / 128) (v % 128) = x (ix1 (⟨v, hv⟩ : Fin 32000)) := by
    show shapeCast _ x _ (ix3 (Fin.ofNat 25 (v / 1280)) (Fin.ofNat 10 (v % 1280 / 128)) (Fin.ofNat 128 (v % 128))) = _
    refine shapeCast_apply _ _ _ _ ?_
    rw [Shape.rowMajor_val_one, Shape.rowMajor_val_three]
    show v = (v / 1280 % 25 * 10 + v % 1280 / 128 % 10) * 128 + v % 128 % 128
    omega
  have h2 : at2 (A := 1) (B := 32000) (shapeCast Cert.ReferenceIdeal.S1x32000 x Cert.ReferenceIdeal.Facts₀.shapeCasts_S32000_S1x32000) 0 v = x (ix1 (⟨v, hv⟩ : Fin 32000)) := by
    show shapeCast _ x _ (ix2 (Fin.ofNat 1 0) (Fin.ofNat 32000 v)) = _
    refine shapeCast_apply _ _ _ _ ?_
    rw [Shape.rowMajor_val_one, Shape.rowMajor_val_two]
    show v = 0 % 1 * 32000 + v % 32000
    omega
  rw [h1, h2]

/-! ## What the precondition says -/

theorem and_one : ∀ a b : BitVec 1, IntOp.andi a b = 1#1 → a = 1#1 ∧ b = 1#1 := by decide

theorem top_bits : Ideal.ofBits .f32 0x7F7F0000#32 ≤ ((2 ^ 128 : ℝ) : EReal) := by
  have h : Ideal.ofBits .f32 0x7F7F0000#32 = (((2 : ℝ) ^ 127 * (255 / 128) : ℝ) : EReal) := by
    simp [Ideal.ofBits, Ideal.ieee, -EReal.coe_mul]
    norm_num
  rw [h]
  exact EReal.coe_le_coe_iff.mpr (by norm_num)

theorem real_of_le {x : EReal} (h : max x (-x) ≤ ((2 ^ 128 : ℝ) : EReal)) : ∃ a : ℝ, x = (a : EReal) ∧ |a| ≤ 2 ^ 128 := by
  have h1 := (max_le_iff.mp h).1
  have h2 := (max_le_iff.mp h).2
  induction x with
  | bot => rw [EReal.neg_bot] at h2; exact absurd h2 (not_le.mpr (EReal.coe_lt_top _))
  | top => exact absurd h1 (not_le.mpr (EReal.coe_lt_top _))
  | coe a =>
    rw [← EReal.coe_neg] at h2
    exact ⟨a, rfl, abs_le.mpr ⟨by linarith [EReal.coe_le_coe_iff.mp h2], EReal.coe_le_coe_iff.mp h1⟩⟩

/-- A word between 0 and 128 as a signed integer is at most 128 as a natural number. -/
theorem le_of_pre {v : BitVec 32} (h : IntOp.andi (IntOp.cmpi .sge v 0#32) (IntOp.cmpi .sle v 128#32) = 1#1) : v.toNat ≤ 128 := by
  simp only [IntOp.andi, IntOp.cmpi] at h
  have h2 : BitVec.sle 0#32 v = true ∧ v.sle 128#32 = true := by
    by_cases e1 : BitVec.sle 0#32 v = true <;> by_cases e2 : v.sle 128#32 = true <;> simp_all
  obtain ⟨h0, h1⟩ := h2
  simp only [BitVec.sle_eq_decide, decide_eq_true_eq, BitVec.toInt_eq_toNat_cond, BitVec.toNat_ofNat, Nat.reducePow, Nat.reduceMod] at h0 h1
  have := v.isLt
  split at h0 <;> split at h1 <;> omega

section Pre
open Cert.Pre_inputs_fit

theorem pre_at (x : S2x128x5120.Idx → EReal) (l : S2.Idx → BitVec 32) (w : S32000x5120.Idx → EReal) (s : S32000x160.Idx → EReal) (b : S32000.Idx → EReal)
    (h : Cert.Pre_inputs_fit.fn (F := Ideal) x l w s b = fun _ => 1#1) (i : Fin 2) (j : Fin 128) (k : Fin 5120) :
    (∃ a : ℝ, x (ix3 i j k) = (a : EReal) ∧ |a| ≤ 2 ^ 128) ∧ (l (ix1 i)).toNat ≤ 128 := by
  have e := congrFun h (ix3 i j k)
  have e' : IntOp.andi (BitVec.ofBool (decide (max (x (ix3 i j k)) (-x (ix3 i j k)) ≤ Ideal.ofBits .f32 0x7F7F0000#32)))
      (IntOp.andi (IntOp.cmpi .sge (l (ix1 i)) 0#32) (IntOp.cmpi .sle (l (ix1 i)) 128#32)) = 1#1 := by
    refine Eq.trans ?_ e
    have hi : ∀ f : S2.Idx → BitVec 1, broadcastInDim S2x128x5120 ![0, 1, 2] Facts.bcast_S2x1x1_S2x128x5120_0_1_2 (broadcastInDim S2x1x1 ![0] Facts.bcast_S2_S2x1x1_0 f) (ix3 i j k) = f (ix1 i) := fun f => by
      refine congrArg f (funext fun a => ?_)
      obtain rfl : a = 0 := Subsingleton.elim _ _
      rfl
    exact congrArg (IntOp.andi _) (hi (fun q => IntOp.andi (IntOp.cmpi .sge (l q) 0#32) (IntOp.cmpi .sle (l q) 128#32))).symm
  obtain ⟨h1, h2⟩ := and_one _ _ e'
  refine ⟨real_of_le (le_trans ?_ top_bits), le_of_pre h2⟩
  by_contra hc
  rw [decide_eq_false hc] at h1
  exact absurd h1 (by decide)

end Pre

/-- The hidden states in rows. -/
theorem rows_at (x : Cert.KernelIdeal.S2x128x5120.Idx → EReal) (r d : ℕ) (hr : r < 256) (hd : d < 5120) :
    at2 (A := 256) (B := 5120) (shapeCast Cert.KernelIdeal.S256x5120 x Cert.KernelIdeal.Facts₀.shapeCasts_S2x128x5120_S256x5120) r d
      = x (ix3 (⟨r / 128, by omega⟩ : Fin 2) (⟨r % 128, by omega⟩ : Fin 128) (⟨d, hd⟩ : Fin 5120)) := by
  show shapeCast _ x _ (ix2 (Fin.ofNat 256 r) (Fin.ofNat 5120 d)) = _
  refine shapeCast_apply _ _ _ _ ?_
  rw [Shape.rowMajor_val_two, Shape.rowMajor_val_three]
  show (r / 128 * 128 + r % 128) * 5120 + d = r % 256 * 5120 + d % 5120
  omega

/-! ## The two pooled arrays are one -/

section Join

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs are launched on the same arguments. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

theorem same_x (c : Dev Cert.KernelIdeal.nD) (h : Same m m' c) : PR.xA m' c = PV.xA m c :=
  (ref_x m' c).trans ((congrArg (fun x : Cert.KernelIdeal.S2x128x5120.Idx → EReal => shapeCast Cert.KernelIdeal.S256x5120 x Cert.KernelIdeal.Facts₀.shapeCasts_S2x128x5120_S256x5120) h.1).trans (kernel_x m c).symm)

theorem same_l (c : Dev Cert.KernelIdeal.nD) (h : Same m m' c) (b : ℕ) : at2 (α := BitVec 32) (A := 2) (B := 1) (PR.lA m' c) b 0 = at1 (α := BitVec 32) (A := 2) (PV.lA m) b := by
  rw [ref_l, kernel_l m c]
  exact (ref_l_at _ b).trans (congrArg (fun l : Cert.KernelIdeal.S2.Idx → BitVec 32 => at1 (α := BitVec 32) (A := 2) l b) h.2.1)

theorem same_w (c : Dev Cert.KernelIdeal.nD) (h : Same m m' c) : PR.wA m' c = PV.wA m c := (ref_w m' c).trans (h.2.2.1.trans (kernel_w m c).symm)

theorem same_s (c : Dev Cert.KernelIdeal.nD) (h : Same m m' c) : PR.sA m' c = PV.sA m c := (ref_s m' c).trans (h.2.2.2.1.trans (kernel_s m c).symm)

theorem same_b (c : Dev Cert.KernelIdeal.nD) (h : Same m m' c) (v : ℕ) (hv : v < 32000) :
    at2 (α := EReal) (A := 1) (B := 32000) (PR.bA m' c) 0 v = at3 (α := EReal) (A := 25) (B := 10) (C := 128) (PV.bA m c) (v / 1280) (v % 1280 / 128) (v % 128) := by
  rw [ref_b, kernel_b]
  exact (congrArg (fun x : Cert.KernelIdeal.S32000.Idx → EReal => at2 (α := EReal) (A := 1) (B := 32000) (shapeCast Cert.ReferenceIdeal.S1x32000 x Cert.ReferenceIdeal.Facts₀.shapeCasts_S32000_S1x32000) 0 v) h.2.2.2.2).trans (bias_at _ v hv).symm

theorem pooled_eq (c : Dev Cert.KernelIdeal.nD) (h : Same m m' c) : PR.pooledG m' c = PV.pooledG m c := by
  refine funext fun i : Cert.KernelIdeal.S2x32000.Idx => ?_
  show PR.poolG m' c (i 0) (i 1) = PV.poolG m c (i 0) (i 1)
  unfold PR.poolG PV.poolG PV.logitG
  rw [same_x m m' c h, same_l m m' c h, same_w m m' c h, same_s m m' c h, same_b m m' c h _ (i 1).isLt]

/-- What the precondition says of the arrays. -/
theorem pre_facts (hp : Cert.Pre_KernelIdeal_inputs_fit m) (c : Dev Cert.KernelIdeal.nD) : Finite (PV.xA m c) ∧ ∀ b, (at1 (α := BitVec 32) (A := 2) (PV.lA m) b).toNat ≤ 128 := by
  have h := fun i j k => pre_at _ _ _ _ _ (hp c) i j k
  refine ⟨fun r hr d hd => ?_, fun b => ?_⟩
  · rw [kernel_x, rows_at _ r d hr hd]
    exact (h _ _ _).1
  · rw [kernel_l m c]
    exact (h (Fin.ofNat 2 b) 0 0).2

end Join

theorem algebraic : Cert.algebraic_KernelIdeal_ReferenceIdeal_pre_inputs_fit := fun m g m' g' hp hs => by
  have hl : ∀ b, (at1 (α := BitVec 32) (A := 2) (PV.lA m) b).toNat ≤ 128 := (pre_facts m hp 0).2
  have hX : ∀ c, Finite (PV.xA m c) := fun c => (pre_facts m hp c).1
  refine ⟨fun c => PV.pooledG m c, PV.run m g hl hX, ?_⟩
  refine (θ_run _ _ _).mono (fun r h c => ⟨(h c).1.trans (pooled_eq m m' c (hs c)), (h c).2⟩)
    (PR.run m' g' (fun c b => by rw [same_l m m' c (hs c)]; exact hl b) (fun c => by rw [same_x m m' c (hs c)]; exact hX c))

end Cert.Proof.PE
-- ==== Proof.lean ====
/-
  The proof of `Cert.Claim` (hand-written, untrusted): the frames of the kernel and of its idealization, from the launch of each (Proof/PRun, Proof/PIRun),
  the idealization's own statements, each the library's lemma at the site's shapes, and that the idealized kernel and the reference leave the same
  pooled array (Proof/PVEq, from the two runs Proof/PVRun and Proof/PVRefRun).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.Pre_lengths_fit
public import proofs.«01_k».proof.Proof.Gen.Pre_inputs_fit
public import proofs.«01_k».proof.Proof.PRun
public import proofs.«01_k».proof.Proof.PIRun
public import Idealize.ShloMosaic.Lib.Bf16PairInverse
public import proofs.«01_k».proof.Proof.Gen.ReferenceIdeal.Value
public import proofs.«01_k».proof.Proof.PVEq

@[expose] public section

noncomputable section

namespace Cert.Proof

open Idealize.ShloMosaic Idealize.ShloMosaic.TcCoe Idealize.SL.Sem

/-- The first length is at most 128, as the region finds it. -/
theorem lenOk_Kernel (m) (h : Cert.Pre_Kernel m) : P.LenOk m := fun x => by
  have e : ∀ j, IntOp.andi (IntOp.cmpi .sge (m (((0 : Dev Cert.Kernel.nD).tc : Thread Cert.Kernel.nD Cert.Kernel.τ).loc Cert.Kernel.main_arg1) j) 0#32) (IntOp.cmpi .sle (m (((0 : Dev Cert.Kernel.nD).tc : Thread Cert.Kernel.nD Cert.Kernel.τ).loc Cert.Kernel.main_arg1) j) 128#32) = 1#1 := fun j => by
    have e := congrFun (h 0) j
    simp only [Cert.Pre_lengths_fit.fn, andi, cmpi, broadcastInDim, constantI] at e
    exact e
  have k : P.tbl m 0 = m (((0 : Dev Cert.Kernel.nD).tc : Thread Cert.Kernel.nD Cert.Kernel.τ).loc Cert.Kernel.main_arg1) := P.V_of_ne m 0 Cert.Kernel.main_arg1 (by decide) (by decide)
  rw [k]
  exact PE.le_of_pre (e _)

theorem frame_Kernel : Cert.quiescent_Kernel := fun m ρ h => P.frame m ρ (lenOk_Kernel m h)

/-- The first length is at most 128, as the region finds it. -/
theorem lenOk_KernelIdeal (m) (h : Cert.Pre_KernelIdeal m) : PI.LenOk m := fun x => by
  have e : ∀ j, IntOp.andi (IntOp.cmpi .sge (m (((0 : Dev Cert.KernelIdeal.nD).tc : Thread Cert.KernelIdeal.nD Cert.KernelIdeal.τ).loc Cert.KernelIdeal.main_arg1) j) 0#32) (IntOp.cmpi .sle (m (((0 : Dev Cert.KernelIdeal.nD).tc : Thread Cert.KernelIdeal.nD Cert.KernelIdeal.τ).loc Cert.KernelIdeal.main_arg1) j) 128#32) = 1#1 := fun j => by
    have e := congrFun (h 0) j
    simp only [Cert.Pre_lengths_fit.fn, andi, cmpi, broadcastInDim, constantI] at e
    exact e
  have k : PI.tbl m 0 = m (((0 : Dev Cert.KernelIdeal.nD).tc : Thread Cert.KernelIdeal.nD Cert.KernelIdeal.τ).loc Cert.KernelIdeal.main_arg1) := PI.V_of_ne m 0 Cert.KernelIdeal.main_arg1 (by decide) (by decide)
  rw [k]
  exact PE.le_of_pre (e _)

theorem frame_KernelIdeal : Cert.quiescent_KernelIdeal := fun m ρ h => PI.frame m ρ (lenOk_KernelIdeal m h)

/-- The same from the precondition of the value claim. -/
theorem frame_KernelIdeal_inputs_fit : Cert.quiescent_KernelIdeal_pre_inputs_fit := fun m ρ h => PI.frame m ρ fun x =>
  (congrArg BitVec.toNat (PV.ld1 (α := BitVec 32) (A := 2) (PV.lA m) _ _ _ x)).trans_le ((PE.pre_facts m h 0).2 _)

theorem preserves : Cert.preserves_Kernel_KernelIdeal :=
  open Cert.KernelIdeal IdealRules.bf16_pair in
  ⟨bufferStatement S128x2x5120 S128x1x5120, bufferStatement S2x128x2x128 S2x128x1x128, bufferStatement S2x2x160x2x128 S2x2x160x1x128,
    statement S128x2x5120 S128x1x5120, selectZeroStatement S128x5120, statement S16x128 S8x128, statement S1x8x2x128 S1x8x1x128,
    statement S32x128 S16x128, statement S16x2x128 S16x1x128, packStatement S160x128, statement S1x160x2x128 S1x160x1x128,
    statement S1x4x2x128 S1x4x1x128, statement S8x128 S4x128, statement S80x2x256 S80x1x256, statement S160x256 S80x256,
    statement S128x2x256 S128x1x256, statement S256x256 S128x256⟩

theorem claim : Cert.Claim :=
  ⟨Cert.Kernel.Gen.facts, Cert.KernelIdeal.Gen.facts, Cert.ReferenceIdeal.Gen.facts, Cert.Pre_lengths_fit.Gen.facts, Cert.Pre_inputs_fit.Gen.facts, frame_Kernel, frame_KernelIdeal,
    frame_KernelIdeal_inputs_fit, fun m ρ _ => Cert.ReferenceIdeal.Gen.frame m ρ, fun m ρ _ => Cert.ReferenceIdeal.Gen.frame m ρ, preserves, PE.algebraic⟩

end Cert.Proof

end
